-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v7)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v8) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_v97) = v6 c
          ∧ r.2.mem ((c.tc : Thread Cert.ReferenceIdeal.nD Cert.ReferenceIdeal.τ).loc Cert.ReferenceIdeal.main_v55) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v6)) (v3 : (c : Dev Cert.Kernel2Ideal.nD) → Buf (Elt Ideal) ((c.tc : Thread Cert.Kernel2Ideal.nD Cert.Kernel2Ideal.τ).loc Cert.Kernel2Ideal.main_v8)) (v4 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_v8) = v3 c
          ∧ r.2.mem ((c.tc : Thread Cert.Kernel2Ideal.nD Cert.Kernel2Ideal.τ).loc Cert.Kernel2Ideal.main_v7) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_v32) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v8)) (v2 : (c : Dev Cert.Kernel4Ideal.nD) → Buf (Elt Ideal) ((c.tc : Thread Cert.Kernel4Ideal.nD Cert.Kernel4Ideal.τ).loc Cert.Kernel4Ideal.main_v6)) (v3 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_v6) = v2 c
          ∧ r.2.mem ((c.tc : Thread Cert.Kernel4Ideal.nD Cert.Kernel4Ideal.τ).loc Cert.Kernel4Ideal.main_v7) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v12)) (v1 : (c : Dev Cert.Kernel5Ideal.nD) → Buf (Elt Ideal) ((c.tc : Thread Cert.Kernel5Ideal.nD Cert.Kernel5Ideal.τ).loc Cert.Kernel5Ideal.main_v13)) (v2 : (c : Dev Cert.Kernel5Ideal.nD) → Buf (Elt Ideal) ((c.tc : Thread Cert.Kernel5Ideal.nD Cert.Kernel5Ideal.τ).loc Cert.Kernel5Ideal.main_v8)) (v3 : (c : Dev Cert.Kernel5Ideal.nD) → Buf (Elt Ideal) ((c.tc : Thread Cert.Kernel5Ideal.nD Cert.Kernel5Ideal.τ).loc Cert.Kernel5Ideal.main_v9)) (v4 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_v13) = v1 c
          ∧ r.2.mem ((c.tc : Thread Cert.Kernel5Ideal.nD Cert.Kernel5Ideal.τ).loc Cert.Kernel5Ideal.main_v8) = v2 c
          ∧ r.2.mem ((c.tc : Thread Cert.Kernel5Ideal.nD Cert.Kernel5Ideal.τ).loc Cert.Kernel5Ideal.main_v9) = v3 c
          ∧ r.2.mem ((c.tc : Thread Cert.Kernel5Ideal.nD Cert.Kernel5Ideal.τ).loc Cert.Kernel5Ideal.main_v10) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v2) = v2 c
          ∧ r.2.mem ((c.tc : Thread Cert.Reference5Ideal.nD Cert.Reference5Ideal.τ).loc Cert.Reference5Ideal.main_v5) = v3 c
          ∧ r.2.mem ((c.tc : Thread Cert.Reference5Ideal.nD Cert.Reference5Ideal.τ).loc Cert.Reference5Ideal.main_v9) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S4096x1024 : Shape := ⟨2, ![4096, 1024]⟩
abbrev S8x32 : Shape := ⟨2, ![8, 32]⟩
abbrev S4096x7168 : Shape := ⟨2, ![4096, 7168]⟩
abbrev S128 : Shape := ⟨1, ![128]⟩
abbrev S4096x2048 : Shape := ⟨2, ![4096, 2048]⟩
abbrev S8x32x1x1 : Shape := ⟨4, ![8, 32, 1, 1]⟩
abbrev S8x32x8x128 : Shape := ⟨4, ![8, 32, 8, 128]⟩
abbrev S8x256x128 : Shape := ⟨3, ![8, 256, 128]⟩
abbrev S1x1x128 : Shape := ⟨3, ![1, 1, 128]⟩
abbrev S8x1x128 : Shape := ⟨3, ![8, 1, 128]⟩
abbrev S4096x128 : Shape := ⟨2, ![4096, 128]⟩
abbrev S1x256x128 : Shape := ⟨3, ![1, 256, 128]⟩
abbrev S32x128x128 : Shape := ⟨3, ![32, 128, 128]⟩
abbrev S128x128 : Shape := ⟨2, ![128, 128]⟩
abbrev S1x128 : Shape := ⟨2, ![1, 128]⟩
abbrev S1x128x128 : Shape := ⟨3, ![1, 128, 128]⟩
abbrev S4096 : Shape := ⟨1, ![4096]⟩
abbrev S4096x1 : Shape := ⟨2, ![4096, 1]⟩
abbrev S256x128 : Shape := ⟨2, ![256, 128]⟩
abbrev S_ : Shape := ⟨0, ![]⟩

abbrev nBuf : Space → Nat
  | .hbm => 27
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S8x32, .f32⟩
  | .hbm, ⟨6, _⟩ => ⟨S4096x7168, .f32⟩
  | .hbm, ⟨7, _⟩ => ⟨S128, .f32⟩
  | .hbm, ⟨8, _⟩ => ⟨S4096x2048, .f32⟩
  | .hbm, ⟨9, _⟩ => ⟨S8x32x1x1, .f32⟩
  | .hbm, ⟨10, _⟩ => ⟨S8x32x8x128, .f32⟩
  | .hbm, ⟨11, _⟩ => ⟨S8x256x128, .f32⟩
  | .hbm, ⟨12, _⟩ => ⟨S1x1x128, .f32⟩
  | .hbm, ⟨13, _⟩ => ⟨S8x1x128, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S8x256x128, .f32⟩
  | .hbm, ⟨20, _⟩ => ⟨S4096x1024, .bf16⟩
  | .hbm, ⟨21, _⟩ => ⟨S8x1x128, .f32⟩
  | .hbm, ⟨22, _⟩ => ⟨S8x32x8x128, .f32⟩
  | .hbm, ⟨23, _⟩ => ⟨S_, .f32⟩
  | .hbm, ⟨24, _⟩ => ⟨S8x32, .f32⟩
  | .hbm, ⟨25, _⟩ => ⟨S_, .f32⟩
  | .hbm, ⟨26, _⟩ => ⟨S128, .f32⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x256x128, .f32⟩
  | .local _ .vmem, ⟨11, _⟩ => ⟨S1x256x128, .f32⟩
  | .local _ .vmem, ⟨12, _⟩ => ⟨S4096x128, .f32⟩
  | .local _ .vmem, ⟨13, _⟩ => ⟨S4096x128, .f32⟩
  | .local _ .vmem, ⟨14, _⟩ => ⟨S1x1x128, .f32⟩
  | .local _ .vmem, ⟨15, _⟩ => ⟨S1x1x128, .f32⟩
  | .local _ .vmem, ⟨16, _⟩ => ⟨S4096x128, .f32⟩
  | .local _ .vmem, ⟨17, _⟩ => ⟨S4096x128, .f32⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S4096x128, .bf16⟩
  | .local _ .vmem, ⟨23, _⟩ => ⟨S4096x128, .bf16⟩
  | .local _ .vmem, ⟨24, _⟩ => ⟨S4096x128, .bf16⟩
  | .local _ .vmem, ⟨25, _⟩ => ⟨S4096x128, .bf16⟩
  | .local _ .vmem, ⟨26, _⟩ => ⟨S4096x128, .bf16⟩
  | .local _ .vmem, ⟨27, _⟩ => ⟨S4096x128, .bf16⟩
  | .local _ .vmem, ⟨28, _⟩ => ⟨S1x256x128, .f32⟩
  | .local _ .vmem, ⟨29, _⟩ => ⟨S1x256x128, .f32⟩
  | .local _ .vmem, ⟨30, _⟩ => ⟨S4096x128, .bf16⟩
  | .local _ .vmem, ⟨31, _⟩ => ⟨S4096x128, .bf16⟩
  | .local _ .vmem, ⟨32, _⟩ => ⟨S1x1x128, .f32⟩
  | .local _ .vmem, ⟨33, _⟩ => ⟨S1x1x128, .f32⟩
  | .local _ .vmem, ⟨34, _⟩ => ⟨S4096x128, .f32⟩
  | .local _ .vmem, ⟨35, _⟩ => ⟨S32x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c128_i32 : BitVec 32 := 128#32
  let v82 : BitVec 32 := Scalar.muli arg20 c128_i32
  v82
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v82 : BitVec 32 := Scalar.muli arg20 c128_i32
  let v83 : BitVec 32 := v82
  let v84 : Index := Scalar.indexCast v83
  let c0_40 : Index := 0#32
  ![v84.toNat, 0]
def k0_mult2 (k0_t1 : Fin k0_t1_loop.trips) : BitVec 32 :=
  let c0_i32 : BitVec 32 := 0#32
  let c1_i32 : BitVec 32 := 1#32
  let arg20 : BitVec 32 := Scf.iv c0_i32 c1_i32 k0_t1
  let c8_i32 : BitVec 32 := 8#32
  let v94 : BitVec 32 := Scalar.muli arg20 c8_i32
  v94
def k0_off2 (k0_t1 : Fin k0_t1_loop.trips) : Fin 3 → Nat :=
  let c0_45 : Index := 0#32
  let c0_i32 : BitVec 32 := 0#32
  let c1_i32 : BitVec 32 := 1#32
  let arg20 : BitVec 32 := Scf.iv c0_i32 c1_i32 k0_t1
  let c8_i32 : BitVec 32 := 8#32
  let v94 : BitVec 32 := Scalar.muli arg20 c8_i32
  let v95 : BitVec 32 := v94
  let v96 : Index := Scalar.indexCast v95
  let c0_46 : Index := 0#32
  ![0, v96.toNat, 0]
def k0_off3 (k0_t1 : Fin k0_t1_loop.trips) : Fin 3 → Nat :=
  let c0_i32 : BitVec 32 := 0#32
  let c1_i32 : BitVec 32 := 1#32
  let arg20 : BitVec 32 := Scf.iv c0_i32 c1_i32 k0_t1
  let v99 : Index := Scalar.indexCast arg20
  let c0_47 : Index := 0#32
  let c0_48 : Index := 0#32
  ![v99.toNat, 0, 0]
@[reducible] def k0_t2_loop : Scf.Loop 32 :=
  let c0_i32_36 : BitVec 32 := 0#32
  let c32_i32_37 : BitVec 32 := 32#32
  let v80 : BitVec 32 := Scalar.addi c0_i32_36 c32_i32_37
  let c1_i32_38 : BitVec 32 := 1#32
  ⟨c0_i32_36, v80, c1_i32_38⟩
def k0_mult3 (k0_t2 : Fin k0_t2_loop.trips) : BitVec 32 :=
  let c31_i32 : BitVec 32 := 31#32
  let c0_i32_36 : BitVec 32 := 0#32
  let c1_i32_38 : BitVec 32 := 1#32
  let arg20 : BitVec 32 := Scf.iv c0_i32_36 c1_i32_38 k0_t2
  let v82 : BitVec 32 := Scalar.subi c31_i32 arg20
  let c128_i32 : BitVec 32 := 128#32
  let v83 : BitVec 32 := Scalar.muli v82 c128_i32
  v83
def k0_off4 (k0_t2 : Fin k0_t2_loop.trips) : Fin 2 → Nat :=
  let c31_i32 : BitVec 32 := 31#32
  let c0_i32_36 : BitVec 32 := 0#32
  let c1_i32_38 : BitVec 32 := 1#32
  let arg20 : BitVec 32 := Scf.iv c0_i32_36 c1_i32_38 k0_t2
  let v82 : BitVec 32 := Scalar.subi c31_i32 arg20
  let c128_i32 : BitVec 32 := 128#32
  let v83 : BitVec 32 := Scalar.muli v82 c128_i32
  let v84 : BitVec 32 := v83
  let v85 : Index := Scalar.indexCast v84
  let c0_40 : Index := 0#32
  ![v85.toNat, 0]
def k0_mult4 (k0_t2 : Fin k0_t2_loop.trips) : BitVec 32 :=
  let c31_i32 : BitVec 32 := 31#32
  let c0_i32_36 : BitVec 32 := 0#32
  let c1_i32_38 : BitVec 32 := 1#32
  let arg20 : BitVec 32 := Scf.iv c0_i32_36 c1_i32_38 k0_t2
  let v82 : BitVec 32 := Scalar.subi c31_i32 arg20
  let c8_i32 : BitVec 32 := 8#32
  let v95 : BitVec 32 := Scalar.muli v82 c8_i32
  v95
def k0_off5 (k0_t2 : Fin k0_t2_loop.trips) : Fin 3 → Nat :=
  let c0_45 : Index := 0#32
  let c31_i32 : BitVec 32 := 31#32
  let c0_i32_36 : BitVec 32 := 0#32
  let c1_i32_38 : BitVec 32 := 1#32
  let arg20 : BitVec 32 := Scf.iv c0_i32_36 c1_i32_38 k0_t2
  let v82 : BitVec 32 := Scalar.subi c31_i32 arg20
  let c8_i32 : BitVec 32 := 8#32
  let v95 : BitVec 32 := Scalar.muli v82 c8_i32
  let v96 : BitVec 32 := v95
  let v97 : Index := Scalar.indexCast v96
  let c0_46 : Index := 0#32
  ![0, v97.toNat, 0]
def k0_off6 (k0_t2 : Fin k0_t2_loop.trips) : Fin 3 → Nat :=
  let c31_i32 : BitVec 32 := 31#32
  let c0_i32_36 : BitVec 32 := 0#32
  let c1_i32_38 : BitVec 32 := 1#32
  let arg20 : BitVec 32 := Scf.iv c0_i32_36 c1_i32_38 k0_t2
  let v82 : BitVec 32 := Scalar.subi c31_i32 arg20
  let v100 : Index := Scalar.indexCast v82
  let c0_47 : Index := 0#32
  let c0_48 : Index := 0#32
  ![v100.toNat, 0, 0]
def k0_mult5 (k0_t2 : Fin k0_t2_loop.trips) : BitVec 32 :=
  let c31_i32 : BitVec 32 := 31#32
  let c0_i32_36 : BitVec 32 := 0#32
  let c1_i32_38 : BitVec 32 := 1#32
  let arg20 : BitVec 32 := Scf.iv c0_i32_36 c1_i32_38 k0_t2
  let v82 : BitVec 32 := Scalar.subi c31_i32 arg20
  let c8_i32_66 : BitVec 32 := 8#32
  let v160 : BitVec 32 := Scalar.muli v82 c8_i32_66
  v160
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4096x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S4096x1024 : Shape := ⟨2, ![4096, 1024]⟩
abbrev S8x32 : Shape := ⟨2, ![8, 32]⟩
abbrev S4096x7168 : Shape := ⟨2, ![4096, 7168]⟩
abbrev S128 : Shape := ⟨1, ![128]⟩
abbrev S4096x2048 : Shape := ⟨2, ![4096, 2048]⟩
abbrev S32x128x8x128 : Shape := ⟨4, ![32, 128, 8, 128]⟩
abbrev S32x8x128x128 : Shape := ⟨4, ![32, 8, 128, 128]⟩
abbrev S32x8 : Shape := ⟨2, ![32, 8]⟩
abbrev S_ : Shape := ⟨0, ![]⟩
abbrev S8x128x128 : Shape := ⟨3, ![8, 128, 128]⟩
abbrev S32x8x1x1 : Shape := ⟨4, ![32, 8, 1, 1]⟩
abbrev S1x8x128x128 : Shape := ⟨4, ![1, 8, 128, 128]⟩
abbrev S1x8 : Shape := ⟨2, ![1, 8]⟩
abbrev S8 : Shape := ⟨1, ![8]⟩
abbrev S8x1x1 : Shape := ⟨3, ![8, 1, 1]⟩
abbrev S1x8x1x1 : Shape := ⟨4, ![1, 8, 1, 1]⟩
abbrev S4096x8x128 : Shape := ⟨3, ![4096, 8, 128]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 335
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x1024, .bf16⟩
  | 3 => ⟨S4096x1024, .bf16⟩
  | 4 => ⟨S4096x1024, .bf16⟩
  | 5 => ⟨S8x32, .f32⟩
  | 6 => ⟨S4096x7168, .f32⟩
  | 7 => ⟨S128, .f32⟩
  | 8 => ⟨S4096x2048, .f32⟩
  | 9 => ⟨S4096x1024, .f32⟩
  | 10 => ⟨S4096x1024, .f32⟩
  | 11 => ⟨S4096x1024, .f32⟩
  | 12 => ⟨S32x128x8x128, .f32⟩
  | 13 => ⟨S32x8x128x128, .f32⟩
  | 14 => ⟨S4096x1024, .f32⟩
  | 15 => ⟨S32x128x8x128, .f32⟩
  | 16 => ⟨S32x8x128x128, .f32⟩
  | 17 => ⟨S32x128x8x128, .f32⟩
  | 18 => ⟨S32x8x128x128, .f32⟩
  | 19 => ⟨S4096x1024, .f32⟩
  | 20 => ⟨S32x128x8x128, .f32⟩
  | 21 => ⟨S32x8x128x128, .f32⟩
  | 22 => ⟨S4096x1024, .f32⟩
  | 23 => ⟨S32x128x8x128, .f32⟩
  | 24 => ⟨S32x8x128x128, .f32⟩
  | 25 => ⟨S32x8, .f32⟩
  | 26 => ⟨S_, .f32⟩
  | 27 => ⟨S8x128x128, .f32⟩
  | 28 => ⟨S_, .f32⟩
  | 29 => ⟨S32x8x128x128, .f32⟩
  | 30 => ⟨S_, .f32⟩
  | 31 => ⟨S32x8x128x128, .f32⟩
  | 32 => ⟨S_, .f32⟩
  | 33 => ⟨S32x8x128x128, .f32⟩
  | 34 => ⟨S_, .f32⟩
  | 35 => ⟨S32x8x1x1, .f32⟩
  | 36 => ⟨S_, .i32⟩
  | 37 => ⟨S32x8x128x128, .f32⟩
  | 38 => ⟨S32x8x128x128, .f32⟩
  | 39 => ⟨S32x8x128x128, .f32⟩
  | 40 => ⟨S32x8x128x128, .f32⟩
  | 41 => ⟨S32x8x128x128, .f32⟩
  | 42 => ⟨S32x8, .f32⟩
  | 43 => ⟨S_, .i32⟩
  | 44 => ⟨S8x128x128, .f32⟩
  | 45 => ⟨S32x8x128x128, .f32⟩
  | 46 => ⟨S32x8x128x128, .f32⟩
  | 47 => ⟨S32x8x128x128, .f32⟩
  | 48 => ⟨S32x8x1x1, .f32⟩
  | 49 => ⟨S_, .i32⟩
  | 50 => ⟨S_, .i1⟩
  | 51 => ⟨S_, .i32⟩
  | 52 => ⟨S_, .i32⟩
  | 53 => ⟨S_, .i32⟩
  | 54 => ⟨S1x8x128x128, .f32⟩
  | 55 => ⟨S8x128x128, .f32⟩
  | 56 => ⟨S_, .i32⟩
  | 57 => ⟨S_, .i32⟩
  | 58 => ⟨S_, .i32⟩
  | 59 => ⟨S1x8x128x128, .f32⟩
  | 60 => ⟨S8x128x128, .f32⟩
  | 61 => ⟨S_, .i32⟩
  | 62 => ⟨S_, .i32⟩
  | 63 => ⟨S_, .i32⟩
  | 64 => ⟨S1x8x128x128, .f32⟩
  | 65 => ⟨S8x128x128, .f32⟩
  | 66 => ⟨S_, .i32⟩
  | 67 => ⟨S_, .i32⟩
  | 68 => ⟨S_, .i32⟩
  | 69 => ⟨S1x8x128x128, .f32⟩
  | 70 => ⟨S8x128x128, .f32⟩
  | 71 => ⟨S_, .i32⟩
  | 72 => ⟨S_, .i32⟩
  | 73 => ⟨S_, .i32⟩
  | 74 => ⟨S1x8x128x128, .f32⟩
  | 75 => ⟨S8x128x128, .f32⟩
  | 76 => ⟨S_, .i32⟩
  | 77 => ⟨S1x8, .f32⟩
  | 78 => ⟨S8, .f32⟩
  | 79 => ⟨S8x128x128, .f32⟩
  | 80 => ⟨S8x128x128, .f32⟩
  | 81 => ⟨S8x128x128, .f32⟩
  | 82 => ⟨S8x128x128, .f32⟩
  | 83 => ⟨S8x128x128, .f32⟩
  | 84 => ⟨S8x1x1, .f32⟩
  | 85 => ⟨S8x128x128, .f32⟩
  | 86 => ⟨S8x128x128, .f32⟩
  | 87 => ⟨S8x128x128, .f32⟩
  | 88 => ⟨S8x128x128, .f32⟩
  | 89 => ⟨S1x8x128x128, .f32⟩
  | 90 => ⟨S_, .i32⟩
  | 91 => ⟨S_, .i32⟩
  | 92 => ⟨S_, .i32⟩
  | 93 => ⟨S32x8x128x128, .f32⟩
  | 94 => ⟨S1x8x128x128, .f32⟩
  | 95 => ⟨S_, .i32⟩
  | 96 => ⟨S_, .i32⟩
  | 97 => ⟨S_, .i32⟩
  | 98 => ⟨S32x8x128x128, .f32⟩
  | 99 => ⟨S1x8x128x128, .f32⟩
  | 100 => ⟨S_, .i32⟩
  | 101 => ⟨S_, .i32⟩
  | 102 => ⟨S_, .i32⟩
  | 103 => ⟨S32x8x128x128, .f32⟩
  | 104 => ⟨S1x8x1x1, .f32⟩
  | 105 => ⟨S_, .i32⟩
  | 106 => ⟨S_, .i32⟩
  | 107 => ⟨S_, .i32⟩
  | 108 => ⟨S32x8x1x1, .f32⟩
  | 109 => ⟨S_, .i32⟩
  | 110 => ⟨S_, .i32⟩
  | 111 => ⟨S32x128x8x128, .f32⟩
  | 112 => ⟨S4096x8x128, .f32⟩
  | 113 => ⟨S4096x8x128, .f32⟩
  | 114 => ⟨S4096x8x128, .f32⟩
  | 115 => ⟨S_, .f32⟩
  | 116 => ⟨S4096x8, .f32⟩
  | 117 => ⟨S4096x8x1, .f32⟩
  | 118 => ⟨S_, .f32⟩
  | 119 => ⟨S4096x8x1, .f32⟩
  | 120 => ⟨S4096x8x1, .f32⟩
  | 121 => ⟨S_, .f32⟩
  | 122 => ⟨S4096x8x1, .f32⟩
  | 123 => ⟨S4096x8x1, .f32⟩
  | 124 => ⟨S4096x8x1, .f32⟩
  | 125 => ⟨S4096x8x1, .f32⟩
  | 126 => ⟨S_, .f32⟩
  | 127 => ⟨S4096x8x1, .f32⟩
  | _ => ⟨S4096x1024, .f32⟩

abbrev hbmTy0_1 (i : Nat) : BufTy := match i % 128 with
  | 0 => ⟨S4096x8x1, .f32⟩
  | 1 => ⟨S4096x8x128, .f32⟩
  | 2 => ⟨S4096x8x128, .f32⟩
  | 3 => ⟨S1x1x128, .f32⟩
  | 4 => ⟨S4096x8x128, .f32⟩
  | 5 => ⟨S4096x8x128, .f32⟩
  | 6 => ⟨S4096x8x128, .f32⟩
  | 7 => ⟨S4096x8x128, .f32⟩
  | 8 => ⟨S_, .f32⟩
  | 9 => ⟨S4096x8x128, .f32⟩
  | 10 => ⟨S4096x8x128, .f32⟩
  | 11 => ⟨S_, .f32⟩
  | 12 => ⟨S4096x8x128, .f32⟩
  | 13 => ⟨S4096x8x128, .f32⟩
  | 14 => ⟨S_, .f32⟩
  | 15 => ⟨S4096x8x128, .f32⟩
  | 16 => ⟨S4096x8x128, .f32⟩
  | 17 => ⟨S4096x8x128, .f32⟩
  | 18 => ⟨S4096x8x128, .f32⟩
  | 19 => ⟨S4096x8x128, .f32⟩
  | 20 => ⟨S4096x1024, .f32⟩
  | 21 => ⟨S_, .f32⟩
  | 22 => ⟨S8x128x128, .f32⟩
  | 23 => ⟨S4096x8x128, .f32⟩
  | 24 => ⟨S4096x8x128, .f32⟩
  | 25 => ⟨S4096x8x128, .f32⟩
  | 26 => ⟨S4096x8x128, .f32⟩
  | 27 => ⟨S4096x8x128, .f32⟩
  | 28 => ⟨S4096x8x128, .f32⟩
  | 29 => ⟨S4096x8x128, .f32⟩
  | 30 => ⟨S4096x8x128, .f32⟩
  | 31 => ⟨S_, .f32⟩
  | 32 => ⟨S128, .f32⟩
  | 33 => ⟨S1x1x128, .f32⟩
  | 34 => ⟨S4096x8x128, .f32⟩
  | 35 => ⟨S4096x8x128, .f32⟩
  | 36 => ⟨S_, .f32⟩
  | 37 => ⟨S128, .f32⟩
  | 38 => ⟨S4096x8x128, .f32⟩
  | 39 => ⟨S_, .f32⟩
  | 40 => ⟨S4096x8, .f32⟩
  | 41 => ⟨S4096x8x1, .f32⟩
  | 42 => ⟨S4096x8x128, .f32⟩
  | 43 => ⟨S4096x8x128, .f32⟩
  | 44 => ⟨S4096x8x1, .f32⟩
  | 45 => ⟨S_, .f32⟩
  | 46 => ⟨S4096x8x1, .f32⟩
  | 47 => ⟨S4096x8x1, .f32⟩
  | 48 => ⟨S_, .f32⟩
  | 49 => ⟨S4096x8, .f32⟩
  | 50 => ⟨S4096x8x128, .f32⟩
  | 51 => ⟨S4096x8x128, .f32⟩
  | 52 => ⟨S4096x8x128, .f32⟩
  | 53 => ⟨S4096x8x128, .f32⟩
  | 54 => ⟨S4096x8x128, .f32⟩
  | 55 => ⟨S4096x1024, .f32⟩
  | 56 => ⟨S32x128x8x128, .f32⟩
  | 57 => ⟨S32x8x128x128, .f32⟩
  | 58 => ⟨S_, .f32⟩
  | 59 => ⟨S8x128x128, .f32⟩
  | 60 => ⟨S_, .f32⟩
  | 61 => ⟨S32x8x128x128, .f32⟩
  | 62 => ⟨S_, .f32⟩
  | 63 => ⟨S32x8x128x128, .f32⟩
  | 64 => ⟨S_, .f32⟩
  | 65 => ⟨S32x8x128x128, .f32⟩
  | 66 => ⟨S_, .f32⟩
  | 67 => ⟨S32x8x128x128, .f32⟩
  | 68 => ⟨S_, .f32⟩
  | 69 => ⟨S32x8x128x128, .f32⟩
  | 70 => ⟨S_, .f32⟩
  | 71 => ⟨S32x8, .f32⟩
  | 72 => ⟨S_, .i32⟩
  | 73 => ⟨S32x8x128x128, .f32⟩
  | 74 => ⟨S32x8x128x128, .f32⟩
  | 75 => ⟨S32x8x128x128, .f32⟩
  | 76 => ⟨S32x8x128x128, .f32⟩
  | 77 => ⟨S32x8x128x128, .f32⟩
  | 78 => ⟨S32x8x128x128, .f32⟩
  | 79 => ⟨S32x8x1x1, .f32⟩
  | 80 => ⟨S32x8x128x128, .f32⟩
  | 81 => ⟨S_, .i32⟩
  | 82 => ⟨S8x128x128, .f32⟩
  | 83 => ⟨S32x8x128x128, .f32⟩
  | 84 => ⟨S32x8x128x128, .f32⟩
  | 85 => ⟨S32x8x128x128, .f32⟩
  | 86 => ⟨S32x8x128x128, .f32⟩
  | 87 => ⟨S32x8x128x128, .f32⟩
  | 88 => ⟨S32x8, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S1x8x128x128, .f32⟩
  | 99 => ⟨S8x128x128, .f32⟩
  | 100 => ⟨S_, .i32⟩
  | 101 => ⟨S_, .i32⟩
  | 102 => ⟨S_, .i32⟩
  | 103 => ⟨S1x8x128x128, .f32⟩
  | 104 => ⟨S8x128x128, .f32⟩
  | 105 => ⟨S_, .i32⟩
  | 106 => ⟨S_, .i32⟩
  | 107 => ⟨S_, .i32⟩
  | 108 => ⟨S1x8x128x128, .f32⟩
  | 109 => ⟨S8x128x128, .f32⟩
  | 110 => ⟨S_, .i32⟩
  | 111 => ⟨S_, .i32⟩
  | 112 => ⟨S_, .i32⟩
  | 113 => ⟨S1x8x128x128, .f32⟩
  | 114 => ⟨S8x128x128, .f32⟩
  | 115 => ⟨S_, .i32⟩
  | 116 => ⟨S_, .i32⟩
  | 117 => ⟨S_, .i32⟩
  | 118 => ⟨S1x8x128x128, .f32⟩
  | 119 => ⟨S8x128x128, .f32⟩
  | 120 => ⟨S_, .i32⟩
  | 121 => ⟨S_, .i32⟩
  | 122 => ⟨S_, .i32⟩
  | 123 => ⟨S1x8x128x128, .f32⟩
  | 124 => ⟨S8x128x128, .f32⟩
  | 125 => ⟨S_, .i32⟩
  | 126 => ⟨S_, .i32⟩
  | 127 => ⟨S_, .i32⟩
  | _ => ⟨S4096x1024, .f32⟩

abbrev hbmTy0_2 (i : Nat) : BufTy := match i % 128 with
  | 0 => ⟨S1x8x1x1, .f32⟩
  | 1 => ⟨S8x1x1, .f32⟩
  | 2 => ⟨S_, .i32⟩
  | 3 => ⟨S_, .i32⟩
  | 4 => ⟨S_, .i32⟩
  | 5 => ⟨S1x8x128x128, .f32⟩
  | 6 => ⟨S8x128x128, .f32⟩
  | 7 => ⟨S8x128x128, .f32⟩
  | 8 => ⟨S8x128x128, .f32⟩
  | 9 => ⟨S8x128x128, .f32⟩
  | 10 => ⟨S8x128x128, .f32⟩
  | 11 => ⟨S8x128x128, .f32⟩
  | 12 => ⟨S_, .f32⟩
  | 13 => ⟨S8, .f32⟩
  | 14 => ⟨S8x1x1, .f32⟩
  | 15 => ⟨S8x128x128, .f32⟩
  | 16 => ⟨S8x128x128, .f32⟩
  | 17 => ⟨S_, .f32⟩
  | 18 => ⟨S8, .f32⟩
  | 19 => ⟨S8x128x128, .f32⟩
  | 20 => ⟨S8x128x128, .f32⟩
  | 21 => ⟨S8x128x128, .f32⟩
  | 22 => ⟨S8x128x128, .f32⟩
  | 23 => ⟨S8x128x128, .f32⟩
  | 24 => ⟨S8x128x128, .f32⟩
  | 25 => ⟨S8x128x128, .f32⟩
  | 26 => ⟨S8x128x128, .f32⟩
  | 27 => ⟨S8x128x128, .f32⟩
  | 28 => ⟨S8x128x128, .f32⟩
  | 29 => ⟨S8x128x128, .f32⟩
  | 30 => ⟨S8x128x128, .f32⟩
  | 31 => ⟨S8x128x128, .f32⟩
  | 32 => ⟨S1x8x128x128, .f32⟩
  | 33 => ⟨S_, .i32⟩
  | 34 => ⟨S_, .i32⟩
  | 35 => ⟨S_, .i32⟩
  | 36 => ⟨S32x8x128x128, .f32⟩
  | 37 => ⟨S1x8x128x128, .f32⟩
  | 38 => ⟨S_, .i32⟩
  | 39 => ⟨S_, .i32⟩
  | 40 => ⟨S_, .i32⟩
  | 41 => ⟨S32x8x128x128, .f32⟩
  | 42 => ⟨S1x8x128x128, .f32⟩
  | 43 => ⟨S_, .i32⟩
  | 44 => ⟨S_, .i32⟩
  | 45 => ⟨S_, .i32⟩
  | 46 => ⟨S32x8x128x128, .f32⟩
  | 47 => ⟨S1x8x128x128, .f32⟩
  | 48 => ⟨S_, .i32⟩
  | 49 => ⟨S_, .i32⟩
  | 50 => ⟨S_, .i32⟩
  | 51 => ⟨S32x8x128x128, .f32⟩
  | 52 => ⟨S1x8x128x128, .f32⟩
  | 53 => ⟨S_, .i32⟩
  | 54 => ⟨S_, .i32⟩
  | 55 => ⟨S_, .i32⟩
  | 56 => ⟨S32x8x128x128, .f32⟩
  | 57 => ⟨S1x8, .f32⟩
  | 58 => ⟨S_, .i32⟩
  | 59 => ⟨S32x8, .f32⟩
  | 60 => ⟨S_, .i32⟩
  | 61 => ⟨S_, .i32⟩
  | 62 => ⟨S8x32, .f32⟩
  | 63 => ⟨S32x128x8x128, .f32⟩
  | 64 => ⟨S4096x1024, .f32⟩
  | 65 => ⟨S4096x1024, .bf16⟩
  | 66 => ⟨S32x128x8x128, .f32⟩
  | 67 => ⟨S4096x1024, .f32⟩
  | 68 => ⟨S4096x1024, .bf16⟩
  | 69 => ⟨S32x128x8x128, .f32⟩
  | 70 => ⟨S4096x1024, .f32⟩
  | 71 => ⟨S32x128x8x128, .f32⟩
  | 72 => ⟨S4096x1024, .f32⟩
  | 73 => ⟨S4096x1024, .bf16⟩
  | 74 => ⟨S32x128x8x128, .f32⟩
  | 75 => ⟨S4096x1024, .f32⟩
  | 76 => ⟨S4096x1024, .bf16⟩
  | 77 => ⟨S4096x1024, .bf16⟩
  | 78 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_c : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev main_v22_4 : Ref sig .tc := ⟨.hbm, 41, rfl⟩
abbrev main_v22_5 : Ref sig .tc := ⟨.hbm, 42, rfl⟩
abbrev main_v22_6 : Ref sig .tc := ⟨.hbm, 43, rfl⟩
abbrev main_v22_7 : Ref sig .tc := ⟨.hbm, 44, rfl⟩
abbrev main_v22_8 : Ref sig .tc := ⟨.hbm, 45, rfl⟩
abbrev main_v22_9 : Ref sig .tc := ⟨.hbm, 46, rfl⟩
abbrev main_v22_10 : Ref sig .tc := ⟨.hbm, 47, rfl⟩
abbrev main_v22_11 : Ref sig .tc := ⟨.hbm, 48, rfl⟩
abbrev main_while0c_c_33 : Ref sig .tc := ⟨.hbm, 49, rfl⟩
abbrev main_while0c_v98 : Ref sig .tc := ⟨.hbm, 50, rfl⟩
abbrev main_while0b_call0_c : Ref sig .tc := ⟨.hbm, 51, rfl⟩
abbrev main_while0b_call0_c_0 : Ref sig .tc := ⟨.hbm, 52, rfl⟩
abbrev main_while0b_call0_c_1 : Ref sig .tc := ⟨.hbm, 53, rfl⟩
abbrev main_while0b_call0_v0 : Ref sig .tc := ⟨.hbm, 54, rfl⟩
abbrev main_while0b_v98 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_c_1 : Ref sig .tc := ⟨.hbm, 58, rfl⟩
abbrev main_while0b_call1_v0 : Ref sig .tc := ⟨.hbm, 59, rfl⟩
abbrev main_while0b_v99 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_v0 : Ref sig .tc := ⟨.hbm, 64, rfl⟩
abbrev main_while0b_v100 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_v0 : Ref sig .tc := ⟨.hbm, 69, rfl⟩
abbrev main_while0b_v101 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_call4_v0 : Ref sig .tc := ⟨.hbm, 74, rfl⟩
abbrev main_while0b_v102 : Ref sig .tc := ⟨.hbm, 75, rfl⟩
abbrev main_while0b_call5_c : Ref sig .tc := ⟨.hbm, 76, rfl⟩
abbrev main_while0b_call5_v0 : Ref sig .tc := ⟨.hbm, 77, rfl⟩
abbrev main_while0b_v103 : Ref sig .tc := ⟨.hbm, 78, rfl⟩
abbrev main_while0b_v104 : Ref sig .tc := ⟨.hbm, 79, rfl⟩
abbrev main_while0b_v105 : Ref sig .tc := ⟨.hbm, 80, rfl⟩
abbrev main_while0b_v106 : Ref sig .tc := ⟨.hbm, 81, rfl⟩
abbrev main_while0b_v107 : Ref sig .tc := ⟨.hbm, 82, rfl⟩
abbrev main_while0b_v108 : Ref sig .tc := ⟨.hbm, 83, rfl⟩
abbrev main_while0b_v109 : Ref sig .tc := ⟨.hbm, 84, rfl⟩
abbrev main_while0b_v110 : Ref sig .tc := ⟨.hbm, 85, rfl⟩
abbrev main_while0b_v111 : Ref sig .tc := ⟨.hbm, 86, rfl⟩
abbrev main_while0b_v112 : Ref sig .tc := ⟨.hbm, 87, rfl⟩
abbrev main_while0b_v113 : Ref sig .tc := ⟨.hbm, 88, rfl⟩
abbrev main_while0b_call6_v0 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_v114 : Ref sig .tc := ⟨.hbm, 93, rfl⟩
abbrev main_while0b_call7_v0 : Ref sig .tc := ⟨.hbm, 94, rfl⟩
abbrev main_while0b_call7_c : Ref sig .tc := ⟨.hbm, 95, rfl⟩
abbrev main_while0b_call7_c_0 : Ref sig .tc := ⟨.hbm, 96, rfl⟩
abbrev main_while0b_call7_c_1 : Ref sig .tc := ⟨.hbm, 97, rfl⟩
abbrev main_while0b_v115 : Ref sig .tc := ⟨.hbm, 98, rfl⟩
abbrev main_while0b_call8_v0 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_call8_c_1 : Ref sig .tc := ⟨.hbm, 102, rfl⟩
abbrev main_while0b_v116 : Ref sig .tc := ⟨.hbm, 103, rfl⟩
abbrev main_while0b_call9_v0 : Ref sig .tc := ⟨.hbm, 104, rfl⟩
abbrev main_while0b_call9_c : Ref sig .tc := ⟨.hbm, 105, rfl⟩
abbrev main_while0b_call9_c_0 : Ref sig .tc := ⟨.hbm, 106, rfl⟩
abbrev main_while0b_call9_c_1 : Ref sig .tc := ⟨.hbm, 107, rfl⟩
abbrev main_while0b_v117 : Ref sig .tc := ⟨.hbm, 108, rfl⟩
abbrev main_while0b_c_33 : Ref sig .tc := ⟨.hbm, 109, rfl⟩
abbrev main_while0b_v118 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev main_v26 : Ref sig .tc := ⟨.hbm, 114, rfl⟩
abbrev main_cst_4 : Ref sig .tc := ⟨.hbm, 115, rfl⟩
abbrev main_v27 : Ref sig .tc := ⟨.hbm, 116, rfl⟩
abbrev main_v28 : Ref sig .tc := ⟨.hbm, 117, rfl⟩
abbrev main_cst_5 : Ref sig .tc := ⟨.hbm, 118, rfl⟩
abbrev main_v29 : Ref sig .tc := ⟨.hbm, 119, rfl⟩
abbrev main_v30 : Ref sig .tc := ⟨.hbm, 120, rfl⟩
abbrev main_cst_6 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_cst_7 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_call10_v0 : Ref sig .tc := ⟨.hbm, 134, rfl⟩
abbrev main_call10_v1 : Ref sig .tc := ⟨.hbm, 135, rfl⟩
abbrev main_call10_cst : Ref sig .tc := ⟨.hbm, 136, rfl⟩
abbrev main_call10_v2 : Ref sig .tc := ⟨.hbm, 137, rfl⟩
abbrev main_call10_v3 : Ref sig .tc := ⟨.hbm, 138, rfl⟩
abbrev main_call10_cst_0 : Ref sig .tc := ⟨.hbm, 139, rfl⟩
abbrev main_call10_v4 : Ref sig .tc := ⟨.hbm, 140, rfl⟩
abbrev main_v42_2 : Ref sig .tc := ⟨.hbm, 141, rfl⟩
abbrev main_call10_cst_1 : Ref sig .tc := ⟨.hbm, 142, rfl⟩
abbrev main_call10_v6 : Ref sig .tc := ⟨.hbm, 143, rfl⟩
abbrev main_call10_v7 : Ref sig .tc := ⟨.hbm, 144, rfl⟩
abbrev main_v42_1 : Ref sig .tc := ⟨.hbm, 145, rfl⟩
abbrev main_v42_0 : Ref sig .tc := ⟨.hbm, 146, rfl⟩
abbrev main_v43 : Ref sig .tc := ⟨.hbm, 147, rfl⟩
abbrev main_v44 : Ref sig .tc := ⟨.hbm, 148, rfl⟩
abbrev main_cst_8 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_call11_v0 : Ref sig .tc := ⟨.hbm, 154, rfl⟩
abbrev main_call11_v1 : Ref sig .tc := ⟨.hbm, 155, rfl⟩
abbrev main_call11_v2 : Ref sig .tc := ⟨.hbm, 156, rfl⟩
abbrev main_v49 : Ref sig .tc := ⟨.hbm, 157, rfl⟩
abbrev main_v50 : Ref sig .tc := ⟨.hbm, 158, rfl⟩
abbrev main_cst_9 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_cst_10 : Ref sig .tc := ⟨.hbm, 164, rfl⟩
abbrev main_v55 : Ref sig .tc := ⟨.hbm, 165, rfl⟩
abbrev main_v56 : Ref sig .tc := ⟨.hbm, 166, rfl⟩
abbrev main_cst_11 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_cst_12 : Ref sig .tc := ⟨.hbm, 173, rfl⟩
abbrev main_v62 : Ref sig .tc := ⟨.hbm, 174, rfl⟩
abbrev main_v63 : Ref sig .tc := ⟨.hbm, 175, rfl⟩
abbrev main_cst_13 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_cst_14 : Ref sig .tc := ⟨.hbm, 186, rfl⟩
abbrev main_v73 : Ref sig .tc := ⟨.hbm, 187, rfl⟩
abbrev main_cst_15 : Ref sig .tc := ⟨.hbm, 188, rfl⟩
abbrev main_v74 : Ref sig .tc := ⟨.hbm, 189, rfl⟩
abbrev main_cst_16 : Ref sig .tc := ⟨.hbm, 190, rfl⟩
abbrev main_v75 : Ref sig .tc := ⟨.hbm, 191, rfl⟩
abbrev main_cst_17 : Ref sig .tc := ⟨.hbm, 192, rfl⟩
abbrev main_v76 : Ref sig .tc := ⟨.hbm, 193, rfl⟩
abbrev main_cst_18 : Ref sig .tc := ⟨.hbm, 194, rfl⟩
abbrev main_v77 : Ref sig .tc := ⟨.hbm, 195, rfl⟩
abbrev main_cst_19 : Ref sig .tc := ⟨.hbm, 196, rfl⟩
abbrev main_v78 : Ref sig .tc := ⟨.hbm, 197, rfl⟩
abbrev main_cst_20 : Ref sig .tc := ⟨.hbm, 198, rfl⟩
abbrev main_v79 : Ref sig .tc := ⟨.hbm, 199, rfl⟩
abbrev main_c_21 : Ref sig .tc := ⟨.hbm, 200, rfl⟩
abbrev main_v80_0 : Ref sig .tc := ⟨.hbm, 201, rfl⟩
abbrev main_v80_1 : Ref sig .tc := ⟨.hbm, 202, rfl⟩
abbrev main_v80_2 : Ref sig .tc := ⟨.hbm, 203, rfl⟩
abbrev main_v80_3 : Ref sig .tc := ⟨.hbm, 204, rfl⟩
abbrev main_v80_4 : Ref sig .tc := ⟨.hbm, 205, rfl⟩
abbrev main_v80_5 : Ref sig .tc := ⟨.hbm, 206, rfl⟩
abbrev main_v80_6 : Ref sig .tc := ⟨.hbm, 207, rfl⟩
abbrev main_v80_7 : Ref sig .tc := ⟨.hbm, 208, rfl⟩
abbrev main_v80_8 : Ref sig .tc := ⟨.hbm, 209, rfl⟩
abbrev main_v80_9 : Ref sig .tc := ⟨.hbm, 210, rfl⟩
abbrev main_v80_10 : Ref sig .tc := ⟨.hbm, 211, rfl⟩
abbrev main_v80_11 : Ref sig .tc := ⟨.hbm, 212, rfl⟩
abbrev main_v80_12 : Ref sig .tc := ⟨.hbm, 213, rfl⟩
abbrev main_v80_13 : Ref sig .tc := ⟨.hbm, 214, rfl⟩
abbrev main_v80_14 : Ref sig .tc := ⟨.hbm, 215, rfl⟩
abbrev main_v80_15 : Ref sig .tc := ⟨.hbm, 216, rfl⟩
abbrev main_while1c_c_37 : Ref sig .tc := ⟨.hbm, 217, rfl⟩
abbrev main_while1c_v98 : Ref sig .tc := ⟨.hbm, 218, rfl⟩
abbrev main_while1b_c_37 : Ref sig .tc := ⟨.hbm, 219, rfl⟩
abbrev main_while1b_v98 : Ref sig .tc := ⟨.hbm, 220, rfl⟩
abbrev main_while1b_c_38 : Ref sig .tc := ⟨.hbm, 221, rfl⟩
abbrev main_while1b_v99 : Ref sig .tc := ⟨.hbm, 222, rfl⟩
abbrev main_while1b_call12_c : Ref sig .tc := ⟨.hbm, 223, rfl⟩
abbrev main_while1b_call12_c_0 : Ref sig .tc := ⟨.hbm, 224, rfl⟩
abbrev main_while1b_call12_c_1 : Ref sig .tc := ⟨.hbm, 225, rfl⟩
abbrev main_while1b_call12_v0 : Ref sig .tc := ⟨.hbm, 226, rfl⟩
abbrev main_while1b_v100 : Ref sig .tc := ⟨.hbm, 227, rfl⟩
abbrev main_while1b_call13_c : Ref sig .tc := ⟨.hbm, 228, rfl⟩
abbrev main_while1b_call13_c_0 : Ref sig .tc := ⟨.hbm, 229, rfl⟩
abbrev main_while1b_call13_c_1 : Ref sig .tc := ⟨.hbm, 230, rfl⟩
abbrev main_while1b_call13_v0 : Ref sig .tc := ⟨.hbm, 231, rfl⟩
abbrev main_while1b_v101 : Ref sig .tc := ⟨.hbm, 232, rfl⟩
abbrev main_while1b_call14_c : Ref sig .tc := ⟨.hbm, 233, rfl⟩
abbrev main_while1b_call14_c_0 : Ref sig .tc := ⟨.hbm, 234, rfl⟩
abbrev main_while1b_call14_c_1 : Ref sig .tc := ⟨.hbm, 235, rfl⟩
abbrev main_while1b_call14_v0 : Ref sig .tc := ⟨.hbm, 236, rfl⟩
abbrev main_while1b_v102 : Ref sig .tc := ⟨.hbm, 237, rfl⟩
abbrev main_while1b_call15_c : Ref sig .tc := ⟨.hbm, 238, rfl⟩
abbrev main_while1b_call15_c_0 : Ref sig .tc := ⟨.hbm, 239, rfl⟩
abbrev main_while1b_call15_c_1 : Ref sig .tc := ⟨.hbm, 240, rfl⟩
abbrev main_while1b_call15_v0 : Ref sig .tc := ⟨.hbm, 241, rfl⟩
abbrev main_while1b_v103 : Ref sig .tc := ⟨.hbm, 242, rfl⟩
abbrev main_while1b_call16_c : Ref sig .tc := ⟨.hbm, 243, rfl⟩
abbrev main_while1b_call16_c_0 : Ref sig .tc := ⟨.hbm, 244, rfl⟩
abbrev main_while1b_call16_c_1 : Ref sig .tc := ⟨.hbm, 245, rfl⟩
abbrev main_while1b_call16_v0 : Ref sig .tc := ⟨.hbm, 246, rfl⟩
abbrev main_while1b_v104 : Ref sig .tc := ⟨.hbm, 247, rfl⟩
abbrev main_while1b_call17_c : Ref sig .tc := ⟨.hbm, 248, rfl⟩
abbrev main_while1b_call17_c_0 : Ref sig .tc := ⟨.hbm, 249, rfl⟩
abbrev main_while1b_call17_c_1 : Ref sig .tc := ⟨.hbm, 250, rfl⟩
abbrev main_while1b_call17_v0 : Ref sig .tc := ⟨.hbm, 251, rfl⟩
abbrev main_while1b_v105 : Ref sig .tc := ⟨.hbm, 252, rfl⟩
abbrev main_while1b_call18_c : Ref sig .tc := ⟨.hbm, 253, rfl⟩
abbrev main_while1b_call18_c_0 : Ref sig .tc := ⟨.hbm, 254, rfl⟩
abbrev main_while1b_call18_c_1 : Ref sig .tc := ⟨.hbm, 255, rfl⟩
abbrev main_while1b_call18_v0 : Ref sig .tc := ⟨.hbm, 256, rfl⟩
abbrev main_while1b_v106 : Ref sig .tc := ⟨.hbm, 257, rfl⟩
abbrev main_while1b_call19_c : Ref sig .tc := ⟨.hbm, 258, rfl⟩
abbrev main_while1b_call19_c_0 : Ref sig .tc := ⟨.hbm, 259, rfl⟩
abbrev main_while1b_call19_c_1 : Ref sig .tc := ⟨.hbm, 260, rfl⟩
abbrev main_while1b_call19_v0 : Ref sig .tc := ⟨.hbm, 261, rfl⟩
abbrev main_while1b_v107 : Ref sig .tc := ⟨.hbm, 262, rfl⟩
abbrev main_while1b_v108 : Ref sig .tc := ⟨.hbm, 263, rfl⟩
abbrev main_while1b_v109 : Ref sig .tc := ⟨.hbm, 264, rfl⟩
abbrev main_while1b_v110 : Ref sig .tc := ⟨.hbm, 265, rfl⟩
abbrev main_while1b_v111 : Ref sig .tc := ⟨.hbm, 266, rfl⟩
abbrev main_while1b_v112 : Ref sig .tc := ⟨.hbm, 267, rfl⟩
abbrev main_while1b_cst_39 : Ref sig .tc := ⟨.hbm, 268, rfl⟩
abbrev main_while1b_v113 : Ref sig .tc := ⟨.hbm, 269, rfl⟩
abbrev main_while1b_v114 : Ref sig .tc := ⟨.hbm, 270, rfl⟩
abbrev main_while1b_v115 : Ref sig .tc := ⟨.hbm, 271, rfl⟩
abbrev main_while1b_v116 : Ref sig .tc := ⟨.hbm, 272, rfl⟩
abbrev main_while1b_cst_40 : Ref sig .tc := ⟨.hbm, 273, rfl⟩
abbrev main_while1b_v117 : Ref sig .tc := ⟨.hbm, 274, rfl⟩
abbrev main_while1b_v118 : Ref sig .tc := ⟨.hbm, 275, rfl⟩
abbrev main_while1b_v119 : Ref sig .tc := ⟨.hbm, 276, rfl⟩
abbrev main_while1b_v120 : Ref sig .tc := ⟨.hbm, 277, rfl⟩
abbrev main_while1b_v121 : Ref sig .tc := ⟨.hbm, 278, rfl⟩
abbrev main_while1b_v122 : Ref sig .tc := ⟨.hbm, 279, rfl⟩
abbrev main_while1b_v123 : Ref sig .tc := ⟨.hbm, 280, rfl⟩
abbrev main_while1b_v124 : Ref sig .tc := ⟨.hbm, 281, rfl⟩
abbrev main_while1b_v125 : Ref sig .tc := ⟨.hbm, 282, rfl⟩
abbrev main_while1b_v126 : Ref sig .tc := ⟨.hbm, 283, rfl⟩
abbrev main_while1b_v127 : Ref sig .tc := ⟨.hbm, 284, rfl⟩
abbrev main_while1b_v128 : Ref sig .tc := ⟨.hbm, 285, rfl⟩
abbrev main_while1b_v129 : Ref sig .tc := ⟨.hbm, 286, rfl⟩
abbrev main_while1b_v130 : Ref sig .tc := ⟨.hbm, 287, rfl⟩
abbrev main_while1b_call20_v0 : Ref sig .tc := ⟨.hbm, 288, rfl⟩
abbrev main_while1b_call20_c : Ref sig .tc := ⟨.hbm, 289, rfl⟩
abbrev main_while1b_call20_c_0 : Ref sig .tc := ⟨.hbm, 290, rfl⟩
abbrev main_while1b_call20_c_1 : Ref sig .tc := ⟨.hbm, 291, rfl⟩
abbrev main_while1b_v131 : Ref sig .tc := ⟨.hbm, 292, rfl⟩
abbrev main_while1b_call21_v0 : Ref sig .tc := ⟨.hbm, 293, rfl⟩
abbrev main_while1b_call21_c : Ref sig .tc := ⟨.hbm, 294, rfl⟩
abbrev main_while1b_call21_c_0 : Ref sig .tc := ⟨.hbm, 295, rfl⟩
abbrev main_while1b_call21_c_1 : Ref sig .tc := ⟨.hbm, 296, rfl⟩
abbrev main_while1b_v132 : Ref sig .tc := ⟨.hbm, 297, rfl⟩
abbrev main_while1b_call22_v0 : Ref sig .tc := ⟨.hbm, 298, rfl⟩
abbrev main_while1b_call22_c : Ref sig .tc := ⟨.hbm, 299, rfl⟩
abbrev main_while1b_call22_c_0 : Ref sig .tc := ⟨.hbm, 300, rfl⟩
abbrev main_while1b_call22_c_1 : Ref sig .tc := ⟨.hbm, 301, rfl⟩
abbrev main_while1b_v133 : Ref sig .tc := ⟨.hbm, 302, rfl⟩
abbrev main_while1b_call23_v0 : Ref sig .tc := ⟨.hbm, 303, rfl⟩
abbrev main_while1b_call23_c : Ref sig .tc := ⟨.hbm, 304, rfl⟩
abbrev main_while1b_call23_c_0 : Ref sig .tc := ⟨.hbm, 305, rfl⟩
abbrev main_while1b_call23_c_1 : Ref sig .tc := ⟨.hbm, 306, rfl⟩
abbrev main_while1b_v134 : Ref sig .tc := ⟨.hbm, 307, rfl⟩
abbrev main_while1b_call24_v0 : Ref sig .tc := ⟨.hbm, 308, rfl⟩
abbrev main_while1b_call24_c : Ref sig .tc := ⟨.hbm, 309, rfl⟩
abbrev main_while1b_call24_c_0 : Ref sig .tc := ⟨.hbm, 310, rfl⟩
abbrev main_while1b_call24_c_1 : Ref sig .tc := ⟨.hbm, 311, rfl⟩
abbrev main_while1b_v135 : Ref sig .tc := ⟨.hbm, 312, rfl⟩
abbrev main_while1b_call25_v0 : Ref sig .tc := ⟨.hbm, 313, rfl⟩
abbrev main_while1b_call25_c : Ref sig .tc := ⟨.hbm, 314, rfl⟩
abbrev main_while1b_v136 : Ref sig .tc := ⟨.hbm, 315, rfl⟩
abbrev main_while1b_c_41 : Ref sig .tc := ⟨.hbm, 316, rfl⟩
abbrev main_while1b_v137 : Ref sig .tc := ⟨.hbm, 317, rfl⟩
abbrev main_v81 : Ref sig .tc := ⟨.hbm, 318, rfl⟩
abbrev main_v82 : Ref sig .tc := ⟨.hbm, 319, rfl⟩
abbrev main_v83 : Ref sig .tc := ⟨.hbm, 320, rfl⟩
abbrev main_v84 : Ref sig .tc := ⟨.hbm, 321, rfl⟩
abbrev main_v85 : Ref sig .tc := ⟨.hbm, 322, rfl⟩
abbrev main_v86 : Ref sig .tc := ⟨.hbm, 323, rfl⟩
abbrev main_v87 : Ref sig .tc := ⟨.hbm, 324, rfl⟩
abbrev main_v88 : Ref sig .tc := ⟨.hbm, 325, rfl⟩
abbrev main_v89 : Ref sig .tc := ⟨.hbm, 326, rfl⟩
abbrev main_v90 : Ref sig .tc := ⟨.hbm, 327, rfl⟩
abbrev main_v91 : Ref sig .tc := ⟨.hbm, 328, rfl⟩
abbrev main_v92 : Ref sig .tc := ⟨.hbm, 329, rfl⟩
abbrev main_v93 : Ref sig .tc := ⟨.hbm, 330, rfl⟩
abbrev main_v94 : Ref sig .tc := ⟨.hbm, 331, rfl⟩
abbrev main_v95 : Ref sig .tc := ⟨.hbm, 332, rfl⟩
abbrev main_v96 : Ref sig .tc := ⟨.hbm, 333, rfl⟩
abbrev main_v97 : Ref sig .tc := ⟨.hbm, 334, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S4096x2048 : Shape := ⟨2, ![4096, 2048]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩
abbrev S1024x2048 : Shape := ⟨2, ![1024, 2048]⟩
abbrev S4096x512 : Shape := ⟨2, ![4096, 512]⟩
abbrev S512x512 : Shape := ⟨2, ![512, 512]⟩
abbrev S4096x1024 : Shape := ⟨2, ![4096, 1024]⟩
abbrev S1x512x1024 : Shape := ⟨3, ![1, 512, 1024]⟩

abbrev nBuf : Space → Nat
  | .hbm => 14
  | .vmem => 28
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S2048x4x2048, .f32⟩
  | .hbm, ⟨5, _⟩ => ⟨S4x2048x2048, .f32⟩
  | .hbm, ⟨6, _⟩ => ⟨S4x2048x2048, .bf16⟩
  | .hbm, ⟨7, _⟩ => ⟨S8192x2048, .bf16⟩
  | .hbm, ⟨8, _⟩ => ⟨S4096x2048, .bf16⟩
  | .hbm, ⟨9, _⟩ => ⟨S4096x8192, .bf16⟩
  | .hbm, ⟨10, _⟩ => ⟨S4096x8192, .bf16⟩
  | .hbm, ⟨11, _⟩ => ⟨S4096x8192, .bf16⟩
  | .hbm, ⟨12, _⟩ => ⟨S8192x2048, .bf16⟩
  | .hbm, ⟨13, _⟩ => ⟨S4x2048x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S4096x512, .bf16⟩
  | .local _ .vmem, ⟨17, _⟩ => ⟨S4096x512, .bf16⟩
  | .local _ .vmem, ⟨18, _⟩ => ⟨S4096x512, .f32⟩
  | .local _ .vmem, ⟨19, _⟩ => ⟨S4096x512, .f32⟩
  | .local _ .vmem, ⟨20, _⟩ => ⟨S512x512, .bf16⟩
  | .local _ .vmem, ⟨21, _⟩ => ⟨S512x512, .bf16⟩
  | .local _ .vmem, ⟨22, _⟩ => ⟨S4096x512, .bf16⟩
  | .local _ .vmem, ⟨23, _⟩ => ⟨S4096x512, .bf16⟩
  | .local _ .vmem, ⟨24, _⟩ => ⟨S4096x1024, .bf16⟩
  | .local _ .vmem, ⟨25, _⟩ => ⟨S4096x1024, .bf16⟩
  | .local _ .vmem, ⟨26, _⟩ => ⟨S1x512x1024, .bf16⟩
  | .local _ .vmem, ⟨27, _⟩ => ⟨S1x512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 16, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S2048x8192, .f32⟩
  | .hbm, ⟨19, _⟩ => ⟨S8192x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S4096x8192, .bf16⟩
  | .hbm, ⟨29, _⟩ => ⟨S4096x8192, .f32⟩
  | .hbm, ⟨30, _⟩ => ⟨S4096x8192, .bf16⟩
  | .hbm, ⟨31, _⟩ => ⟨S4096x8192, .bf16⟩
  | .hbm, ⟨32, _⟩ => ⟨S8192x2048, .f32⟩
  | .hbm, ⟨33, _⟩ => ⟨S2048x8192, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S1x2048x2048, .f32⟩
  | .hbm, ⟨39, _⟩ => ⟨S1x2048x2048, .f32⟩
  | .hbm, ⟨40, _⟩ => ⟨S1x2048x2048, .f32⟩
  | .hbm, ⟨41, _⟩ => ⟨S1x2048x2048, .f32⟩
  | .hbm, ⟨42, _⟩ => ⟨S4x2048x2048, .f32⟩
  | .hbm, ⟨43, _⟩ => ⟨S4x2048x2048, .bf16⟩
  | .hbm, ⟨44, _⟩ => ⟨S8192x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel3.lean ====
abbrev S4096x8192 : Shape := ⟨2, ![4096, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S2048x4x2048, .f32⟩
  | .hbm, ⟨3, _⟩ => ⟨S4x2048x2048, .f32⟩
  | .hbm, ⟨4, _⟩ => ⟨S4x2048x2048, .bf16⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x8192, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S512x256 : Shape := ⟨2, ![512, 256]⟩
abbrev S256x1024 : Shape := ⟨2, ![256, 1024]⟩
abbrev S512x1024 : Shape := ⟨2, ![512, 1024]⟩
abbrev S512x2048 : Shape := ⟨2, ![512, 2048]⟩
abbrev S2048x1024 : Shape := ⟨2, ![2048, 1024]⟩
abbrev S4096x512 : Shape := ⟨2, ![4096, 512]⟩
abbrev S4096x1024 : Shape := ⟨2, ![4096, 1024]⟩
abbrev S1024x2048 : Shape := ⟨2, ![1024, 2048]⟩

abbrev nBuf : Space → Nat
  | .hbm => 17
  | .vmem => 45
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x256, .f32⟩
  | .hbm, ⟨3, _⟩ => ⟨S2048x2048, .f32⟩
  | .hbm, ⟨4, _⟩ => ⟨S256x2048, .f32⟩
  | .hbm, ⟨5, _⟩ => ⟨S4096x2048, .f32⟩
  | .hbm, ⟨6, _⟩ => ⟨S2048x2048, .bf16⟩
  | .hbm, ⟨7, _⟩ => ⟨S256x2048, .bf16⟩
  | .hbm, ⟨8, _⟩ => ⟨S4096x2048, .bf16⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .bf16⟩
  | .hbm, ⟨13, _⟩ => ⟨S4096x2048, .bf16⟩
  | .hbm, ⟨14, _⟩ => ⟨S2048x2048, .bf16⟩
  | .hbm, ⟨15, _⟩ => ⟨S256x2048, .bf16⟩
  | .hbm, ⟨16, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S4096x512, .bf16⟩
  | .local _ .vmem, ⟨29, _⟩ => ⟨S4096x512, .bf16⟩
  | .local _ .vmem, ⟨30, _⟩ => ⟨S4096x1024, .bf16⟩
  | .local _ .vmem, ⟨31, _⟩ => ⟨S4096x1024, .bf16⟩
  | .local _ .vmem, ⟨32, _⟩ => ⟨S512x1024, .bf16⟩
  | .local _ .vmem, ⟨33, _⟩ => ⟨S512x1024, .bf16⟩
  | .local _ .vmem, ⟨34, _⟩ => ⟨S4096x256, .f32⟩
  | .local _ .vmem, ⟨35, _⟩ => ⟨S4096x1024, .bf16⟩
  | .local _ .vmem, ⟨36, _⟩ => ⟨S4096x1024, .bf16⟩
  | .local _ .vmem, ⟨37, _⟩ => ⟨S256x1024, .bf16⟩
  | .local _ .vmem, ⟨38, _⟩ => ⟨S256x1024, .bf16⟩
  | .local _ .vmem, ⟨39, _⟩ => ⟨S512x2048, .bf16⟩
  | .local _ .vmem, ⟨40, _⟩ => ⟨S512x2048, .bf16⟩
  | .local _ .vmem, ⟨41, _⟩ => ⟨S1024x2048, .bf16⟩
  | .local _ .vmem, ⟨42, _⟩ => ⟨S1024x2048, .bf16⟩
  | .local _ .vmem, ⟨43, _⟩ => ⟨S512x1024, .f32⟩
  | .local _ .vmem, ⟨44, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem1_0 : DmaSem sig := 35
abbrev cc4_sem1_1 : DmaSem sig := 36
abbrev cc4_sem2_0 : DmaSem sig := 37
abbrev cc4_sem2_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 1 → Memref sig .tc .vmem S4096x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference4Ideal.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩
abbrev S2048x256 : Shape := ⟨2, ![2048, 256]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x256, .f32⟩
  | .hbm, ⟨3, _⟩ => ⟨S2048x2048, .f32⟩
  | .hbm, ⟨4, _⟩ => ⟨S256x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S2048x2048, .f32⟩
  | .hbm, ⟨26, _⟩ => ⟨S2048x2048, .f32⟩
  | .hbm, ⟨27, _⟩ => ⟨S4096x2048, .f32⟩
  | .hbm, ⟨28, _⟩ => ⟨S2048x256, .f32⟩
  | .hbm, ⟨29, _⟩ => ⟨S256x2048, .f32⟩
  | .hbm, ⟨30, _⟩ => ⟨S2048x2048, .bf16⟩
  | .hbm, ⟨31, _⟩ => ⟨S256x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S4096x2048 : Shape := ⟨2, ![4096, 2048]⟩
abbrev S2048x6672 : Shape := ⟨2, ![2048, 6672]⟩
abbrev S4096x6672 : Shape := ⟨2, ![4096, 6672]⟩
abbrev S2048x2048 : Shape := ⟨2, ![2048, 2048]⟩
abbrev S_ : Shape := ⟨0, ![]⟩
abbrev S2048x7168 : Shape := ⟨2, ![2048, 7168]⟩
abbrev S4096x7168 : Shape := ⟨2, ![4096, 7168]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩
abbrev S4096x512 : Shape := ⟨2, ![4096, 512]⟩
abbrev S512x512 : Shape := ⟨2, ![512, 512]⟩
abbrev S4096x1024 : Shape := ⟨2, ![4096, 1024]⟩

abbrev nBuf : Space → Nat
  | .hbm => 25
  | .vmem => 32
  | .smem => 0
  | _ => 0

abbrev bufTy : (tb : Table) → Fin (tcTables nBuf tb) → BufTy
  | .hbm, ⟨0, _⟩ => ⟨S4096x2048, .f32⟩
  | .hbm, ⟨1, _⟩ => ⟨S2048x6672, .f32⟩
  | .hbm, ⟨2, _⟩ => ⟨S4096x6672, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S2048x6672, .bf16⟩
  | .hbm, ⟨8, _⟩ => ⟨S_, .i32⟩
  | .hbm, ⟨9, _⟩ => ⟨S_, .bf16⟩
  | .hbm, ⟨10, _⟩ => ⟨S2048x7168, .bf16⟩
  | .hbm, ⟨11, _⟩ => ⟨S2048x2048, .bf16⟩
  | .hbm, ⟨12, _⟩ => ⟨S4096x2048, .bf16⟩
  | .hbm, ⟨13, _⟩ => ⟨S4096x2048, .bf16⟩
  | .hbm, ⟨14, _⟩ => ⟨S4096x6672, .bf16⟩
  | .hbm, ⟨15, _⟩ => ⟨S_, .i32⟩
  | .hbm, ⟨16, _⟩ => ⟨S_, .bf16⟩
  | .hbm, ⟨17, _⟩ => ⟨S4096x7168, .bf16⟩
  | .hbm, ⟨18, _⟩ => ⟨S4096x7168, .f32⟩
  | .hbm, ⟨19, _⟩ => ⟨S4096x2048, .f32⟩
  | .hbm, ⟨20, _⟩ => ⟨S4096x2048, .f32⟩
  | .hbm, ⟨21, _⟩ => ⟨S2048x2048, .bf16⟩
  | .hbm, ⟨22, _⟩ => ⟨S2048x7168, .bf16⟩
  | .hbm, ⟨23, _⟩ => ⟨S4096x6672, .f32⟩
  | .hbm, ⟨24, _⟩ => ⟨S2048x6672, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x2048, .f32⟩
  | .local _ .vmem, ⟨15, _⟩ => ⟨S512x2048, .f32⟩
  | .local _ .vmem, ⟨16, _⟩ => ⟨S1024x2048, .bf16⟩
  | .local _ .vmem, ⟨17, _⟩ => ⟨S1024x2048, .bf16⟩
  | .local _ .vmem, ⟨18, _⟩ => ⟨S512x1024, .f32⟩
  | .local _ .vmem, ⟨19, _⟩ => ⟨S512x1024, .f32⟩
  | .local _ .vmem, ⟨20, _⟩ => ⟨S4096x512, .bf16⟩
  | .local _ .vmem, ⟨21, _⟩ => ⟨S4096x512, .bf16⟩
  | .local _ .vmem, ⟨22, _⟩ => ⟨S4096x512, .f32⟩
  | .local _ .vmem, ⟨23, _⟩ => ⟨S4096x512, .f32⟩
  | .local _ .vmem, ⟨24, _⟩ => ⟨S512x512, .bf16⟩
  | .local _ .vmem, ⟨25, _⟩ => ⟨S512x512, .bf16⟩
  | .local _ .vmem, ⟨26, _⟩ => ⟨S4096x512, .bf16⟩
  | .local _ .vmem, ⟨27, _⟩ => ⟨S4096x512, .bf16⟩
  | .local _ .vmem, ⟨28, _⟩ => ⟨S4096x1024, .bf16⟩
  | .local _ .vmem, ⟨29, _⟩ => ⟨S4096x1024, .bf16⟩
  | .local _ .vmem, ⟨30, _⟩ => ⟨S512x1024, .bf16⟩
  | .local _ .vmem, ⟨31, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![7, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference5Ideal.lean ====
abbrev S4096x2048 : Shape := ⟨2, ![4096, 2048]⟩
abbrev S2048x6672 : Shape := ⟨2, ![2048, 6672]⟩
abbrev S4096x6672 : Shape := ⟨2, ![4096, 6672]⟩
abbrev S2048x2048 : Shape := ⟨2, ![2048, 2048]⟩
abbrev S6672x2048 : Shape := ⟨2, ![6672, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6672, .f32⟩
  | .hbm, ⟨2, _⟩ => ⟨S4096x6672, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x6672, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S4096x2048, .f32⟩
  | .hbm, ⟨13, _⟩ => ⟨S6672x2048, .f32⟩
  | .hbm, ⟨14, _⟩ => ⟨S2048x6672, .f32⟩
  | .hbm, ⟨15, _⟩ => ⟨S2048x6672, .bf16⟩
  | .hbm, ⟨16, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel6.lean ====
abbrev S4096x6672 : Shape := ⟨2, ![4096, 6672]⟩
abbrev S2048x6672 : Shape := ⟨2, ![2048, 6672]⟩
abbrev S_ : Shape := ⟨0, ![]⟩
abbrev S4096x7168 : Shape := ⟨2, ![4096, 7168]⟩
abbrev S2048x7168 : Shape := ⟨2, ![2048, 7168]⟩
abbrev S4096x2048 : Shape := ⟨2, ![4096, 2048]⟩
abbrev S512x3584 : Shape := ⟨2, ![512, 3584]⟩
abbrev S1024x3584 : Shape := ⟨2, ![1024, 3584]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4096x6672, .f32⟩
  | .hbm, ⟨1, _⟩ => ⟨S2048x6672, .f32⟩
  | .hbm, ⟨2, _⟩ => ⟨S4096x6672, .bf16⟩
  | .hbm, ⟨3, _⟩ => ⟨S_, .i32⟩
  | .hbm, ⟨4, _⟩ => ⟨S_, .bf16⟩
  | .hbm, ⟨5, _⟩ => ⟨S4096x7168, .bf16⟩
  | .hbm, ⟨6, _⟩ => ⟨S2048x6672, .bf16⟩
  | .hbm, ⟨7, _⟩ => ⟨S_, .i32⟩
  | .hbm, ⟨8, _⟩ => ⟨S_, .bf16⟩
  | .hbm, ⟨9, _⟩ => ⟨S2048x7168, .bf16⟩
  | .hbm, ⟨10, _⟩ => ⟨S4096x2048, .f32⟩
  | .local _ .vmem, ⟨0, _⟩ => ⟨S512x3584, .bf16⟩
  | .local _ .vmem, ⟨1, _⟩ => ⟨S512x3584, .bf16⟩
  | .local _ .vmem, ⟨2, _⟩ => ⟨S1024x3584, .bf16⟩
  | .local _ .vmem, ⟨3, _⟩ => ⟨S1024x3584, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x6672 : Shape := ⟨2, ![4096, 6672]⟩
abbrev S2048x6672 : Shape := ⟨2, ![2048, 6672]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x6672, .f32⟩
  | .hbm, ⟨1, _⟩ => ⟨S2048x6672, .f32⟩
  | .hbm, ⟨2, _⟩ => ⟨S_, .f32⟩
  | .hbm, ⟨3, _⟩ => ⟨S4096x2048, .f32⟩
  | .hbm, ⟨4, _⟩ => ⟨S4096x6672, .f32⟩
  | .hbm, ⟨5, _⟩ => ⟨S4096x2048, .f32⟩
  | _, _ => ⟨S4096x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x2048 : Shape := ⟨2, ![4096, 2048]⟩
abbrev S4096x8192 : Shape := ⟨2, ![4096, 8192]⟩
abbrev S8192x2048 : Shape := ⟨2, ![8192, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S8192x2048, .f32⟩
  | .hbm, ⟨3, _⟩ => ⟨S8192x2048, .bf16⟩
  | .hbm, ⟨4, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S4096x8192 : Shape := ⟨2, ![4096, 8192]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S8192x2048, .f32⟩
  | .hbm, ⟨3, _⟩ => ⟨S4096x8192, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.KernelBody.lean ====
/- One run of the kernel body at one grid point: from any contents of the nine input buffers, the eight output
   buffers and the two scratch buffers, the body ends with the inputs unchanged and every other buffer at contents
   that the run finds. -/
module

public import proofs.«01_k».proof.Proof.Gen.KernelIdeal.Frame
public import proofs.«01_k».proof.Proof.Gen.KernelIdeal.Loops

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (a1 : Memref sig .tc .vmem S4096x128 .f32) (h1 : a1.IsWhole)
  (a2 : Memref sig .tc .vmem S4096x128 .bf16) (h2 : a2.IsWhole)
  (a3 : Memref sig .tc .vmem S4096x128 .bf16) (h3 : a3.IsWhole)
  (a4 : Memref sig .tc .vmem S4096x128 .bf16) (h4 : a4.IsWhole)
  (a5 : Memref sig .tc .vmem S4096x128 .bf16) (h5 : a5.IsWhole)
  (a6 : Memref sig .tc .vmem S1x256x128 .f32) (h6 : a6.IsWhole)
  (a7 : Memref sig .tc .vmem S4096x128 .f32) (h7 : a7.IsWhole)
  (a8 : Memref sig .tc .vmem S1x1x128 .f32) (h8 : a8.IsWhole)
  (a9 : Memref sig .tc .vmem S4096x128 .f32) (h9 : a9.IsWhole)
  (a10 : Memref sig .tc .vmem S4096x128 .bf16) (h10 : a10.IsWhole)
  (a11 : Memref sig .tc .vmem S4096x128 .bf16) (h11 : a11.IsWhole)
  (a12 : Memref sig .tc .vmem S4096x128 .bf16) (h12 : a12.IsWhole)
  (a13 : Memref sig .tc .vmem S4096x128 .bf16) (h13 : a13.IsWhole)
  (a14 : Memref sig .tc .vmem S4096x128 .bf16) (h14 : a14.IsWhole)
  (a15 : Memref sig .tc .vmem S1x256x128 .f32) (h15 : a15.IsWhole)
  (a16 : Memref sig .tc .vmem S4096x128 .bf16) (h16 : a16.IsWhole)
  (a17 : Memref sig .tc .vmem S1x1x128 .f32) (h17 : a17.IsWhole)
  (a18 : Memref sig .tc .vmem S4096x128 .f32) (h18 : a18.IsWhole)
  (a19 : Memref sig .tc .vmem S32x128x128 .f32) (h19 : a19.IsWhole)
  (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty) (X9 : BufTy.Contents (Elt F) a9.view.ty)

set_option maxHeartbeats 1000000 in
/-- The body's run: what each output and each scratch buffer holds after the body, as functions `G10` to `G19` of what
    they all held before it, with the triple that says so. -/
@[irreducible] def bodyRun :
    Σ' (G10 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a10.view.ty), Σ' (G11 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a11.view.ty), Σ' (G12 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a12.view.ty), Σ' (G13 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a13.view.ty), Σ' (G14 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a14.view.ty), Σ' (G15 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a15.view.ty), Σ' (G16 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a16.view.ty), Σ' (G17 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a17.view.ty), Σ' (G18 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a18.view.ty),
    { G19 : BufTy.Contents (Elt F) a10.view.ty → BufTy.Contents (Elt F) a11.view.ty → BufTy.Contents (Elt F) a12.view.ty → BufTy.Contents (Elt F) a13.view.ty → BufTy.Contents (Elt F) a14.view.ty → BufTy.Contents (Elt F) a15.view.ty → BufTy.Contents (Elt F) a16.view.ty → BufTy.Contents (Elt F) a17.view.ty → BufTy.Contents (Elt F) a18.view.ty → BufTy.Contents (Elt F) a19.view.ty → BufTy.Contents (Elt F) a19.view.ty //
      ∀ (E : Set ℕ) (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) (K : PUnit → sProp 𝕄),
        iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (a8.view.loc (c : Thread nD τ) ↦[a8.view.set]{fullShare} X8) ∗ (a9.view.loc (c : Thread nD τ) ↦[a9.view.set]{fullShare} X9) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16) ∗ (a17.view.loc (c : Thread nD τ) ↦[a17.view.set]{fullShare} f17) ∗ (a18.view.loc (c : Thread nD τ) ↦[a18.view.set]{fullShare} f18) ∗ (a19.view.loc (c : Thread nD τ) ↦[a19.view.set]{fullShare} f19)
          ∗ (iprop((a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a6.view.loc (c : Thread nD τ) ↦[a6.view.set]{fullShare} X6) ∗ (a7.view.loc (c : Thread nD τ) ↦[a7.view.set]{fullShare} X7) ∗ (a8.view.loc (c : Thread nD τ) ↦[a8.view.set]{fullShare} X8) ∗ (a9.view.loc (c : Thread nD τ) ↦[a9.view.set]{fullShare} X9) ∗ (a10.view.loc (c : Thread nD τ) ↦[a10.view.set]{fullShare} (G10 f10 f11 f12 f13 f14 f15 f16 f17 f18 f19)) ∗ (a11.view.loc (c : Thread nD τ) ↦[a11.view.set]{fullShare} (G11 f10 f11 f12 f13 f14 f15 f16 f17 f18 f19)) ∗ (a12.view.loc (c : Thread nD τ) ↦[a12.view.set]{fullShare} (G12 f10 f11 f12 f13 f14 f15 f16 f17 f18 f19)) ∗ (a13.view.loc (c : Thread nD τ) ↦[a13.view.set]{fullShare} (G13 f10 f11 f12 f13 f14 f15 f16 f17 f18 f19)) ∗ (a14.view.loc (c : Thread nD τ) ↦[a14.view.set]{fullShare} (G14 f10 f11 f12 f13 f14 f15 f16 f17 f18 f19)) ∗ (a15.view.loc (c : Thread nD τ) ↦[a15.view.set]{fullShare} (G15 f10 f11 f12 f13 f14 f15 f16 f17 f18 f19)) ∗ (a16.view.loc (c : Thread nD τ) ↦[a16.view.set]{fullShare} (G16 f10 f11 f12 f13 f14 f15 f16 f17 f18 f19)) ∗ (a17.view.loc (c : Thread nD τ) ↦[a17.view.set]{fullShare} (G17 f10 f11 f12 f13 f14 f15 f16 f17 f18 f19)) ∗ (a18.view.loc (c : Thread nD τ) ↦[a18.view.set]{fullShare} (G18 f10 f11 f12 f13 f14 f15 f16 f17 f18 f19)) ∗ (a19.view.loc (c : Thread nD τ) ↦[a19.view.set]{fullShare} (G19 f10 f11 f12 f13 f14 f15 f16 f17 f18 f19))) -∗ K ⟨⟩))
        ⊢ wp frame (wpE (defs₀ (F := F)) Variants.none (c : Thread nD τ) none) E (cc0_gdn_scan_bwd i a1 h1 a2 h2 a3 h3 a4 h4 a5 h5 a6 h6 a7 h7 a8 h8 a9 h9 a10 h10 a11 h11 a12 h12 a13 h13 a14 h14 a15 h15 a16 h16 a17 h17 a18 h18 a19 h19) K } := by
  refine ⟨?_, ?_, ?_, ?_, ?_, ?_, ?_, ?_, ?_, ?_, fun E f10 f11 f12 f13 f14 f15 f16 f17 f18 f19 K => ?run⟩
  case run =>
    simp only [cc0_gdn_scan_bwd_eq_skeleton]; unfold cc0_gdn_scan_bwd_skel
    simp only [k0_part3_eq_skeleton, k0_part4_eq_skeleton]
    iintro ⟨H1, H2, H3, H4, H5, H6, H7, H8, H9, H10, H11, H12, H13, H14, H15, H16, H17, H18, H19, Hk⟩
    sl_exec
    sl_step
    iapply Hk
    sl_close

end Cert.Proof.KRun

end
-- ==== Proof.KernelSpec.lean ====
/- What one grid point of the kernel computes, as functions of the nine blocks it reads: the state carried forward
   from chunk to chunk, the read-out, the gradient that reaches the read-out, the gradient carried backward, and the
   eight blocks it writes. -/
module

public import proofs.«01_k».proof.Proof.Gen.KernelIdeal.Skeleton
public import Idealize.ShloMosaic.Lib.PointwiseCore

@[expose] public section

set_option maxRecDepth 16384

noncomputable section

namespace Cert.Proof.KRun

open Cert.KernelIdeal Cert.KernelIdeal.Gen
open Idealize.ShloMosaic

variable {F : FTy → Type} [FloatOps F]

/-- The nine blocks that one grid point reads. -/
structure Ins (F : FTy → Type) where
  value : Vec F S4096x128 .f32
  kcd : Vec F S4096x128 .bf16
  qe : Vec F S4096x128 .bf16
  kt : Vec F S4096x128 .bf16
  intra : Vec F S4096x128 .bf16
  carry : Vec F S1x256x128 .f32
  z : Vec F S4096x128 .f32
  nrm : Vec F S1x1x128 .f32
  dy : Vec F S4096x128 .f32

/-- Chunk `c` of an array of 4096 rows: its rows `128 c` to `128 c + 127`. -/
def rows {α : Type} (X : S4096x128.Idx → α) (c : ℕ) : S128x128.Idx → α :=
  fun y => X (ix2 ⟨(128 * c + (y 0).val) % 4096, Nat.mod_lt _ (by decide)⟩ (y 1))

/-- Row `8 c` of an array of 256 rows. -/
def crow {α : Type} (X : S1x256x128.Idx → α) (c : ℕ) : S1x1x128.Idx → α :=
  fun y => X (ix3 (0 : Fin 1) ⟨(8 * c) % 256, Nat.mod_lt _ (by decide)⟩ (y 2))

/-- Slab `c` of a stack of 32 matrices. -/
def slab {α : Type} (X : S32x128x128.Idx → α) (c : ℕ) : S1x128x128.Idx → α :=
  fun y => X (ix3 ⟨c % 32, Nat.mod_lt _ (by decide)⟩ (y 1) (y 2))

/-- The array of 4096 rows whose chunk `c` is `w c`. -/
def glue {α : Type} (w : ℕ → S128x128.Idx → α) : S4096x128.Idx → α :=
  fun j => w ((j 0).val / 128) (ix2 ⟨(j 0).val % 128, Nat.mod_lt _ (by decide)⟩ (j 1))

/-- The state before chunk `c`. -/
def state (x : Ins F) : ℕ → FVec F S128x128 .f32
  | 0 => k0_pay25
  | c + 1 => k0_pay28 (state x c) (rows x.value c) (rows x.kcd c) (rows x.kt c) (crow x.carry c)

/-- The read-out, chunk by chunk. -/
def readout (x : Ins F) : Vec F S4096x128 .f32 :=
  glue fun c => k0_pay29 (state x c) (rows x.value c) (rows x.kcd c) (rows x.qe c) (rows x.intra c)

/-- The states before each chunk, stacked. -/
def states (x : Ins F) : Vec F S32x128x128 .f32 :=
  fun j => k0_pay26 (state x (j 0).val) (ix3 (0 : Fin 1) (j 1) (j 2))

/-- The gradient that reaches the read-out through the normalisation and the gate. -/
def dRead (x : Ins F) : Vec F S4096x128 .f32 :=
  k0_pay44 (readout x) (k0_pay30 x.nrm) (k0_pay32 (readout x)) (k0_pay33 (readout x)) (k0_pay40 x.z x.dy)

/-- The gradient of the gate's argument. -/
def dGate (x : Ins F) : Vec F S4096x128 .bf16 :=
  k0_pay42 (k0_pay35 x.z) (k0_pay37 x.z) (k0_pay38 x.z) (k0_pay39 (readout x) x.nrm x.dy) (k0_pay41 (readout x) x.z x.nrm x.dy)

/-- The gradient of the normalisation's weights, one head's part. -/
def dNorm (x : Ins F) : Vec F S1x1x128 .f32 :=
  k0_pay43 (k0_pay34 (readout x)) (k0_pay40 x.z x.dy)

section Backward

variable (x : Ins F) (dO : Vec F S4096x128 .f32) (S : Vec F S32x128x128 .f32)

/-- The gradient of the state, one chunk further back. -/
def backStep (c : ℕ) (acc : FVec F S128x128 .f32) : FVec F S128x128 .f32 :=
  k0_pay19 (k0_pay5 (rows x.kcd c)) (k0_pay6 (rows x.qe c)) (k0_pay7 (rows x.intra c)) (rows dO c)
    (k0_pay11 acc (rows x.kt c)) (k0_pay13 acc (crow x.carry c)) (k0_pay14 (rows dO c))

/-- The gradient of the state after `k` chunks of the backward walk, which begins at the last chunk. -/
def back : ℕ → FVec F S128x128 .f32
  | 0 => k0_pay2
  | k + 1 => backStep x dO (31 - k) (back k)

/-- The gradient of the state that chunk `c` leaves. -/
def dState (c : ℕ) : FVec F S128x128 .f32 := back x dO (31 - c)

/-- The gradient of the values. -/
def dValue : Vec F S4096x128 .bf16 :=
  glue fun c => k0_pay20 (k0_pay7 (rows x.intra c)) (rows dO c) (k0_pay11 (dState x dO c) (rows x.kt c))

/-- The gradient of the decayed keys that read the state. -/
def dKcd : Vec F S4096x128 .bf16 :=
  glue fun c => k0_pay21 (k0_pay4 (slab S c)) (k0_pay7 (rows x.intra c)) (rows dO c) (k0_pay11 (dState x dO c) (rows x.kt c))

/-- The gradient of the queries. -/
def dQe : Vec F S4096x128 .bf16 :=
  glue fun c => k0_pay22 (k0_pay4 (slab S c)) (k0_pay14 (rows dO c))

/-- The gradient of the keys that write the state. -/
def dKt : Vec F S4096x128 .bf16 :=
  glue fun c => k0_pay23 (k0_pay10 (dState x dO c) (rows x.value c) (rows x.kcd c) (slab S c))

/-- The gradient of the attention within a chunk. -/
def dIntra : Vec F S4096x128 .bf16 :=
  glue fun c => k0_pay24 (k0_pay8 (rows x.value c) (rows x.kcd c) (slab S c)) (rows dO c)

/-- The gradient of the decays: row `8 c` is chunk `c`'s, column by column, and every other row is zero. -/
def dCarry : Vec F S1x256x128 .f32 :=
  fun j => if (j 1).val % 8 = 0
    then k0_pay3 (k0_pay12 (dState x dO ((j 1).val / 8)) (slab S ((j 1).val / 8))) (ix3 (0 : Fin 1) (0 : Fin 1) (j 2))
    else k0_pay1 k0_pay45 j

end Backward

/-- A chunk of an array that is laid out by chunks. -/
theorem rows_glue {α : Type} (w : ℕ → S128x128.Idx → α) (c : ℕ) (hc : c < 32) : rows (glue w) c = w c := by
  funext y
  have hy : (y 0).val < 128 := (y 0).isLt
  have h1 : (128 * c + (y 0).val) % 4096 = 128 * c + (y 0).val := Nat.mod_eq_of_lt (by omega)
  show w (((128 * c + (y 0).val) % 4096) / 128) (ix2 ⟨((128 * c + (y 0).val) % 4096) % 128, _⟩ (y 1)) = w c y
  have h2 : (128 * c + (y 0).val) % 4096 / 128 = c := by omega
  have h3 : (ix2 ⟨((128 * c + (y 0).val) % 4096) % 128, Nat.mod_lt _ (by decide)⟩ (y 1) : S128x128.Idx) = y := by
    funext a
    refine Fin.ext ?_
    match a with
    | ⟨0, _⟩ => show ((128 * c + (y 0).val) % 4096) % 128 = (y 0).val; omega
    | ⟨1, _⟩ => rfl
  rw [h2, h3]

/-- A slab of the stacked states. -/
theorem slab_states (x : Ins F) (c : ℕ) (hc : c < 32) : slab (states x) c = k0_pay26 (state x c) := by
  funext y
  show k0_pay26 (state x (c % 32)) (ix3 (0 : Fin 1) (y 1) (y 2)) = k0_pay26 (state x c) y
  rw [Nat.mod_eq_of_lt hc]
  congr 1
  funext a
  refine Fin.ext ?_
  match a with
  | ⟨0, _⟩ => exact (Nat.lt_one_iff.mp (y 0).isLt).symm
  | ⟨1, _⟩ => rfl
  | ⟨2, _⟩ => rfl

end Cert.Proof.KRun
-- ==== Proof.KernelLoops.lean ====
/- The two loops of the kernel body, trip by trip: the value each carries and the pieces each has written, in terms of
   the blocks it reads. -/
module

public import proofs.«01_k».proof.Proof.Gen.KernelIdeal.Frame
public import proofs.«01_k».proof.Proof.Gen.KernelIdeal.Loops
public import proofs.«01_k».proof.Proof.KernelSpec

@[expose] public section

set_option maxRecDepth 16384

noncomputable section

namespace Cert.Proof.KRun

open Cert.KernelIdeal Cert.KernelIdeal.Gen
open Idealize.ShloMosaic Idealize.ShloMosaic.TcCoe
open Idealize.SL

variable {F : FTy → Type} [FloatOps F]

/-- The nineteen buffers that the body works on, each a whole one: nine inputs, eight outputs, two scratch. -/
structure Bufs where
  a1 : Memref sig .tc .vmem S4096x128 .f32
  h1 : a1.IsWhole
  a2 : Memref sig .tc .vmem S4096x128 .bf16
  h2 : a2.IsWhole
  a3 : Memref sig .tc .vmem S4096x128 .bf16
  h3 : a3.IsWhole
  a4 : Memref sig .tc .vmem S4096x128 .bf16
  h4 : a4.IsWhole
  a5 : Memref sig .tc .vmem S4096x128 .bf16
  h5 : a5.IsWhole
  a6 : Memref sig .tc .vmem S1x256x128 .f32
  h6 : a6.IsWhole
  a7 : Memref sig .tc .vmem S4096x128 .f32
  h7 : a7.IsWhole
  a8 : Memref sig .tc .vmem S1x1x128 .f32
  h8 : a8.IsWhole
  a9 : Memref sig .tc .vmem S4096x128 .f32
  h9 : a9.IsWhole
  a10 : Memref sig .tc .vmem S4096x128 .bf16
  h10 : a10.IsWhole
  a11 : Memref sig .tc .vmem S4096x128 .bf16
  h11 : a11.IsWhole
  a12 : Memref sig .tc .vmem S4096x128 .bf16
  h12 : a12.IsWhole
  a13 : Memref sig .tc .vmem S4096x128 .bf16
  h13 : a13.IsWhole
  a14 : Memref sig .tc .vmem S4096x128 .bf16
  h14 : a14.IsWhole
  a15 : Memref sig .tc .vmem S1x256x128 .f32
  h15 : a15.IsWhole
  a16 : Memref sig .tc .vmem S4096x128 .bf16
  h16 : a16.IsWhole
  a17 : Memref sig .tc .vmem S1x1x128 .f32
  h17 : a17.IsWhole
  a18 : Memref sig .tc .vmem S4096x128 .f32
  h18 : a18.IsWhole
  a19 : Memref sig .tc .vmem S32x128x128 .f32
  h19 : a19.IsWhole

/-- The contents of the nine input buffers that read as the given blocks: one for each. -/
abbrev Bufs.X1 (B : Bufs) (x : Ins F) := B.h1.unread (Val := Elt F) x.value
@[inherit_doc Bufs.X1] abbrev Bufs.X2 (B : Bufs) (x : Ins F) := B.h2.unread (Val := Elt F) x.kcd
@[inherit_doc Bufs.X1] abbrev Bufs.X3 (B : Bufs) (x : Ins F) := B.h3.unread (Val := Elt F) x.qe
@[inherit_doc Bufs.X1] abbrev Bufs.X4 (B : Bufs) (x : Ins F) := B.h4.unread (Val := Elt F) x.kt
@[inherit_doc Bufs.X1] abbrev Bufs.X5 (B : Bufs) (x : Ins F) := B.h5.unread (Val := Elt F) x.intra
@[inherit_doc Bufs.X1] abbrev Bufs.X6 (B : Bufs) (x : Ins F) := B.h6.unread (Val := Elt F) x.carry
@[inherit_doc Bufs.X1] abbrev Bufs.X7 (B : Bufs) (x : Ins F) := B.h7.unread (Val := Elt F) x.z
@[inherit_doc Bufs.X1] abbrev Bufs.X8 (B : Bufs) (x : Ins F) := B.h8.unread (Val := Elt F) x.nrm
@[inherit_doc Bufs.X1] abbrev Bufs.X9 (B : Bufs) (x : Ins F) := B.h9.unread (Val := Elt F) x.dy

variable (c : Dev nD) (i : grid0.Coords) (B : Bufs) (x : Ins F)

/-- The forward loop before trip `k`: the carried value and the pieces written into the two scratch buffers. -/
abbrev fwd (k : ℕ) :=
  st_k0_t1 (F := F) Variants.none c none i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19
    (B.X1 x) (B.X2 x) (B.X3 x) (B.X4 x) (B.X5 x) (B.X6 x) k0_pay25 k

/-- The backward loop before trip `k`, from what the scratch buffers hold: the carried value and the pieces written
    into the six outputs. -/
abbrev bwd (X18 : BufTy.Contents (Elt F) B.a18.view.ty) (X19 : BufTy.Contents (Elt F) B.a19.view.ty) (k : ℕ) :=
  st_k0_t2 (F := F) Variants.none c none i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19
    (B.X1 x) (B.X2 x) (B.X3 x) (B.X4 x) (B.X5 x) (B.X6 x) X18 X19 k0_pay2 k

theorem trips1 : k0_t1_loop.trips = 32 := by decide +kernel
theorem trips2 : k0_t2_loop.trips = 32 := by decide +kernel

/-- A load of 128 rows reads a chunk. -/
theorem readAt_rows {e : EltTy} (m : Memref sig .tc .vmem S4096x128 e) (X : BufTy.Contents (Elt F) m.view.ty)
    (w : S4096x128.Idx → Elt F e) (hX : m.view.read (Elt F) X = w) (n : ℕ) (hn : n < 32)
    (off : Fin 2 → ℕ) (h : off = ![128 * n, 0]) (inb : ∀ a, off a + S128x128.size a ≤ S4096x128.size a) :
    View.readAt (Elt F) m.view (Rect.unit (s := S4096x128) off S128x128.size inb).toLoadRect X = rows w n := by
  subst h
  funext y
  have hy : (y 0).val < 128 := (y 0).isLt
  refine (congrFun hX _).trans (congrArg w ?_)
  funext a
  refine Fin.ext ?_
  match a with
  | ⟨0, _⟩ => show 128 * n + 1 * (y 0).val = (128 * n + (y 0).val) % 4096; rw [Nat.mod_eq_of_lt (by omega)]; omega
  | ⟨1, _⟩ => show 0 + 1 * (y 1).val = (y 1).val; omega

/-- A load of one row of the decays reads row `8 n`. -/
theorem readAt_crow (m : Memref sig .tc .vmem S1x256x128 .f32) (X : BufTy.Contents (Elt F) m.view.ty)
    (w : S1x256x128.Idx → Elt F .f32) (hX : m.view.read (Elt F) X = w) (n : ℕ) (hn : n < 32)
    (off : Fin 3 → ℕ) (h : off = ![0, 8 * n, 0]) (inb : ∀ a, off a + S1x1x128.size a ≤ S1x256x128.size a) :
    View.readAt (Elt F) m.view (Rect.unit (s := S1x256x128) off S1x1x128.size inb).toLoadRect X = crow w n := by
  subst h
  funext y
  have hy0 : (y 0).val < 1 := (y 0).isLt
  have hy1 : (y 1).val < 1 := (y 1).isLt
  refine (congrFun hX _).trans (congrArg w ?_)
  funext a
  refine Fin.ext ?_
  match a with
  | ⟨0, _⟩ => show 0 + 1 * (y 0).val = 0; omega
  | ⟨1, _⟩ => show 8 * n + 1 * (y 1).val = (8 * n) % 256; rw [Nat.mod_eq_of_lt (by omega)]; omega
  | ⟨2, _⟩ => show 0 + 1 * (y 2).val = (y 2).val; omega

/-- A load of one matrix of the stack reads slab `n`. -/
theorem readAt_slab (m : Memref sig .tc .vmem S32x128x128 .f32) (X : BufTy.Contents (Elt F) m.view.ty)
    (w : S32x128x128.Idx → Elt F .f32) (hX : m.view.read (Elt F) X = w) (n : ℕ) (hn : n < 32)
    (off : Fin 3 → ℕ) (h : off = ![n, 0, 0]) (inb : ∀ a, off a + S1x128x128.size a ≤ S32x128x128.size a) :
    View.readAt (Elt F) m.view (Rect.unit (s := S32x128x128) off S1x128x128.size inb).toLoadRect X = slab w n := by
  subst h
  funext y
  have hy0 : (y 0).val < 1 := (y 0).isLt
  refine (congrFun hX _).trans (congrArg w ?_)
  funext a
  refine Fin.ext ?_
  match a with
  | ⟨0, _⟩ => show n + 1 * (y 0).val = n % 32; rw [Nat.mod_eq_of_lt hn]; omega
  | ⟨1, _⟩ => show 0 + 1 * (y 1).val = (y 1).val; omega
  | ⟨2, _⟩ => show 0 + 1 * (y 2).val = (y 2).val; omega

/-- One trip of the forward loop: the next value carried, and the piece it puts before those of each scratch. -/
theorem fwd_succ (k : Fin k0_t1_loop.trips) (hs : (fwd c i B x k.val).1 = state x k.val) :
    (fwd c i B x (k.val + 1)).1 = state x (k.val + 1)
    ∧ (fwd c i B x (k.val + 1)).2.1 = ⟨Rect.unit (k0_off1 k) S128x128.size (k0_off1_inb k),
        k0_pay29 (state x k.val) (rows x.value k.val) (rows x.kcd k.val) (rows x.qe k.val) (rows x.intra k.val)⟩
          :: (fwd c i B x k.val).2.1
    ∧ (fwd c i B x (k.val + 1)).2.2 = ⟨Rect.unit (k0_off3 k) S1x128x128.size (k0_off3_inb k),
        k0_pay26 (state x k.val)⟩ :: (fwd c i B x k.val).2.2 := by
  have hk : k.val < 32 := Nat.lt_of_lt_of_eq k.isLt trips1
  have r1 := readAt_rows (F := F) B.a1 (B.X1 x) _ (B.h1.read_unread _) k.val hk _ (k0_off1_eq k) (k0_off1_inb k)
  have r2 := readAt_rows (F := F) B.a2 (B.X2 x) _ (B.h2.read_unread _) k.val hk _ (k0_off1_eq k) (k0_off1_inb k)
  have r3 := readAt_rows (F := F) B.a3 (B.X3 x) _ (B.h3.read_unread _) k.val hk _ (k0_off1_eq k) (k0_off1_inb k)
  have r4 := readAt_rows (F := F) B.a4 (B.X4 x) _ (B.h4.read_unread _) k.val hk _ (k0_off1_eq k) (k0_off1_inb k)
  have r5 := readAt_rows (F := F) B.a5 (B.X5 x) _ (B.h5.read_unread _) k.val hk _ (k0_off1_eq k) (k0_off1_inb k)
  have r6 := readAt_crow (F := F) B.a6 (B.X6 x) _ (B.h6.read_unread _) k.val hk _ (k0_off2_eq k) (k0_off2_inb k)
  unfold fwd at hs ⊢
  rw [st_k0_t1_succ]
  unfold tripR_k0_t1 tripL_k0_t1 trip_k0_t1
  dsimp only
  rw [hs]
  refine ⟨?_, ?_, ?_⟩
  · rw [state, ← r1, ← r2, ← r4, ← r6]
  · rw [← r1, ← r2, ← r3, ← r5]; rfl
  · rfl

/-- One trip of the backward loop, the scratch buffers holding `dO` and `S`: the next value carried, and the piece it
    puts before those of each output. -/
theorem bwd_succ (X18 : BufTy.Contents (Elt F) B.a18.view.ty) (X19 : BufTy.Contents (Elt F) B.a19.view.ty)
    (dO : Vec F S4096x128 .f32) (S : Vec F S32x128x128 .f32)
    (h18 : B.a18.view.read (Elt F) X18 = dO) (h19 : B.a19.view.read (Elt F) X19 = S)
    (k : Fin k0_t2_loop.trips) (hs : (bwd c i B x X18 X19 k.val).1 = back x dO k.val) :
    (bwd c i B x X18 X19 (k.val + 1)).1 = back x dO (k.val + 1)
    ∧ (bwd c i B x X18 X19 (k.val + 1)).2.1 = ⟨Rect.unit (k0_off4 k) S128x128.size (k0_off4_inb k),
        k0_pay20 (k0_pay7 (rows x.intra (31 - k.val))) (rows dO (31 - k.val))
          (k0_pay11 (back x dO k.val) (rows x.kt (31 - k.val)))⟩ :: (bwd c i B x X18 X19 k.val).2.1
    ∧ (bwd c i B x X18 X19 (k.val + 1)).2.2.1 = ⟨Rect.unit (k0_off4 k) S128x128.size (k0_off4_inb k),
        k0_pay21 (k0_pay4 (slab S (31 - k.val))) (k0_pay7 (rows x.intra (31 - k.val))) (rows dO (31 - k.val))
          (k0_pay11 (back x dO k.val) (rows x.kt (31 - k.val)))⟩ :: (bwd c i B x X18 X19 k.val).2.2.1
    ∧ (bwd c i B x X18 X19 (k.val + 1)).2.2.2.1 = ⟨Rect.unit (k0_off4 k) S128x128.size (k0_off4_inb k),
        k0_pay22 (k0_pay4 (slab S (31 - k.val))) (k0_pay14 (rows dO (31 - k.val)))⟩ :: (bwd c i B x X18 X19 k.val).2.2.2.1
    ∧ (bwd c i B x X18 X19 (k.val + 1)).2.2.2.2.1 = ⟨Rect.unit (k0_off4 k) S128x128.size (k0_off4_inb k),
        k0_pay23 (k0_pay10 (back x dO k.val) (rows x.value (31 - k.val)) (rows x.kcd (31 - k.val)) (slab S (31 - k.val)))⟩
          :: (bwd c i B x X18 X19 k.val).2.2.2.2.1
    ∧ (bwd c i B x X18 X19 (k.val + 1)).2.2.2.2.2.1 = ⟨Rect.unit (k0_off4 k) S128x128.size (k0_off4_inb k),
        k0_pay24 (k0_pay8 (rows x.value (31 - k.val)) (rows x.kcd (31 - k.val)) (slab S (31 - k.val)))
          (rows dO (31 - k.val))⟩ :: (bwd c i B x X18 X19 k.val).2.2.2.2.2.1
    ∧ (bwd c i B x X18 X19 (k.val + 1)).2.2.2.2.2.2 = ⟨Rect.unit (k0_off5 k) S1x1x128.size (k0_off5_inb k),
        k0_pay3 (k0_pay12 (back x dO k.val) (slab S (31 - k.val)))⟩ :: (bwd c i B x X18 X19 k.val).2.2.2.2.2.2 := by
  have hk : k.val < 32 := Nat.lt_of_lt_of_eq k.isLt trips2
  have hk' : 31 - k.val < 32 := by omega
  have e4 : k0_off4 k = ![128 * (31 - k.val), 0] := (k0_off4_eq k).trans (by congr 1; omega)
  have e5 : k0_off5 k = ![0, 8 * (31 - k.val), 0] := (k0_off5_eq k).trans (by congr 2; omega)
  have r1 := readAt_rows (F := F) B.a1 (B.X1 x) _ (B.h1.read_unread _) _ hk' _ e4 (k0_off4_inb k)
  have r2 := readAt_rows (F := F) B.a2 (B.X2 x) _ (B.h2.read_unread _) _ hk' _ e4 (k0_off4_inb k)
  have r3 := readAt_rows (F := F) B.a3 (B.X3 x) _ (B.h3.read_unread _) _ hk' _ e4 (k0_off4_inb k)
  have r4 := readAt_rows (F := F) B.a4 (B.X4 x) _ (B.h4.read_unread _) _ hk' _ e4 (k0_off4_inb k)
  have r5 := readAt_rows (F := F) B.a5 (B.X5 x) _ (B.h5.read_unread _) _ hk' _ e4 (k0_off4_inb k)
  have r6 := readAt_crow (F := F) B.a6 (B.X6 x) _ (B.h6.read_unread _) _ hk' _ e5 (k0_off5_inb k)
  have r18 := readAt_rows (F := F) B.a18 X18 _ h18 _ hk' _ e4 (k0_off4_inb k)
  have r19 := readAt_slab (F := F) B.a19 X19 _ h19 _ hk' _ (k0_off6_eq k) (k0_off6_inb k)
  unfold bwd at hs ⊢
  rw [st_k0_t2_succ]
  unfold tripR_k0_t2 tripL_k0_t2 trip_k0_t2
  dsimp only
  rw [hs]
  refine ⟨?_, ?_, ?_, ?_, ?_, ?_, ?_⟩
  · rw [back, backStep, ← r2, ← r3, ← r4, ← r5, ← r6, ← r18]; rfl
  · rw [← r4, ← r5, ← r18]; rfl
  · rw [← r4, ← r5, ← r18, ← r19]; rfl
  · rw [← r18, ← r19]; rfl
  · rw [← r1, ← r2, ← r19]; rfl
  · rw [← r1, ← r2, ← r18, ← r19]; rfl
  · rw [← r19]; rfl

/-- The value the forward loop carries is the state, trip by trip. -/
theorem fwd_state : ∀ k : ℕ, k ≤ 32 → (fwd c i B x k).1 = state x k
  | 0, _ => rfl
  | k + 1, hk => (fwd_succ c i B x ⟨k, by rw [trips1]; omega⟩ (fwd_state k (by omega))).1

/-- The value the backward loop carries is the gradient of the state, trip by trip. -/
theorem bwd_state (X18 : BufTy.Contents (Elt F) B.a18.view.ty) (X19 : BufTy.Contents (Elt F) B.a19.view.ty)
    (dO : Vec F S4096x128 .f32) (S : Vec F S32x128x128 .f32)
    (h18 : B.a18.view.read (Elt F) X18 = dO) (h19 : B.a19.view.read (Elt F) X19 = S) :
    ∀ k : ℕ, k ≤ 32 → (bwd c i B x X18 X19 k).1 = back x dO k
  | 0, _ => rfl
  | k + 1, hk => (bwd_succ c i B x X18 X19 dO S h18 h19 ⟨k, by rw [trips2]; omega⟩ (bwd_state X18 X19 dO S h18 h19 k (by omega))).1

end Cert.Proof.KRun
-- ==== Proof.KernelBlocks.lean ====
/- What the kernel body leaves in its eight output buffers, in terms of the blocks it reads, whatever the outputs and
   the scratch buffers held before. -/
module

public import proofs.«01_k».proof.Proof.KernelBody
public import proofs.«01_k».proof.Proof.KernelLoops
public import Idealize.ShloMosaic.Lib.VecWindow

@[expose] public section

set_option maxRecDepth 16384

noncomputable section

namespace Cert.Proof.KRun

open Cert.KernelIdeal Cert.KernelIdeal.Gen
open Idealize.ShloMosaic Idealize.ShloMosaic.TcCoe
open Idealize.SL

variable {F : FTy → Type} [FloatOps F]

/-- Pieces written one after the other, each with the values of one array `out` over its own rectangle: a place that
    some piece covers reads as `out`, any other as before. -/
theorem read_pieces {κ : Kind} {sp : Space} {s : Shape} {e : EltTy} (v : View sig κ sp s e)
    (f : v.ty.Contents (Elt F)) (n : ℕ) (L : ℕ → List (View.Piece (Elt F) s e)) (R : Fin n → Rect s)
    (w : (k : Fin n) → (R k).shape.Idx → Elt F e) (h0 : L 0 = [])
    (hs : ∀ k : Fin n, L (k.val + 1) = ⟨R k, w k⟩ :: L k.val) (out : s.Idx → Elt F e)
    (hw : ∀ k x, w k x = out ((R k).emb x)) :
    ∀ m : ℕ, m ≤ n → ∀ y : s.Idx,
      ((∃ k : Fin n, k.val < m ∧ y ∈ (R k).set) → v.read (Elt F) (v.writes (Elt F) f (L m)) y = out y)
      ∧ ((∀ k : Fin n, k.val < m → y ∉ (R k).set) → v.read (Elt F) (v.writes (Elt F) f (L m)) y = v.read (Elt F) f y)
  | 0, _, y => by
      refine ⟨fun ⟨k, hk, _⟩ => absurd hk (Nat.not_lt_zero _), fun _ => ?_⟩
      rw [h0]; rfl
  | m + 1, hm, y => by
      have ih := read_pieces v f n L R w h0 hs out hw m (by omega) y
      rw [hs ⟨m, hm⟩]
      by_cases hy : y ∈ (R ⟨m, hm⟩).set
      · refine ⟨fun _ => ?_, fun hn => absurd hy (hn ⟨m, hm⟩ (Nat.lt_succ_self m))⟩
        obtain ⟨x, rfl⟩ := (R ⟨m, hm⟩).exists_idx_of_mem hy
        exact (View.read_writes_cons_emb v f (R ⟨m, hm⟩) (w ⟨m, hm⟩) (L m) x).trans (hw ⟨m, hm⟩ x)
      · have e := View.read_writes_cons_miss v f ⟨R ⟨m, hm⟩, w ⟨m, hm⟩⟩ (L m) y hy
        refine ⟨fun ⟨k, hk, hky⟩ => e.trans (ih.1 ⟨k, ?_, hky⟩), fun hn => e.trans (ih.2 fun k hk => hn k (by omega))⟩
        rcases Nat.lt_succ_iff_lt_or_eq.mp hk with h | h
        · exact h
        · exact absurd (by rwa [show k = ⟨m, hm⟩ from Fin.ext h] at hky) hy

/-- Thirty-two pieces of 128 rows, the one of trip `k` at chunk `g k`, fill an array of 4096 rows. -/
theorem read_chunks {e : EltTy} (m : Memref sig .tc .vmem S4096x128 e) (f : m.view.ty.Contents (Elt F))
    (n : ℕ) (L : ℕ → List (View.Piece (Elt F) S4096x128 e)) (off : Fin n → Fin 2 → ℕ)
    (inb : ∀ k, ∀ a, off k a + S128x128.size a ≤ S4096x128.size a)
    (g : ℕ → ℕ) (hoff : ∀ k : Fin n, off k = ![128 * g k.val, 0])
    (hg : ∀ q, q < 32 → g q < 32 ∧ g (g q) = q) (hn : n = 32)
    (w : ℕ → S128x128.Idx → Elt F e) (h0 : L 0 = [])
    (hs : ∀ k : Fin n, L (k.val + 1) = ⟨Rect.unit (off k) S128x128.size (inb k), w (g k.val)⟩ :: L k.val) :
    m.view.read (Elt F) (m.view.writes (Elt F) f (L n)) = glue w := by
  funext y
  have hy0 : (y 0).val < 4096 := (y 0).isLt
  refine ((read_pieces m.view f n L (fun k => Rect.unit (off k) S128x128.size (inb k)) (fun k => w (g k.val)) h0 hs (glue w)
    (fun k x => ?_) n (le_refl n) y).1 ?_)
  · have hx0 : (x 0).val < 128 := (x 0).isLt
    have hk : g k.val < 32 := (hg k.val (Nat.lt_of_lt_of_eq k.isLt hn)).1
    have e0 : ((Rect.unit (s := S4096x128) (off k) S128x128.size (inb k)).emb x 0).val = 128 * g k.val + (x 0).val := by
      have h : off k 0 = 128 * g k.val := congrFun (hoff k) 0
      show off k 0 + 1 * (x 0).val = _; omega
    have e1 : ((Rect.unit (s := S4096x128) (off k) S128x128.size (inb k)).emb x 1).val = (x 1).val := by
      have h : off k 1 = 0 := congrFun (hoff k) 1
      show off k 1 + 1 * (x 1).val = _; omega
    show w (g k.val) x = w (((Rect.unit (s := S4096x128) (off k) S128x128.size (inb k)).emb x 0).val / 128)
      (ix2 ⟨((Rect.unit (s := S4096x128) (off k) S128x128.size (inb k)).emb x 0).val % 128, _⟩
        ((Rect.unit (s := S4096x128) (off k) S128x128.size (inb k)).emb x 1))
    have h1 : ((Rect.unit (s := S4096x128) (off k) S128x128.size (inb k)).emb x 0).val / 128 = g k.val := by omega
    rw [h1]
    congr 1
    funext a
    refine Fin.ext ?_
    match a with
    | ⟨0, _⟩ => show (x 0).val = ((Rect.unit (s := S4096x128) (off k) S128x128.size (inb k)).emb x 0).val % 128; omega
    | ⟨1, _⟩ => exact e1.symm
  · have hq := hg ((y 0).val / 128) (by omega)
    refine ⟨⟨g ((y 0).val / 128), by omega⟩, by show g ((y 0).val / 128) < n; omega, ?_⟩
    rw [Rect.mem_set_unit]
    intro a
    rw [hoff]
    show ![128 * g (g ((y 0).val / 128)), 0] a ≤ (y a).val ∧ (y a).val < ![128 * g (g ((y 0).val / 128)), 0] a + S128x128.size a
    rw [hq.2]
    match a with
    | ⟨0, _⟩ => show 128 * ((y 0).val / 128) ≤ (y 0).val ∧ (y 0).val < 128 * ((y 0).val / 128) + 128; omega
    | ⟨1, _⟩ => exact ⟨Nat.zero_le _, by have h : (y 1).val < 128 := (y 1).isLt; show (y 1).val < 0 + 128; omega⟩

variable (c : Dev nD) (i : grid0.Coords) (B : Bufs) (x : Ins F)

/-- The first scratch buffer after the forward loop: the read-out. -/
theorem read_fwd18 (f : BufTy.Contents (Elt F) B.a18.view.ty) :
    B.a18.view.read (Elt F) (B.a18.view.writes (Elt F) f (fwd c i B x k0_t1_loop.trips).2.1) = readout x :=
  read_chunks B.a18 f _ (fun k => (fwd c i B x k).2.1) (fun k => k0_off1 k) (fun k => k0_off1_inb k) id
    (fun k => k0_off1_eq k) (fun q hq => ⟨hq, rfl⟩) trips1 _ rfl
    (fun k => (fwd_succ c i B x k (fwd_state c i B x k.val (by have := k.isLt; have := trips1; omega))).2.1)

/-- The second scratch buffer after the forward loop: the states. -/
theorem read_fwd19 (f : BufTy.Contents (Elt F) B.a19.view.ty) :
    B.a19.view.read (Elt F) (B.a19.view.writes (Elt F) f (fwd c i B x k0_t1_loop.trips).2.2) = states x := by
  funext y
  have hy0 : (y 0).val < 32 := (y 0).isLt
  refine ((read_pieces B.a19.view f _ (fun k => (fwd c i B x k).2.2)
    (fun k => Rect.unit (k0_off3 k) S1x128x128.size (k0_off3_inb k)) (fun k => k0_pay26 (state x k.val)) rfl
    (fun k => (fwd_succ c i B x k (fwd_state c i B x k.val (by have := k.isLt; have := trips1; omega))).2.2)
    (states x) (fun k z => ?_) _ (le_refl _) y).1 ?_)
  · have hz0 : (z 0).val < 1 := (z 0).isLt
    have e : (Rect.unit (s := S32x128x128) (k0_off3 k) S1x128x128.size (k0_off3_inb k)).emb z
        = ix3 ⟨k.val, Nat.lt_of_lt_of_eq k.isLt trips1⟩ (z 1) (z 2) := by
      funext a
      refine Fin.ext ?_
      have ho := k0_off3_eq k
      match a with
      | ⟨0, _⟩ => have h : k0_off3 k 0 = k.val := congrFun ho 0
                  show k0_off3 k 0 + 1 * (z 0).val = k.val; omega
      | ⟨1, _⟩ => have h : k0_off3 k 1 = 0 := congrFun ho 1
                  show k0_off3 k 1 + 1 * (z 1).val = (z 1).val; omega
      | ⟨2, _⟩ => have h : k0_off3 k 2 = 0 := congrFun ho 2
                  show k0_off3 k 2 + 1 * (z 2).val = (z 2).val; omega
    rw [e]
    show k0_pay26 (state x k.val) z = k0_pay26 (state x k.val) (ix3 (0 : Fin 1) (z 1) (z 2))
    congr 1
    funext a
    refine Fin.ext ?_
    match a with
    | ⟨0, _⟩ => show (z 0).val = 0; omega
    | ⟨1, _⟩ => rfl
    | ⟨2, _⟩ => rfl
  · refine ⟨⟨(y 0).val, Nat.lt_of_lt_of_eq hy0 trips1.symm⟩, Nat.lt_of_lt_of_eq hy0 trips1.symm, ?_⟩
    rw [Rect.mem_set_unit]
    intro a
    rw [k0_off3_eq]
    match a with
    | ⟨0, _⟩ => show (y 0).val ≤ (y 0).val ∧ (y 0).val < (y 0).val + 1; omega
    | ⟨1, _⟩ => exact ⟨Nat.zero_le _, by have h : (y 1).val < 128 := (y 1).isLt; show (y 1).val < 0 + 128; omega⟩
    | ⟨2, _⟩ => exact ⟨Nat.zero_le _, by have h : (y 2).val < 128 := (y 2).isLt; show (y 2).val < 0 + 128; omega⟩

section Backward

variable (X18 : BufTy.Contents (Elt F) B.a18.view.ty) (X19 : BufTy.Contents (Elt F) B.a19.view.ty)
  (dO : Vec F S4096x128 .f32) (S : Vec F S32x128x128 .f32)
  (h18 : B.a18.view.read (Elt F) X18 = dO) (h19 : B.a19.view.read (Elt F) X19 = S)
include h18 h19

/-- One output of the backward loop that is written chunk by chunk, the last chunk first. -/
theorem read_bwd_chunks (m : Memref sig .tc .vmem S4096x128 .bf16) (f : m.view.ty.Contents (Elt F))
    (L : ℕ → List (View.Piece (Elt F) S4096x128 .bf16)) (w : ℕ → S128x128.Idx → Elt F .bf16) (h0 : L 0 = [])
    (hs : ∀ k : Fin k0_t2_loop.trips, (bwd c i B x X18 X19 k.val).1 = back x dO k.val →
      L (k.val + 1) = ⟨Rect.unit (k0_off4 k) S128x128.size (k0_off4_inb k), w (31 - k.val)⟩ :: L k.val) :
    m.view.read (Elt F) (m.view.writes (Elt F) f (L k0_t2_loop.trips)) = glue w :=
  read_chunks m f _ L (fun k => k0_off4 k) (fun k => k0_off4_inb k) (fun k => 31 - k)
    (fun k => (k0_off4_eq k).trans (by have := k.isLt; have := trips2; congr 1; omega)) (fun q hq => by constructor <;> omega) trips2 w h0
    (fun k => hs k (bwd_state c i B x X18 X19 dO S h18 h19 k.val (by have := k.isLt; have := trips2; omega)))

theorem read_bwd10 (f : BufTy.Contents (Elt F) B.a10.view.ty) :
    B.a10.view.read (Elt F) (B.a10.view.writes (Elt F) f (bwd c i B x X18 X19 k0_t2_loop.trips).2.1) = dValue x dO :=
  read_bwd_chunks c i B x X18 X19 dO S h18 h19 B.a10 f (fun k => (bwd c i B x X18 X19 k).2.1) _ rfl fun k hk => by
    have h31 : 31 - (31 - k.val) = k.val := by have := k.isLt; have := trips2; omega
    rw [dState, h31]; exact (bwd_succ c i B x X18 X19 dO S h18 h19 k hk).2.1

theorem read_bwd11 (f : BufTy.Contents (Elt F) B.a11.view.ty) :
    B.a11.view.read (Elt F) (B.a11.view.writes (Elt F) f (bwd c i B x X18 X19 k0_t2_loop.trips).2.2.1) = dKcd x dO S :=
  read_bwd_chunks c i B x X18 X19 dO S h18 h19 B.a11 f (fun k => (bwd c i B x X18 X19 k).2.2.1) _ rfl fun k hk => by
    have h31 : 31 - (31 - k.val) = k.val := by have := k.isLt; have := trips2; omega
    rw [dState, h31]; exact (bwd_succ c i B x X18 X19 dO S h18 h19 k hk).2.2.1

theorem read_bwd12 (f : BufTy.Contents (Elt F) B.a12.view.ty) :
    B.a12.view.read (Elt F) (B.a12.view.writes (Elt F) f (bwd c i B x X18 X19 k0_t2_loop.trips).2.2.2.1) = dQe dO S :=
  read_bwd_chunks c i B x X18 X19 dO S h18 h19 B.a12 f (fun k => (bwd c i B x X18 X19 k).2.2.2.1) _ rfl fun k hk =>
    (bwd_succ c i B x X18 X19 dO S h18 h19 k hk).2.2.2.1

theorem read_bwd13 (f : BufTy.Contents (Elt F) B.a13.view.ty) :
    B.a13.view.read (Elt F) (B.a13.view.writes (Elt F) f (bwd c i B x X18 X19 k0_t2_loop.trips).2.2.2.2.1) = dKt x dO S :=
  read_bwd_chunks c i B x X18 X19 dO S h18 h19 B.a13 f (fun k => (bwd c i B x X18 X19 k).2.2.2.2.1) _ rfl fun k hk => by
    have h31 : 31 - (31 - k.val) = k.val := by have := k.isLt; have := trips2; omega
    rw [dState, h31]; exact (bwd_succ c i B x X18 X19 dO S h18 h19 k hk).2.2.2.2.1

theorem read_bwd14 (f : BufTy.Contents (Elt F) B.a14.view.ty) :
    B.a14.view.read (Elt F) (B.a14.view.writes (Elt F) f (bwd c i B x X18 X19 k0_t2_loop.trips).2.2.2.2.2.1) = dIntra x dO S :=
  read_bwd_chunks c i B x X18 X19 dO S h18 h19 B.a14 f (fun k => (bwd c i B x X18 X19 k).2.2.2.2.2.1) _ rfl fun k hk =>
    (bwd_succ c i B x X18 X19 dO S h18 h19 k hk).2.2.2.2.2.1

/-- The gradient of the decays: each trip writes its own row over an array that reads as zero. -/
theorem read_bwd15 (f : BufTy.Contents (Elt F) B.a15.view.ty) (hf : B.a15.view.read (Elt F) f = k0_pay1 k0_pay45) :
    B.a15.view.read (Elt F) (B.a15.view.writes (Elt F) f (bwd c i B x X18 X19 k0_t2_loop.trips).2.2.2.2.2.2)
      = dCarry x dO S := by
  funext y
  have hy0 : (y 0).val < 1 := (y 0).isLt
  have hy1 : (y 1).val < 256 := (y 1).isLt
  have hy2 : (y 2).val < 128 := (y 2).isLt
  have key := read_pieces B.a15.view f _ (fun k => (bwd c i B x X18 X19 k).2.2.2.2.2.2)
    (fun k => Rect.unit (k0_off5 k) S1x1x128.size (k0_off5_inb k))
    (fun k => k0_pay3 (k0_pay12 (back x dO k.val) (slab S (31 - k.val)))) rfl
    (fun k => (bwd_succ c i B x X18 X19 dO S h18 h19 k
      (bwd_state c i B x X18 X19 dO S h18 h19 k.val (by have := k.isLt; have := trips2; omega))).2.2.2.2.2.2)
    (dCarry x dO S) (fun k z => ?_) _ (le_refl _) y
  · by_cases h8 : (y 1).val % 8 = 0
    · refine key.1 ⟨⟨31 - (y 1).val / 8, by have := trips2; omega⟩, by have := trips2; show 31 - (y 1).val / 8 < _; omega, ?_⟩
      rw [Rect.mem_set_unit]
      intro a
      have ho := k0_off5_eq ⟨31 - (y 1).val / 8, by have := trips2; omega⟩
      match a with
      | ⟨0, _⟩ => have h := congrFun ho 0
                  exact ⟨h.trans_le (Nat.zero_le _), h ▸ hy0⟩
      | ⟨1, _⟩ => have h := congrFun ho 1
                  have h' : k0_off5 ⟨31 - (y 1).val / 8, by have := trips2; omega⟩ 1 = 248 - 8 * (31 - (y 1).val / 8) := h
                  exact ⟨h'.trans_le (by show 248 - 8 * (31 - (y 1).val / 8) ≤ (y 1).val; omega), h' ▸ (by show (y 1).val < _ + 1; omega)⟩
      | ⟨2, _⟩ => have h := congrFun ho 2
                  exact ⟨h.trans_le (Nat.zero_le _), h ▸ hy2⟩
    · refine (key.2 fun k _ hk => ?_).trans ?_
      · rw [Rect.mem_set_unit] at hk
        have h1 := hk 1
        have h : k0_off5 k 1 = 248 - 8 * k.val := congrFun (k0_off5_eq k) 1
        have h2 : k0_off5 k 1 ≤ (y 1).val ∧ (y 1).val < k0_off5 k 1 + 1 := h1
        have := k.isLt; have := trips2
        omega
      · rw [hf, dCarry, if_neg h8]
  · have hz0 : (z 0).val < 1 := (z 0).isLt
    have hz1 : (z 1).val < 1 := (z 1).isLt
    have hk : k.val < 32 := Nat.lt_of_lt_of_eq k.isLt trips2
    have e1 : ((Rect.unit (s := S1x256x128) (k0_off5 k) S1x1x128.size (k0_off5_inb k)).emb z 1).val = 8 * (31 - k.val) := by
      have h : k0_off5 k 1 = 248 - 8 * k.val := congrFun (k0_off5_eq k) 1
      show k0_off5 k 1 + 1 * (z 1).val = _; omega
    have e2 : ((Rect.unit (s := S1x256x128) (k0_off5 k) S1x1x128.size (k0_off5_inb k)).emb z 2).val = (z 2).val := by
      have h : k0_off5 k 2 = 0 := congrFun (k0_off5_eq k) 2
      show k0_off5 k 2 + 1 * (z 2).val = _; omega
    have h8 : ((Rect.unit (s := S1x256x128) (k0_off5 k) S1x1x128.size (k0_off5_inb k)).emb z 1).val % 8 = 0 := by omega
    have hd : ((Rect.unit (s := S1x256x128) (k0_off5 k) S1x1x128.size (k0_off5_inb k)).emb z 1).val / 8 = 31 - k.val := by omega
    rw [dCarry, if_pos h8, hd, dState, show 31 - (31 - k.val) = k.val by omega]
    congr 1
    funext a
    refine Fin.ext ?_
    match a with
    | ⟨0, _⟩ => show (z 0).val = 0; omega
    | ⟨1, _⟩ => show (z 1).val = 0; omega
    | ⟨2, _⟩ => exact e2.symm

end Backward

/-! ## The body's results -/

section Body

variable (f10 : BufTy.Contents (Elt F) B.a10.view.ty)
  (f11 : BufTy.Contents (Elt F) B.a11.view.ty)
  (f12 : BufTy.Contents (Elt F) B.a12.view.ty)
  (f13 : BufTy.Contents (Elt F) B.a13.view.ty)
  (f14 : BufTy.Contents (Elt F) B.a14.view.ty)
  (f15 : BufTy.Contents (Elt F) B.a15.view.ty)
  (f16 : BufTy.Contents (Elt F) B.a16.view.ty)
  (f17 : BufTy.Contents (Elt F) B.a17.view.ty)
  (f18 : BufTy.Contents (Elt F) B.a18.view.ty)
  (f19 : BufTy.Contents (Elt F) B.a19.view.ty)

/-- The body's run on the given buffers and blocks. -/
abbrev run := bodyRun (F := F) c i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19
  (B.X1 x) (B.X2 x) (B.X3 x) (B.X4 x) (B.X5 x) (B.X6 x) (B.X7 x) (B.X8 x) (B.X9 x)

/-- The read-out as the body loads it. -/
theorem loaded18 : bodyRun.sl.v3 (F := F) c i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19
    (B.X1 x) (B.X2 x) (B.X3 x) (B.X4 x) (B.X5 x) (B.X6 x) f18 = readout x := by
  unfold bodyRun.sl.v3
  exact (View.readAt_full _ _ _).trans (read_fwd18 c i B x f18)

/-- The contents of the first scratch buffer when the backward loop begins. -/
abbrev mid18 : BufTy.Contents (Elt F) B.a18.view.ty :=
  B.a18.view.writes (Elt F) B.a18.view.junk (bodyRun.sl.H18_1 c i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19
    (B.X1 x) (B.X2 x) (B.X3 x) (B.X4 x) (B.X5 x) (B.X6 x) (B.X7 x) (B.X8 x) (B.X9 x) f18)

/-- The contents of the second scratch buffer when the backward loop begins. -/
abbrev mid19 : BufTy.Contents (Elt F) B.a19.view.ty :=
  B.a19.view.writes (Elt F) f19 (fwd c i B x k0_t1_loop.trips).2.2

/-- A load of a whole input buffer reads the block it holds. -/
theorem loaded {s : Shape} {e : EltTy} (m : Memref sig .tc .vmem s e) (h : m.IsWhole) (X : s.Idx → Elt F e)
    {off : Fin s.rank → ℕ} (inb : ∀ a, off a + s.size a ≤ s.size a) :
    View.readAt (Elt F) m.view (Rect.unit off s.size inb).toLoadRect (h.unread X) = X :=
  (View.readAt_full _ _ _).trans (h.read_unread X)

/-- The first scratch buffer holds the gradient that reaches the read-out. -/
theorem read_mid18 : B.a18.view.read (Elt F) (mid18 c i B x f18) = dRead x := by
  unfold mid18 bodyRun.sl.H18_1
  refine (View.read_writes_full _ _ _ _ _).trans ?_
  unfold bodyRun.sl.r bodyRun.sl.r_1 bodyRun.sl.r_2 bodyRun.sl.r_8
  rw [loaded18, loaded B.a7 B.h7, loaded B.a8 B.h8, loaded B.a9 B.h9]
  rfl

/-- The second scratch buffer holds the states. -/
theorem read_mid19 : B.a19.view.read (Elt F) (mid19 c i B x f19) = states x := read_fwd19 c i B x f19

set_option maxHeartbeats 1000000 in
/-- What the run leaves in output buffer 10. -/
theorem run10 : B.a10.view.read (Elt F) ((run c i B x).1 f10 f11 f12 f13 f14 f15 f16 f17 f18 f19) = dValue x (dRead x) := by
  refine Eq.trans ?_ (read_bwd10 c i B x (mid18 c i B x f18) (mid19 c i B x f19) _ _ (read_mid18 c i B x f18)
    (read_mid19 c i B x f19) f10)
  unfold run bodyRun
  dsimp only

set_option maxHeartbeats 1000000 in
/-- What the run leaves in output buffer 11. -/
theorem run11 : B.a11.view.read (Elt F) ((run c i B x).2.1 f10 f11 f12 f13 f14 f15 f16 f17 f18 f19) = dKcd x (dRead x) (states x) := by
  refine Eq.trans ?_ (read_bwd11 c i B x (mid18 c i B x f18) (mid19 c i B x f19) _ _ (read_mid18 c i B x f18)
    (read_mid19 c i B x f19) f11)
  unfold run bodyRun
  dsimp only

set_option maxHeartbeats 1000000 in
/-- What the run leaves in output buffer 12. -/
theorem run12 : B.a12.view.read (Elt F) ((run c i B x).2.2.1 f10 f11 f12 f13 f14 f15 f16 f17 f18 f19) = dQe (dRead x) (states x) := by
  refine Eq.trans ?_ (read_bwd12 c i B x (mid18 c i B x f18) (mid19 c i B x f19) _ _ (read_mid18 c i B x f18)
    (read_mid19 c i B x f19) f12)
  unfold run bodyRun
  dsimp only

set_option maxHeartbeats 1000000 in
/-- What the run leaves in output buffer 13. -/
theorem run13 : B.a13.view.read (Elt F) ((run c i B x).2.2.2.1 f10 f11 f12 f13 f14 f15 f16 f17 f18 f19) = dKt x (dRead x) (states x) := by
  refine Eq.trans ?_ (read_bwd13 c i B x (mid18 c i B x f18) (mid19 c i B x f19) _ _ (read_mid18 c i B x f18)
    (read_mid19 c i B x f19) f13)
  unfold run bodyRun
  dsimp only

set_option maxHeartbeats 1000000 in
/-- What the run leaves in output buffer 14. -/
theorem run14 : B.a14.view.read (Elt F) ((run c i B x).2.2.2.2.1 f10 f11 f12 f13 f14 f15 f16 f17 f18 f19) = dIntra x (dRead x) (states x) := by
  refine Eq.trans ?_ (read_bwd14 c i B x (mid18 c i B x f18) (mid19 c i B x f19) _ _ (read_mid18 c i B x f18)
    (read_mid19 c i B x f19) f14)
  unfold run bodyRun
  dsimp only

set_option maxHeartbeats 1000000 in
/-- What the run leaves in output buffer 15. -/
theorem run15 : B.a15.view.read (Elt F) ((run c i B x).2.2.2.2.2.1 f10 f11 f12 f13 f14 f15 f16 f17 f18 f19) = dCarry x (dRead x) (states x) := by
  refine Eq.trans ?_ (read_bwd15 c i B x (mid18 c i B x f18) (mid19 c i B x f19) _ _ (read_mid18 c i B x f18)
    (read_mid19 c i B x f19) (B.a15.view.writes (Elt F) B.a15.view.junk bodyRun.sl.H15_1) ?_)
  · rw [← View.writes_append]
    unfold run bodyRun
    dsimp only
  · unfold bodyRun.sl.H15_1
    exact View.read_writes_full _ _ _ _ _

set_option maxHeartbeats 1000000 in
/-- What the run leaves in output buffer 16. -/
theorem run16 : B.a16.view.read (Elt F) ((run c i B x).2.2.2.2.2.2.1 f10 f11 f12 f13 f14 f15 f16 f17 f18 f19) = dGate x := by
  unfold run bodyRun
  dsimp only
  unfold bodyRun.sl.H16_1
  refine (View.read_writes_full _ _ _ _ _).trans ?_
  unfold bodyRun.sl.r_4 bodyRun.sl.r_5 bodyRun.sl.r_6 bodyRun.sl.r_7 bodyRun.sl.r_9
  rw [loaded18, loaded B.a7 B.h7, loaded B.a8 B.h8, loaded B.a9 B.h9]
  rfl

set_option maxHeartbeats 1000000 in
/-- What the run leaves in output buffer 17. -/
theorem run17 : B.a17.view.read (Elt F) ((run c i B x).2.2.2.2.2.2.2.1 f10 f11 f12 f13 f14 f15 f16 f17 f18 f19) = dNorm x := by
  unfold run bodyRun
  dsimp only
  unfold bodyRun.sl.H17_1
  refine (View.read_writes_full _ _ _ _ _).trans ?_
  unfold bodyRun.sl.r_3 bodyRun.sl.r_8
  rw [loaded18, loaded B.a7 B.h7, loaded B.a9 B.h9]
  rfl

end Body

end Cert.Proof.KRun
-- ==== Proof.KernelOwns.lean ====
/- The kernel body as the pipeline meets it: it owns nineteen buffers, nine of them at the blocks it reads. -/
module

public import proofs.«01_k».proof.Proof.KernelBlocks
public import proofs.«01_k».proof.Proof.Gen.KernelIdeal.Frame
public import Idealize.ShloMosaic.Lib.LaneScatter.Own

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.LaneScatter (owns_raw raw_owns)

variable {F : FTy → Type} [FloatOps F]

local notation "𝕄" => MT nD τ sig Unit (Elt F) ℕ (UR sig nD τ) ℕ

set_option maxHeartbeats 1000000 in
/-- The body owning its buffers: the inputs at the blocks `x`, the outputs and the scratch buffers at anything. It hands
    the inputs back as they were and the outputs at the blocks it computes from `x`. -/
theorem body_owns (c : Dev nD) (i : grid0.Coords) (B : Bufs) (x : Ins F) (K : PUnit → sProp 𝕄) :
    iprop(owns (c : Thread nD τ) B.a1 fullShare (x.value)
        ∗ owns (c : Thread nD τ) B.a2 fullShare (x.kcd)
        ∗ owns (c : Thread nD τ) B.a3 fullShare (x.qe)
        ∗ owns (c : Thread nD τ) B.a4 fullShare (x.kt)
        ∗ owns (c : Thread nD τ) B.a5 fullShare (x.intra)
        ∗ owns (c : Thread nD τ) B.a6 fullShare (x.carry)
        ∗ owns (c : Thread nD τ) B.a7 fullShare (x.z)
        ∗ owns (c : Thread nD τ) B.a8 fullShare (x.nrm)
        ∗ owns (c : Thread nD τ) B.a9 fullShare (x.dy)
        ∗ (∃ d, owns (c : Thread nD τ) B.a10 fullShare d)
        ∗ (∃ d, owns (c : Thread nD τ) B.a11 fullShare d)
        ∗ (∃ d, owns (c : Thread nD τ) B.a12 fullShare d)
        ∗ (∃ d, owns (c : Thread nD τ) B.a13 fullShare d)
        ∗ (∃ d, owns (c : Thread nD τ) B.a14 fullShare d)
        ∗ (∃ d, owns (c : Thread nD τ) B.a15 fullShare d)
        ∗ (∃ d, owns (c : Thread nD τ) B.a16 fullShare d)
        ∗ (∃ d, owns (c : Thread nD τ) B.a17 fullShare d)
        ∗ (∃ d, owns (c : Thread nD τ) B.a18 fullShare d)
        ∗ (∃ d, owns (c : Thread nD τ) B.a19 fullShare d)
        ∗ (iprop(owns (c : Thread nD τ) B.a1 fullShare (x.value)
        ∗ owns (c : Thread nD τ) B.a2 fullShare (x.kcd)
        ∗ owns (c : Thread nD τ) B.a3 fullShare (x.qe)
        ∗ owns (c : Thread nD τ) B.a4 fullShare (x.kt)
        ∗ owns (c : Thread nD τ) B.a5 fullShare (x.intra)
        ∗ owns (c : Thread nD τ) B.a6 fullShare (x.carry)
        ∗ owns (c : Thread nD τ) B.a7 fullShare (x.z)
        ∗ owns (c : Thread nD τ) B.a8 fullShare (x.nrm)
        ∗ owns (c : Thread nD τ) B.a9 fullShare (x.dy)
        ∗ owns (c : Thread nD τ) B.a10 fullShare (dValue x (dRead x))
        ∗ owns (c : Thread nD τ) B.a11 fullShare (dKcd x (dRead x) (states x))
        ∗ owns (c : Thread nD τ) B.a12 fullShare (dQe (dRead x) (states x))
        ∗ owns (c : Thread nD τ) B.a13 fullShare (dKt x (dRead x) (states x))
        ∗ owns (c : Thread nD τ) B.a14 fullShare (dIntra x (dRead x) (states x))
        ∗ owns (c : Thread nD τ) B.a15 fullShare (dCarry x (dRead x) (states x))
        ∗ owns (c : Thread nD τ) B.a16 fullShare (dGate x)
        ∗ owns (c : Thread nD τ) B.a17 fullShare (dNorm x)
        ∗ (∃ d, owns (c : Thread nD τ) B.a18 fullShare d)
        ∗ (∃ d, owns (c : Thread nD τ) B.a19 fullShare d)) -∗ K ⟨⟩))
      ⊢ wp frame (wpE (defs₀ (F := F)) Variants.none (c : Thread nD τ) none) Set.univ (cc0_gdn_scan_bwd i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19) K := by
  iintro ⟨H1, H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, HK⟩
  ihave H1 := owns_raw (c : Thread nD τ) B.a1 B.h1 _ $$ H1
  ihave H2 := owns_raw (c : Thread nD τ) B.a2 B.h2 _ $$ H2
  ihave H3 := owns_raw (c : Thread nD τ) B.a3 B.h3 _ $$ H3
  ihave H4 := owns_raw (c : Thread nD τ) B.a4 B.h4 _ $$ H4
  ihave H5 := owns_raw (c : Thread nD τ) B.a5 B.h5 _ $$ H5
  ihave H6 := owns_raw (c : Thread nD τ) B.a6 B.h6 _ $$ H6
  ihave H7 := owns_raw (c : Thread nD τ) B.a7 B.h7 _ $$ H7
  ihave H8 := owns_raw (c : Thread nD τ) B.a8 B.h8 _ $$ H8
  ihave H9 := owns_raw (c : Thread nD τ) B.a9 B.h9 _ $$ H9
  ihave H10 := owns_raw (c : Thread nD τ) B.a10 B.h10 _ $$ H10
  ihave H11 := owns_raw (c : Thread nD τ) B.a11 B.h11 _ $$ H11
  ihave H12 := owns_raw (c : Thread nD τ) B.a12 B.h12 _ $$ H12
  ihave H13 := owns_raw (c : Thread nD τ) B.a13 B.h13 _ $$ H13
  ihave H14 := owns_raw (c : Thread nD τ) B.a14 B.h14 _ $$ H14
  ihave H15 := owns_raw (c : Thread nD τ) B.a15 B.h15 _ $$ H15
  ihave H16 := owns_raw (c : Thread nD τ) B.a16 B.h16 _ $$ H16
  ihave H17 := owns_raw (c : Thread nD τ) B.a17 B.h17 _ $$ H17
  ihave H18 := owns_raw (c : Thread nD τ) B.a18 B.h18 _ $$ H18
  ihave H19 := owns_raw (c : Thread nD τ) B.a19 B.h19 _ $$ H19
  iapply ((run c i B x).2.2.2.2.2.2.2.2.2.2 Set.univ _ _ _ _ _ _ _ _ _ _ K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  iapply HK
  isplitl [H1]; · iapply (raw_owns (c : Thread nD τ) B.a1 (B.h1.read_unread _)); iexact H1
  isplitl [H2]; · iapply (raw_owns (c : Thread nD τ) B.a2 (B.h2.read_unread _)); iexact H2
  isplitl [H3]; · iapply (raw_owns (c : Thread nD τ) B.a3 (B.h3.read_unread _)); iexact H3
  isplitl [H4]; · iapply (raw_owns (c : Thread nD τ) B.a4 (B.h4.read_unread _)); iexact H4
  isplitl [H5]; · iapply (raw_owns (c : Thread nD τ) B.a5 (B.h5.read_unread _)); iexact H5
  isplitl [H6]; · iapply (raw_owns (c : Thread nD τ) B.a6 (B.h6.read_unread _)); iexact H6
  isplitl [H7]; · iapply (raw_owns (c : Thread nD τ) B.a7 (B.h7.read_unread _)); iexact H7
  isplitl [H8]; · iapply (raw_owns (c : Thread nD τ) B.a8 (B.h8.read_unread _)); iexact H8
  isplitl [H9]; · iapply (raw_owns (c : Thread nD τ) B.a9 (B.h9.read_unread _)); iexact H9
  isplitl [H10]; · iapply (raw_owns (c : Thread nD τ) B.a10 (run10 c i B x _ _ _ _ _ _ _ _ _ _)); iexact H10
  isplitl [H11]; · iapply (raw_owns (c : Thread nD τ) B.a11 (run11 c i B x _ _ _ _ _ _ _ _ _ _)); iexact H11
  isplitl [H12]; · iapply (raw_owns (c : Thread nD τ) B.a12 (run12 c i B x _ _ _ _ _ _ _ _ _ _)); iexact H12
  isplitl [H13]; · iapply (raw_owns (c : Thread nD τ) B.a13 (run13 c i B x _ _ _ _ _ _ _ _ _ _)); iexact H13
  isplitl [H14]; · iapply (raw_owns (c : Thread nD τ) B.a14 (run14 c i B x _ _ _ _ _ _ _ _ _ _)); iexact H14
  isplitl [H15]; · iapply (raw_owns (c : Thread nD τ) B.a15 (run15 c i B x _ _ _ _ _ _ _ _ _ _)); iexact H15
  isplitl [H16]; · iapply (raw_owns (c : Thread nD τ) B.a16 (run16 c i B x _ _ _ _ _ _ _ _ _ _)); iexact H16
  isplitl [H17]; · iapply (raw_owns (c : Thread nD τ) B.a17 (run17 c i B x _ _ _ _ _ _ _ _ _ _)); iexact H17
  isplitl [H18]; · iexists _; iapply (raw_owns (c : Thread nD τ) B.a18 rfl); iexact H18
  iexists _; iapply (raw_owns (c : Thread nD τ) B.a19 rfl); iexact H19

end Cert.Proof.KRun

end
-- ==== Proof.KernelRun.lean ====
/- The whole launch of the kernel: each of its eight grid points leaves in the outputs the blocks it computes from the
   blocks it reads, and every run of the program ends with the arguments as they were, the outputs at those blocks, and
   the counters at zero. -/
module

public import proofs.«01_k».proof.Proof.KernelOwns
public import proofs.«01_k».proof.Proof.Gen.KernelIdeal.Frame
public import Idealize.ShloMosaic.Lib.LaneScatter.Own

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.LaneScatter (owns_raw raw_owns)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The nine blocks that grid point `t` reads. -/
def ins (c : Dev nD) (t : Fin cfg0.N) : Ins F where
  value := iblk m c 0 t
  kcd := iblk m c 1 t
  qe := iblk m c 2 t
  kt := iblk m c 3 t
  intra := iblk m c 4 t
  carry := iblk m c 5 t
  z := iblk m c 6 t
  nrm := iblk m c 7 t
  dy := iblk m c 8 t

/-- The buffers the pipeline hands the body at grid point `t`. -/
abbrev bufs (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := Memref.whole cc0_scratch0
  h18 := Memref.isWhole_whole cc0_scratch0
  a19 := Memref.whole cc0_scratch1
  h19 := Memref.isWhole_whole cc0_scratch1

/-- What the pipeline goes by on core `c`: the arrays as the host lines before the launch leave them, and after each
    grid point the inputs at their blocks and the outputs at the blocks computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dValue (ins m c t) (dRead (ins m c t))
    | ⟨10, _⟩ => dKcd (ins m c t) (dRead (ins m c t)) (states (ins m c t))
    | ⟨11, _⟩ => dQe (dRead (ins m c t)) (states (ins m c t))
    | ⟨12, _⟩ => dKt (ins m c t) (dRead (ins m c t)) (states (ins m c t))
    | ⟨13, _⟩ => dIntra (ins m c t) (dRead (ins m c t)) (states (ins m c t))
    | ⟨14, _⟩ => dCarry (ins m c t) (dRead (ins m c t)) (states (ins m c t))
    | ⟨15, _⟩ => dGate (ins m c t)
    | ⟨16, _⟩ => dNorm (ins m c t)
    | ⟨_ + 17, h⟩ => absurd h (Nat.not_lt.2 (Nat.le_add_left _ _))
  Φ _ := Pipeline.ΦA spec0 c
  q _ := fullShare
  owed _ := 0

/-- The arrays are those the host lines leave. -/
theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (dats_A m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (dats_A m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (dats_A m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (dats_A m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (dats_A m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (dats_A m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (dats_A m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (dats_A m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (dats_A m c 8) (after_8 m c) t d
theorem after_9 (c : Dev nD) (t : Fin cfg0.N) : (dats m 0 c).after 9 t = dValue (ins m c t) (dRead (ins m c t)) := by dsimp only [dats]
theorem after_10 (c : Dev nD) (t : Fin cfg0.N) : (dats m 0 c).after 10 t = dKcd (ins m c t) (dRead (ins m c t)) (states (ins m c t)) := by dsimp only [dats]
theorem after_11 (c : Dev nD) (t : Fin cfg0.N) : (dats m 0 c).after 11 t = dQe (dRead (ins m c t)) (states (ins m c t)) := by dsimp only [dats]
theorem after_12 (c : Dev nD) (t : Fin cfg0.N) : (dats m 0 c).after 12 t = dKt (ins m c t) (dRead (ins m c t)) (states (ins m c t)) := by dsimp only [dats]
theorem after_13 (c : Dev nD) (t : Fin cfg0.N) : (dats m 0 c).after 13 t = dIntra (ins m c t) (dRead (ins m c t)) (states (ins m c t)) := by dsimp only [dats]
theorem after_14 (c : Dev nD) (t : Fin cfg0.N) : (dats m 0 c).after 14 t = dCarry (ins m c t) (dRead (ins m c t)) (states (ins m c t)) := by dsimp only [dats]
theorem after_15 (c : Dev nD) (t : Fin cfg0.N) : (dats m 0 c).after 15 t = dGate (ins m c t) := by dsimp only [dats]
theorem after_16 (c : Dev nD) (t : Fin cfg0.N) : (dats m 0 c).after 16 t = dNorm (ins m c t) := by dsimp only [dats]

/-- What the pipeline keeps for the body between grid points: the two scratch buffers at anything, and the generator. -/
theorem keeps_eq (c : Dev nD) :
    (Pipeline.ΦA spec0 c : sProp 𝕄) = iprop(((∃ d, owns (c : Thread nD τ) (Memref.whole cc0_scratch0) fullShare d)
      ∗ (∃ d, owns (c : Thread nD τ) (Memref.whole cc0_scratch1) fullShare d)) ∗ (∃ r, prngReg c r)) := by
  unfold Pipeline.ΦA
  rw [scopedRest0_eq]
  simp only [owns_whole]
  try rfl

set_option maxHeartbeats 1600000 in
/-- The body at a grid point, from what the pipeline hands it to what the pipeline expects back. -/
theorem point (c : Dev nD) (t : Fin cfg0.N) :
    iprop((dats m 0 c).Φ t.castSucc ∗ (dats m 0 c).owesAt () t.castSucc
        ∗ (∃ d, owns (c : Thread nD τ) (bufs t).a1 fullShare ((dats m 0 c).before 0 t d))
        ∗ (∃ d, owns (c : Thread nD τ) (bufs t).a2 fullShare ((dats m 0 c).before 1 t d))
        ∗ (∃ d, owns (c : Thread nD τ) (bufs t).a3 fullShare ((dats m 0 c).before 2 t d))
        ∗ (∃ d, owns (c : Thread nD τ) (bufs t).a4 fullShare ((dats m 0 c).before 3 t d))
        ∗ (∃ d, owns (c : Thread nD τ) (bufs t).a5 fullShare ((dats m 0 c).before 4 t d))
        ∗ (∃ d, owns (c : Thread nD τ) (bufs t).a6 fullShare ((dats m 0 c).before 5 t d))
        ∗ (∃ d, owns (c : Thread nD τ) (bufs t).a7 fullShare ((dats m 0 c).before 6 t d))
        ∗ (∃ d, owns (c : Thread nD τ) (bufs t).a8 fullShare ((dats m 0 c).before 7 t d))
        ∗ (∃ d, owns (c : Thread nD τ) (bufs t).a9 fullShare ((dats m 0 c).before 8 t d))
        ∗ (∃ d, owns (c : Thread nD τ) (bufs t).a10 fullShare ((dats m 0 c).before 9 t d))
        ∗ (∃ d, owns (c : Thread nD τ) (bufs t).a11 fullShare ((dats m 0 c).before 10 t d))
        ∗ (∃ d, owns (c : Thread nD τ) (bufs t).a12 fullShare ((dats m 0 c).before 11 t d))
        ∗ (∃ d, owns (c : Thread nD τ) (bufs t).a13 fullShare ((dats m 0 c).before 12 t d))
        ∗ (∃ d, owns (c : Thread nD τ) (bufs t).a14 fullShare ((dats m 0 c).before 13 t d))
        ∗ (∃ d, owns (c : Thread nD τ) (bufs t).a15 fullShare ((dats m 0 c).before 14 t d))
        ∗ (∃ d, owns (c : Thread nD τ) (bufs t).a16 fullShare ((dats m 0 c).before 15 t d))
        ∗ (∃ d, owns (c : Thread nD τ) (bufs t).a17 fullShare ((dats m 0 c).before 16 t d)))
      ⊢ wp frame (wpE (defs₀ (F := F)) Variants.none (c : Thread nD τ) none) Set.univ (bodyAt0 t) (fun _ =>
        iprop((dats m 0 c).Φ t.succ ∗ (dats m 0 c).owesAt () t.succ
        ∗ owns (c : Thread nD τ) (bufs t).a1 fullShare ((dats m 0 c).after 0 t)
        ∗ owns (c : Thread nD τ) (bufs t).a2 fullShare ((dats m 0 c).after 1 t)
        ∗ owns (c : Thread nD τ) (bufs t).a3 fullShare ((dats m 0 c).after 2 t)
        ∗ owns (c : Thread nD τ) (bufs t).a4 fullShare ((dats m 0 c).after 3 t)
        ∗ owns (c : Thread nD τ) (bufs t).a5 fullShare ((dats m 0 c).after 4 t)
        ∗ owns (c : Thread nD τ) (bufs t).a6 fullShare ((dats m 0 c).after 5 t)
        ∗ owns (c : Thread nD τ) (bufs t).a7 fullShare ((dats m 0 c).after 6 t)
        ∗ owns (c : Thread nD τ) (bufs t).a8 fullShare ((dats m 0 c).after 7 t)
        ∗ owns (c : Thread nD τ) (bufs t).a9 fullShare ((dats m 0 c).after 8 t)
        ∗ owns (c : Thread nD τ) (bufs t).a10 fullShare ((dats m 0 c).after 9 t)
        ∗ owns (c : Thread nD τ) (bufs t).a11 fullShare ((dats m 0 c).after 10 t)
        ∗ owns (c : Thread nD τ) (bufs t).a12 fullShare ((dats m 0 c).after 11 t)
        ∗ owns (c : Thread nD τ) (bufs t).a13 fullShare ((dats m 0 c).after 12 t)
        ∗ owns (c : Thread nD τ) (bufs t).a14 fullShare ((dats m 0 c).after 13 t)
        ∗ owns (c : Thread nD τ) (bufs t).a15 fullShare ((dats m 0 c).after 14 t)
        ∗ owns (c : Thread nD τ) (bufs t).a16 fullShare ((dats m 0 c).after 15 t)
        ∗ owns (c : Thread nD τ) (bufs t).a17 fullShare ((dats m 0 c).after 16 t))) := by
  unfold bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8,
    after_9, after_10, after_11, after_12, after_13, after_14, after_15, after_16]
  rw [show (dats m 0 c).Φ t.castSucc = Pipeline.ΦA spec0 c from rfl, keeps_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_owns c (grid0.coords t) (bufs t) (ins m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body meets the pipeline's demand at every grid point. -/
theorem body_meets (c : Dev nD) :
    BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (point m c t) rfl .rfl fun _ => .rfl

/-- What every run of the program ends in: each array at its blocks, every other buffer as the host lines after the
    launch leave it, and every counter at zero. -/
abbrev Ends (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
set_option maxHeartbeats 800000 in
/-- Every run of the program ends so. -/
theorem run_main : θ_run defs (onTc (τ := τ) (main (F := F))) (s₀ m ρ) (Ends m) :=
  Pipeline.θ_run_frame_around (Q' := Ends m) cfgs (dats m) (0 : Fin 1) launch0 defs₀ Variants.none m ρ main
    (hbody := fun c => (body_meets m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := dats_A m) (hΦ := fun _ _ => rfl)

end Cert.Proof.KRun

end
-- ==== Proof.KernelFrame.lean ====
/- Both frames of the kernel, from the one run: the arguments end as they were and every counter ends at zero. -/
module

public import proofs.«01_k».proof.Proof.KernelRun

@[expose] public section

set_option maxRecDepth 16384

noncomputable section

namespace Cert.Proof.KRun

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The nine argument arrays of core `c` in the final state `r` are those of the memory `m`. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

/-- Every state the program ends in has its arguments as they were. -/
theorem kept (r : PUnit × MemSt nD τ sig (Elt F)) (h : Ends m r) (c : Dev nD) : Kept m r c := by
  have staged (w : Fin cfg0.W) (hw : (cfg0.win w).isOut = false) :=
    ((h.1 c).1 w).trans (((dats m 0 c).arrAt_in w hw _).trans (dats_A m c w))
  have bypassed (b : Ref sig .tc) (h1) (h2) := (h.1 c).2 b (Pipeline.mem_restRefs_of b h1 h2)
  exact ⟨(staged 0 rfl).trans (V_main_arg0 m c), (staged 1 rfl).trans (V_main_arg1 m c), (staged 2 rfl).trans (V_main_arg2 m c),
    (staged 3 rfl).trans (V_main_arg3 m c), (staged 4 rfl).trans (V_main_arg4 m c),
    (bypassed main_arg5 (by decide) (by decide)).trans (W_main_arg5 m (dats m) c), (staged 6 rfl).trans (V_main_arg6 m c),
    (bypassed main_arg7 (by decide) (by decide)).trans (W_main_arg7 m (dats m) c), (staged 8 rfl).trans (V_main_arg8 m c)⟩

/-- The frame of the program, at any kind of values. -/
theorem run_kept : θ_run defs (onTc (τ := τ) (main (F := F))) (s₀ m ρ)
    (fun r => (∀ c : Dev nD, Kept m r c) ∧ r.2.sem = fun _ => 0) :=
  (θ_run defs _ _).mono (fun r h => ⟨kept m r h, h.2⟩) (run_main m ρ)

end Cert.Proof.KRun

end
-- ==== Proof.KernelSame.lean ====
/- The kernel printed over the bits and the kernel printed over the extended reals are one program: read over the same
   values, their bodies and so their tables of labels are equal. -/
module

public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

set_option maxHeartbeats 16000000 in
/-- The two printed bodies are equal, at every argument. -/
theorem body_same : @Cert.Kernel.cc0_gdn_scan_bwd F _ Cert.Kernel.Gen.facts = @Cert.KernelIdeal.cc0_gdn_scan_bwd F _ Cert.KernelIdeal.Gen.facts := rfl

set_option maxHeartbeats 4000000 in
/-- So the two tables of bodies are equal. -/
theorem table_same : Cert.Kernel.defs₀ (F := F) = Cert.KernelIdeal.defs₀ := by
  unfold Cert.Kernel.defs₀ Cert.KernelIdeal.defs₀
  congr 1
  funext l x
  match l, x with
  | 0, (t, s) =>
    dsimp only
    rw [body_same]
    rfl

/-- And the two programs' tables of labels. -/
theorem defs_same : Cert.Kernel.defs (F := F) = Cert.KernelIdeal.defs :=
  congrArg (Pipeline.defs Cert.KernelIdeal.pcfgs) table_same

end Cert.Proof.Same

end
-- ==== Proof.RefOps.lean ====
/- The reference program's operations in their stretches: the two loop bodies, what comes before, between and after them;
   that each is a plain host operation and what it writes; and that the program is these stretches and two loops. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.SL.Sem

variable {F : FTy → Type} [FloatOps F]

/-- The operations write references of the list only. -/
abbrev Within (ops : List (HloOp τ sig (Elt F))) (W : List (Ref sig .tc)) : Prop :=
  ops.Forall fun op => op.writes ⊆ (W.map (Proc.devRef (τ := τ) .tc)).toFinset

/-- Stretches that write references of given lists only leave every other reference as it was. -/
theorem spares {r : Ref sig .tc} : ∀ {items : List (List (HloOp τ sig (Elt F)))} {Ws : List (List (Ref sig .tc))},
    List.Forall₂ Within items Ws → (∀ W ∈ Ws, r ∉ W) → ∀ V : Valuation τ sig (Elt F),
      StableHlo.afterL items V (Proc.devRef .tc r) = V (Proc.devRef .tc r)
  | _, _, .nil, _, _ => rfl
  | ops :: _, W :: _, .cons h hs, hr, V => by
    rw [StableHlo.afterL_cons, spares hs fun W' hW' => hr W' (List.mem_cons_of_mem _ hW')]
    exact StableHlo.after_of_writes_sub ops V h (hr W List.mem_cons_self)

/-- The operations that read block `a1` of a stack of 32. -/
abbrev pickOps (a0 : StableHlo.TRef sig ⟨S32x8x128x128, .f32⟩) (a1 c c_0 c_1 : StableHlo.TRef sig ⟨S_, .i32⟩) (v0 : StableHlo.TRef sig ⟨S1x8x128x128, .f32⟩) (v1 : StableHlo.TRef sig ⟨S8x128x128, .f32⟩) : List (HloOp τ sig (Elt F)) :=
  [ StableHlo.TRef.nullary c (constantI S_ 32 0#32),
    StableHlo.TRef.nullary c_0 (constantI S_ 32 0#32),
    StableHlo.TRef.nullary c_1 (constantI S_ 32 0#32),
    StableHlo.TRef.unaryIndexed a0 ![a1, c, c_0, c_1] v0 (fun x i => Host.dynamicSlice S1x8x128x128 x (fun k => (i k (Shape.Idx.first h_S_)).toInt) sliceFits_S32x8x128x128_S1x8x128x128),
    StableHlo.TRef.reshape v0 v1 (rfl : (.f32 : EltTy) = .f32) shapeCasts_S1x8x128x128_S8x128x128 ]

/-- Each of them touches references of the core only. -/
theorem pickOps_sub (a0 : StableHlo.TRef sig ⟨S32x8x128x128, .f32⟩) (a1 c c_0 c_1 : StableHlo.TRef sig ⟨S_, .i32⟩) (v0 : StableHlo.TRef sig ⟨S1x8x128x128, .f32⟩) (v1 : StableHlo.TRef sig ⟨S8x128x128, .f32⟩) : (pickOps a0 a1 c c_0 c_1 v0 v1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The operations that read row `a1` of a 32 × 8 array. -/
abbrev pickRowOps (a0 : StableHlo.TRef sig ⟨S32x8, .f32⟩) (a1 c : StableHlo.TRef sig ⟨S_, .i32⟩) (v0 : StableHlo.TRef sig ⟨S1x8, .f32⟩) (v1 : StableHlo.TRef sig ⟨S8, .f32⟩) : List (HloOp τ sig (Elt F)) :=
  [ StableHlo.TRef.nullary c (constantI S_ 32 0#32),
    StableHlo.TRef.unaryIndexed a0 ![a1, c] v0 (fun x i => Host.dynamicSlice S1x8 x (fun k => (i k (Shape.Idx.first h_S_)).toInt) sliceFits_S32x8_S1x8),
    StableHlo.TRef.reshape v0 v1 (rfl : (.f32 : EltTy) = .f32) shapeCasts_S1x8_S8 ]

/-- Each of them touches references of the core only. -/
theorem pickRowOps_sub (a0 : StableHlo.TRef sig ⟨S32x8, .f32⟩) (a1 c : StableHlo.TRef sig ⟨S_, .i32⟩) (v0 : StableHlo.TRef sig ⟨S1x8, .f32⟩) (v1 : StableHlo.TRef sig ⟨S8, .f32⟩) : (pickRowOps a0 a1 c v0 v1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- The operations that read entry `a1` of a stack of 32 gates. -/
abbrev pickGateOps (a0 : StableHlo.TRef sig ⟨S32x8x1x1, .f32⟩) (a1 c c_0 c_1 : StableHlo.TRef sig ⟨S_, .i32⟩) (v0 : StableHlo.TRef sig ⟨S1x8x1x1, .f32⟩) (v1 : StableHlo.TRef sig ⟨S8x1x1, .f32⟩) : List (HloOp τ sig (Elt F)) :=
  [ StableHlo.TRef.nullary c (constantI S_ 32 0#32),
    StableHlo.TRef.nullary c_0 (constantI S_ 32 0#32),
    StableHlo.TRef.nullary c_1 (constantI S_ 32 0#32),
    StableHlo.TRef.unaryIndexed a0 ![a1, c, c_0, c_1] v0 (fun x i => Host.dynamicSlice S1x8x1x1 x (fun k => (i k (Shape.Idx.first h_S_)).toInt) sliceFits_S32x8x1x1_S1x8x1x1),
    StableHlo.TRef.reshape v0 v1 (rfl : (.f32 : EltTy) = .f32) shapeCasts_S1x8x1x1_S8x1x1 ]

/-- Each of them touches references of the core only. -/
theorem pickGateOps_sub (a0 : StableHlo.TRef sig ⟨S32x8x1x1, .f32⟩) (a1 c c_0 c_1 : StableHlo.TRef sig ⟨S_, .i32⟩) (v0 : StableHlo.TRef sig ⟨S1x8x1x1, .f32⟩) (v1 : StableHlo.TRef sig ⟨S8x1x1, .f32⟩) : (pickGateOps a0 a1 c c_0 c_1 v0 v1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The operations that write block `a2` of a stack of 32. -/
abbrev putOps (a0 : StableHlo.TRef sig ⟨S32x8x128x128, .f32⟩) (a1 : StableHlo.TRef sig ⟨S8x128x128, .f32⟩) (a2 : StableHlo.TRef sig ⟨S_, .i32⟩) (v0 : StableHlo.TRef sig ⟨S1x8x128x128, .f32⟩) (c c_0 c_1 : StableHlo.TRef sig ⟨S_, .i32⟩) (v1 : StableHlo.TRef sig ⟨S32x8x128x128, .f32⟩) : List (HloOp τ sig (Elt F)) :=
  [ StableHlo.TRef.unary a1 v0 (broadcastInDim S1x8x128x128 ![1, 2, 3] bcast_S8x128x128_S1x8x128x128_1_2_3),
    StableHlo.TRef.nullary c (constantI S_ 32 0#32),
    StableHlo.TRef.nullary c_0 (constantI S_ 32 0#32),
    StableHlo.TRef.nullary c_1 (constantI S_ 32 0#32),
    StableHlo.TRef.binaryIndexed a0 v0 ![a2, c, c_0, c_1] v1 (fun x u i => Host.dynamicUpdateSlice x u (fun k => (i k (Shape.Idx.first h_S_)).toInt) updateFits_S32x8x128x128_S1x8x128x128) ]

/-- Each of them touches references of the core only. -/
theorem putOps_sub (a0 : StableHlo.TRef sig ⟨S32x8x128x128, .f32⟩) (a1 : StableHlo.TRef sig ⟨S8x128x128, .f32⟩) (a2 : StableHlo.TRef sig ⟨S_, .i32⟩) (v0 : StableHlo.TRef sig ⟨S1x8x128x128, .f32⟩) (c c_0 c_1 : StableHlo.TRef sig ⟨S_, .i32⟩) (v1 : StableHlo.TRef sig ⟨S32x8x128x128, .f32⟩) : (putOps a0 a1 a2 v0 c c_0 c_1 v1 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The operations that write entry `a2` of a stack of 32 gates. -/
abbrev putGateOps (a0 : StableHlo.TRef sig ⟨S32x8x1x1, .f32⟩) (a1 : StableHlo.TRef sig ⟨S8x1x1, .f32⟩) (a2 : StableHlo.TRef sig ⟨S_, .i32⟩) (v0 : StableHlo.TRef sig ⟨S1x8x1x1, .f32⟩) (c c_0 c_1 : StableHlo.TRef sig ⟨S_, .i32⟩) (v1 : StableHlo.TRef sig ⟨S32x8x1x1, .f32⟩) : List (HloOp τ sig (Elt F)) :=
  [ StableHlo.TRef.unary a1 v0 (broadcastInDim S1x8x1x1 ![1, 2, 3] bcast_S8x1x1_S1x8x1x1_1_2_3),
    StableHlo.TRef.nullary c (constantI S_ 32 0#32),
    StableHlo.TRef.nullary c_0 (constantI S_ 32 0#32),
    StableHlo.TRef.nullary c_1 (constantI S_ 32 0#32),
    StableHlo.TRef.binaryIndexed a0 v0 ![a2, c, c_0, c_1] v1 (fun x u i => Host.dynamicUpdateSlice x u (fun k => (i k (Shape.Idx.first h_S_)).toInt) updateFits_S32x8x1x1_S1x8x1x1) ]

/-- Each of them touches references of the core only. -/
theorem putGateOps_sub (a0 : StableHlo.TRef sig ⟨S32x8x1x1, .f32⟩) (a1 : StableHlo.TRef sig ⟨S8x1x1, .f32⟩) (a2 : StableHlo.TRef sig ⟨S_, .i32⟩) (v0 : StableHlo.TRef sig ⟨S1x8x1x1, .f32⟩) (c c_0 c_1 : StableHlo.TRef sig ⟨S_, .i32⟩) (v1 : StableHlo.TRef sig ⟨S32x8x1x1, .f32⟩) : (putGateOps a0 a1 a2 v0 c c_0 c_1 v1 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The operations that write row `a2` of a 32 × 8 array. -/
abbrev putRowOps (a0 : StableHlo.TRef sig ⟨S32x8, .f32⟩) (a1 : StableHlo.TRef sig ⟨S8, .f32⟩) (a2 : StableHlo.TRef sig ⟨S_, .i32⟩) (v0 : StableHlo.TRef sig ⟨S1x8, .f32⟩) (c : StableHlo.TRef sig ⟨S_, .i32⟩) (v1 : StableHlo.TRef sig ⟨S32x8, .f32⟩) : List (HloOp τ sig (Elt F)) :=
  [ StableHlo.TRef.unary a1 v0 (broadcastInDim S1x8 ![1] bcast_S8_S1x8_1),
    StableHlo.TRef.nullary c (constantI S_ 32 0#32),
    StableHlo.TRef.binaryIndexed a0 v0 ![a2, c] v1 (fun x u i => Host.dynamicUpdateSlice x u (fun k => (i k (Shape.Idx.first h_S_)).toInt) updateFits_S32x8_S1x8) ]

/-- Each of them touches references of the core only. -/
theorem putRowOps_sub (a0 : StableHlo.TRef sig ⟨S32x8, .f32⟩) (a1 : StableHlo.TRef sig ⟨S8, .f32⟩) (a2 : StableHlo.TRef sig ⟨S_, .i32⟩) (v0 : StableHlo.TRef sig ⟨S1x8, .f32⟩) (c : StableHlo.TRef sig ⟨S_, .i32⟩) (v1 : StableHlo.TRef sig ⟨S32x8, .f32⟩) : (putRowOps a0 a1 a2 v0 c v1 : List (HloOp τ sig (Elt F))).Forall fun op => op.bufs ⊆ StableHlo.tcRefs τ sig :=
  ⟨StableHlo.unary_bufs_sub .., StableHlo.nullary_bufs_sub .., StableHlo.binaryIndexed_bufs_sub ..⟩

/-- The operations of `x · σ(x)` and of what its derivative keeps. -/
abbrev siluOps (a0 v0 v1 : StableHlo.TRef sig ⟨S4096x8x128, .f32⟩) (cst : StableHlo.TRef sig ⟨S_, .f32⟩) (v2 v3 : StableHlo.TRef sig ⟨S4096x8x128, .f32⟩) (cst_0 : StableHlo.TRef sig ⟨S_, .f32⟩) (v4 v5 : StableHlo.TRef sig ⟨S4096x8x128, .f32⟩) (cst_1 : StableHlo.TRef sig ⟨S_, .f32⟩) (v6 v7 v8 v9 : StableHlo.TRef sig ⟨S4096x8x128, .f32⟩) : List (HloOp τ sig (Elt F)) :=
  [ StableHlo.TRef.unary a0 v0 Host.negf,
    StableHlo.TRef.unary v0 v1 Host.exp,
    StableHlo.TRef.nullary cst (constant S_ .f32 0x3F800000#32),
    StableHlo.TRef.unary cst v2 (broadcastInDim S4096x8x128 ![] bcast_S_S4096x8x128),
    StableHlo.TRef.binary v2 v1 v3 addf,
    StableHlo.TRef.nullary cst_0 (constant S_ .f32 0x3F800000#32),
    StableHlo.TRef.unary cst_0 v4 (broadcastInDim S4096x8x128 ![] bcast_S_S4096x8x128),
    StableHlo.TRef.binary v4 v3 v5 Host.divf,
    StableHlo.TRef.nullary cst_1 (constant S_ .f32 0x3F800000#32),
    StableHlo.TRef.unary cst_1 v6 (broadcastInDim S4096x8x128 ![] bcast_S_S4096x8x128),
    StableHlo.TRef.binary v6 v5 v7 subf,
    StableHlo.TRef.binary v5 v7 v8 mulf,
    StableHlo.TRef.binary a0 v5 v9 mulf ]

/-- Each of them touches references of the core only. -/
theorem siluOps_sub (a0 v0 v1 : StableHlo.TRef sig ⟨S4096x8x128, .f32⟩) (cst : StableHlo.TRef sig ⟨S_, .f32⟩) (v2 v3 : StableHlo.TRef sig ⟨S4096x8x128, .f32⟩) (cst_0 : StableHlo.TRef sig ⟨S_, .f32⟩) (v4 v5 : StableHlo.TRef sig ⟨S4096x8x128, .f32⟩) (cst_1 : StableHlo.TRef sig ⟨S_, .f32⟩) (v6 v7 v8 v9 : StableHlo.TRef sig ⟨S4096x8x128, .f32⟩) : (siluOps a0 v0 v1 cst v2 v3 cst_0 v4 v5 cst_1 v6 v7 v8 v9 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

/-- The operations of the derivative of `x · σ(x)`. -/
abbrev siluBackOps (a0 a1 a2 a3 v0 v1 v2 v3 : StableHlo.TRef sig ⟨S4096x8x128, .f32⟩) : List (HloOp τ sig (Elt F)) :=
  [ StableHlo.TRef.binary a2 a3 v0 mulf,
    StableHlo.TRef.binary a3 a1 v1 mulf,
    StableHlo.TRef.binary v0 a0 v2 mulf,
    StableHlo.TRef.binary v1 v2 v3 addf ]

/-- Each of them touches references of the core only. -/
theorem siluBackOps_sub (a0 a1 a2 a3 v0 v1 v2 v3 : StableHlo.TRef sig ⟨S4096x8x128, .f32⟩) : (siluBackOps a0 a1 a2 a3 v0 v1 v2 v3 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩

/-- Call while0b_call0. -/
abbrev trip0_0 : List (HloOp τ sig (Elt F)) :=
  pickOps (.of main_v22_0) (.of main_v22_6) (.of main_while0b_call0_c) (.of main_while0b_call0_c_0) (.of main_while0b_call0_c_1) (.of main_while0b_call0_v0) (.of main_while0b_v98)

/-- Each touches references of the core only. -/
theorem trip0_0_sub : (trip0_0 : List (HloOp τ sig (Elt F))).Forall fun op => op.bufs ⊆ StableHlo.tcRefs τ sig :=
  pickOps_sub _ _ _ _ _ _ _

/-- None allocates. -/
theorem trip0_0_fresh : (trip0_0 : List (HloOp τ sig (Elt F))).Forall fun op => op.fresh = ∅ :=
  StableHlo.forall_fresh_of_map rfl

/-- What they write. -/
abbrev trip0_0_W : List (Ref sig .tc) := [main_while0b_call0_c, main_while0b_call0_c_0, main_while0b_call0_c_1, main_while0b_call0_v0, main_while0b_v98]

/-- They write nothing else. -/
theorem trip0_0_writes : (trip0_0 : List (HloOp τ sig (Elt F))).Forall fun op => op.writes ⊆ (trip0_0_W.map (Proc.devRef (τ := τ) .tc)).toFinset :=
  StableHlo.forall_writes_sub_of_map rfl

/-- Call while0b_call1. -/
abbrev trip0_1 : List (HloOp τ sig (Elt F)) :=
  pickOps (.of main_v22_1) (.of main_v22_6) (.of main_while0b_call1_c) (.of main_while0b_call1_c_0) (.of main_while0b_call1_c_1) (.of main_while0b_call1_v0) (.of main_while0b_v99)

/-- Each touches references of the core only. -/
theorem trip0_1_sub : (trip0_1 : List (HloOp τ sig (Elt F))).Forall fun op => op.bufs ⊆ StableHlo.tcRefs τ sig :=
  pickOps_sub _ _ _ _ _ _ _

/-- None allocates. -/
theorem trip0_1_fresh : (trip0_1 : List (HloOp τ sig (Elt F))).Forall fun op => op.fresh = ∅ :=
  StableHlo.forall_fresh_of_map rfl

/-- What they write. -/
abbrev trip0_1_W : List (Ref sig .tc) := [main_while0b_call1_c, main_while0b_call1_c_0, main_while0b_call1_c_1, main_while0b_call1_v0, main_while0b_v99]

/-- They write nothing else. -/
theorem trip0_1_writes : (trip0_1 : List (HloOp τ sig (Elt F))).Forall fun op => op.writes ⊆ (trip0_1_W.map (Proc.devRef (τ := τ) .tc)).toFinset :=
  StableHlo.forall_writes_sub_of_map rfl

/-- Call while0b_call2. -/
abbrev trip0_2 : List (HloOp τ sig (Elt F)) :=
  pickOps (.of main_v22_2) (.of main_v22_6) (.of main_while0b_call2_c) (.of main_while0b_call2_c_0) (.of main_while0b_call2_c_1) (.of main_while0b_call2_v0) (.of main_while0b_v100)

/-- Each touches references of the core only. -/
theorem trip0_2_sub : (trip0_2 : List (HloOp τ sig (Elt F))).Forall fun op => op.bufs ⊆ StableHlo.tcRefs τ sig :=
  pickOps_sub _ _ _ _ _ _ _

/-- None allocates. -/
theorem trip0_2_fresh : (trip0_2 : List (HloOp τ sig (Elt F))).Forall fun op => op.fresh = ∅ :=
  StableHlo.forall_fresh_of_map rfl

/-- What they write. -/
abbrev trip0_2_W : List (Ref sig .tc) := [main_while0b_call2_c, main_while0b_call2_c_0, main_while0b_call2_c_1, main_while0b_call2_v0, main_while0b_v100]

/-- They write nothing else. -/
theorem trip0_2_writes : (trip0_2 : List (HloOp τ sig (Elt F))).Forall fun op => op.writes ⊆ (trip0_2_W.map (Proc.devRef (τ := τ) .tc)).toFinset :=
  StableHlo.forall_writes_sub_of_map rfl

/-- Call while0b_call3. -/
abbrev trip0_3 : List (HloOp τ sig (Elt F)) :=
  pickOps (.of main_v22_3) (.of main_v22_6) (.of main_while0b_call3_c) (.of main_while0b_call3_c_0) (.of main_while0b_call3_c_1) (.of main_while0b_call3_v0) (.of main_while0b_v101)

/-- Each touches references of the core only. -/
theorem trip0_3_sub : (trip0_3 : List (HloOp τ sig (Elt F))).Forall fun op => op.bufs ⊆ StableHlo.tcRefs τ sig :=
  pickOps_sub _ _ _ _ _ _ _

/-- None allocates. -/
theorem trip0_3_fresh : (trip0_3 : List (HloOp τ sig (Elt F))).Forall fun op => op.fresh = ∅ :=
  StableHlo.forall_fresh_of_map rfl

/-- What they write. -/
abbrev trip0_3_W : List (Ref sig .tc) := [main_while0b_call3_c, main_while0b_call3_c_0, main_while0b_call3_c_1, main_while0b_call3_v0, main_while0b_v101]

/-- They write nothing else. -/
theorem trip0_3_writes : (trip0_3 : List (HloOp τ sig (Elt F))).Forall fun op => op.writes ⊆ (trip0_3_W.map (Proc.devRef (τ := τ) .tc)).toFinset :=
  StableHlo.forall_writes_sub_of_map rfl

/-- Call while0b_call4. -/
abbrev trip0_4 : List (HloOp τ sig (Elt F)) :=
  pickOps (.of main_v22_4) (.of main_v22_6) (.of main_while0b_call4_c) (.of main_while0b_call4_c_0) (.of main_while0b_call4_c_1) (.of main_while0b_call4_v0) (.of main_while0b_v102)

/-- Each touches references of the core only. -/
theorem trip0_4_sub : (trip0_4 : List (HloOp τ sig (Elt F))).Forall fun op => op.bufs ⊆ StableHlo.tcRefs τ sig :=
  pickOps_sub _ _ _ _ _ _ _

/-- None allocates. -/
theorem trip0_4_fresh : (trip0_4 : List (HloOp τ sig (Elt F))).Forall fun op => op.fresh = ∅ :=
  StableHlo.forall_fresh_of_map rfl

/-- What they write. -/
abbrev trip0_4_W : List (Ref sig .tc) := [main_while0b_call4_c, main_while0b_call4_c_0, main_while0b_call4_c_1, main_while0b_call4_v0, main_while0b_v102]

/-- They write nothing else. -/
theorem trip0_4_writes : (trip0_4 : List (HloOp τ sig (Elt F))).Forall fun op => op.writes ⊆ (trip0_4_W.map (Proc.devRef (τ := τ) .tc)).toFinset :=
  StableHlo.forall_writes_sub_of_map rfl

/-- Call while0b_call5. -/
abbrev trip0_5 : List (HloOp τ sig (Elt F)) :=
  pickRowOps (.of main_v22_5) (.of main_v22_6) (.of main_while0b_call5_c) (.of main_while0b_call5_v0) (.of main_while0b_v103)

/-- Each touches references of the core only. -/
theorem trip0_5_sub : (trip0_5 : List (HloOp τ sig (Elt F))).Forall fun op => op.bufs ⊆ StableHlo.tcRefs τ sig :=
  pickRowOps_sub _ _ _ _ _

/-- None allocates. -/
theorem trip0_5_fresh : (trip0_5 : List (HloOp τ sig (Elt F))).Forall fun op => op.fresh = ∅ :=
  StableHlo.forall_fresh_of_map rfl

/-- What they write. -/
abbrev trip0_5_W : List (Ref sig .tc) := [main_while0b_call5_c, main_while0b_call5_v0, main_while0b_v103]

/-- They write nothing else. -/
theorem trip0_5_writes : (trip0_5 : List (HloOp τ sig (Elt F))).Forall fun op => op.writes ⊆ (trip0_5_W.map (Proc.devRef (τ := τ) .tc)).toFinset :=
  StableHlo.forall_writes_sub_of_map rfl

/-- Stretch 7 of plain operations of this part. -/
abbrev trip0_6 : List (HloOp τ sig (Elt F)) :=
  [ StableHlo.binary main_while0b_v99 main_v22_7 main_while0b_v104 ((fun l r => Host.dotGeneral dot_S8x128x128_S8x128x128_S8x128x128_2_1_1_2_0_0 none l r) : (⟨S8x128x128, .f32⟩ : BufTy).Contents (Elt F) → (⟨S8x128x128, .f32⟩ : BufTy).Contents (Elt F) → (⟨S8x128x128, .f32⟩ : BufTy).Contents (Elt F)),
    StableHlo.binary main_while0b_v100 main_while0b_v104 main_while0b_v105 (subf : (⟨S8x128x128, .f32⟩ : BufTy).Contents (Elt F) → (⟨S8x128x128, .f32⟩ : BufTy).Contents (Elt F) → (⟨S8x128x128, .f32⟩ : BufTy).Contents (Elt F)),
    StableHlo.binary main_while0b_v98 main_v22_7 main_while0b_v106 ((fun l r => Host.dotGeneral dot_S8x128x128_S8x128x128_S8x128x128_2_1_1_2_0_0 none l r) : (⟨S8x128x128, .f32⟩ : BufTy).Contents (Elt F) → (⟨S8x128x128, .f32⟩ : BufTy).Contents (Elt F) → (⟨S8x128x128, .f32⟩ : BufTy).Contents (Elt F)),
    StableHlo.binary main_while0b_v101 main_while0b_v105 main_while0b_v107 ((fun l r => Host.dotGeneral dot_S8x128x128_S8x128x128_S8x128x128_2_1_1_2_0_0 none l r) : (⟨S8x128x128, .f32⟩ : BufTy).Contents (Elt F) → (⟨S8x128x128, .f32⟩ : BufTy).Contents (Elt F) → (⟨S8x128x128, .f32⟩ : BufTy).Contents (Elt F)),
    StableHlo.binary main_while0b_v106 main_while0b_v107 main_while0b_v108 (addf : (⟨S8x128x128, .f32⟩ : BufTy).Contents (Elt F) → (⟨S8x128x128, .f32⟩ : BufTy).Contents (Elt F) → (⟨S8x128x128, .f32⟩ : BufTy).Contents (Elt F)),
    StableHlo.unary main_while0b_v103 main_while0b_v109 (broadcastInDim S8x1x1 ![0] bcast_S8_S8x1x1_0 : (⟨S8, .f32⟩ : BufTy).Contents (Elt F) → (⟨S8x1x1, .f32⟩ : BufTy).Contents (Elt F)),
    StableHlo.unary main_while0b_v109 main_while0b_v110 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v22_7 main_while0b_v110 main_while0b_v111 (mulf : (⟨S8x128x128, .f32⟩ : BufTy).Contents (Elt F) → (⟨S8x128x128, .f32⟩ : BufTy).Contents (Elt F) → (⟨S8x128x128, .f32⟩ : BufTy).Contents (Elt F)),
    StableHlo.binary main_while0b_v102 main_while0b_v105 main_while0b_v112 ((fun l r => Host.dotGeneral dot_S8x128x128_S8x128x128_S8x128x128_1_1_2_2_0_0 none l r) : (⟨S8x128x128, .f32⟩ : BufTy).Contents (Elt F) → (⟨S8x128x128, .f32⟩ : BufTy).Contents (Elt F) → (⟨S8x128x128, .f32⟩ : BufTy).Contents (Elt F)),
    StableHlo.binary main_while0b_v111 main_while0b_v112 main_while0b_v113 (addf : (⟨S8x128x128, .f32⟩ : BufTy).Contents (Elt F) → (⟨S8x128x128, .f32⟩ : BufTy).Contents (Elt F) → (⟨S8x128x128, .f32⟩ : BufTy).Contents (Elt F)) ]

/-- Each touches references of the core only. -/
theorem trip0_6_sub : (trip0_6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩

/-- None allocates. -/
theorem trip0_6_fresh : (trip0_6 : List (HloOp τ sig (Elt F))).Forall fun op => op.fresh = ∅ :=
  StableHlo.forall_fresh_of_map rfl

/-- What they write. -/
abbrev trip0_6_W : List (Ref sig .tc) := [main_while0b_v104, main_while0b_v105, main_while0b_v106, main_while0b_v107, main_while0b_v108, main_while0b_v109, main_while0b_v110, main_while0b_v111, main_while0b_v112, main_while0b_v113]

/-- They write nothing else. -/
theorem trip0_6_writes : (trip0_6 : List (HloOp τ sig (Elt F))).Forall fun op => op.writes ⊆ (trip0_6_W.map (Proc.devRef (τ := τ) .tc)).toFinset :=
  StableHlo.forall_writes_sub_of_map rfl

/-- Call while0b_call6. -/
abbrev trip0_7 : List (HloOp τ sig (Elt F)) :=
  putOps (.of main_v22_8) (.of main_while0b_v108) (.of main_v22_6) (.of main_while0b_call6_v0) (.of main_while0b_call6_c) (.of main_while0b_call6_c_0) (.of main_while0b_call6_c_1) (.of main_while0b_v114)

/-- Each touches references of the core only. -/
theorem trip0_7_sub : (trip0_7 : List (HloOp τ sig (Elt F))).Forall fun op => op.bufs ⊆ StableHlo.tcRefs τ sig :=
  putOps_sub _ _ _ _ _ _ _ _

/-- None allocates. -/
theorem trip0_7_fresh : (trip0_7 : List (HloOp τ sig (Elt F))).Forall fun op => op.fresh = ∅ :=
  StableHlo.forall_fresh_of_map rfl

/-- What they write. -/
abbrev trip0_7_W : List (Ref sig .tc) := [main_while0b_call6_v0, main_while0b_call6_c, main_while0b_call6_c_0, main_while0b_call6_c_1, main_while0b_v114]

/-- They write nothing else. -/
theorem trip0_7_writes : (trip0_7 : List (HloOp τ sig (Elt F))).Forall fun op => op.writes ⊆ (trip0_7_W.map (Proc.devRef (τ := τ) .tc)).toFinset :=
  StableHlo.forall_writes_sub_of_map rfl

/-- Call while0b_call7. -/
abbrev trip0_8 : List (HloOp τ sig (Elt F)) :=
  putOps (.of main_v22_9) (.of main_v22_7) (.of main_v22_6) (.of main_while0b_call7_v0) (.of main_while0b_call7_c) (.of main_while0b_call7_c_0) (.of main_while0b_call7_c_1) (.of main_while0b_v115)

/-- Each touches references of the core only. -/
theorem trip0_8_sub : (trip0_8 : List (HloOp τ sig (Elt F))).Forall fun op => op.bufs ⊆ StableHlo.tcRefs τ sig :=
  putOps_sub _ _ _ _ _ _ _ _

/-- None allocates. -/
theorem trip0_8_fresh : (trip0_8 : List (HloOp τ sig (Elt F))).Forall fun op => op.fresh = ∅ :=
  StableHlo.forall_fresh_of_map rfl

/-- What they write. -/
abbrev trip0_8_W : List (Ref sig .tc) := [main_while0b_call7_v0, main_while0b_call7_c, main_while0b_call7_c_0, main_while0b_call7_c_1, main_while0b_v115]

/-- They write nothing else. -/
theorem trip0_8_writes : (trip0_8 : List (HloOp τ sig (Elt F))).Forall fun op => op.writes ⊆ (trip0_8_W.map (Proc.devRef (τ := τ) .tc)).toFinset :=
  StableHlo.forall_writes_sub_of_map rfl

/-- Call while0b_call8. -/
abbrev trip0_9 : List (HloOp τ sig (Elt F)) :=
  putOps (.of main_v22_10) (.of main_while0b_v105) (.of main_v22_6) (.of main_while0b_call8_v0) (.of main_while0b_call8_c) (.of main_while0b_call8_c_0) (.of main_while0b_call8_c_1) (.of main_while0b_v116)

/-- Each touches references of the core only. -/
theorem trip0_9_sub : (trip0_9 : List (HloOp τ sig (Elt F))).Forall fun op => op.bufs ⊆ StableHlo.tcRefs τ sig :=
  putOps_sub _ _ _ _ _ _ _ _

/-- None allocates. -/
theorem trip0_9_fresh : (trip0_9 : List (HloOp τ sig (Elt F))).Forall fun op => op.fresh = ∅ :=
  StableHlo.forall_fresh_of_map rfl

/-- What they write. -/
abbrev trip0_9_W : List (Ref sig .tc) := [main_while0b_call8_v0, main_while0b_call8_c, main_while0b_call8_c_0, main_while0b_call8_c_1, main_while0b_v116]

/-- They write nothing else. -/
theorem trip0_9_writes : (trip0_9 : List (HloOp τ sig (Elt F))).Forall fun op => op.writes ⊆ (trip0_9_W.map (Proc.devRef (τ := τ) .tc)).toFinset :=
  StableHlo.forall_writes_sub_of_map rfl

/-- Call while0b_call9. -/
abbrev trip0_10 : List (HloOp τ sig (Elt F)) :=
  putGateOps (.of main_v22_11) (.of main_while0b_v109) (.of main_v22_6) (.of main_while0b_call9_v0) (.of main_while0b_call9_c) (.of main_while0b_call9_c_0) (.of main_while0b_call9_c_1) (.of main_while0b_v117)

/-- Each touches references of the core only. -/
theorem trip0_10_sub : (trip0_10 : List (HloOp τ sig (Elt F))).Forall fun op => op.bufs ⊆ StableHlo.tcRefs τ sig :=
  putGateOps_sub _ _ _ _ _ _ _ _

/-- None allocates. -/
theorem trip0_10_fresh : (trip0_10 : List (HloOp τ sig (Elt F))).Forall fun op => op.fresh = ∅ :=
  StableHlo.forall_fresh_of_map rfl

/-- What they write. -/
abbrev trip0_10_W : List (Ref sig .tc) := [main_while0b_call9_v0, main_while0b_call9_c, main_while0b_call9_c_0, main_while0b_call9_c_1, main_while0b_v117]

/-- They write nothing else. -/
theorem trip0_10_writes : (trip0_10 : List (HloOp τ sig (Elt F))).Forall fun op => op.writes ⊆ (trip0_10_W.map (Proc.devRef (τ := τ) .tc)).toFinset :=
  StableHlo.forall_writes_sub_of_map rfl

/-- Stretch 12 of plain operations of this part. -/
abbrev trip0_11 : List (HloOp τ sig (Elt F)) :=
  [ StableHlo.nullary main_while0b_c_33 (constantI S_ 32 1#32),
    StableHlo.binary main_v22_6 main_while0b_c_33 main_while0b_v118 (addi : (⟨S_, .i32⟩ : BufTy).Contents (Elt F) → (⟨S_, .i32⟩ : BufTy).Contents (Elt F) → (⟨S_, .i32⟩ : BufTy).Contents (Elt F)),
    StableHlo.unary main_while0b_v118 main_v22_6 id,
    StableHlo.unary main_while0b_v113 main_v22_7 id,
    StableHlo.unary main_while0b_v114 main_v22_8 id,
    StableHlo.unary main_while0b_v115 main_v22_9 id,
    StableHlo.unary main_while0b_v116 main_v22_10 id,
    StableHlo.unary main_while0b_v117 main_v22_11 id ]

/-- Each touches references of the core only. -/
theorem trip0_11_sub : (trip0_11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

/-- None allocates. -/
theorem trip0_11_fresh : (trip0_11 : List (HloOp τ sig (Elt F))).Forall fun op => op.fresh = ∅ :=
  StableHlo.forall_fresh_of_map rfl

/-- What they write. -/
abbrev trip0_11_W : List (Ref sig .tc) := [main_while0b_c_33, main_while0b_v118, main_v22_6, main_v22_7, main_v22_8, main_v22_9, main_v22_10, main_v22_11]

/-- They write nothing else. -/
theorem trip0_11_writes : (trip0_11 : List (HloOp τ sig (Elt F))).Forall fun op => op.writes ⊆ (trip0_11_W.map (Proc.devRef (τ := τ) .tc)).toFinset :=
  StableHlo.forall_writes_sub_of_map rfl

/-- Stretch 1 of plain operations of this part. -/
abbrev trip1_0 : List (HloOp τ sig (Elt F)) :=
  [ StableHlo.nullary main_while1b_c_37 (constantI S_ 32 32#32),
    StableHlo.binary main_while1b_c_37 main_v80_8 main_while1b_v98 (subi : (⟨S_, .i32⟩ : BufTy).Contents (Elt F) → (⟨S_, .i32⟩ : BufTy).Contents (Elt F) → (⟨S_, .i32⟩ : BufTy).Contents (Elt F)),
    StableHlo.nullary main_while1b_c_38 (constantI S_ 32 1#32),
    StableHlo.binary main_while1b_v98 main_while1b_c_38 main_while1b_v99 (subi : (⟨S_, .i32⟩ : BufTy).Contents (Elt F) → (⟨S_, .i32⟩ : BufTy).Contents (Elt F) → (⟨S_, .i32⟩ : BufTy).Contents (Elt F)) ]

/-- Each touches references of the core only. -/
theorem trip1_0_sub : (trip1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- None allocates. -/
theorem trip1_0_fresh : (trip1_0 : List (HloOp τ sig (Elt F))).Forall fun op => op.fresh = ∅ :=
  StableHlo.forall_fresh_of_map rfl

/-- What they write. -/
abbrev trip1_0_W : List (Ref sig .tc) := [main_while1b_c_37, main_while1b_v98, main_while1b_c_38, main_while1b_v99]

/-- They write nothing else. -/
theorem trip1_0_writes : (trip1_0 : List (HloOp τ sig (Elt F))).Forall fun op => op.writes ⊆ (trip1_0_W.map (Proc.devRef (τ := τ) .tc)).toFinset :=
  StableHlo.forall_writes_sub_of_map rfl

/-- Call while1b_call12. -/
abbrev trip1_1 : List (HloOp τ sig (Elt F)) :=
  pickOps (.of main_v80_0) (.of main_while1b_v99) (.of main_while1b_call12_c) (.of main_while1b_call12_c_0) (.of main_while1b_call12_c_1) (.of main_while1b_call12_v0) (.of main_while1b_v100)

/-- Each touches references of the core only. -/
theorem trip1_1_sub : (trip1_1 : List (HloOp τ sig (Elt F))).Forall fun op => op.bufs ⊆ StableHlo.tcRefs τ sig :=
  pickOps_sub _ _ _ _ _ _ _

/-- None allocates. -/
theorem trip1_1_fresh : (trip1_1 : List (HloOp τ sig (Elt F))).Forall fun op => op.fresh = ∅ :=
  StableHlo.forall_fresh_of_map rfl

/-- What they write. -/
abbrev trip1_1_W : List (Ref sig .tc) := [main_while1b_call12_c, main_while1b_call12_c_0, main_while1b_call12_c_1, main_while1b_call12_v0, main_while1b_v100]

/-- They write nothing else. -/
theorem trip1_1_writes : (trip1_1 : List (HloOp τ sig (Elt F))).Forall fun op => op.writes ⊆ (trip1_1_W.map (Proc.devRef (τ := τ) .tc)).toFinset :=
  StableHlo.forall_writes_sub_of_map rfl

/-- Call while1b_call13. -/
abbrev trip1_2 : List (HloOp τ sig (Elt F)) :=
  pickOps (.of main_v80_1) (.of main_while1b_v99) (.of main_while1b_call13_c) (.of main_while1b_call13_c_0) (.of main_while1b_call13_c_1) (.of main_while1b_call13_v0) (.of main_while1b_v101)

/-- Each touches references of the core only. -/
theorem trip1_2_sub : (trip1_2 : List (HloOp τ sig (Elt F))).Forall fun op => op.bufs ⊆ StableHlo.tcRefs τ sig :=
  pickOps_sub _ _ _ _ _ _ _

/-- None allocates. -/
theorem trip1_2_fresh : (trip1_2 : List (HloOp τ sig (Elt F))).Forall fun op => op.fresh = ∅ :=
  StableHlo.forall_fresh_of_map rfl

/-- What they write. -/
abbrev trip1_2_W : List (Ref sig .tc) := [main_while1b_call13_c, main_while1b_call13_c_0, main_while1b_call13_c_1, main_while1b_call13_v0, main_while1b_v101]

/-- They write nothing else. -/
theorem trip1_2_writes : (trip1_2 : List (HloOp τ sig (Elt F))).Forall fun op => op.writes ⊆ (trip1_2_W.map (Proc.devRef (τ := τ) .tc)).toFinset :=
  StableHlo.forall_writes_sub_of_map rfl

/-- Call while1b_call14. -/
abbrev trip1_3 : List (HloOp τ sig (Elt F)) :=
  pickOps (.of main_v80_2) (.of main_while1b_v99) (.of main_while1b_call14_c) (.of main_while1b_call14_c_0) (.of main_while1b_call14_c_1) (.of main_while1b_call14_v0) (.of main_while1b_v102)

/-- Each touches references of the core only. -/
theorem trip1_3_sub : (trip1_3 : List (HloOp τ sig (Elt F))).Forall fun op => op.bufs ⊆ StableHlo.tcRefs τ sig :=
  pickOps_sub _ _ _ _ _ _ _

/-- None allocates. -/
theorem trip1_3_fresh : (trip1_3 : List (HloOp τ sig (Elt F))).Forall fun op => op.fresh = ∅ :=
  StableHlo.forall_fresh_of_map rfl

/-- What they write. -/
abbrev trip1_3_W : List (Ref sig .tc) := [main_while1b_call14_c, main_while1b_call14_c_0, main_while1b_call14_c_1, main_while1b_call14_v0, main_while1b_v102]

/-- They write nothing else. -/
theorem trip1_3_writes : (trip1_3 : List (HloOp τ sig (Elt F))).Forall fun op => op.writes ⊆ (trip1_3_W.map (Proc.devRef (τ := τ) .tc)).toFinset :=
  StableHlo.forall_writes_sub_of_map rfl

/-- Call while1b_call15. -/
abbrev trip1_4 : List (HloOp τ sig (Elt F)) :=
  pickOps (.of main_v80_3) (.of main_while1b_v99) (.of main_while1b_call15_c) (.of main_while1b_call15_c_0) (.of main_while1b_call15_c_1) (.of main_while1b_call15_v0) (.of main_while1b_v103)

/-- Each touches references of the core only. -/
theorem trip1_4_sub : (trip1_4 : List (HloOp τ sig (Elt F))).Forall fun op => op.bufs ⊆ StableHlo.tcRefs τ sig :=
  pickOps_sub _ _ _ _ _ _ _

/-- None allocates. -/
theorem trip1_4_fresh : (trip1_4 : List (HloOp τ sig (Elt F))).Forall fun op => op.fresh = ∅ :=
  StableHlo.forall_fresh_of_map rfl

/-- What they write. -/
abbrev trip1_4_W : List (Ref sig .tc) := [main_while1b_call15_c, main_while1b_call15_c_0, main_while1b_call15_c_1, main_while1b_call15_v0, main_while1b_v103]

/-- They write nothing else. -/
theorem trip1_4_writes : (trip1_4 : List (HloOp τ sig (Elt F))).Forall fun op => op.writes ⊆ (trip1_4_W.map (Proc.devRef (τ := τ) .tc)).toFinset :=
  StableHlo.forall_writes_sub_of_map rfl

/-- Call while1b_call16. -/
abbrev trip1_5 : List (HloOp τ sig (Elt F)) :=
  pickOps (.of main_v80_4) (.of main_while1b_v99) (.of main_while1b_call16_c) (.of main_while1b_call16_c_0) (.of main_while1b_call16_c_1) (.of main_while1b_call16_v0) (.of main_while1b_v104)

/-- Each touches references of the core only. -/
theorem trip1_5_sub : (trip1_5 : List (HloOp τ sig (Elt F))).Forall fun op => op.bufs ⊆ StableHlo.tcRefs τ sig :=
  pickOps_sub _ _ _ _ _ _ _

/-- None allocates. -/
theorem trip1_5_fresh : (trip1_5 : List (HloOp τ sig (Elt F))).Forall fun op => op.fresh = ∅ :=
  StableHlo.forall_fresh_of_map rfl

/-- What they write. -/
abbrev trip1_5_W : List (Ref sig .tc) := [main_while1b_call16_c, main_while1b_call16_c_0, main_while1b_call16_c_1, main_while1b_call16_v0, main_while1b_v104]

/-- They write nothing else. -/
theorem trip1_5_writes : (trip1_5 : List (HloOp τ sig (Elt F))).Forall fun op => op.writes ⊆ (trip1_5_W.map (Proc.devRef (τ := τ) .tc)).toFinset :=
  StableHlo.forall_writes_sub_of_map rfl

/-- Call while1b_call17. -/
abbrev trip1_6 : List (HloOp τ sig (Elt F)) :=
  pickOps (.of main_v80_5) (.of main_while1b_v99) (.of main_while1b_call17_c) (.of main_while1b_call17_c_0) (.of main_while1b_call17_c_1) (.of main_while1b_call17_v0) (.of main_while1b_v105)

/-- Each touches references of the core only. -/
theorem trip1_6_sub : (trip1_6 : List (HloOp τ sig (Elt F))).Forall fun op => op.bufs ⊆ StableHlo.tcRefs τ sig :=
  pickOps_sub _ _ _ _ _ _ _

/-- None allocates. -/
theorem trip1_6_fresh : (trip1_6 : List (HloOp τ sig (Elt F))).Forall fun op => op.fresh = ∅ :=
  StableHlo.forall_fresh_of_map rfl

/-- What they write. -/
abbrev trip1_6_W : List (Ref sig .tc) := [main_while1b_call17_c, main_while1b_call17_c_0, main_while1b_call17_c_1, main_while1b_call17_v0, main_while1b_v105]

/-- They write nothing else. -/
theorem trip1_6_writes : (trip1_6 : List (HloOp τ sig (Elt F))).Forall fun op => op.writes ⊆ (trip1_6_W.map (Proc.devRef (τ := τ) .tc)).toFinset :=
  StableHlo.forall_writes_sub_of_map rfl

/-- Call while1b_call18. -/
abbrev trip1_7 : List (HloOp τ sig (Elt F)) :=
  pickGateOps (.of main_v80_6) (.of main_while1b_v99) (.of main_while1b_call18_c) (.of main_while1b_call18_c_0) (.of main_while1b_call18_c_1) (.of main_while1b_call18_v0) (.of main_while1b_v106)

/-- Each touches references of the core only. -/
theorem trip1_7_sub : (trip1_7 : List (HloOp τ sig (Elt F))).Forall fun op => op.bufs ⊆ StableHlo.tcRefs τ sig :=
  pickGateOps_sub _ _ _ _ _ _ _

/-- None allocates. -/
theorem trip1_7_fresh : (trip1_7 : List (HloOp τ sig (Elt F))).Forall fun op => op.fresh = ∅ :=
  StableHlo.forall_fresh_of_map rfl

/-- What they write. -/
abbrev trip1_7_W : List (Ref sig .tc) := [main_while1b_call18_c, main_while1b_call18_c_0, main_while1b_call18_c_1, main_while1b_call18_v0, main_while1b_v106]

/-- They write nothing else. -/
theorem trip1_7_writes : (trip1_7 : List (HloOp τ sig (Elt F))).Forall fun op => op.writes ⊆ (trip1_7_W.map (Proc.devRef (τ := τ) .tc)).toFinset :=
  StableHlo.forall_writes_sub_of_map rfl

/-- Call while1b_call19. -/
abbrev trip1_8 : List (HloOp τ sig (Elt F)) :=
  pickOps (.of main_v80_7) (.of main_while1b_v99) (.of main_while1b_call19_c) (.of main_while1b_call19_c_0) (.of main_while1b_call19_c_1) (.of main_while1b_call19_v0) (.of main_while1b_v107)

/-- Each touches references of the core only. -/
theorem trip1_8_sub : (trip1_8 : List (HloOp τ sig (Elt F))).Forall fun op => op.bufs ⊆ StableHlo.tcRefs τ sig :=
  pickOps_sub _ _ _ _ _ _ _

/-- None allocates. -/
theorem trip1_8_fresh : (trip1_8 : List (HloOp τ sig (Elt F))).Forall fun op => op.fresh = ∅ :=
  StableHlo.forall_fresh_of_map rfl

/-- What they write. -/
abbrev trip1_8_W : List (Ref sig .tc) := [main_while1b_call19_c, main_while1b_call19_c_0, main_while1b_call19_c_1, main_while1b_call19_v0, main_while1b_v107]

/-- They write nothing else. -/
theorem trip1_8_writes : (trip1_8 : List (HloOp τ sig (Elt F))).Forall fun op => op.writes ⊆ (trip1_8_W.map (Proc.devRef (τ := τ) .tc)).toFinset :=
  StableHlo.forall_writes_sub_of_map rfl

/-- Stretch 10 of plain operations of this part. -/
abbrev trip1_9 : List (HloOp τ sig (Elt F)) :=
  [ StableHlo.binary main_v80_9 main_while1b_v107 main_while1b_v108 ((fun l r => Host.dotGeneral dot_S8x128x128_S8x128x128_S8x128x128_1_2_2_1_0_0 none l r) : (⟨S8x128x128, .f32⟩ : BufTy).Contents (Elt F) → (⟨S8x128x128, .f32⟩ : BufTy).Contents (Elt F) → (⟨S8x128x128, .f32⟩ : BufTy).Contents (Elt F)),
    StableHlo.unary main_while1b_v108 main_while1b_v109 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_v80_9 main_while1b_v104 main_while1b_v110 ((fun l r => Host.dotGeneral dot_S8x128x128_S8x128x128_S8x128x128_2_2_1_1_0_0 none l r) : (⟨S8x128x128, .f32⟩ : BufTy).Contents (Elt F) → (⟨S8x128x128, .f32⟩ : BufTy).Contents (Elt F) → (⟨S8x128x128, .f32⟩ : BufTy).Contents (Elt F)),
    StableHlo.unary main_while1b_v110 main_while1b_v111 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v101 main_v80_9 main_while1b_v112 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_39 (constant S_ .f32 0x00000000#32),
    StableHlo.binary main_while1b_v112 main_while1b_cst_39 main_while1b_v113 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    StableHlo.reshape main_while1b_v113 main_while1b_v114 (rfl : (.f32 : EltTy) = .f32) shapeCasts_S8_S8x1x1,
    StableHlo.unary main_while1b_v106 main_while1b_v115 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v80_9 main_while1b_v115 main_while1b_v116 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_40 (constant S_ .f32 0x00000000#32),
    StableHlo.binary main_while1b_v114 main_while1b_cst_40 main_while1b_v117 ((fun x v => Host.reduceAdd x v reducesTo_S8x1x1_S8_d1_2 h_S_) : (⟨S8x1x1, .f32⟩ : BufTy).Contents (Elt F) → (⟨S_, .f32⟩ : BufTy).Contents (Elt F) → (⟨S8, .f32⟩ : BufTy).Contents (Elt F)),
    StableHlo.binary main_while1b_v100 main_while1b_v105 main_while1b_v118 ((fun l r => Host.dotGeneral dot_S8x128x128_S8x128x128_S8x128x128_1_1_2_2_0_0 none l r) : (⟨S8x128x128, .f32⟩ : BufTy).Contents (Elt F) → (⟨S8x128x128, .f32⟩ : BufTy).Contents (Elt F) → (⟨S8x128x128, .f32⟩ : BufTy).Contents (Elt F)),
    StableHlo.unary main_while1b_v118 main_while1b_v119 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v109 main_while1b_v119 main_while1b_v120 (addf : (⟨S8x128x128, .f32⟩ : BufTy).Contents (Elt F) → (⟨S8x128x128, .f32⟩ : BufTy).Contents (Elt F) → (⟨S8x128x128, .f32⟩ : BufTy).Contents (Elt F)),
    StableHlo.binary main_while1b_v100 main_while1b_v104 main_while1b_v121 ((fun l r => Host.dotGeneral dot_S8x128x128_S8x128x128_S8x128x128_2_2_1_1_0_0 none l r) : (⟨S8x128x128, .f32⟩ : BufTy).Contents (Elt F) → (⟨S8x128x128, .f32⟩ : BufTy).Contents (Elt F) → (⟨S8x128x128, .f32⟩ : BufTy).Contents (Elt F)),
    StableHlo.binary main_while1b_v100 main_while1b_v103 main_while1b_v122 ((fun l r => Host.dotGeneral dot_S8x128x128_S8x128x128_S8x128x128_1_1_2_2_0_0 none l r) : (⟨S8x128x128, .f32⟩ : BufTy).Contents (Elt F) → (⟨S8x128x128, .f32⟩ : BufTy).Contents (Elt F) → (⟨S8x128x128, .f32⟩ : BufTy).Contents (Elt F)),
    StableHlo.unary main_while1b_v122 main_while1b_v123 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v116 main_while1b_v123 main_while1b_v124 (addf : (⟨S8x128x128, .f32⟩ : BufTy).Contents (Elt F) → (⟨S8x128x128, .f32⟩ : BufTy).Contents (Elt F) → (⟨S8x128x128, .f32⟩ : BufTy).Contents (Elt F)),
    StableHlo.binary main_while1b_v100 main_while1b_v101 main_while1b_v125 ((fun l r => Host.dotGeneral dot_S8x128x128_S8x128x128_S8x128x128_2_2_1_1_0_0 none l r) : (⟨S8x128x128, .f32⟩ : BufTy).Contents (Elt F) → (⟨S8x128x128, .f32⟩ : BufTy).Contents (Elt F) → (⟨S8x128x128, .f32⟩ : BufTy).Contents (Elt F)),
    StableHlo.unary main_while1b_v120 main_while1b_v126 (Host.negf : (⟨S8x128x128, .f32⟩ : BufTy).Contents (Elt F) → (⟨S8x128x128, .f32⟩ : BufTy).Contents (Elt F)),
    StableHlo.binary main_while1b_v126 main_while1b_v102 main_while1b_v127 ((fun l r => Host.dotGeneral dot_S8x128x128_S8x128x128_S8x128x128_1_1_2_2_0_0 none l r) : (⟨S8x128x128, .f32⟩ : BufTy).Contents (Elt F) → (⟨S8x128x128, .f32⟩ : BufTy).Contents (Elt F) → (⟨S8x128x128, .f32⟩ : BufTy).Contents (Elt F)),
    StableHlo.unary main_while1b_v127 main_while1b_v128 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v124 main_while1b_v128 main_while1b_v129 (addf : (⟨S8x128x128, .f32⟩ : BufTy).Contents (Elt F) → (⟨S8x128x128, .f32⟩ : BufTy).Contents (Elt F) → (⟨S8x128x128, .f32⟩ : BufTy).Contents (Elt F)),
    StableHlo.binary main_while1b_v126 main_while1b_v101 main_while1b_v130 ((fun l r => Host.dotGeneral dot_S8x128x128_S8x128x128_S8x128x128_2_2_1_1_0_0 none l r) : (⟨S8x128x128, .f32⟩ : BufTy).Contents (Elt F) → (⟨S8x128x128, .f32⟩ : BufTy).Contents (Elt F) → (⟨S8x128x128, .f32⟩ : BufTy).Contents (Elt F)) ]

/-- Each touches references of the core only. -/
theorem trip1_9_sub : (trip1_9 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩

/-- None allocates. -/
theorem trip1_9_fresh : (trip1_9 : List (HloOp τ sig (Elt F))).Forall fun op => op.fresh = ∅ :=
  StableHlo.forall_fresh_of_map rfl

/-- What they write. -/
abbrev trip1_9_W : List (Ref sig .tc) := [main_while1b_v108, main_while1b_v109, main_while1b_v110, main_while1b_v111, main_while1b_v112, main_while1b_cst_39, main_while1b_v113, main_while1b_v114, main_while1b_v115, main_while1b_v116, main_while1b_cst_40, main_while1b_v117, main_while1b_v118, main_while1b_v119, main_while1b_v120, main_while1b_v121, main_while1b_v122, main_while1b_v123, main_while1b_v124, main_while1b_v125, main_while1b_v126, main_while1b_v127, main_while1b_v128, main_while1b_v129, main_while1b_v130]

/-- They write nothing else. -/
theorem trip1_9_writes : (trip1_9 : List (HloOp τ sig (Elt F))).Forall fun op => op.writes ⊆ (trip1_9_W.map (Proc.devRef (τ := τ) .tc)).toFinset :=
  StableHlo.forall_writes_sub_of_map rfl

/-- Call while1b_call20. -/
abbrev trip1_10 : List (HloOp τ sig (Elt F)) :=
  putOps (.of main_v80_10) (.of main_while1b_v125) (.of main_while1b_v99) (.of main_while1b_call20_v0) (.of main_while1b_call20_c) (.of main_while1b_call20_c_0) (.of main_while1b_call20_c_1) (.of main_while1b_v131)

/-- Each touches references of the core only. -/
theorem trip1_10_sub : (trip1_10 : List (HloOp τ sig (Elt F))).Forall fun op => op.bufs ⊆ StableHlo.tcRefs τ sig :=
  putOps_sub _ _ _ _ _ _ _ _

/-- None allocates. -/
theorem trip1_10_fresh : (trip1_10 : List (HloOp τ sig (Elt F))).Forall fun op => op.fresh = ∅ :=
  StableHlo.forall_fresh_of_map rfl

/-- What they write. -/
abbrev trip1_10_W : List (Ref sig .tc) := [main_while1b_call20_v0, main_while1b_call20_c, main_while1b_call20_c_0, main_while1b_call20_c_1, main_while1b_v131]

/-- They write nothing else. -/
theorem trip1_10_writes : (trip1_10 : List (HloOp τ sig (Elt F))).Forall fun op => op.writes ⊆ (trip1_10_W.map (Proc.devRef (τ := τ) .tc)).toFinset :=
  StableHlo.forall_writes_sub_of_map rfl

/-- Call while1b_call21. -/
abbrev trip1_11 : List (HloOp τ sig (Elt F)) :=
  putOps (.of main_v80_11) (.of main_while1b_v130) (.of main_while1b_v99) (.of main_while1b_call21_v0) (.of main_while1b_call21_c) (.of main_while1b_call21_c_0) (.of main_while1b_call21_c_1) (.of main_while1b_v132)

/-- Each touches references of the core only. -/
theorem trip1_11_sub : (trip1_11 : List (HloOp τ sig (Elt F))).Forall fun op => op.bufs ⊆ StableHlo.tcRefs τ sig :=
  putOps_sub _ _ _ _ _ _ _ _

/-- None allocates. -/
theorem trip1_11_fresh : (trip1_11 : List (HloOp τ sig (Elt F))).Forall fun op => op.fresh = ∅ :=
  StableHlo.forall_fresh_of_map rfl

/-- What they write. -/
abbrev trip1_11_W : List (Ref sig .tc) := [main_while1b_call21_v0, main_while1b_call21_c, main_while1b_call21_c_0, main_while1b_call21_c_1, main_while1b_v132]

/-- They write nothing else. -/
theorem trip1_11_writes : (trip1_11 : List (HloOp τ sig (Elt F))).Forall fun op => op.writes ⊆ (trip1_11_W.map (Proc.devRef (τ := τ) .tc)).toFinset :=
  StableHlo.forall_writes_sub_of_map rfl

/-- Call while1b_call22. -/
abbrev trip1_12 : List (HloOp τ sig (Elt F)) :=
  putOps (.of main_v80_12) (.of main_while1b_v120) (.of main_while1b_v99) (.of main_while1b_call22_v0) (.of main_while1b_call22_c) (.of main_while1b_call22_c_0) (.of main_while1b_call22_c_1) (.of main_while1b_v133)

/-- Each touches references of the core only. -/
theorem trip1_12_sub : (trip1_12 : List (HloOp τ sig (Elt F))).Forall fun op => op.bufs ⊆ StableHlo.tcRefs τ sig :=
  putOps_sub _ _ _ _ _ _ _ _

/-- None allocates. -/
theorem trip1_12_fresh : (trip1_12 : List (HloOp τ sig (Elt F))).Forall fun op => op.fresh = ∅ :=
  StableHlo.forall_fresh_of_map rfl

/-- What they write. -/
abbrev trip1_12_W : List (Ref sig .tc) := [main_while1b_call22_v0, main_while1b_call22_c, main_while1b_call22_c_0, main_while1b_call22_c_1, main_while1b_v133]

/-- They write nothing else. -/
theorem trip1_12_writes : (trip1_12 : List (HloOp τ sig (Elt F))).Forall fun op => op.writes ⊆ (trip1_12_W.map (Proc.devRef (τ := τ) .tc)).toFinset :=
  StableHlo.forall_writes_sub_of_map rfl

/-- Call while1b_call23. -/
abbrev trip1_13 : List (HloOp τ sig (Elt F)) :=
  putOps (.of main_v80_13) (.of main_while1b_v121) (.of main_while1b_v99) (.of main_while1b_call23_v0) (.of main_while1b_call23_c) (.of main_while1b_call23_c_0) (.of main_while1b_call23_c_1) (.of main_while1b_v134)

/-- Each touches references of the core only. -/
theorem trip1_13_sub : (trip1_13 : List (HloOp τ sig (Elt F))).Forall fun op => op.bufs ⊆ StableHlo.tcRefs τ sig :=
  putOps_sub _ _ _ _ _ _ _ _

/-- None allocates. -/
theorem trip1_13_fresh : (trip1_13 : List (HloOp τ sig (Elt F))).Forall fun op => op.fresh = ∅ :=
  StableHlo.forall_fresh_of_map rfl

/-- What they write. -/
abbrev trip1_13_W : List (Ref sig .tc) := [main_while1b_call23_v0, main_while1b_call23_c, main_while1b_call23_c_0, main_while1b_call23_c_1, main_while1b_v134]

/-- They write nothing else. -/
theorem trip1_13_writes : (trip1_13 : List (HloOp τ sig (Elt F))).Forall fun op => op.writes ⊆ (trip1_13_W.map (Proc.devRef (τ := τ) .tc)).toFinset :=
  StableHlo.forall_writes_sub_of_map rfl

/-- Call while1b_call24. -/
abbrev trip1_14 : List (HloOp τ sig (Elt F)) :=
  putOps (.of main_v80_14) (.of main_while1b_v111) (.of main_while1b_v99) (.of main_while1b_call24_v0) (.of main_while1b_call24_c) (.of main_while1b_call24_c_0) (.of main_while1b_call24_c_1) (.of main_while1b_v135)

/-- Each touches references of the core only. -/
theorem trip1_14_sub : (trip1_14 : List (HloOp τ sig (Elt F))).Forall fun op => op.bufs ⊆ StableHlo.tcRefs τ sig :=
  putOps_sub _ _ _ _ _ _ _ _

/-- None allocates. -/
theorem trip1_14_fresh : (trip1_14 : List (HloOp τ sig (Elt F))).Forall fun op => op.fresh = ∅ :=
  StableHlo.forall_fresh_of_map rfl

/-- What they write. -/
abbrev trip1_14_W : List (Ref sig .tc) := [main_while1b_call24_v0, main_while1b_call24_c, main_while1b_call24_c_0, main_while1b_call24_c_1, main_while1b_v135]

/-- They write nothing else. -/
theorem trip1_14_writes : (trip1_14 : List (HloOp τ sig (Elt F))).Forall fun op => op.writes ⊆ (trip1_14_W.map (Proc.devRef (τ := τ) .tc)).toFinset :=
  StableHlo.forall_writes_sub_of_map rfl

/-- Call while1b_call25. -/
abbrev trip1_15 : List (HloOp τ sig (Elt F)) :=
  putRowOps (.of main_v80_15) (.of main_while1b_v117) (.of main_while1b_v99) (.of main_while1b_call25_v0) (.of main_while1b_call25_c) (.of main_while1b_v136)

/-- Each touches references of the core only. -/
theorem trip1_15_sub : (trip1_15 : List (HloOp τ sig (Elt F))).Forall fun op => op.bufs ⊆ StableHlo.tcRefs τ sig :=
  putRowOps_sub _ _ _ _ _ _

/-- None allocates. -/
theorem trip1_15_fresh : (trip1_15 : List (HloOp τ sig (Elt F))).Forall fun op => op.fresh = ∅ :=
  StableHlo.forall_fresh_of_map rfl

/-- What they write. -/
abbrev trip1_15_W : List (Ref sig .tc) := [main_while1b_call25_v0, main_while1b_call25_c, main_while1b_v136]

/-- They write nothing else. -/
theorem trip1_15_writes : (trip1_15 : List (HloOp τ sig (Elt F))).Forall fun op => op.writes ⊆ (trip1_15_W.map (Proc.devRef (τ := τ) .tc)).toFinset :=
  StableHlo.forall_writes_sub_of_map rfl

/-- Stretch 17 of plain operations of this part. -/
abbrev trip1_16 : List (HloOp τ sig (Elt F)) :=
  [ StableHlo.nullary main_while1b_c_41 (constantI S_ 32 1#32),
    StableHlo.binary main_v80_8 main_while1b_c_41 main_while1b_v137 (addi : (⟨S_, .i32⟩ : BufTy).Contents (Elt F) → (⟨S_, .i32⟩ : BufTy).Contents (Elt F) → (⟨S_, .i32⟩ : BufTy).Contents (Elt F)),
    StableHlo.unary main_while1b_v137 main_v80_8 id,
    StableHlo.unary main_while1b_v129 main_v80_9 id,
    StableHlo.unary main_while1b_v131 main_v80_10 id,
    StableHlo.unary main_while1b_v132 main_v80_11 id,
    StableHlo.unary main_while1b_v133 main_v80_12 id,
    StableHlo.unary main_while1b_v134 main_v80_13 id,
    StableHlo.unary main_while1b_v135 main_v80_14 id,
    StableHlo.unary main_while1b_v136 main_v80_15 id ]

/-- Each touches references of the core only. -/
theorem trip1_16_sub : (trip1_16 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- None allocates. -/
theorem trip1_16_fresh : (trip1_16 : List (HloOp τ sig (Elt F))).Forall fun op => op.fresh = ∅ :=
  StableHlo.forall_fresh_of_map rfl

/-- What they write. -/
abbrev trip1_16_W : List (Ref sig .tc) := [main_while1b_c_41, main_while1b_v137, main_v80_8, main_v80_9, main_v80_10, main_v80_11, main_v80_12, main_v80_13, main_v80_14, main_v80_15]

/-- They write nothing else. -/
theorem trip1_16_writes : (trip1_16 : List (HloOp τ sig (Elt F))).Forall fun op => op.writes ⊆ (trip1_16_W.map (Proc.devRef (τ := τ) .tc)).toFinset :=
  StableHlo.forall_writes_sub_of_map rfl

/-- Stretch 1 of plain operations of this part. -/
abbrev pre0 : List (HloOp τ sig (Elt F)) :=
  [ StableHlo.unary main_arg6 main_v0 ((extractStridedSlice S4096x1024 ![0, 5632] · slices_S4096x7168_S4096x1024_0_5632) : (⟨S4096x7168, .f32⟩ : BufTy).Contents (Elt F) → (⟨S4096x1024, .f32⟩ : BufTy).Contents (Elt F)),
    StableHlo.unary main_arg8 main_v1 ((extractStridedSlice S4096x1024 ![0, 1024] · slices_S4096x2048_S4096x1024_0_1024) : (⟨S4096x2048, .f32⟩ : BufTy).Contents (Elt F) → (⟨S4096x1024, .f32⟩ : BufTy).Contents (Elt F)),
    StableHlo.unary main_arg2 main_v2 ((extf .f32 · bitsLt_bf16_f32) : (⟨S4096x1024, .bf16⟩ : BufTy).Contents (Elt F) → (⟨S4096x1024, .f32⟩ : BufTy).Contents (Elt F)),
    StableHlo.reshape main_v2 main_v3 (rfl : (.f32 : EltTy) = .f32) shapeCasts_S4096x1024_S32x128x8x128,
    StableHlo.unary main_v3 main_v4 ((transpose S32x8x128x128 [0, 2, 1, 3] · transposes_S32x128x8x128_S32x8x128x128_0_2_1_3) : (⟨S32x128x8x128, .f32⟩ : BufTy).Contents (Elt F) → (⟨S32x8x128x128, .f32⟩ : BufTy).Contents (Elt F)),
    StableHlo.unary main_arg1 main_v5 ((extf .f32 · bitsLt_bf16_f32) : (⟨S4096x1024, .bf16⟩ : BufTy).Contents (Elt F) → (⟨S4096x1024, .f32⟩ : BufTy).Contents (Elt F)),
    StableHlo.reshape main_v5 main_v6 (rfl : (.f32 : EltTy) = .f32) shapeCasts_S4096x1024_S32x128x8x128,
    StableHlo.unary main_v6 main_v7 ((transpose S32x8x128x128 [0, 2, 1, 3] · transposes_S32x128x8x128_S32x8x128x128_0_2_1_3) : (⟨S32x128x8x128, .f32⟩ : BufTy).Contents (Elt F) → (⟨S32x8x128x128, .f32⟩ : BufTy).Contents (Elt F)),
    StableHlo.reshape main_arg0 main_v8 (rfl : (.f32 : EltTy) = .f32) shapeCasts_S4096x1024_S32x128x8x128,
    StableHlo.unary main_v8 main_v9 ((transpose S32x8x128x128 [0, 2, 1, 3] · transposes_S32x128x8x128_S32x8x128x128_0_2_1_3) : (⟨S32x128x8x128, .f32⟩ : BufTy).Contents (Elt F) → (⟨S32x8x128x128, .f32⟩ : BufTy).Contents (Elt F)),
    StableHlo.unary main_arg4 main_v10 ((extf .f32 · bitsLt_bf16_f32) : (⟨S4096x1024, .bf16⟩ : BufTy).Contents (Elt F) → (⟨S4096x1024, .f32⟩ : BufTy).Contents (Elt F)),
    StableHlo.reshape main_v10 main_v11 (rfl : (.f32 : EltTy) = .f32) shapeCasts_S4096x1024_S32x128x8x128,
    StableHlo.unary main_v11 main_v12 ((transpose S32x8x128x128 [0, 2, 1, 3] · transposes_S32x128x8x128_S32x8x128x128_0_2_1_3) : (⟨S32x128x8x128, .f32⟩ : BufTy).Contents (Elt F) → (⟨S32x8x128x128, .f32⟩ : BufTy).Contents (Elt F)),
    StableHlo.unary main_arg3 main_v13 ((extf .f32 · bitsLt_bf16_f32) : (⟨S4096x1024, .bf16⟩ : BufTy).Contents (Elt F) → (⟨S4096x1024, .f32⟩ : BufTy).Contents (Elt F)),
    StableHlo.reshape main_v13 main_v14 (rfl : (.f32 : EltTy) = .f32) shapeCasts_S4096x1024_S32x128x8x128,
    StableHlo.unary main_v14 main_v15 ((transpose S32x8x128x128 [0, 2, 1, 3] · transposes_S32x128x8x128_S32x8x128x128_0_2_1_3) : (⟨S32x128x8x128, .f32⟩ : BufTy).Contents (Elt F) → (⟨S32x8x128x128, .f32⟩ : BufTy).Contents (Elt F)),
    StableHlo.unary main_arg5 main_v16 ((transpose S32x8 [1, 0] · transposes_S8x32_S32x8_1_0) : (⟨S8x32, .f32⟩ : BufTy).Contents (Elt F) → (⟨S32x8, .f32⟩ : BufTy).Contents (Elt F)),
    StableHlo.nullary main_cst (constant S_ .f32 0x00000000#32),
    StableHlo.unary main_cst main_v17 (broadcastInDim S8x128x128 ![] bcast_S_S8x128x128 : (⟨S_, .f32⟩ : BufTy).Contents (Elt F) → (⟨S8x128x128, .f32⟩ : BufTy).Contents (Elt F)),
    StableHlo.nullary main_cst_0 (constant S_ .f32 0x00000000#32),
    StableHlo.unary main_cst_0 main_v18 (broadcastInDim S32x8x128x128 ![] bcast_S_S32x8x128x128 : (⟨S_, .f32⟩ : BufTy).Contents (Elt F) → (⟨S32x8x128x128, .f32⟩ : BufTy).Contents (Elt F)),
    StableHlo.nullary main_cst_1 (constant S_ .f32 0x00000000#32),
    StableHlo.unary main_cst_1 main_v19 (broadcastInDim S32x8x128x128 ![] bcast_S_S32x8x128x128 : (⟨S_, .f32⟩ : BufTy).Contents (Elt F) → (⟨S32x8x128x128, .f32⟩ : BufTy).Contents (Elt F)),
    StableHlo.nullary main_cst_2 (constant S_ .f32 0x00000000#32),
    StableHlo.unary main_cst_2 main_v20 (broadcastInDim S32x8x128x128 ![] bcast_S_S32x8x128x128 : (⟨S_, .f32⟩ : BufTy).Contents (Elt F) → (⟨S32x8x128x128, .f32⟩ : BufTy).Contents (Elt F)),
    StableHlo.nullary main_cst_3 (constant S_ .f32 0x00000000#32),
    StableHlo.unary main_cst_3 main_v21 (broadcastInDim S32x8x1x1 ![] bcast_S_S32x8x1x1 : (⟨S_, .f32⟩ : BufTy).Contents (Elt F) → (⟨S32x8x1x1, .f32⟩ : BufTy).Contents (Elt F)),
    StableHlo.nullary main_c (constantI S_ 32 0#32),
    StableHlo.unary main_v4 main_v22_0 id,
    StableHlo.unary main_v7 main_v22_1 id,
    StableHlo.unary main_v9 main_v22_2 id,
    StableHlo.unary main_v12 main_v22_3 id,
    StableHlo.unary main_v15 main_v22_4 id,
    StableHlo.unary main_v16 main_v22_5 id,
    StableHlo.unary main_c main_v22_6 id,
    StableHlo.unary main_v17 main_v22_7 id,
    StableHlo.unary main_v18 main_v22_8 id,
    StableHlo.unary main_v19 main_v22_9 id,
    StableHlo.unary main_v20 main_v22_10 id,
    StableHlo.unary main_v21 main_v22_11 id ]

/-- Each touches references of the core only. -/
theorem pre0_sub : (pre0 : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- None allocates. -/
theorem pre0_fresh : (pre0 : List (HloOp τ sig (Elt F))).Forall fun op => op.fresh = ∅ :=
  StableHlo.forall_fresh_of_map rfl

/-- What they write. -/
abbrev pre0_W : List (Ref sig .tc) := [main_v0, main_v1, main_v2, main_v3, main_v4, main_v5, main_v6, main_v7, main_v8, main_v9, main_v10, main_v11, main_v12, main_v13, main_v14, main_v15, main_v16, main_cst, main_v17, main_cst_0, main_v18, main_cst_1, main_v19, main_cst_2, main_v20, main_cst_3, main_v21, main_c, main_v22_0, main_v22_1, main_v22_2, main_v22_3, main_v22_4, main_v22_5, main_v22_6, main_v22_7, main_v22_8, main_v22_9, main_v22_10, main_v22_11]

/-- They write nothing else. -/
theorem pre0_writes : (pre0 : List (HloOp τ sig (Elt F))).Forall fun op => op.writes ⊆ (pre0_W.map (Proc.devRef (τ := τ) .tc)).toFinset :=
  StableHlo.forall_writes_sub_of_map rfl

/-- Stretch 1 of plain operations of this part. -/
abbrev mid0 : List (HloOp τ sig (Elt F)) :=
  [ StableHlo.unary main_v22_8 main_v23 ((transpose S32x128x8x128 [0, 2, 1, 3] · transposes_S32x8x128x128_S32x128x8x128_0_2_1_3) : (⟨S32x8x128x128, .f32⟩ : BufTy).Contents (Elt F) → (⟨S32x128x8x128, .f32⟩ : BufTy).Contents (Elt F)),
    StableHlo.reshape main_v23 main_v24 (rfl : (.f32 : EltTy) = .f32) shapeCasts_S32x128x8x128_S4096x8x128,
    StableHlo.reshape main_v0 main_v25 (rfl : (.f32 : EltTy) = .f32) shapeCasts_S4096x1024_S4096x8x128,
    StableHlo.binary main_v24 main_v24 main_v26 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_4 (constant S_ .f32 0x00000000#32),
    StableHlo.binary main_v26 main_cst_4 main_v27 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.unary main_v27 main_v28 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_cst_5 (constant S_ .f32 0x43000000#32),
    StableHlo.unary main_cst_5 main_v29 (broadcastInDim S4096x8x1 ![] bcast_S_S4096x8x1 : (⟨S_, .f32⟩ : BufTy).Contents (Elt F) → (⟨S4096x8x1, .f32⟩ : BufTy).Contents (Elt F)),
    StableHlo.binary main_v28 main_v29 main_v30 (Host.divf : (⟨S4096x8x1, .f32⟩ : BufTy).Contents (Elt F) → (⟨S4096x8x1, .f32⟩ : BufTy).Contents (Elt F) → (⟨S4096x8x1, .f32⟩ : BufTy).Contents (Elt F)),
    StableHlo.nullary main_cst_6 (constant S_ .f32 0x358637BD#32),
    StableHlo.unary main_cst_6 main_v31 (broadcastInDim S4096x8x1 ![] bcast_S_S4096x8x1 : (⟨S_, .f32⟩ : BufTy).Contents (Elt F) → (⟨S4096x8x1, .f32⟩ : BufTy).Contents (Elt F)),
    StableHlo.binary main_v30 main_v31 main_v32 (addf : (⟨S4096x8x1, .f32⟩ : BufTy).Contents (Elt F) → (⟨S4096x8x1, .f32⟩ : BufTy).Contents (Elt F) → (⟨S4096x8x1, .f32⟩ : BufTy).Contents (Elt F)),
    StableHlo.unary main_v32 main_v33 (Host.rsqrt : (⟨S4096x8x1, .f32⟩ : BufTy).Contents (Elt F) → (⟨S4096x8x1, .f32⟩ : BufTy).Contents (Elt F)),
    StableHlo.binary main_v33 main_v32 main_v34 (Host.divf : (⟨S4096x8x1, .f32⟩ : BufTy).Contents (Elt F) → (⟨S4096x8x1, .f32⟩ : BufTy).Contents (Elt F) → (⟨S4096x8x1, .f32⟩ : BufTy).Contents (Elt F)),
    StableHlo.nullary main_cst_7 (constant S_ .f32 0xBF000000#32),
    StableHlo.unary main_cst_7 main_v35 (broadcastInDim S4096x8x1 ![] bcast_S_S4096x8x1 : (⟨S_, .f32⟩ : BufTy).Contents (Elt F) → (⟨S4096x8x1, .f32⟩ : BufTy).Contents (Elt F)),
    StableHlo.binary main_v35 main_v34 main_v36 (mulf : (⟨S4096x8x1, .f32⟩ : BufTy).Contents (Elt F) → (⟨S4096x8x1, .f32⟩ : BufTy).Contents (Elt F) → (⟨S4096x8x1, .f32⟩ : BufTy).Contents (Elt F)),
    StableHlo.unary main_v33 main_v37 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v24 main_v37 main_v38 (mulf : (⟨S4096x8x128, .f32⟩ : BufTy).Contents (Elt F) → (⟨S4096x8x128, .f32⟩ : BufTy).Contents (Elt F) → (⟨S4096x8x128, .f32⟩ : BufTy).Contents (Elt F)),
    StableHlo.unary main_arg7 main_v39 (broadcastInDim S1x1x128 ![2] bcast_S128_S1x1x128_2 : (⟨S128, .f32⟩ : BufTy).Contents (Elt F) → (⟨S1x1x128, .f32⟩ : BufTy).Contents (Elt F)),
    StableHlo.unary main_v39 main_v40 (broadcastInDim S4096x8x128 ![0, 1, 2] bcast_S1x1x128_S4096x8x128_0_1_2 : (⟨S1x1x128, .f32⟩ : BufTy).Contents (Elt F) → (⟨S4096x8x128, .f32⟩ : BufTy).Contents (Elt F)),
    StableHlo.binary main_v38 main_v40 main_v41 (mulf : (⟨S4096x8x128, .f32⟩ : BufTy).Contents (Elt F) → (⟨S4096x8x128, .f32⟩ : BufTy).Contents (Elt F) → (⟨S4096x8x128, .f32⟩ : BufTy).Contents (Elt F)) ]

/-- Each touches references of the core only. -/
theorem mid0_sub : (mid0 : List (HloOp τ sig (Elt F))).Forall fun op => op.bufs ⊆ StableHlo.tcRefs τ sig :=
  ⟨StableHlo.unary_bufs_sub .., StableHlo.reshape_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- None allocates. -/
theorem mid0_fresh : (mid0 : List (HloOp τ sig (Elt F))).Forall fun op => op.fresh = ∅ :=
  StableHlo.forall_fresh_of_map rfl

/-- What they write. -/
abbrev mid0_W : List (Ref sig .tc) := [main_v23, main_v24, main_v25, main_v26, main_cst_4, main_v27, main_v28, main_cst_5, main_v29, main_v30, main_cst_6, main_v31, main_v32, main_v33, main_v34, main_cst_7, main_v35, main_v36, main_v37, main_v38, main_v39, main_v40, main_v41]

/-- They write nothing else. -/
theorem mid0_writes : (mid0 : List (HloOp τ sig (Elt F))).Forall fun op => op.writes ⊆ (mid0_W.map (Proc.devRef (τ := τ) .tc)).toFinset :=
  StableHlo.forall_writes_sub_of_map rfl

/-- Call call10. -/
abbrev mid1 : List (HloOp τ sig (Elt F)) :=
  siluOps (.of main_v25) (.of main_call10_v0) (.of main_call10_v1) (.of main_call10_cst) (.of main_call10_v2) (.of main_call10_v3) (.of main_call10_cst_0) (.of main_call10_v4) (.of main_v42_2) (.of main_call10_cst_1) (.of main_call10_v6) (.of main_call10_v7) (.of main_v42_1) (.of main_v42_0)

/-- Each touches references of the core only. -/
theorem mid1_sub : (mid1 : List (HloOp τ sig (Elt F))).Forall fun op => op.bufs ⊆ StableHlo.tcRefs τ sig :=
  siluOps_sub _ _ _ _ _ _ _ _ _ _ _ _ _ _

/-- None allocates. -/
theorem mid1_fresh : (mid1 : List (HloOp τ sig (Elt F))).Forall fun op => op.fresh = ∅ :=
  StableHlo.forall_fresh_of_map rfl

/-- What they write. -/
abbrev mid1_W : List (Ref sig .tc) := [main_call10_v0, main_call10_v1, main_call10_cst, main_call10_v2, main_call10_v3, main_call10_cst_0, main_call10_v4, main_v42_2, main_call10_cst_1, main_call10_v6, main_call10_v7, main_v42_1, main_v42_0]

/-- They write nothing else. -/
theorem mid1_writes : (mid1 : List (HloOp τ sig (Elt F))).Forall fun op => op.writes ⊆ (mid1_W.map (Proc.devRef (τ := τ) .tc)).toFinset :=
  StableHlo.forall_writes_sub_of_map rfl

/-- Stretch 3 of plain operations of this part. -/
abbrev mid2 : List (HloOp τ sig (Elt F)) :=
  [ StableHlo.binary main_v41 main_v42_0 main_v43 (mulf : (⟨S4096x8x128, .f32⟩ : BufTy).Contents (Elt F) → (⟨S4096x8x128, .f32⟩ : BufTy).Contents (Elt F) → (⟨S4096x8x128, .f32⟩ : BufTy).Contents (Elt F)),
    StableHlo.reshape main_v43 main_v44 (rfl : (.f32 : EltTy) = .f32) shapeCasts_S4096x8x128_S4096x1024,
    StableHlo.nullary main_cst_8 (constant S_ .f32 0x00000000#32),
    StableHlo.unary main_cst_8 main_v45 (broadcastInDim S8x128x128 ![] bcast_S_S8x128x128 : (⟨S_, .f32⟩ : BufTy).Contents (Elt F) → (⟨S8x128x128, .f32⟩ : BufTy).Contents (Elt F)),
    StableHlo.reshape main_v1 main_v46 (rfl : (.f32 : EltTy) = .f32) shapeCasts_S4096x1024_S4096x8x128,
    StableHlo.binary main_v41 main_v46 main_v47 (mulf : (⟨S4096x8x128, .f32⟩ : BufTy).Contents (Elt F) → (⟨S4096x8x128, .f32⟩ : BufTy).Contents (Elt F) → (⟨S4096x8x128, .f32⟩ : BufTy).Contents (Elt F)),
    StableHlo.binary main_v46 main_v42_0 main_v48 (mulf : (⟨S4096x8x128, .f32⟩ : BufTy).Contents (Elt F) → (⟨S4096x8x128, .f32⟩ : BufTy).Contents (Elt F) → (⟨S4096x8x128, .f32⟩ : BufTy).Contents (Elt F)) ]

/-- Each touches references of the core only. -/
theorem mid2_sub : (mid2 : List (HloOp τ sig (Elt F))).Forall fun op => op.bufs ⊆ StableHlo.tcRefs τ sig :=
  ⟨StableHlo.binary_bufs_sub .., StableHlo.reshape_bufs_sub .., StableHlo.nullary_bufs_sub .., StableHlo.unary_bufs_sub .., StableHlo.reshape_bufs_sub .., StableHlo.binary_bufs_sub .., StableHlo.binary_bufs_sub ..⟩

/-- None allocates. -/
theorem mid2_fresh : (mid2 : List (HloOp τ sig (Elt F))).Forall fun op => op.fresh = ∅ :=
  StableHlo.forall_fresh_of_map rfl

/-- What they write. -/
abbrev mid2_W : List (Ref sig .tc) := [main_v43, main_v44, main_cst_8, main_v45, main_v46, main_v47, main_v48]

/-- They write nothing else. -/
theorem mid2_writes : (mid2 : List (HloOp τ sig (Elt F))).Forall fun op => op.writes ⊆ (mid2_W.map (Proc.devRef (τ := τ) .tc)).toFinset :=
  StableHlo.forall_writes_sub_of_map rfl

/-- Call call11. -/
abbrev mid3 : List (HloOp τ sig (Elt F)) :=
  siluBackOps (.of main_v42_1) (.of main_v42_2) (.of main_v25) (.of main_v47) (.of main_call11_v0) (.of main_call11_v1) (.of main_call11_v2) (.of main_v49)

/-- Each touches references of the core only. -/
theorem mid3_sub : (mid3 : List (HloOp τ sig (Elt F))).Forall fun op => op.bufs ⊆ StableHlo.tcRefs τ sig :=
  siluBackOps_sub _ _ _ _ _ _ _ _

/-- None allocates. -/
theorem mid3_fresh : (mid3 : List (HloOp τ sig (Elt F))).Forall fun op => op.fresh = ∅ :=
  StableHlo.forall_fresh_of_map rfl

/-- What they write. -/
abbrev mid3_W : List (Ref sig .tc) := [main_call11_v0, main_call11_v1, main_call11_v2, main_v49]

/-- They write nothing else. -/
theorem mid3_writes : (mid3 : List (HloOp τ sig (Elt F))).Forall fun op => op.writes ⊆ (mid3_W.map (Proc.devRef (τ := τ) .tc)).toFinset :=
  StableHlo.forall_writes_sub_of_map rfl

/-- Stretch 5 of plain operations of this part. -/
abbrev mid4 : List (HloOp τ sig (Elt F)) :=
  [ StableHlo.binary main_v38 main_v48 main_v50 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_9 (constant S_ .f32 0x00000000#32),
    StableHlo.binary main_v50 main_cst_9 main_v51 ((fun x v => Host.reduceAdd x v reducesTo_S4096x8x128_S128_d0_1 h_S_) : (⟨S4096x8x128, .f32⟩ : BufTy).Contents (Elt F) → (⟨S_, .f32⟩ : BufTy).Contents (Elt F) → (⟨S128, .f32⟩ : BufTy).Contents (Elt F)),
    StableHlo.reshape main_v51 main_v52 (rfl : (.f32 : EltTy) = .f32) shapeCasts_S128_S1x1x128,
    StableHlo.unary main_v39 main_v53 (broadcastInDim S4096x8x128 ![0, 1, 2] bcast_S1x1x128_S4096x8x128_0_1_2 : (⟨S1x1x128, .f32⟩ : BufTy).Contents (Elt F) → (⟨S4096x8x128, .f32⟩ : BufTy).Contents (Elt F)),
    StableHlo.binary main_v48 main_v53 main_v54 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_10 (constant S_ .f32 0x00000000#32),
    StableHlo.binary main_v52 main_cst_10 main_v55 ((fun x v => Host.reduceAdd x v reducesTo_S1x1x128_S128_d0_1 h_S_) : (⟨S1x1x128, .f32⟩ : BufTy).Contents (Elt F) → (⟨S_, .f32⟩ : BufTy).Contents (Elt F) → (⟨S128, .f32⟩ : BufTy).Contents (Elt F)),
    StableHlo.binary main_v24 main_v54 main_v56 (mulf : (⟨S4096x8x128, .f32⟩ : BufTy).Contents (Elt F) → (⟨S4096x8x128, .f32⟩ : BufTy).Contents (Elt F) → (⟨S4096x8x128, .f32⟩ : BufTy).Contents (Elt F)),
    StableHlo.nullary main_cst_11 (constant S_ .f32 0x00000000#32),
    StableHlo.binary main_v56 main_cst_11 main_v57 ((fun x v => Host.reduceAdd x v reducesTo_S4096x8x128_S4096x8_d2 h_S_) : (⟨S4096x8x128, .f32⟩ : BufTy).Contents (Elt F) → (⟨S_, .f32⟩ : BufTy).Contents (Elt F) → (⟨S4096x8, .f32⟩ : BufTy).Contents (Elt F)),
    StableHlo.reshape main_v57 main_v58 (rfl : (.f32 : EltTy) = .f32) shapeCasts_S4096x8_S4096x8x1,
    StableHlo.unary main_v33 main_v59 (broadcastInDim S4096x8x128 ![0, 1, 2] bcast_S4096x8x1_S4096x8x128_0_1_2 : (⟨S4096x8x1, .f32⟩ : BufTy).Contents (Elt F) → (⟨S4096x8x128, .f32⟩ : BufTy).Contents (Elt F)),
    StableHlo.binary main_v54 main_v59 main_v60 (mulf : (⟨S4096x8x128, .f32⟩ : BufTy).Contents (Elt F) → (⟨S4096x8x128, .f32⟩ : BufTy).Contents (Elt F) → (⟨S4096x8x128, .f32⟩ : BufTy).Contents (Elt F)),
    StableHlo.binary main_v58 main_v36 main_v61 (mulf : (⟨S4096x8x1, .f32⟩ : BufTy).Contents (Elt F) → (⟨S4096x8x1, .f32⟩ : BufTy).Contents (Elt F) → (⟨S4096x8x1, .f32⟩ : BufTy).Contents (Elt F)),
    StableHlo.nullary main_cst_12 (constant S_ .f32 0x43000000#32),
    StableHlo.unary main_cst_12 main_v62 (broadcastInDim S4096x8x1 ![] bcast_S_S4096x8x1 : (⟨S_, .f32⟩ : BufTy).Contents (Elt F) → (⟨S4096x8x1, .f32⟩ : BufTy).Contents (Elt F)),
    StableHlo.binary main_v61 main_v62 main_v63 (Host.divf : (⟨S4096x8x1, .f32⟩ : BufTy).Contents (Elt F) → (⟨S4096x8x1, .f32⟩ : BufTy).Contents (Elt F) → (⟨S4096x8x1, .f32⟩ : BufTy).Contents (Elt F)),
    StableHlo.nullary main_cst_13 (constant S_ .f32 0x00000000#32),
    StableHlo.binary main_v63 main_cst_13 main_v64 ((fun x v => Host.reduceAdd x v reducesTo_S4096x8x1_S4096x8_d2 h_S_) : (⟨S4096x8x1, .f32⟩ : BufTy).Contents (Elt F) → (⟨S_, .f32⟩ : BufTy).Contents (Elt F) → (⟨S4096x8, .f32⟩ : BufTy).Contents (Elt F)),
    StableHlo.unary main_v64 main_v65 (broadcastInDim S4096x8x128 ![0, 1] bcast_S4096x8_S4096x8x128_0_1 : (⟨S4096x8, .f32⟩ : BufTy).Contents (Elt F) → (⟨S4096x8x128, .f32⟩ : BufTy).Contents (Elt F)),
    StableHlo.binary main_v24 main_v65 main_v66 (mulf : (⟨S4096x8x128, .f32⟩ : BufTy).Contents (Elt F) → (⟨S4096x8x128, .f32⟩ : BufTy).Contents (Elt F) → (⟨S4096x8x128, .f32⟩ : BufTy).Contents (Elt F)),
    StableHlo.binary main_v60 main_v66 main_v67 (addf : (⟨S4096x8x128, .f32⟩ : BufTy).Contents (Elt F) → (⟨S4096x8x128, .f32⟩ : BufTy).Contents (Elt F) → (⟨S4096x8x128, .f32⟩ : BufTy).Contents (Elt F)),
    StableHlo.binary main_v65 main_v24 main_v68 (mulf : (⟨S4096x8x128, .f32⟩ : BufTy).Contents (Elt F) → (⟨S4096x8x128, .f32⟩ : BufTy).Contents (Elt F) → (⟨S4096x8x128, .f32⟩ : BufTy).Contents (Elt F)),
    StableHlo.binary main_v67 main_v68 main_v69 (addf : (⟨S4096x8x128, .f32⟩ : BufTy).Contents (Elt F) → (⟨S4096x8x128, .f32⟩ : BufTy).Contents (Elt F) → (⟨S4096x8x128, .f32⟩ : BufTy).Contents (Elt F)),
    StableHlo.reshape main_v49 main_v70 (rfl : (.f32 : EltTy) = .f32) shapeCasts_S4096x8x128_S4096x1024,
    StableHlo.reshape main_v69 main_v71 (rfl : (.f32 : EltTy) = .f32) shapeCasts_S4096x8x128_S32x128x8x128,
    StableHlo.unary main_v71 main_v72 ((transpose S32x8x128x128 [0, 2, 1, 3] · transposes_S32x128x8x128_S32x8x128x128_0_2_1_3) : (⟨S32x128x8x128, .f32⟩ : BufTy).Contents (Elt F) → (⟨S32x8x128x128, .f32⟩ : BufTy).Contents (Elt F)),
    StableHlo.nullary main_cst_14 (constant S_ .f32 0x00000000#32),
    StableHlo.unary main_cst_14 main_v73 (broadcastInDim S8x128x128 ![] bcast_S_S8x128x128 : (⟨S_, .f32⟩ : BufTy).Contents (Elt F) → (⟨S8x128x128, .f32⟩ : BufTy).Contents (Elt F)),
    StableHlo.nullary main_cst_15 (constant S_ .f32 0x00000000#32),
    StableHlo.unary main_cst_15 main_v74 (broadcastInDim S32x8x128x128 ![] bcast_S_S32x8x128x128 : (⟨S_, .f32⟩ : BufTy).Contents (Elt F) → (⟨S32x8x128x128, .f32⟩ : BufTy).Contents (Elt F)),
    StableHlo.nullary main_cst_16 (constant S_ .f32 0x00000000#32),
    StableHlo.unary main_cst_16 main_v75 (broadcastInDim S32x8x128x128 ![] bcast_S_S32x8x128x128 : (⟨S_, .f32⟩ : BufTy).Contents (Elt F) → (⟨S32x8x128x128, .f32⟩ : BufTy).Contents (Elt F)),
    StableHlo.nullary main_cst_17 (constant S_ .f32 0x00000000#32),
    StableHlo.unary main_cst_17 main_v76 (broadcastInDim S32x8x128x128 ![] bcast_S_S32x8x128x128 : (⟨S_, .f32⟩ : BufTy).Contents (Elt F) → (⟨S32x8x128x128, .f32⟩ : BufTy).Contents (Elt F)),
    StableHlo.nullary main_cst_18 (constant S_ .f32 0x00000000#32),
    StableHlo.unary main_cst_18 main_v77 (broadcastInDim S32x8x128x128 ![] bcast_S_S32x8x128x128 : (⟨S_, .f32⟩ : BufTy).Contents (Elt F) → (⟨S32x8x128x128, .f32⟩ : BufTy).Contents (Elt F)),
    StableHlo.nullary main_cst_19 (constant S_ .f32 0x00000000#32),
    StableHlo.unary main_cst_19 main_v78 (broadcastInDim S32x8x128x128 ![] bcast_S_S32x8x128x128 : (⟨S_, .f32⟩ : BufTy).Contents (Elt F) → (⟨S32x8x128x128, .f32⟩ : BufTy).Contents (Elt F)),
    StableHlo.nullary main_cst_20 (constant S_ .f32 0x00000000#32),
    StableHlo.unary main_cst_20 main_v79 (broadcastInDim S32x8 ![] bcast_S_S32x8 : (⟨S_, .f32⟩ : BufTy).Contents (Elt F) → (⟨S32x8, .f32⟩ : BufTy).Contents (Elt F)),
    StableHlo.nullary main_c_21 (constantI S_ 32 0#32),
    StableHlo.unary main_v72 main_v80_0 id,
    StableHlo.unary main_v22_9 main_v80_1 id,
    StableHlo.unary main_v7 main_v80_2 id,
    StableHlo.unary main_v4 main_v80_3 id,
    StableHlo.unary main_v22_10 main_v80_4 id,
    StableHlo.unary main_v12 main_v80_5 id,
    StableHlo.unary main_v22_11 main_v80_6 id,
    StableHlo.unary main_v15 main_v80_7 id,
    StableHlo.unary main_c_21 main_v80_8 id,
    StableHlo.unary main_v73 main_v80_9 id,
    StableHlo.unary main_v74 main_v80_10 id,
    StableHlo.unary main_v75 main_v80_11 id,
    StableHlo.unary main_v76 main_v80_12 id,
    StableHlo.unary main_v77 main_v80_13 id,
    StableHlo.unary main_v78 main_v80_14 id,
    StableHlo.unary main_v79 main_v80_15 id ]

/-- Each touches references of the core only. -/
theorem mid4_sub : (mid4 : List (HloOp τ sig (Elt F))).Forall fun op => op.bufs ⊆ StableHlo.tcRefs τ sig :=
  ⟨StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.reshape_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- None allocates. -/
theorem mid4_fresh : (mid4 : List (HloOp τ sig (Elt F))).Forall fun op => op.fresh = ∅ :=
  StableHlo.forall_fresh_of_map rfl

/-- What they write. -/
abbrev mid4_W : List (Ref sig .tc) := [main_v50, main_cst_9, main_v51, main_v52, main_v53, main_v54, main_cst_10, main_v55, main_v56, main_cst_11, main_v57, main_v58, main_v59, main_v60, main_v61, main_cst_12, main_v62, main_v63, main_cst_13, main_v64, main_v65, main_v66, main_v67, main_v68, main_v69, main_v70, main_v71, main_v72, main_cst_14, main_v73, main_cst_15, main_v74, main_cst_16, main_v75, main_cst_17, main_v76, main_cst_18, main_v77, main_cst_19, main_v78, main_cst_20, main_v79, main_c_21, main_v80_0, main_v80_1, main_v80_2, main_v80_3, main_v80_4, main_v80_5, main_v80_6, main_v80_7, main_v80_8, main_v80_9, main_v80_10, main_v80_11, main_v80_12, main_v80_13, main_v80_14, main_v80_15]

/-- They write nothing else. -/
theorem mid4_writes : (mid4 : List (HloOp τ sig (Elt F))).Forall fun op => op.writes ⊆ (mid4_W.map (Proc.devRef (τ := τ) .tc)).toFinset :=
  StableHlo.forall_writes_sub_of_map rfl

/-- Stretch 1 of plain operations of this part. -/
abbrev post0 : List (HloOp τ sig (Elt F)) :=
  [ StableHlo.unary main_v80_15 main_v81 ((transpose S8x32 [1, 0] · transposes_S32x8_S8x32_1_0) : (⟨S32x8, .f32⟩ : BufTy).Contents (Elt F) → (⟨S8x32, .f32⟩ : BufTy).Contents (Elt F)),
    StableHlo.unary main_v80_14 main_v82 ((transpose S32x128x8x128 [0, 2, 1, 3] · transposes_S32x8x128x128_S32x128x8x128_0_2_1_3) : (⟨S32x8x128x128, .f32⟩ : BufTy).Contents (Elt F) → (⟨S32x128x8x128, .f32⟩ : BufTy).Contents (Elt F)),
    StableHlo.reshape main_v82 main_v83 (rfl : (.f32 : EltTy) = .f32) shapeCasts_S32x128x8x128_S4096x1024,
    StableHlo.unary main_v83 main_v84 ((truncf .bf16 · bitsLt_bf16_f32) : (⟨S4096x1024, .f32⟩ : BufTy).Contents (Elt F) → (⟨S4096x1024, .bf16⟩ : BufTy).Contents (Elt F)),
    StableHlo.unary main_v80_13 main_v85 ((transpose S32x128x8x128 [0, 2, 1, 3] · transposes_S32x8x128x128_S32x128x8x128_0_2_1_3) : (⟨S32x8x128x128, .f32⟩ : BufTy).Contents (Elt F) → (⟨S32x128x8x128, .f32⟩ : BufTy).Contents (Elt F)),
    StableHlo.reshape main_v85 main_v86 (rfl : (.f32 : EltTy) = .f32) shapeCasts_S32x128x8x128_S4096x1024,
    StableHlo.unary main_v86 main_v87 ((truncf .bf16 · bitsLt_bf16_f32) : (⟨S4096x1024, .f32⟩ : BufTy).Contents (Elt F) → (⟨S4096x1024, .bf16⟩ : BufTy).Contents (Elt F)),
    StableHlo.unary main_v80_12 main_v88 ((transpose S32x128x8x128 [0, 2, 1, 3] · transposes_S32x8x128x128_S32x128x8x128_0_2_1_3) : (⟨S32x8x128x128, .f32⟩ : BufTy).Contents (Elt F) → (⟨S32x128x8x128, .f32⟩ : BufTy).Contents (Elt F)),
    StableHlo.reshape main_v88 main_v89 (rfl : (.f32 : EltTy) = .f32) shapeCasts_S32x128x8x128_S4096x1024,
    StableHlo.unary main_v80_11 main_v90 ((transpose S32x128x8x128 [0, 2, 1, 3] · transposes_S32x8x128x128_S32x128x8x128_0_2_1_3) : (⟨S32x8x128x128, .f32⟩ : BufTy).Contents (Elt F) → (⟨S32x128x8x128, .f32⟩ : BufTy).Contents (Elt F)),
    StableHlo.reshape main_v90 main_v91 (rfl : (.f32 : EltTy) = .f32) shapeCasts_S32x128x8x128_S4096x1024,
    StableHlo.unary main_v91 main_v92 ((truncf .bf16 · bitsLt_bf16_f32) : (⟨S4096x1024, .f32⟩ : BufTy).Contents (Elt F) → (⟨S4096x1024, .bf16⟩ : BufTy).Contents (Elt F)),
    StableHlo.unary main_v80_10 main_v93 ((transpose S32x128x8x128 [0, 2, 1, 3] · transposes_S32x8x128x128_S32x128x8x128_0_2_1_3) : (⟨S32x8x128x128, .f32⟩ : BufTy).Contents (Elt F) → (⟨S32x128x8x128, .f32⟩ : BufTy).Contents (Elt F)),
    StableHlo.reshape main_v93 main_v94 (rfl : (.f32 : EltTy) = .f32) shapeCasts_S32x128x8x128_S4096x1024,
    StableHlo.unary main_v94 main_v95 ((truncf .bf16 · bitsLt_bf16_f32) : (⟨S4096x1024, .f32⟩ : BufTy).Contents (Elt F) → (⟨S4096x1024, .bf16⟩ : BufTy).Contents (Elt F)),
    StableHlo.unary main_v89 main_v96 ((truncf .bf16 · bitsLt_bf16_f32) : (⟨S4096x1024, .f32⟩ : BufTy).Contents (Elt F) → (⟨S4096x1024, .bf16⟩ : BufTy).Contents (Elt F)),
    StableHlo.unary main_v70 main_v97 ((truncf .bf16 · bitsLt_bf16_f32) : (⟨S4096x1024, .f32⟩ : BufTy).Contents (Elt F) → (⟨S4096x1024, .bf16⟩ : BufTy).Contents (Elt F)) ]

/-- Each touches references of the core only. -/
theorem post0_sub : (post0 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub ..⟩

/-- None allocates. -/
theorem post0_fresh : (post0 : List (HloOp τ sig (Elt F))).Forall fun op => op.fresh = ∅ :=
  StableHlo.forall_fresh_of_map rfl

/-- What they write. -/
abbrev post0_W : List (Ref sig .tc) := [main_v81, main_v82, main_v83, main_v84, main_v85, main_v86, main_v87, main_v88, main_v89, main_v90, main_v91, main_v92, main_v93, main_v94, main_v95, main_v96, main_v97]

/-- They write nothing else. -/
theorem post0_writes : (post0 : List (HloOp τ sig (Elt F))).Forall fun op => op.writes ⊆ (post0_W.map (Proc.devRef (τ := τ) .tc)).toFinset :=
  StableHlo.forall_writes_sub_of_map rfl

/-- One trip of the forward loop. -/
abbrev trip0 : List (List (HloOp τ sig (Elt F))) :=
  [trip0_0, trip0_1, trip0_2, trip0_3, trip0_4, trip0_5, trip0_6, trip0_7, trip0_8, trip0_9, trip0_10, trip0_11]

/-- They are plain host operations. -/
theorem trip0_plain : StableHlo.Plain (trip0 (F := F)) :=
  .cons trip0_0_sub (hf := List.forall_iff_forall_mem.mp trip0_0_fresh) <| .cons trip0_1_sub (hf := List.forall_iff_forall_mem.mp trip0_1_fresh) <| .cons trip0_2_sub (hf := List.forall_iff_forall_mem.mp trip0_2_fresh) <| .cons trip0_3_sub (hf := List.forall_iff_forall_mem.mp trip0_3_fresh) <| .cons trip0_4_sub (hf := List.forall_iff_forall_mem.mp trip0_4_fresh) <| .cons trip0_5_sub (hf := List.forall_iff_forall_mem.mp trip0_5_fresh) <| .cons trip0_6_sub (hf := List.forall_iff_forall_mem.mp trip0_6_fresh) <| .cons trip0_7_sub (hf := List.forall_iff_forall_mem.mp trip0_7_fresh) <| .cons trip0_8_sub (hf := List.forall_iff_forall_mem.mp trip0_8_fresh) <| .cons trip0_9_sub (hf := List.forall_iff_forall_mem.mp trip0_9_fresh) <| .cons trip0_10_sub (hf := List.forall_iff_forall_mem.mp trip0_10_fresh) <| .cons trip0_11_sub (hf := List.forall_iff_forall_mem.mp trip0_11_fresh) .nil

/-- One trip of the backward loop. -/
abbrev trip1 : List (List (HloOp τ sig (Elt F))) :=
  [trip1_0, trip1_1, trip1_2, trip1_3, trip1_4, trip1_5, trip1_6, trip1_7, trip1_8, trip1_9, trip1_10, trip1_11, trip1_12, trip1_13, trip1_14, trip1_15, trip1_16]

/-- They are plain host operations. -/
theorem trip1_plain : StableHlo.Plain (trip1 (F := F)) :=
  .cons trip1_0_sub (hf := List.forall_iff_forall_mem.mp trip1_0_fresh) <| .cons trip1_1_sub (hf := List.forall_iff_forall_mem.mp trip1_1_fresh) <| .cons trip1_2_sub (hf := List.forall_iff_forall_mem.mp trip1_2_fresh) <| .cons trip1_3_sub (hf := List.forall_iff_forall_mem.mp trip1_3_fresh) <| .cons trip1_4_sub (hf := List.forall_iff_forall_mem.mp trip1_4_fresh) <| .cons trip1_5_sub (hf := List.forall_iff_forall_mem.mp trip1_5_fresh) <| .cons trip1_6_sub (hf := List.forall_iff_forall_mem.mp trip1_6_fresh) <| .cons trip1_7_sub (hf := List.forall_iff_forall_mem.mp trip1_7_fresh) <| .cons trip1_8_sub (hf := List.forall_iff_forall_mem.mp trip1_8_fresh) <| .cons trip1_9_sub (hf := List.forall_iff_forall_mem.mp trip1_9_fresh) <| .cons trip1_10_sub (hf := List.forall_iff_forall_mem.mp trip1_10_fresh) <| .cons trip1_11_sub (hf := List.forall_iff_forall_mem.mp trip1_11_fresh) <| .cons trip1_12_sub (hf := List.forall_iff_forall_mem.mp trip1_12_fresh) <| .cons trip1_13_sub (hf := List.forall_iff_forall_mem.mp trip1_13_fresh) <| .cons trip1_14_sub (hf := List.forall_iff_forall_mem.mp trip1_14_fresh) <| .cons trip1_15_sub (hf := List.forall_iff_forall_mem.mp trip1_15_fresh) <| .cons trip1_16_sub (hf := List.forall_iff_forall_mem.mp trip1_16_fresh) .nil

/-- What comes before the forward loop. -/
abbrev pre : List (List (HloOp τ sig (Elt F))) :=
  [pre0]

/-- They are plain host operations. -/
theorem pre_plain : StableHlo.Plain (pre (F := F)) :=
  .cons pre0_sub (hf := List.forall_iff_forall_mem.mp pre0_fresh) .nil

/-- What lies between the two loops. -/
abbrev mid : List (List (HloOp τ sig (Elt F))) :=
  [mid0, mid1, mid2, mid3, mid4]

/-- They are plain host operations. -/
theorem mid_plain : StableHlo.Plain (mid (F := F)) :=
  .cons mid0_sub (hf := List.forall_iff_forall_mem.mp mid0_fresh) <| .cons mid1_sub (hf := List.forall_iff_forall_mem.mp mid1_fresh) <| .cons mid2_sub (hf := List.forall_iff_forall_mem.mp mid2_fresh) <| .cons mid3_sub (hf := List.forall_iff_forall_mem.mp mid3_fresh) <| .cons mid4_sub (hf := List.forall_iff_forall_mem.mp mid4_fresh) .nil

/-- What comes after the backward loop. -/
abbrev post : List (List (HloOp τ sig (Elt F))) :=
  [post0]

/-- They are plain host operations. -/
theorem post_plain : StableHlo.Plain (post (F := F)) :=
  .cons post0_sub (hf := List.forall_iff_forall_mem.mp post0_fresh) .nil

/-- What each stretch of `trip0` writes. -/
abbrev trip0_Ws : List (List (Ref sig .tc)) :=
  [trip0_0_W, trip0_1_W, trip0_2_W, trip0_3_W, trip0_4_W, trip0_5_W, trip0_6_W, trip0_7_W, trip0_8_W, trip0_9_W, trip0_10_W, trip0_11_W]

/-- They write nothing else. -/
theorem trip0_writes : List.Forall₂ Within (trip0 (F := F)) trip0_Ws :=
  .cons trip0_0_writes <| .cons trip0_1_writes <| .cons trip0_2_writes <| .cons trip0_3_writes <| .cons trip0_4_writes <| .cons trip0_5_writes <| .cons trip0_6_writes <| .cons trip0_7_writes <| .cons trip0_8_writes <| .cons trip0_9_writes <| .cons trip0_10_writes <| .cons trip0_11_writes .nil

/-- What each stretch of `trip1` writes. -/
abbrev trip1_Ws : List (List (Ref sig .tc)) :=
  [trip1_0_W, trip1_1_W, trip1_2_W, trip1_3_W, trip1_4_W, trip1_5_W, trip1_6_W, trip1_7_W, trip1_8_W, trip1_9_W, trip1_10_W, trip1_11_W, trip1_12_W, trip1_13_W, trip1_14_W, trip1_15_W, trip1_16_W]

/-- They write nothing else. -/
theorem trip1_writes : List.Forall₂ Within (trip1 (F := F)) trip1_Ws :=
  .cons trip1_0_writes <| .cons trip1_1_writes <| .cons trip1_2_writes <| .cons trip1_3_writes <| .cons trip1_4_writes <| .cons trip1_5_writes <| .cons trip1_6_writes <| .cons trip1_7_writes <| .cons trip1_8_writes <| .cons trip1_9_writes <| .cons trip1_10_writes <| .cons trip1_11_writes <| .cons trip1_12_writes <| .cons trip1_13_writes <| .cons trip1_14_writes <| .cons trip1_15_writes <| .cons trip1_16_writes .nil

/-- What each stretch of `pre` writes. -/
abbrev pre_Ws : List (List (Ref sig .tc)) :=
  [pre0_W]

/-- They write nothing else. -/
theorem pre_writes : List.Forall₂ Within (pre (F := F)) pre_Ws :=
  .cons pre0_writes .nil

/-- What each stretch of `mid` writes. -/
abbrev mid_Ws : List (List (Ref sig .tc)) :=
  [mid0_W, mid1_W, mid2_W, mid3_W, mid4_W]

/-- They write nothing else. -/
theorem mid_writes : List.Forall₂ Within (mid (F := F)) mid_Ws :=
  .cons mid0_writes <| .cons mid1_writes <| .cons mid2_writes <| .cons mid3_writes <| .cons mid4_writes .nil

/-- What each stretch of `post` writes. -/
abbrev post_Ws : List (List (Ref sig .tc)) :=
  [post0_W]

/-- They write nothing else. -/
theorem post_writes : List.Forall₂ Within (post (F := F)) post_Ws :=
  .cons post0_writes .nil

/-- The forward loop’s body, as its stretches in order. -/
theorem trip0_chain : main_while0_body (F := F) = (Pipeline.chain
  [StableHlo.seq trip0_0, StableHlo.seq trip0_1, StableHlo.seq trip0_2, StableHlo.seq trip0_3, StableHlo.seq trip0_4, StableHlo.seq trip0_5, StableHlo.seq trip0_6, StableHlo.seq trip0_7, StableHlo.seq trip0_8, StableHlo.seq trip0_9, StableHlo.seq trip0_10, StableHlo.seq trip0_11] :
    Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- The backward loop’s body, as its stretches in order. -/
theorem trip1_chain : main_while1_body (F := F) = (Pipeline.chain
  [StableHlo.seq trip1_0, StableHlo.seq trip1_1, StableHlo.seq trip1_2, StableHlo.seq trip1_3, StableHlo.seq trip1_4, StableHlo.seq trip1_5, StableHlo.seq trip1_6, StableHlo.seq trip1_7, StableHlo.seq trip1_8, StableHlo.seq trip1_9, StableHlo.seq trip1_10, StableHlo.seq trip1_11, StableHlo.seq trip1_12, StableHlo.seq trip1_13, StableHlo.seq trip1_14, StableHlo.seq trip1_15, StableHlo.seq trip1_16] :
    Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

/-- The whole program, as its stretches and its two loops in order. -/
theorem main_chain (c : Dev nD) : main (F := F) c = (Pipeline.chain
  [StableHlo.seq pre0, HostLoop.enter 0, StableHlo.seq mid0, StableHlo.seq mid1, StableHlo.seq mid2, StableHlo.seq mid3, StableHlo.seq mid4, HostLoop.enter 1, StableHlo.seq post0] :
    Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.Proof.Ref

end
-- ==== Proof.RefRun.lean ====
/- The reference program's run: both counted loops make their 32 trips and leave, so every weakly fair execution ends with
   every value of the program at the fold of its stretches, and the arguments as they were. -/
module

public import proofs.«01_k».proof.Proof.RefOps
public import Idealize.ShloMosaic.Lib.Scf.ExitTest
public import Idealize.ShloMosaic.Lib.Scf.Counter
public import Idealize.ShloMosaic.Adequacy
public import Idealize.ShloMosaic.Init

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo
open Idealize.ShloMosaic.Pipeline (CSeg Ticket ucRefs sub_ucRefs)
open Idealize.SL Idealize.SL.RA Idealize.SL.BI
open scoped Idealize.SL.BI
open Idealize.SL.BI.BIBase Idealize.SL.Sem

variable {F : FTy → Type} [FloatOps F]

/-- The state the run is proved over; nothing of its ghost part is used. -/
local notation "𝕄" => MT nD τ sig Unit (Elt F) ℕ (Option PUnit) ℕ

/-! ## The loops' tests -/

/-- The forward loop's test: its bound, and whether the counter lies below it. -/
abbrev test0 : List (HloOp τ sig (Elt F)) :=
  [ StableHlo.nullary main_while0c_c_33 (constantI S_ 32 32#32),
    StableHlo.binary main_v22_6 main_while0c_c_33 main_while0c_v98 (cmpi .slt : (⟨S_, .i32⟩ : BufTy).Contents (Elt F) → (⟨S_, .i32⟩ : BufTy).Contents (Elt F) → (⟨S_, .i1⟩ : BufTy).Contents (Elt F)) ]

/-- The backward loop's test. -/
abbrev test1 : List (HloOp τ sig (Elt F)) :=
  [ StableHlo.nullary main_while1c_c_37 (constantI S_ 32 32#32),
    StableHlo.binary main_v80_8 main_while1c_c_37 main_while1c_v98 (cmpi .slt : (⟨S_, .i32⟩ : BufTy).Contents (Elt F) → (⟨S_, .i32⟩ : BufTy).Contents (Elt F) → (⟨S_, .i1⟩ : BufTy).Contents (Elt F)) ]

/-- A reference neither the bound nor the test's own keeps its contents through the forward loop's test. -/
theorem test0_spares {r : Ref sig .tc} (hr : r ∉ [main_while0c_c_33, main_while0c_v98]) (V : Valuation τ sig (Elt F)) :
    after test0 V (Proc.devRef .tc r) = V (Proc.devRef .tc r) :=
  after_of_writes_sub _ V (forall_writes_sub_of_map rfl) hr

/-- And through the backward loop's. -/
theorem test1_spares {r : Ref sig .tc} (hr : r ∉ [main_while1c_c_37, main_while1c_v98]) (V : Valuation τ sig (Elt F)) :
    after test1 V (Proc.devRef .tc r) = V (Proc.devRef .tc r) :=
  after_of_writes_sub _ V (forall_writes_sub_of_map rfl) hr

/-! ## Every buffer through the program -/

variable (m : (ℓ : Loc nD τ sig) → Buf (Elt F) ℓ)

/-- Every buffer where the forward loop is entered. -/
abbrev enter0 (c : Dev nD) : Valuation τ sig (Elt F) := afterL pre (launchContents m c)

/-- Every buffer before the forward loop's `k`-th test. -/
abbrev fwd (k : ℕ) (c : Dev nD) : Valuation τ sig (Elt F) := atTrip test0 trip0 (enter0 m) k c

/-- Every buffer where the backward loop is entered. -/
abbrev enter1 (c : Dev nD) : Valuation τ sig (Elt F) := afterL mid (after test0 (fwd m 32 c))

/-- Every buffer before the backward loop's `k`-th test. -/
abbrev bwd (k : ℕ) (c : Dev nD) : Valuation τ sig (Elt F) := atTrip test1 trip1 (enter1 m) k c

/-- Every buffer at the end. -/
abbrev final (c : Dev nD) : Valuation τ sig (Elt F) := afterL post (after test1 (bwd m 32 c))

/-- What one trip leaves of a reference it does not write. -/
theorem fwd_spares {r : Ref sig .tc} (h : ∀ W ∈ trip0_Ws, r ∉ W) (h' : r ∉ [main_while0c_c_33, main_while0c_v98]) (c : Dev nD) :
    ∀ k, fwd m k c (Proc.devRef .tc r) = enter0 m c (Proc.devRef .tc r)
  | 0 => rfl
  | k + 1 => by
    show afterL trip0 (after test0 (fwd m k c)) _ = _
    rw [spares trip0_writes h, test0_spares h', fwd_spares h h' c k]

/-- The same of the backward loop. -/
theorem bwd_spares {r : Ref sig .tc} (h : ∀ W ∈ trip1_Ws, r ∉ W) (h' : r ∉ [main_while1c_c_37, main_while1c_v98]) (c : Dev nD) :
    ∀ k, bwd m k c (Proc.devRef .tc r) = enter1 m c (Proc.devRef .tc r)
  | 0 => rfl
  | k + 1 => by
    show afterL trip1 (after test1 (bwd m k c)) _ = _
    rw [spares trip1_writes h, test1_spares h', bwd_spares h h' c k]

/-! ## The counters -/

/-- The forward loop is entered with its counter at zero. -/
theorem enter0_counter (c : Dev nD) : enter0 m c (Proc.devRef .tc main_v22_6) = fun _ => 0#32 := by
  show after pre0 (launchContents m c) (Proc.devRef .tc main_v22_6) = _
  unfold pre0
  after_reads_simp
  rfl

/-- The last stretch of a forward trip raises the counter by one. -/
theorem trip0_counter (V : Valuation τ sig (Elt F)) :
    after trip0_11 V (Proc.devRef .tc main_v22_6) = addi (V (Proc.devRef .tc main_v22_6)) (constantI S_ 32 1#32) := by
  unfold trip0_11
  after_reads_simp
  rfl

/-- Before the forward loop's `k`-th test its counter is `k`. -/
theorem fwd_counter (c : Dev nD) : ∀ k, fwd m k c (Proc.devRef .tc main_v22_6) = fun _ => Scf.iv 0#32 1#32 k
  | 0 => by rw [show fwd m 0 c = enter0 m c from rfl, enter0_counter, Scf.iv_zero]
  | k + 1 => by
    have ih := fwd_counter c k
    show after trip0_11 (afterL [trip0_0, trip0_1, trip0_2, trip0_3, trip0_4, trip0_5, trip0_6, trip0_7, trip0_8, trip0_9, trip0_10]
      (after test0 (fwd m k c))) (Proc.devRef .tc main_v22_6) = _
    rw [trip0_counter, spares (.cons trip0_0_writes <| .cons trip0_1_writes <| .cons trip0_2_writes <| .cons trip0_3_writes <|
      .cons trip0_4_writes <| .cons trip0_5_writes <| .cons trip0_6_writes <| .cons trip0_7_writes <| .cons trip0_8_writes <|
      .cons trip0_9_writes <| .cons trip0_10_writes .nil) (by decide +kernel), test0_spares (by decide +kernel), ih, Scf.iv_succ]
    rfl

/-- The backward loop is entered with its counter at zero. -/
theorem enter1_counter (c : Dev nD) : enter1 m c (Proc.devRef .tc main_v80_8) = fun _ => 0#32 := by
  show after mid4 (afterL [mid0, mid1, mid2, mid3] (after test0 (fwd m 32 c))) (Proc.devRef .tc main_v80_8) = _
  unfold mid4
  after_reads_simp
  rfl

/-- The last stretch of a backward trip raises the counter by one. -/
theorem trip1_counter (V : Valuation τ sig (Elt F)) :
    after trip1_16 V (Proc.devRef .tc main_v80_8) = addi (V (Proc.devRef .tc main_v80_8)) (constantI S_ 32 1#32) := by
  unfold trip1_16
  after_reads_simp
  rfl

/-- Before the backward loop's `k`-th test its counter is `k`. -/
theorem bwd_counter (c : Dev nD) : ∀ k, bwd m k c (Proc.devRef .tc main_v80_8) = fun _ => Scf.iv 0#32 1#32 k
  | 0 => by rw [show bwd m 0 c = enter1 m c from rfl, enter1_counter, Scf.iv_zero]
  | k + 1 => by
    have ih := bwd_counter c k
    show after trip1_16 (afterL [trip1_0, trip1_1, trip1_2, trip1_3, trip1_4, trip1_5, trip1_6, trip1_7, trip1_8, trip1_9, trip1_10,
      trip1_11, trip1_12, trip1_13, trip1_14, trip1_15] (after test1 (bwd m k c))) (Proc.devRef .tc main_v80_8) = _
    rw [trip1_counter, spares (.cons trip1_0_writes <| .cons trip1_1_writes <| .cons trip1_2_writes <| .cons trip1_3_writes <|
      .cons trip1_4_writes <| .cons trip1_5_writes <| .cons trip1_6_writes <| .cons trip1_7_writes <| .cons trip1_8_writes <|
      .cons trip1_9_writes <| .cons trip1_10_writes <| .cons trip1_11_writes <| .cons trip1_12_writes <| .cons trip1_13_writes <|
      .cons trip1_14_writes <| .cons trip1_15_writes .nil) (by decide +kernel), test1_spares (by decide +kernel), ih, Scf.iv_succ]
    rfl

/-! ## The tests, run -/

/-- What rides along beside the buffers. -/
abbrev beside (c : Dev nD) : sProp 𝕄 := iprop(∃ W, owes (c : Thread nD τ) (0 : CellTallies nD τ sig Unit) W)

set_option backward.isDefEq.respectTransparency.types false in
/-- The forward loop's test, run before trip `k`: it says whether `k < 32` and writes only its own two values. -/
theorem test0_run : LoopCond (pcfgs (F := F)) defs₀ Variants.none loops (beside (F := F)) main_while0_cond test0 trip0 (enter0 m) 32 := by
  intro k hk c bd
  have hctr := fwd_counter m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (fwd m k c) (Proc.devRef .tc main_v22_6) HostLoop.idx0)
      (HloOp.result _ (fwd m k c) (Proc.devRef .tc main_while0c_c_33) HostLoop.idx0) = 1#1) (k < 32)
    rw [nullary_result_ne _ _ _ _ (by decide), nullary_result, hctr]
    exact Scf.cmpi_slt_iv_ub_iff (lb := 0#32) (ub := 32#32) (st := 1#32) (by decide) (hk.trans (by decide))
  isplitl [Hb]; · iexact Hb
  isplitl [Hh]
  · rw [after_cons, after_cons, after_nil]; iexact Hh
  iexact HR

set_option backward.isDefEq.respectTransparency.types false in
/-- The backward loop's test. -/
theorem test1_run : LoopCond (pcfgs (F := F)) defs₀ Variants.none loops (beside (F := F)) main_while1_cond test1 trip1 (enter1 m) 32 := by
  intro k hk c bd
  have hctr := bwd_counter m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (bwd m k c) (Proc.devRef .tc main_v80_8) HostLoop.idx0)
      (HloOp.result _ (bwd m k c) (Proc.devRef .tc main_while1c_c_37) HostLoop.idx0) = 1#1) (k < 32)
    rw [nullary_result_ne _ _ _ _ (by decide), nullary_result, hctr]
    exact Scf.cmpi_slt_iv_ub_iff (lb := 0#32) (ub := 32#32) (st := 1#32) (by decide) (hk.trans (by decide))
  isplitl [Hb]; · iexact Hb
  isplitl [Hh]
  · rw [after_cons, after_cons, after_nil]; iexact Hh
  iexact HR

/-! ## The run -/

/-- No pipeline, so nothing to admit. -/
abbrev none_admitted : (p : Fin 0) → (pcfgs (F := F) p).Adm := fun p => p.elim0
/-- No ticket. -/
abbrev no_tickets : Fin 0 → Ticket (Ix := Unit) (Name := ℕ) (U := Option PUnit) (Lvl := ℕ) (nD := nD) (τ := τ) (pcfgs (F := F)) none_admitted := fun j => j.elim0
/-- No semaphore is waited on. -/
abbrev no_waits : GSem nD τ sig → Finset Unit := fun _ => ∅
/-- And none has a level to keep. -/
abbrev flat : GSem nD τ sig → Unit → ℕ := fun _ _ => 0

/-- The program's pieces: the stretches before, the forward loop, those between, the backward loop, those after. -/
def pieces : List (CSeg (pcfgs (F := F)) none_admitted defs₀ Variants.none no_waits flat loops no_tickets) :=
  segsOf _ _ _ _ _ _ _ _ beside pre pre_plain (launchContents m)
    ++ (loopSeg _ _ _ _ _ _ _ _ 0 main_while0_cond main_while0_body rfl test0 trip0 trip0_plain trip0_chain 32 (enter0 m) beside (test0_run m)
      :: (segsOf _ _ _ _ _ _ _ _ beside mid mid_plain (fun c => after test0 (fwd m 32 c))
        ++ (loopSeg _ _ _ _ _ _ _ _ 1 main_while1_cond main_while1_body rfl test1 trip1 trip1_plain trip1_chain 32 (enter1 m) beside (test1_run m)
          :: segsOf _ _ _ _ _ _ _ _ beside post post_plain (fun c => after test1 (bwd m 32 c)))))

/-- The pieces in order are the program. -/
theorem main_pieces (c : Dev nD) : main (F := F) c = Pipeline.chain ((pieces m).map CSeg.prog) := by
  rw [main_chain]
  unfold pieces
  rw [List.map_append, List.map_cons, List.map_append, List.map_cons, segsOf_prog, segsOf_prog, segsOf_prog]
  rfl

/-- And each piece ends where the next begins. -/
theorem pieces_meet : CSeg.Chains (fun c => iprop(held (c : Thread nD τ) (ucRefs τ sig) (launchContents m c) ∗ beside c)) (pieces m)
    (fun c => iprop(iprop(held (c : Thread nD τ) (ucRefs τ sig) (final m c)) ∗ ∃ W, owes (c : Thread nD τ) (0 : CellTallies nD τ sig Unit) W)) := by
  unfold pieces
  exact CSeg.Chains.append (segsOf_chains _ _ _ _ _ _ _ _ beside pre pre_plain _) ⟨fun _ => .rfl,
    CSeg.Chains.append (segsOf_chains _ _ _ _ _ _ _ _ beside mid mid_plain _) ⟨fun _ => .rfl,
      segsOf_chains _ _ _ _ _ _ _ _ beside post post_plain _⟩⟩

/-- The run: every weakly fair execution ends, with every value of the program at the fold of its stretches. -/
theorem run_final (ρ : Dev nD → PrngReg) : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    pcfgs none_admitted (fun k => k.1.elim0) defs₀ Variants.none no_waits flat loops no_tickets m ρ main (pieces m)
    (fun c Q => by rw [main_pieces m c]; exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ beside c))
    (Tₙ := fun c => iprop(held (c : Thread nD τ) (ucRefs τ sig) (final m c)))
    (hch := pieces_meet m)
    (hinit := by
      refine Pipeline.initEach no_waits flat fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- A reference no stretch and no test writes is at the end what it was at launch. -/
theorem final_spares {r : Ref sig .tc} (h : ∀ W ∈ pre_Ws ++ trip0_Ws ++ mid_Ws ++ trip1_Ws ++ post_Ws, r ∉ W)
    (h' : r ∉ [main_while0c_c_33, main_while0c_v98, main_while1c_c_37, main_while1c_v98]) (c : Dev nD) :
    final m c (Proc.devRef .tc r) = m ((c.tc : Thread nD τ).loc r) := by
  simp only [List.mem_append] at h
  simp only [List.mem_cons, List.not_mem_nil, or_false, not_or] at h'
  show afterL post (after test1 (bwd m 32 c)) _ = _
  rw [spares post_writes fun W hW => h W (.inr hW), test1_spares (by simp [h']),
    bwd_spares m (fun W hW => h W (.inl (.inr hW))) (by simp [h'])]
  show afterL mid (after test0 (fwd m 32 c)) _ = _
  rw [spares mid_writes fun W hW => h W (.inl (.inl (.inr hW))), test0_spares (by simp [h']),
    fwd_spares m (fun W hW => h W (.inl (.inl (.inl (.inr hW))))) (by simp [h'])]
  show afterL pre (launchContents m c) _ = _
  rw [spares pre_writes fun W hW => h W (.inl (.inl (.inl (.inl hW))))]

end Cert.Proof.Ref

end
-- ==== Proof.Scan.lean ====
/- The gated delta rule over one head and its gradient, as sums and products of extended reals: the state that runs
   from chunk to chunk, the read-out, the gradient through the normalisation and the gate, and the gradient of the state
   that runs back. Both programs are read against these definitions. -/
module

public import Idealize.ShloMosaic.Lib.Pointwise

@[expose] public section

noncomputable section

namespace Cert.Proof.Scan

open Idealize.ShloMosaic

/-- A square block of 128 rows and columns. -/
abbrev Mat := Fin 128 → Fin 128 → EReal

/-- The product `A B`. -/
def mm (A B : Mat) : Mat := fun i j => ∑ k, A i k * B k j
/-- The product `A Bᵀ`. -/
def mmT (A B : Mat) : Mat := fun i j => ∑ k, A i k * B j k
/-- The product `Aᵀ B`. -/
def tmm (A B : Mat) : Mat := fun i j => ∑ k, A k i * B k j

/-- What one head reads: per chunk its five blocks, its decay, the gate's argument and the gradient that comes in, and
    the weights of its normalisation. -/
structure Head where
  value : ℕ → Mat
  kcd : ℕ → Mat
  qe : ℕ → Mat
  kt : ℕ → Mat
  intra : ℕ → Mat
  decay : ℕ → EReal
  z : ℕ → Mat
  dy : ℕ → Mat
  nrm : Fin 128 → EReal

/-! ## One row of the normalisation and the gate -/

/-- The mean square of a row, and the small number added to it. -/
def meanSq (o : Fin 128 → EReal) : EReal :=
  Ideal.div (∑ k, o k * o k) (Ideal.ofBits FTy.f32 1124073472#32) + Ideal.ofBits FTy.f32 897988541#32
/-- The factor a row is normalised by. -/
def scale (o : Fin 128 → EReal) : EReal := Ideal.rsqrt (meanSq o)
/-- The logistic function. -/
def sig (z : EReal) : EReal := Ideal.div 1 (1 + Ideal.exp (0 - z))
/-- The gradient that passes the gate. -/
def gated (z dy : EReal) : EReal := dy * (z * sig z)
/-- The gradient of a row through its normaliser. -/
def dScale (o z dy n : Fin 128 → EReal) : EReal :=
  ∑ _x : Fin 1, Ideal.div ((∑ k, o k * (gated (z k) (dy k) * n k))
    * (Ideal.ofBits FTy.f32 3204448256#32 * Ideal.div (scale o) (meanSq o))) (Ideal.ofBits FTy.f32 1124073472#32)
/-- The gradient of a row of the read-out. -/
def dRow (o z dy n : Fin 128 → EReal) (j : Fin 128) : EReal :=
  gated (z j) (dy j) * n j * scale o + o j * dScale o z dy n + dScale o z dy n * o j
/-- The normalised and weighted row, times the gradient that comes in. -/
def weighed (o dy n : Fin 128 → EReal) (j : Fin 128) : EReal := o j * scale o * n j * dy j
/-- The gradient of a row of the gate's argument. -/
def dGateRow (o z dy n : Fin 128 → EReal) (j : Fin 128) : EReal :=
  weighed o dy n j * sig (z j) + z j * weighed o dy n j * (sig (z j) * (1 - sig (z j)))
/-- One row's part of the gradient of the weights. -/
def dNormRow (o z dy : Fin 128 → EReal) (j : Fin 128) : EReal := o j * scale o * gated (z j) (dy j)

/-- The slope of the logistic function, in the two forms the programs write it. -/
theorem slope (z : EReal) :
    Ideal.div 1 ((1 + Ideal.exp (0 - z)) * (1 + Ideal.exp (0 - z))) * Ideal.exp (0 - z) = sig z * (1 - sig z) := by
  have hs : sig z = Ideal.logistic z := by unfold sig Ideal.logistic; rw [zero_sub]
  rw [hs, zero_sub]
  induction z with
  | bot =>
    rw [Ideal.logistic_bot, zero_mul, EReal.neg_bot, Ideal.exp_top, EReal.add_top_of_ne_bot (show (1 : EReal) ≠ ⊥ from EReal.coe_ne_bot 1),
      EReal.top_mul_top, Ideal.div, if_neg EReal.top_ne_zero, EReal.inv_top, mul_zero, zero_mul]
  | top =>
    rw [Ideal.logistic_top, EReal.neg_top, Ideal.exp_bot, mul_zero, ← EReal.coe_one, ← EReal.coe_sub, sub_self, EReal.coe_zero, mul_zero]
  | coe r =>
    have he : (0 : ℝ) < 1 + Real.exp (-r) := by positivity
    have hE : (1 : EReal) + Ideal.exp (-(r : EReal)) = ((1 + Real.exp (-r) : ℝ) : EReal) := by
      rw [← EReal.coe_neg, Ideal.exp_coe, EReal.coe_add, EReal.coe_one]
    rw [hE, Ideal.logistic_coe, ← EReal.coe_neg, Ideal.exp_coe, ← EReal.coe_mul, Ideal.div_coe (by positivity), one_mul, ← EReal.coe_mul,
      ← EReal.coe_one, ← EReal.coe_sub, ← EReal.coe_mul]
    congr 1
    field_simp
    ring

/-- The gradient of the gate's argument in the form the kernel writes it. -/
theorem gate_form (P z : EReal) :
    P * sig z + (0 - (0 - z * P * Ideal.div 1 ((1 + Ideal.exp (0 - z)) * (1 + Ideal.exp (0 - z)))) * Ideal.exp (0 - z))
      = P * sig z + z * P * (sig z * (1 - sig z)) := by
  rw [← slope, zero_sub, zero_sub, EReal.neg_mul, neg_neg, mul_assoc (z * P)]

/-- Head `h` of the eight, cut from the arrays: its columns of the rows, chunk by chunk. -/
def cut (value kcd qe kt intra : Fin 4096 → Fin 1024 → EReal) (decay : Fin 8 → Fin 32 → EReal) (proj : Fin 4096 → Fin 7168 → EReal)
    (nrm : Fin 128 → EReal) (dycat : Fin 4096 → Fin 2048 → EReal) (h : Fin 8) : Head where
  value c i j := value ⟨(128 * c + i.val) % 4096, Nat.mod_lt _ (by decide)⟩ ⟨128 * h.val + j.val, by omega⟩
  kcd c i j := kcd ⟨(128 * c + i.val) % 4096, Nat.mod_lt _ (by decide)⟩ ⟨128 * h.val + j.val, by omega⟩
  qe c i j := qe ⟨(128 * c + i.val) % 4096, Nat.mod_lt _ (by decide)⟩ ⟨128 * h.val + j.val, by omega⟩
  kt c i j := kt ⟨(128 * c + i.val) % 4096, Nat.mod_lt _ (by decide)⟩ ⟨128 * h.val + j.val, by omega⟩
  intra c i j := intra ⟨(128 * c + i.val) % 4096, Nat.mod_lt _ (by decide)⟩ ⟨128 * h.val + j.val, by omega⟩
  decay c := decay h ⟨c % 32, Nat.mod_lt _ (by decide)⟩
  z c i j := proj ⟨(128 * c + i.val) % 4096, Nat.mod_lt _ (by decide)⟩ ⟨5632 + 128 * h.val + j.val, by omega⟩
  dy c i j := dycat ⟨(128 * c + i.val) % 4096, Nat.mod_lt _ (by decide)⟩ ⟨1024 + 128 * h.val + j.val, by omega⟩
  nrm := nrm

namespace Head

variable (hd : Head)

/-! ## Forward -/

/-- The values less what the state already returns for the keys. -/
def fresh (c : ℕ) (S : Mat) : Mat := fun i j => hd.value c i j - mm (hd.kcd c) S i j
/-- The state before chunk `c`. -/
def state : ℕ → Mat
  | 0 => fun _ _ => 0
  | c + 1 => fun i j => state c i j * hd.decay c + tmm (hd.kt c) (hd.fresh c (state c)) i j
/-- The read-out of chunk `c`. -/
def read (c : ℕ) : Mat := fun i j => mm (hd.qe c) (hd.state c) i j + mm (hd.intra c) (hd.fresh c (hd.state c)) i j

/-! ## The normalisation and the gate -/

/-- The gradient of the read-out of chunk `c`. -/
def dRead (c : ℕ) : Mat := fun i => dRow (hd.read c i) (hd.z c i) (hd.dy c i) hd.nrm
/-- The gradient of the gate's argument. -/
def dGate (c : ℕ) : Mat := fun i => dGateRow (hd.read c i) (hd.z c i) (hd.dy c i) hd.nrm
/-- One row's part of the gradient of the normalisation's weights. -/
def dNorm (c : ℕ) : Mat := fun i => dNormRow (hd.read c i) (hd.z c i) (hd.dy c i)

/-- The gradient of the normalisation's weights, summed over the head's 4096 rows. -/
def dNormSum (j : Fin 128) : EReal := ∑ s : Fin 4096, hd.dNorm (s.val / 128) ⟨s.val % 128, Nat.mod_lt _ (by decide)⟩ j

/-! ## Backward -/

/-- The gradient of the values, from the gradient of the state that the chunk leaves. -/
def dFresh (c : ℕ) (D : Mat) : Mat := fun i j => mm (hd.kt c) D i j + tmm (hd.intra c) (hd.dRead c) i j
/-- The same with its sign changed. -/
def lost (c : ℕ) (D : Mat) : Mat := fun i j => 0 - hd.dFresh c D i j
/-- The gradient of the state before chunk `c`, from that of the state after it. -/
def stepBack (c : ℕ) (D : Mat) : Mat := fun i j =>
  D i j * hd.decay c + tmm (hd.qe c) (hd.dRead c) i j + tmm (hd.kcd c) (hd.lost c D) i j
/-- The gradient of the state after `k` chunks of the walk back, which begins at chunk 31. -/
def back : ℕ → Mat
  | 0 => fun _ _ => 0
  | k + 1 => hd.stepBack (31 - k) (back k)
/-- The gradient of the state that chunk `c` leaves. -/
def dState (c : ℕ) : Mat := hd.back (31 - c)

/-- The gradient of the values. -/
def dValue (c : ℕ) : Mat := hd.dFresh c (hd.dState c)
/-- The gradient of the keys that read the state. -/
def dKcd (c : ℕ) : Mat := mmT (hd.lost c (hd.dState c)) (hd.state c)
/-- The gradient of the queries. -/
def dQe (c : ℕ) : Mat := mmT (hd.dRead c) (hd.state c)
/-- The gradient of the keys that write the state. -/
def dKt (c : ℕ) : Mat := mmT (hd.fresh c (hd.state c)) (hd.dState c)
/-- The gradient of the attention within the chunk. -/
def dIntra (c : ℕ) : Mat := mmT (hd.dRead c) (hd.fresh c (hd.state c))
/-- The gradient of the decay, column by column. -/
def dDecay (c : ℕ) : Fin 128 → EReal := fun j => ∑ i, hd.state c i j * hd.dState c i j

end Head

end Cert.Proof.Scan

end
-- ==== Proof.KernelReads.lean ====
/- What one grid point of the kernel computes, over the extended reals, is the gradient of the gated delta rule of one
   head (Scan.lean). -/
module

public import proofs.«01_k».proof.Proof.KernelSpec
public import proofs.«01_k».proof.Proof.Scan

@[expose] public section

set_option maxRecDepth 16384

noncomputable section

namespace Cert.Proof.KRun

open Cert.KernelIdeal Cert.KernelIdeal.Gen
open Idealize.ShloMosaic

/-- Row `i` of chunk `c`, among the 4096 rows. -/
def rowIx (c : ℕ) (i : Fin 128) : Fin 4096 := ⟨(128 * c + i.val) % 4096, Nat.mod_lt _ (by decide)⟩

/-- An entry of a chunk of an array of 4096 rows. -/
theorem rows_at {α : Type} (X : S4096x128.Idx → α) (c : ℕ) (i j : Fin 128) : rows X c (ix2 i j) = X (ix2 (rowIx c i) j) := rfl

/-- Every row is a row of its chunk. -/
theorem rowIx_self (s : Fin 4096) : rowIx (s.val / 128) ⟨s.val % 128, Nat.mod_lt _ (by decide)⟩ = s :=
  Fin.ext (by have := s.isLt; show (128 * (s.val / 128) + s.val % 128) % 4096 = s.val; omega)

/-- The head that the nine blocks are, its decays being one number per chunk. -/
def headOf (x : Ins Ideal) : Scan.Head where
  value c i j := rows x.value c (ix2 i j)
  kcd c i j := rows x.kcd c (ix2 i j)
  qe c i j := rows x.qe c (ix2 i j)
  kt c i j := rows x.kt c (ix2 i j)
  intra c i j := rows x.intra c (ix2 i j)
  decay c := crow x.carry c (ix3 (0 : Fin 1) (0 : Fin 1) (0 : Fin 128))
  z c i j := rows x.z c (ix2 i j)
  dy c i j := rows x.dy c (ix2 i j)
  nrm j := x.nrm (ix3 (0 : Fin 1) (0 : Fin 1) j)

variable (x : Ins Ideal)

/-- Every column of the decays' rows holds the one number. -/
def Even : Prop := ∀ (c : ℕ) (j : Fin 128), crow x.carry c (ix3 (0 : Fin 1) (0 : Fin 1) j) = (headOf x).decay c

variable {x} (hx : Even x)
include hx

/-- The state before each chunk. -/
theorem state_reads : ∀ (c : ℕ) (i j : Fin 128), state x c (ix2 i j) = (headOf x).state c i j
  | 0, i, j => by
    show k0_pay25 (F := Ideal) (ix2 i j) = 0
    unfold k0_pay25
    pointwise
  | c + 1, i, j => by
    show k0_pay28 (state x c) (rows x.value c) (rows x.kcd c) (rows x.kt c) (crow x.carry c) (ix2 i j) = _
    unfold k0_pay28 k0_pay27
    pointwise
    rw [hx c j]
    simp only [state_reads c]
    rfl

/-- What the kernel takes from the values, at a chunk's state. -/
theorem fresh_reads (c : ℕ) (i j : Fin 128) :
    k0_pay27 (state x c) (rows x.value c) (rows x.kcd c) (ix2 i j) = (headOf x).fresh c ((headOf x).state c) i j := by
  unfold k0_pay27
  pointwise
  simp only [state_reads hx c]
  rfl

/-- The read-out. -/
theorem readout_reads (c : ℕ) (hc : c < 32) (i j : Fin 128) : rows (readout x) c (ix2 i j) = (headOf x).read c i j := by
  unfold readout
  rw [rows_glue _ _ hc]
  unfold k0_pay29
  pointwise
  simp only [state_reads hx c, fresh_reads hx c]
  rfl

/-- The gradient of the read-out. -/
theorem dRead_reads (c : ℕ) (hc : c < 32) (i j : Fin 128) : rows (dRead x) c (ix2 i j) = (headOf x).dRead c i j := by
  have hr (k : Fin 128) : readout x (ix2 (rowIx c i) k) = (headOf x).read c i k := readout_reads hx c hc i k
  rw [rows_at]
  unfold dRead k0_pay44 k0_pay30 k0_pay33 k0_pay32 k0_pay31 k0_pay40 k0_pay37 k0_pay36 k0_pay35
  pointwise
  simp only [hr]
  rfl

/-- The stacked states. -/
theorem states_reads (c : ℕ) (hc : c < 32) (i j : Fin 128) :
    slab (states x) c (ix3 (0 : Fin 1) i j) = (headOf x).state c i j := by
  rw [slab_states x c hc, ← state_reads hx c i j]
  unfold k0_pay26
  pointwise

/-- The values less what the state returns, read again on the way back. -/
theorem again_reads (c : ℕ) (hc : c < 32) (i j : Fin 128) :
    k0_pay8 (rows x.value c) (rows x.kcd c) (slab (states x) c) (ix2 i j) = (headOf x).fresh c ((headOf x).state c) i j := by
  unfold k0_pay8 k0_pay5 k0_pay4
  pointwise
  simp only [states_reads hx c hc]
  rfl

/-- The gradient of the values, at a gradient `D` of the state. -/
theorem dFresh_reads (c : ℕ) (hc : c < 32) (A : FVec Ideal S128x128 .f32) (D : Scan.Mat) (hA : ∀ i j, A (ix2 i j) = D i j) (i j : Fin 128) :
    k0_pay16 (k0_pay7 (rows x.intra c)) (rows (dRead x) c) (k0_pay11 A (rows x.kt c)) (ix2 i j) = (headOf x).dFresh c D i j := by
  unfold k0_pay16 k0_pay15 k0_pay11 k0_pay9 k0_pay7
  pointwise
  simp only [hA, dRead_reads hx c hc]
  rfl

/-- The same with its sign changed. -/
theorem lost_reads (c : ℕ) (hc : c < 32) (A : FVec Ideal S128x128 .f32) (D : Scan.Mat) (hA : ∀ i j, A (ix2 i j) = D i j) (i j : Fin 128) :
    k0_pay18 (k0_pay7 (rows x.intra c)) (rows (dRead x) c) (k0_pay11 A (rows x.kt c)) (ix2 i j) = (headOf x).lost c D i j := by
  unfold k0_pay18
  pointwise
  rw [dFresh_reads hx c hc A D hA]
  rfl

/-- One chunk of the walk back. -/
theorem backStep_reads (c : ℕ) (hc : c < 32) (A : FVec Ideal S128x128 .f32) (D : Scan.Mat) (hA : ∀ i j, A (ix2 i j) = D i j) (i j : Fin 128) :
    backStep x (dRead x) c A (ix2 i j) = (headOf x).stepBack c D i j := by
  have hl := fun i j => lost_reads hx c hc A D hA i j
  unfold backStep k0_pay19 k0_pay17 k0_pay14 k0_pay13 k0_pay6 k0_pay5
  pointwise
  simp only [hl, hA, hx c, dRead_reads hx c hc]
  rfl

/-- The gradient of the state along the walk back. -/
theorem back_reads : ∀ (k : ℕ) (hk : k ≤ 32) (i j : Fin 128), back x (dRead x) k (ix2 i j) = (headOf x).back k i j
  | 0, _, i, j => by
    show k0_pay2 (F := Ideal) (ix2 i j) = 0
    unfold k0_pay2
    pointwise
  | k + 1, hk, i, j => backStep_reads hx (31 - k) (by omega) _ _ (fun i j => back_reads k (by omega) i j) i j

/-- The gradient of the state that a chunk leaves. -/
theorem dState_reads (c : ℕ) (i j : Fin 128) : dState x (dRead x) c (ix2 i j) = (headOf x).dState c i j :=
  back_reads hx (31 - c) (by omega) i j

/-! ## The eight outputs -/

/-- The gradient of the values. -/
theorem dValue_reads (c : ℕ) (hc : c < 32) (i j : Fin 128) : rows (dValue x (dRead x)) c (ix2 i j) = (headOf x).dValue c i j := by
  unfold dValue
  rw [rows_glue _ _ hc]
  unfold k0_pay20
  pointwise
  exact dFresh_reads hx c hc _ _ (dState_reads hx c) i j

/-- The gradient of the keys that read the state. -/
theorem dKcd_reads (c : ℕ) (hc : c < 32) (i j : Fin 128) : rows (dKcd x (dRead x) (states x)) c (ix2 i j) = (headOf x).dKcd c i j := by
  have hl := fun i j => lost_reads hx c hc _ _ (dState_reads hx c) i j
  unfold dKcd
  rw [rows_glue _ _ hc]
  unfold k0_pay21 k0_pay4
  pointwise
  simp only [hl, states_reads hx c hc]
  rfl

/-- The gradient of the queries. -/
theorem dQe_reads (c : ℕ) (hc : c < 32) (i j : Fin 128) : rows (dQe (dRead x) (states x)) c (ix2 i j) = (headOf x).dQe c i j := by
  unfold dQe
  rw [rows_glue _ _ hc]
  unfold k0_pay22 k0_pay17 k0_pay14 k0_pay4
  pointwise
  simp only [dRead_reads hx c hc, states_reads hx c hc]
  rfl

/-- The gradient of the keys that write the state. -/
theorem dKt_reads (c : ℕ) (hc : c < 32) (i j : Fin 128) : rows (dKt x (dRead x) (states x)) c (ix2 i j) = (headOf x).dKt c i j := by
  unfold dKt
  rw [rows_glue _ _ hc]
  unfold k0_pay23 k0_pay10 k0_pay9
  pointwise
  simp only [again_reads hx c hc, dState_reads hx c]
  rfl

/-- The gradient of the attention within a chunk. -/
theorem dIntra_reads (c : ℕ) (hc : c < 32) (i j : Fin 128) : rows (dIntra x (dRead x) (states x)) c (ix2 i j) = (headOf x).dIntra c i j := by
  unfold dIntra
  rw [rows_glue _ _ hc]
  unfold k0_pay24 k0_pay15
  pointwise
  simp only [again_reads hx c hc, dRead_reads hx c hc]
  rfl

/-- The gradient of the decays: a chunk's row holds it column by column, the seven rows after it are zero. -/
theorem dCarry_reads (c : ℕ) (hc : c < 32) (a : Fin 8) (j : Fin 128) :
    dCarry x (dRead x) (states x) (ix3 (0 : Fin 1) (⟨8 * c + a.val, by omega⟩ : Fin 256) j)
      = if a = 0 then (headOf x).dDecay c j else 0 := by
  have ha := a.isLt
  have h1 : (8 * c + a.val) / 8 = c := by omega
  have h2 : (8 * c + a.val) % 8 = 0 ↔ a = 0 := by rw [Fin.ext_iff]; show _ ↔ a.val = 0; omega
  show (if (8 * c + a.val) % 8 = 0 then k0_pay3 (k0_pay12 (dState x (dRead x) ((8 * c + a.val) / 8)) (slab (states x) ((8 * c + a.val) / 8)))
    (ix3 (0 : Fin 1) (0 : Fin 1) j) else k0_pay1 (k0_pay45 (F := Ideal)) _) = _
  simp only [h1, h2]
  split
  · unfold k0_pay3 k0_pay12 k0_pay4
    pointwise
    simp only [states_reads hx c hc, dState_reads hx c]
    rfl
  · unfold k0_pay1 k0_pay45
    pointwise

/-- The gradient of the gate's argument. -/
theorem dGate_reads (c : ℕ) (hc : c < 32) (i j : Fin 128) : rows (dGate x) c (ix2 i j) = (headOf x).dGate c i j := by
  have hr (k : Fin 128) : readout x (ix2 (rowIx c i) k) = (headOf x).read c i k := readout_reads hx c hc i k
  rw [rows_at]
  unfold dGate k0_pay42 k0_pay41 k0_pay39 k0_pay38 k0_pay37 k0_pay36 k0_pay35 k0_pay34 k0_pay32 k0_pay31 k0_pay30
  pointwise
  simp only [hr]
  exact Scan.gate_form _ _

/-- The gradient of the normalisation's weights, one head's part. -/
theorem dNorm_reads (j : Fin 128) : dNorm x (ix3 (0 : Fin 1) (0 : Fin 1) j) = (headOf x).dNormSum j := by
  have hr (s : Fin 4096) (k : Fin 128) : readout x (ix2 s k)
      = (headOf x).read (s.val / 128) ⟨s.val % 128, Nat.mod_lt _ (by decide)⟩ k := by
    have h := readout_reads hx (s.val / 128) (by have := s.isLt; omega) ⟨s.val % 128, Nat.mod_lt _ (by decide)⟩ k
    rwa [rows_at, rowIx_self] at h
  unfold dNorm k0_pay43 k0_pay34 k0_pay32 k0_pay31 k0_pay40 k0_pay37 k0_pay36 k0_pay35
  pointwise
  refine Finset.sum_congr rfl fun s _ => ?_
  show _ = Scan.dNormRow _ (fun k => rows x.z _ (ix2 _ k)) (fun k => rows x.dy _ (ix2 _ k)) j
  simp only [hr, rows_at, rowIx_self]
  rfl

end Cert.Proof.KRun

end
-- ==== Proof.Sums.lean ====
/- A sum over the first two of three axes, entry by entry. -/
module

public import Idealize.ShloMosaic.Lib.Pointwise

@[expose] public section

namespace Cert.Proof

open Idealize.ShloMosaic

/-- The host's sum over the first two axes of an array of three, at one entry of the last. -/
theorem sum_first_two {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  have hd (i : (⟨3, ![n0, n1, n2]⟩ : Shape).Idx) : (h.drop i 0).val = (i 2).val := rfl
  have fib (i : (⟨3, ![n0, n1, n2]⟩ : Shape).Idx) : h.drop i = ix1 j ↔ ∃ k : Fin n0 × Fin n1, ix3 k.1 k.2 j = i := by
    constructor
    · intro e
      have e0 : (i 2).val = j.val := (hd i).symm.trans (congrArg Fin.val (congrFun e 0))
      refine ⟨(i 0, i 1), ?_⟩
      rw [eq_ix3 i]
      exact congrArg (ix3 (i 0) (i 1)) (Fin.ext e0.symm)
    · rintro ⟨k, rfl⟩
      funext b
      fin_cases b
      rfl
  show init + _ = _
  refine congrArg (init + ·) ?_
  refine (Finset.sum_filter_eq_sum_of_fiber _ (fun k : Fin n0 × Fin n1 => ix3 k.1 k.2 j)
    (fun _ _ e => Prod.ext (congrFun e 0) (congrFun e 1)) fib v).trans ?_
  exact Fintype.sum_prod_type _

end Cert.Proof
-- ==== Proof.KernelOut.lean ====
/- The kernel's eight results over the extended reals, entry by entry: the gradients of the gated delta rule of the eight
   heads cut from the arguments. -/
module

public import proofs.«01_k».proof.Proof.KernelReads
public import proofs.«01_k».proof.Proof.KernelFrame
public import proofs.«01_k».proof.Proof.Sums
public import Idealize.ShloMosaic.Lib.Pipeline.ValueKit.Point
public import Idealize.ShloMosaic.Lib.Pipeline.ValueKit
public import Idealize.ShloMosaic.Lib.StableHlo.RunRead
public import Idealize.ShloMosaic.Lib.Pointwise

@[expose] public section

set_option maxRecDepth 16384

noncomputable section

namespace Cert.Proof.KRun

open Cert.KernelIdeal Cert.KernelIdeal.Gen
open Idealize.ShloMosaic Idealize.ShloMosaic.TcCoe

variable (m : (ℓ : Loc nD τ sig) → Buf (Elt Ideal) ℓ)

/-- Head `h` of core `c`, cut from the arguments. -/
def head (c : Dev nD) (h : Fin 8) : Scan.Head :=
  Scan.cut (fun i j => m ((c : Thread nD τ).loc main_arg0) (ix2 i j)) (fun i j => m ((c : Thread nD τ).loc main_arg1) (ix2 i j))
    (fun i j => m ((c : Thread nD τ).loc main_arg2) (ix2 i j)) (fun i j => m ((c : Thread nD τ).loc main_arg3) (ix2 i j))
    (fun i j => m ((c : Thread nD τ).loc main_arg4) (ix2 i j)) (fun i j => m ((c : Thread nD τ).loc main_arg5) (ix2 i j))
    (fun i j => m ((c : Thread nD τ).loc main_arg6) (ix2 i j)) (fun j => m ((c : Thread nD τ).loc main_arg7) (ix1 j))
    (fun i j => m ((c : Thread nD τ).loc main_arg8) (ix2 i j)) h

/-- Which block each window reads or writes at each grid point. -/
theorem places : ∀ t : Fin cfg0.N,
    win0_0.index t = ![0, t.val] ∧ win0_1.index t = ![0, t.val] ∧ win0_2.index t = ![0, t.val] ∧ win0_3.index t = ![0, t.val]
    ∧ win0_4.index t = ![0, t.val] ∧ win0_5.index t = ![t.val, 0, 0] ∧ win0_6.index t = ![0, 44 + t.val]
    ∧ win0_7.index t = ![t.val, 0, 0] ∧ win0_8.index t = ![0, 8 + t.val] ∧ win0_9.index t = ![0, t.val] ∧ win0_10.index t = ![0, t.val]
    ∧ win0_11.index t = ![0, t.val] ∧ win0_12.index t = ![0, t.val] ∧ win0_13.index t = ![0, t.val]
    ∧ win0_14.index t = ![t.val, 0, 0] ∧ win0_15.index t = ![0, t.val] ∧ win0_16.index t = ![t.val, 0, 0] := by
  decide +kernel

/-- The decays as the launch finds them: spread over eight rows and all columns. -/
theorem decays_spread (c : Dev nD) (h : Fin 8) (r : Fin 256) (j : Fin 128) :
    V m c main_v2 (ix3 h r j) = m ((c : Thread nD τ).loc main_arg5) (ix2 h ⟨r.val / 8, by omega⟩) := by
  show StableHlo.after hostOps0 (fun b => m (c, b)) (Proc.devRef .tc main_v2) _ = _
  unfold hostOps0
  after_reads_simp
  pointwise

/-- The weights of the normalisation as the launch finds them: one copy per head. -/
theorem weights_spread (c : Dev nD) (h : Fin 8) (j : Fin 128) :
    V m c main_v4 (ix3 h 0 j) = m ((c : Thread nD τ).loc main_arg7) (ix1 j) := by
  show StableHlo.after hostOps0 (fun b => m (c, b)) (Proc.devRef .tc main_v4) _ = _
  unfold hostOps0
  after_reads_simp
  pointwise

/-! ## The blocks of a grid point are those of one head -/

/-- The number of a grid point is that of its head. -/
abbrev headIx (t : Fin cfg0.N) : Fin 8 := ⟨t.val, t.isLt⟩

/-- A grid point's block of argument 0. -/
theorem value_block (c : Dev nD) (t : Fin cfg0.N) (s : Fin 4096) (j : Fin 128) : iblk m c 0 t (ix2 s j)
    = m ((c : Thread nD τ).loc main_arg0) (ix2 s ⟨128 * (headIx t).val + j.val, by have : t.val < 8 := t.isLt; omega⟩) := by
  blk_ext [iblk, V, places t]
/-- A grid point's block of argument 1. -/
theorem kcd_block (c : Dev nD) (t : Fin cfg0.N) (s : Fin 4096) (j : Fin 128) : iblk m c 1 t (ix2 s j)
    = m ((c : Thread nD τ).loc main_arg1) (ix2 s ⟨128 * (headIx t).val + j.val, by have : t.val < 8 := t.isLt; omega⟩) := by
  blk_ext [iblk, V, places t]
/-- A grid point's block of argument 2. -/
theorem qe_block (c : Dev nD) (t : Fin cfg0.N) (s : Fin 4096) (j : Fin 128) : iblk m c 2 t (ix2 s j)
    = m ((c : Thread nD τ).loc main_arg2) (ix2 s ⟨128 * (headIx t).val + j.val, by have : t.val < 8 := t.isLt; omega⟩) := by
  blk_ext [iblk, V, places t]
/-- A grid point's block of argument 3. -/
theorem kt_block (c : Dev nD) (t : Fin cfg0.N) (s : Fin 4096) (j : Fin 128) : iblk m c 3 t (ix2 s j)
    = m ((c : Thread nD τ).loc main_arg3) (ix2 s ⟨128 * (headIx t).val + j.val, by have : t.val < 8 := t.isLt; omega⟩) := by
  blk_ext [iblk, V, places t]
/-- A grid point's block of argument 4. -/
theorem intra_block (c : Dev nD) (t : Fin cfg0.N) (s : Fin 4096) (j : Fin 128) : iblk m c 4 t (ix2 s j)
    = m ((c : Thread nD τ).loc main_arg4) (ix2 s ⟨128 * (headIx t).val + j.val, by have : t.val < 8 := t.isLt; omega⟩) := by
  blk_ext [iblk, V, places t]
/-- A grid point's block of the gate. -/
theorem z_block (c : Dev nD) (t : Fin cfg0.N) (s : Fin 4096) (j : Fin 128) : iblk m c 6 t (ix2 s j)
    = m ((c : Thread nD τ).loc main_arg6) (ix2 s ⟨5632 + 128 * (headIx t).val + j.val, by have : t.val < 8 := t.isLt; omega⟩) := by
  blk_ext [iblk, V, places t]
/-- A grid point's block of the gradient that comes in. -/
theorem dy_block (c : Dev nD) (t : Fin cfg0.N) (s : Fin 4096) (j : Fin 128) : iblk m c 8 t (ix2 s j)
    = m ((c : Thread nD τ).loc main_arg8) (ix2 s ⟨1024 + 128 * (headIx t).val + j.val, by have : t.val < 8 := t.isLt; omega⟩) := by
  blk_ext [iblk, V, places t]
/-- A grid point's block of the decays. -/
theorem carry_block (c : Dev nD) (t : Fin cfg0.N) (r : Fin 256) (j : Fin 128) :
    iblk m c 5 t (ix3 (0 : Fin 1) r j) = m ((c : Thread nD τ).loc main_arg5) (ix2 (headIx t) ⟨r.val / 8, by omega⟩) := by
  rw [← decays_spread m c (headIx t) r j]
  blk_ext [iblk, places t]
/-- A grid point's block of the weights. -/
theorem nrm_block (c : Dev nD) (t : Fin cfg0.N) (j : Fin 128) :
    iblk m c 7 t (ix3 (0 : Fin 1) (0 : Fin 1) j) = m ((c : Thread nD τ).loc main_arg7) (ix1 j) := by
  rw [← weights_spread m c (headIx t) j]
  blk_ext [iblk, places t]

/-- The decays of a grid point are one number per chunk. -/
theorem decay_at (c : Dev nD) (t : Fin cfg0.N) (k : ℕ) (j : Fin 128) :
    crow (iblk m c 5 t) k (ix3 (0 : Fin 1) (0 : Fin 1) j) = (head m c (headIx t)).decay k := by
  refine (carry_block m c t ⟨(8 * k) % 256, Nat.mod_lt _ (by decide)⟩ j).trans ?_
  have h : (⟨(8 * k) % 256 / 8, by omega⟩ : Fin 32) = ⟨k % 32, Nat.mod_lt _ (by decide)⟩ := Fin.ext (by show (8 * k) % 256 / 8 = k % 32; omega)
  exact congrArg (fun r : Fin 32 => m ((c : Thread nD τ).loc main_arg5) (ix2 (headIx t) r)) h

/-- The blocks of grid point `t` are head `t`. -/
theorem headOf_ins (c : Dev nD) (t : Fin cfg0.N) : headOf (ins m c t) = head m c (headIx t) := by
  unfold headOf head Scan.cut
  congr 1 <;> funext k
  · funext i j; exact value_block m c t _ j
  · funext i j; exact kcd_block m c t _ j
  · funext i j; exact qe_block m c t _ j
  · funext i j; exact kt_block m c t _ j
  · funext i j; exact intra_block m c t _ j
  · exact decay_at m c t k 0
  · funext i j; exact z_block m c t _ j
  · funext i j; exact dy_block m c t _ j
  · exact nrm_block m c t k

theorem even_ins (c : Dev nD) (t : Fin cfg0.N) : Even (ins m c t) := fun k j => by
  rw [headOf_ins]; exact decay_at m c t k j

/-! ## The arrays after the run -/

/-- What each head gives for each chunk, put in the columns of the head and the rows of the chunk. -/
def spread (c : Dev nD) (f : Scan.Head → ℕ → Scan.Mat) : S4096x1024.Idx → EReal := fun y =>
  f (head m c ⟨(y 1).val / 128, by have h : (y 1).val < 1024 := (y 1).isLt; omega⟩) ((y 0).val / 128)
    ⟨(y 0).val % 128, Nat.mod_lt _ (by decide)⟩ ⟨(y 1).val % 128, Nat.mod_lt _ (by decide)⟩

/-- A block that holds chunk by chunk what its head gives is the block of `spread`. -/
theorem block_spread (c : Dev nD) (t : Fin cfg0.N) (X : S4096x128.Idx → EReal) (f : Scan.Head → ℕ → Scan.Mat)
    (h : ∀ k, k < 32 → ∀ i j, rows X k (ix2 i j) = f (headOf (ins m c t)) k i j) (y : S4096x128.Idx) (q : S4096x1024.Idx)
    (h0 : (q 0).val = (y 0).val) (h1 : (q 1).val = 128 * t.val + (y 1).val) : X y = spread m c f q := by
  have y0 : (y 0).val < 4096 := (y 0).isLt
  have y1 : (y 1).val < 128 := (y 1).isLt
  have e := h ((y 0).val / 128) (by omega) ⟨(y 0).val % 128, Nat.mod_lt _ (by decide)⟩ (y 1)
  have hy : X y = rows X ((y 0).val / 128) (ix2 ⟨(y 0).val % 128, Nat.mod_lt _ (by decide)⟩ (y 1)) := by
    refine (congrArg X (eq_ix2 y)).trans ?_
    exact congrArg (fun s : Fin 4096 => X (ix2 s (y 1))) (rowIx_self (y 0)).symm
  rw [hy, e, headOf_ins]
  have a1 : headIx t = ⟨(q 1).val / 128, by have h : (q 1).val < 1024 := (q 1).isLt; omega⟩ := Fin.ext (by show t.val = (q 1).val / 128; omega)
  have a2 : (y 1 : Fin 128) = ⟨(q 1).val % 128, Nat.mod_lt _ (by decide)⟩ := Fin.ext (by show (y 1).val = (q 1).val % 128; omega)
  unfold spread
  rw [← a1]
  simp only [h0]
  exact congrArg (f (head m c (headIx t)) ((y 0).val / 128) ⟨(y 0).val % 128, _⟩) a2

/-- Result 0 of the call. -/
theorem out_9 (c : Dev nD) : (dats m 0 c).arrAt 9 cfg0.N = spread m c Scan.Head.dValue := by
  refine (dats m 0 c).arrAt_eq_of_covers 9 _ (by decide +kernel) fun t hf y => ?_
  blk_simp
  rw [after_9]
  refine block_spread m c t _ _ (fun k hk i j => dValue_reads (even_ins m c t) k hk i j) y _ ?_ ?_ <;> blk_simp [places t] <;> omega

/-- Result 1 of the call. -/
theorem out_10 (c : Dev nD) : (dats m 0 c).arrAt 10 cfg0.N = spread m c Scan.Head.dKcd := by
  refine (dats m 0 c).arrAt_eq_of_covers 10 _ (by decide +kernel) fun t hf y => ?_
  blk_simp
  rw [after_10]
  refine block_spread m c t _ _ (fun k hk i j => dKcd_reads (even_ins m c t) k hk i j) y _ ?_ ?_ <;> blk_simp [places t] <;> omega

/-- Result 2 of the call. -/
theorem out_11 (c : Dev nD) : (dats m 0 c).arrAt 11 cfg0.N = spread m c Scan.Head.dQe := by
  refine (dats m 0 c).arrAt_eq_of_covers 11 _ (by decide +kernel) fun t hf y => ?_
  blk_simp
  rw [after_11]
  refine block_spread m c t _ _ (fun k hk i j => dQe_reads (even_ins m c t) k hk i j) y _ ?_ ?_ <;> blk_simp [places t] <;> omega

/-- Result 3 of the call. -/
theorem out_12 (c : Dev nD) : (dats m 0 c).arrAt 12 cfg0.N = spread m c Scan.Head.dKt := by
  refine (dats m 0 c).arrAt_eq_of_covers 12 _ (by decide +kernel) fun t hf y => ?_
  blk_simp
  rw [after_12]
  refine block_spread m c t _ _ (fun k hk i j => dKt_reads (even_ins m c t) k hk i j) y _ ?_ ?_ <;> blk_simp [places t] <;> omega

/-- Result 4 of the call. -/
theorem out_13 (c : Dev nD) : (dats m 0 c).arrAt 13 cfg0.N = spread m c Scan.Head.dIntra := by
  refine (dats m 0 c).arrAt_eq_of_covers 13 _ (by decide +kernel) fun t hf y => ?_
  blk_simp
  rw [after_13]
  refine block_spread m c t _ _ (fun k hk i j => dIntra_reads (even_ins m c t) k hk i j) y _ ?_ ?_ <;> blk_simp [places t] <;> omega

/-- Result 6 of the call. -/
theorem out_15 (c : Dev nD) : (dats m 0 c).arrAt 15 cfg0.N = spread m c Scan.Head.dGate := by
  refine (dats m 0 c).arrAt_eq_of_covers 15 _ (by decide +kernel) fun t hf y => ?_
  blk_simp
  rw [after_15]
  refine block_spread m c t _ _ (fun k hk i j => dGate_reads (even_ins m c t) k hk i j) y _ ?_ ?_ <;> blk_simp [places t] <;> omega

/-- The gradient of the decays as the call leaves it: one row in eight holds it, column by column, and the others nothing. -/
theorem out_14 (c : Dev nD) : (dats m 0 c).arrAt 14 cfg0.N = fun y : S8x256x128.Idx =>
    if (y 1).val % 8 = 0 then (head m c (y 0)).dDecay ((y 1).val / 8) (y 2) else 0 := by
  refine (dats m 0 c).arrAt_eq_of_covers 14 _ (by decide +kernel) fun t hf y => ?_
  blk_simp
  rw [after_14]
  obtain ⟨y0, y1, y2, rfl⟩ : ∃ (y0 : Fin 1) (y1 : Fin 256) (y2 : Fin 128), y = ix3 y0 y1 y2 := ⟨y 0, y 1, y 2, eq_ix3 y⟩
  obtain rfl : y0 = 0 := Subsingleton.elim _ _
  have l1 := y1.isLt
  have h := dCarry_reads (even_ins m c t) (y1.val / 8) (by omega) ⟨y1.val % 8, Nat.mod_lt _ (by decide)⟩ y2
  rw [headOf_ins, show (⟨8 * (y1.val / 8) + y1.val % 8, by omega⟩ : Fin 256) = y1 from Fin.ext (by show 8 * (y1.val / 8) + y1.val % 8 = y1.val; omega)] at h
  refine h.trans ?_
  have e0 : ((win0_14.blk t).view.emb (ix3 (0 : Fin 1) y1 y2) 0 : Fin 8) = headIx t := Fin.ext (by blk_simp [places t]; exact Nat.add_zero _)
  have e1 : win0_14.index t 1 * 256 + y1.val = y1.val := by rw [(places t).2.2.2.2.2.2.2.2.2.2.2.2.2.2.1]; exact Nat.zero_add _
  have e2 : ((win0_14.blk t).view.emb (ix3 (0 : Fin 1) y1 y2) 2 : Fin 128) = y2 := Fin.ext (by blk_simp [places t])
  refine if_congr ?_ ?_ rfl
  · rw [Fin.ext_iff]
    show y1.val % 8 = 0 ↔ (win0_14.index t 1 * 256 + y1.val) % 8 = 0
    rw [e1]
  · show _ = (head m c ((win0_14.blk t).view.emb (ix3 (0 : Fin 1) y1 y2) 0 : Fin 8)).dDecay ((win0_14.index t 1 * 256 + y1.val) / 8)
      ((win0_14.blk t).view.emb (ix3 (0 : Fin 1) y1 y2) 2 : Fin 128)
    rw [e0, e1, e2]

/-- The gradient of the weights as the call leaves it, head by head. -/
theorem out_16 (c : Dev nD) : (dats m 0 c).arrAt 16 cfg0.N = fun y : S8x1x128.Idx => (head m c (y 0)).dNormSum (y 2) := by
  refine (dats m 0 c).arrAt_eq_of_covers 16 _ (by decide +kernel) fun t hf y => ?_
  blk_simp
  rw [after_16]
  obtain ⟨y0, y1, y2, rfl⟩ : ∃ (y0 y1 : Fin 1) (y2 : Fin 128), y = ix3 y0 y1 y2 := ⟨y 0, y 1, y 2, eq_ix3 y⟩
  have h := dNorm_reads (even_ins m c t) y2
  rw [headOf_ins] at h
  obtain rfl : y0 = 0 := Subsingleton.elim _ _
  obtain rfl : y1 = 0 := Subsingleton.elim _ _
  refine h.trans ?_
  have e0 : ((win0_16.blk t).view.emb (ix3 (0 : Fin 1) (0 : Fin 1) y2) 0 : Fin 8) = headIx t := Fin.ext (by blk_simp [places t]; exact Nat.add_zero _)
  have e2 : ((win0_16.blk t).view.emb (ix3 (0 : Fin 1) (0 : Fin 1) y2) 2 : Fin 128) = y2 := Fin.ext (by blk_simp [places t])
  show _ = (head m c ((win0_16.blk t).view.emb (ix3 (0 : Fin 1) (0 : Fin 1) y2) 0 : Fin 8)).dNormSum
    ((win0_16.blk t).view.emb (ix3 (0 : Fin 1) (0 : Fin 1) y2) 2 : Fin 128)
  rw [e0, e2]

/-! ## The two sums on the host -/

/-- The call's arrays as the later host operations find them. -/
theorem array_left (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c _ _ w

/-- The gradient of the decays: each chunk's eight rows and all columns summed. -/
theorem decays_sum (c : Dev nD) (h : Fin 8) (k : Fin 32) :
    Pipeline.afterTail₀ cfgs (dats m) 0 (V0 m) [hostOps1] c main_v7 (ix2 h k) = ∑ j, (head m c h).dDecay k.val j := by
  unfold Pipeline.afterTail₀
  show StableHlo.after hostOps1 _ (Proc.devRef .tc main_v7) _ = _
  unfold hostOps1
  after_reads_simp
  pointwise
  have hr := (array_left m c 14).trans (out_14 m c)
  refine (congrArg (fun v : S8x256x128.Idx → EReal => ∑ a : Fin 8, ∑ j : Fin 128, v (ix3 h (⟨k.val * 8 + a.val, by omega⟩ : Fin 256) j)) hr).trans ?_
  have hv (a : Fin 8) (j : Fin 128) : (if (k.val * 8 + a.val) % 8 = 0 then (head m c h).dDecay ((k.val * 8 + a.val) / 8) j else 0)
      = if a = 0 then (head m c h).dDecay k.val j else 0 := by
    have l := a.isLt
    refine if_congr ?_ ?_ rfl
    · rw [Fin.ext_iff]; show (k.val * 8 + a.val) % 8 = 0 ↔ a.val = 0; omega
    · rw [show (k.val * 8 + a.val) / 8 = k.val by omega]
  refine (Finset.sum_congr rfl fun a _ => Finset.sum_congr rfl fun j _ => hv a j).trans ?_
  rw [Finset.sum_comm]
  exact Finset.sum_congr rfl fun j _ => (Finset.sum_ite_eq' _ _ _).trans (if_pos (Finset.mem_univ _))

/-- The gradient of the weights: the heads summed. -/
theorem weights_sum (c : Dev nD) (j : Fin 128) :
    Pipeline.afterTail₀ cfgs (dats m) 0 (V0 m) [hostOps1] c main_v8 (ix1 j) = ∑ h, (head m c h).dNormSum j := by
  unfold Pipeline.afterTail₀
  show StableHlo.after hostOps1 _ (Proc.devRef .tc main_v8) _ = _
  unfold hostOps1
  after_reads_simp
  pointwise
  have hr := (array_left m c 16).trans (out_16 m c)
  refine (congrArg (fun v => Ideal.hostReduceAdd reducesTo_S8x1x128_S128_d0_1 v 0 (ix1 j)) hr).trans ?_
  refine (sum_first_two _ _ _ _).trans ?_
  rw [zero_add]
  exact Finset.sum_congr rfl fun h _ => Fin.sum_univ_one _

end Cert.Proof.KRun

end
-- ==== Proof.RefTrips.lean ====
/- What one trip of each of the reference's loops computes, over the extended reals. -/
module

public import proofs.«01_k».proof.Proof.RefRun
public import proofs.«01_k».proof.Proof.Scan
public import Idealize.ShloMosaic.Lib.Pointwise
public import Idealize.ShloMosaic.Lib.DynamicIndex

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo
open Cert.Proof.Scan (Mat mm mmT tmm)

/-! ## Stacks of blocks, and picking from and putting into them -/

/-- One matrix for each of the eight heads. -/
def each (f : Fin 8 → Mat) : FVec Ideal S8x128x128 .f32 := fun y => f (y 0) (y 1) (y 2)
/-- One matrix for each of the 32 chunks and eight heads, where the chunk is one of those filled; nothing elsewhere. -/
def stack (filled : ℕ → Bool) (f : Fin 8 → ℕ → Mat) : FVec Ideal S32x8x128x128 .f32 := fun y =>
  if filled (y 0).val then f (y 1) (y 0).val (y 2) (y 3) else 0
/-- One number for each chunk and head. -/
def gates (filled : ℕ → Bool) (f : Fin 8 → ℕ → EReal) : FVec Ideal S32x8x1x1 .f32 := fun y =>
  if filled (y 0).val then f (y 1) (y 0).val else 0
/-- The same without the two axes of extent one. -/
def lines (filled : ℕ → Bool) (f : Fin 8 → ℕ → EReal) : FVec Ideal S32x8 .f32 := fun y =>
  if filled (y 0).val then f (y 1) (y 0).val else 0

/-- Everything is filled. -/
abbrev full : ℕ → Bool := fun _ => true
/-- The chunks before `k`. -/
abbrev before (k : ℕ) : ℕ → Bool := fun b => decide (b < k)
/-- The last `k` chunks. -/
abbrev last (k : ℕ) : ℕ → Bool := fun b => decide (32 ≤ b + k)

/-- The number `k` as a loop's counter holds it. -/
abbrev num (k : ℕ) : IVec S_ 32 := fun _ => Scf.iv 0#32 1#32 k

/-- Read as an integer it is `k`. -/
theorem num_toInt {k : ℕ} (hk : k < 32) (i : S_.Idx) : (num k i).toInt = k :=
  (by decide +kernel : ∀ k : Fin 32, (Scf.iv 0#32 1#32 k.val).toInt = (k.val : ℤ)) ⟨k, hk⟩
/-- A slice of one starts at `k`, and not elsewhere for want of room. -/
theorem start_num {k : ℕ} (hk : k < 32) (i : S_.Idx) : (min (max (num k i).toInt 0) ((31 : ℕ) : ℤ)).toNat = k := by
  rw [num_toInt hk]; omega
/-- A slice of a whole axis starts at zero. -/
theorem start_zero : (min (max (0#32).toInt 0) ((0 : ℕ) : ℤ)).toNat = 0 := by decide

/-- Block `n` of a stack. -/
def pick (X : FVec Ideal S32x8x128x128 .f32) (n : IVec S_ 32) : FVec Ideal S8x128x128 .f32 :=
  shapeCast S8x128x128 (Host.dynamicSlice S1x8x128x128 X
    (fun k => ((![n, constantI S_ 32 0#32, constantI S_ 32 0#32, constantI S_ 32 0#32] : Fin 4 → IVec S_ 32) k (Shape.Idx.first h_S_)).toInt)
    sliceFits_S32x8x128x128_S1x8x128x128) shapeCasts_S1x8x128x128_S8x128x128
/-- Row `n` of an array. -/
def pickRow (X : FVec Ideal S32x8 .f32) (n : IVec S_ 32) : FVec Ideal S8 .f32 :=
  shapeCast S8 (Host.dynamicSlice S1x8 X
    (fun k => ((![n, constantI S_ 32 0#32] : Fin 2 → IVec S_ 32) k (Shape.Idx.first h_S_)).toInt) sliceFits_S32x8_S1x8) shapeCasts_S1x8_S8
/-- Entry `n` of a stack of gates. -/
def pickGate (X : FVec Ideal S32x8x1x1 .f32) (n : IVec S_ 32) : FVec Ideal S8x1x1 .f32 :=
  shapeCast S8x1x1 (Host.dynamicSlice S1x8x1x1 X
    (fun k => ((![n, constantI S_ 32 0#32, constantI S_ 32 0#32, constantI S_ 32 0#32] : Fin 4 → IVec S_ 32) k (Shape.Idx.first h_S_)).toInt)
    sliceFits_S32x8x1x1_S1x8x1x1) shapeCasts_S1x8x1x1_S8x1x1
/-- A stack with its block `n` replaced. -/
def put (X : FVec Ideal S32x8x128x128 .f32) (u : FVec Ideal S8x128x128 .f32) (n : IVec S_ 32) : FVec Ideal S32x8x128x128 .f32 :=
  Host.dynamicUpdateSlice X (broadcastInDim S1x8x128x128 ![1, 2, 3] bcast_S8x128x128_S1x8x128x128_1_2_3 u)
    (fun k => ((![n, constantI S_ 32 0#32, constantI S_ 32 0#32, constantI S_ 32 0#32] : Fin 4 → IVec S_ 32) k (Shape.Idx.first h_S_)).toInt)
    updateFits_S32x8x128x128_S1x8x128x128
/-- A stack of gates with its entry `n` replaced. -/
def putGate (X : FVec Ideal S32x8x1x1 .f32) (u : FVec Ideal S8x1x1 .f32) (n : IVec S_ 32) : FVec Ideal S32x8x1x1 .f32 :=
  Host.dynamicUpdateSlice X (broadcastInDim S1x8x1x1 ![1, 2, 3] bcast_S8x1x1_S1x8x1x1_1_2_3 u)
    (fun k => ((![n, constantI S_ 32 0#32, constantI S_ 32 0#32, constantI S_ 32 0#32] : Fin 4 → IVec S_ 32) k (Shape.Idx.first h_S_)).toInt)
    updateFits_S32x8x1x1_S1x8x1x1
/-- An array with its row `n` replaced. -/
def putRow (X : FVec Ideal S32x8 .f32) (u : FVec Ideal S8 .f32) (n : IVec S_ 32) : FVec Ideal S32x8 .f32 :=
  Host.dynamicUpdateSlice X (broadcastInDim S1x8 ![1] bcast_S8_S1x8_1 u)
    (fun k => ((![n, constantI S_ 32 0#32] : Fin 2 → IVec S_ 32) k (Shape.Idx.first h_S_)).toInt) updateFits_S32x8_S1x8

/-- An entry of a filled stack, one of whose blocks has just been replaced by its own contents. -/
theorem replaced {k : ℕ} (hk : k < 32) {filled filled' : ℕ → Bool} (hf : ∀ b, b < 32 → filled' b = (filled b || decide (b = k)))
    (b : Fin 32) (g : ℕ → EReal) :
    (if k ≤ b.val ∧ b.val < k + 1 then g k else if filled b.val then g b.val else 0) = if filled' b.val then g b.val else 0 := by
  rw [hf b.val b.isLt]
  by_cases h : b.val = k
  · rw [if_pos (by omega), h]; simp
  · rw [if_neg (by omega)]; simp [h]

/-- Picking block `k` where it is filled. -/
theorem pick_stack {k : ℕ} (hk : k < 32) (filled : ℕ → Bool) (hf : filled k = true) (f : Fin 8 → ℕ → Mat) :
    pick (stack filled f) (num k) = each fun h => f h k := by
  funext y
  obtain ⟨h, i, j, rfl⟩ : ∃ (h : Fin 8) (i j : Fin 128), y = ix3 h i j := ⟨y 0, y 1, y 2, eq_ix3 y⟩
  unfold pick Host.dynamicSlice
  pointwise
  simp only [start_num hk, start_zero, Nat.zero_add]
  exact if_pos hf

/-- Picking row `k` where it is filled. -/
theorem pickRow_lines {k : ℕ} (hk : k < 32) (filled : ℕ → Bool) (hf : filled k = true) (f : Fin 8 → ℕ → EReal) :
    pickRow (lines filled f) (num k) = fun y => f (y 0) k := by
  funext y
  obtain ⟨h, rfl⟩ : ∃ h : Fin 8, y = ix1 h := ⟨y 0, eq_ix1 y⟩
  unfold pickRow Host.dynamicSlice
  pointwise
  simp only [start_num hk, start_zero, Nat.zero_add]
  exact if_pos hf

/-- Picking gate `k` where it is filled. -/
theorem pickGate_gates {k : ℕ} (hk : k < 32) (filled : ℕ → Bool) (hf : filled k = true) (f : Fin 8 → ℕ → EReal) :
    pickGate (gates filled f) (num k) = fun y => f (y 0) k := by
  funext y
  obtain ⟨h, i, j, rfl⟩ : ∃ (h : Fin 8) (i j : Fin 1), y = ix3 h i j := ⟨y 0, y 1, y 2, eq_ix3 y⟩
  unfold pickGate Host.dynamicSlice
  pointwise
  simp only [start_num hk, start_zero, Nat.zero_add]
  exact if_pos hf

/-- Putting block `k` fills it. -/
theorem put_stack {k : ℕ} (hk : k < 32) {filled filled' : ℕ → Bool} (hf : ∀ b, b < 32 → filled' b = (filled b || decide (b = k)))
    (f : Fin 8 → ℕ → Mat) : put (stack filled f) (each fun h => f h k) (num k) = stack filled' f := by
  funext y
  obtain ⟨b, h, i, j, rfl⟩ : ∃ (b : Fin 32) (h : Fin 8) (i j : Fin 128), y = ix4 b h i j := ⟨y 0, y 1, y 2, y 3, eq_ix4 y⟩
  unfold put Host.dynamicUpdateSlice
  pointwise
  simp only [start_num hk, start_zero, Nat.zero_le, Nat.sub_zero, and_true]
  refine Eq.trans ?_ (replaced hk hf b fun b => f h b i j)
  by_cases c : k ≤ b.val ∧ b.val < k + 1
  · rw [if_pos c]; exact dif_pos (by simpa using c)
  · rw [if_neg c]; exact dif_neg (by simpa using c)

/-- Putting gate `k` fills it. -/
theorem putGate_gates {k : ℕ} (hk : k < 32) {filled filled' : ℕ → Bool} (hf : ∀ b, b < 32 → filled' b = (filled b || decide (b = k)))
    (f : Fin 8 → ℕ → EReal) : putGate (gates filled f) (fun y => f (y 0) k) (num k) = gates filled' f := by
  funext y
  obtain ⟨b, h, i, j, rfl⟩ : ∃ (b : Fin 32) (h : Fin 8) (i j : Fin 1), y = ix4 b h i j := ⟨y 0, y 1, y 2, y 3, eq_ix4 y⟩
  unfold putGate Host.dynamicUpdateSlice
  pointwise
  simp only [start_num hk, start_zero, Nat.zero_le, Nat.sub_zero, and_true]
  refine Eq.trans ?_ (replaced hk hf b (f h))
  by_cases c : k ≤ b.val ∧ b.val < k + 1
  · rw [if_pos c]; exact dif_pos (by simpa using c)
  · rw [if_neg c]; exact dif_neg (by simpa using c)

/-- Putting row `k` fills it. -/
theorem putRow_lines {k : ℕ} (hk : k < 32) {filled filled' : ℕ → Bool} (hf : ∀ b, b < 32 → filled' b = (filled b || decide (b = k)))
    (f : Fin 8 → ℕ → EReal) : putRow (lines filled f) (fun y => f (y 0) k) (num k) = lines filled' f := by
  funext y
  obtain ⟨b, h, rfl⟩ : ∃ (b : Fin 32) (h : Fin 8), y = ix2 b h := ⟨y 0, y 1, eq_ix2 y⟩
  unfold putRow Host.dynamicUpdateSlice
  pointwise
  simp only [start_num hk, start_zero, Nat.zero_le, Nat.sub_zero, and_true]
  refine Eq.trans ?_ (replaced hk hf b (f h))
  by_cases c : k ≤ b.val ∧ b.val < k + 1
  · rw [if_pos c]; exact dif_pos (by simpa using c)
  · rw [if_neg c]; exact dif_neg (by simpa using c)

/-! ## A forward trip -/

/-- The values less what the state returns for the keys, as the reference writes it. -/
def freshT (kcd value S : FVec Ideal S8x128x128 .f32) : FVec Ideal S8x128x128 .f32 :=
  subf value (Host.dotGeneral (φ₁ := .f32) (φ₂ := .f32) dot_S8x128x128_S8x128x128_S8x128x128_2_1_1_2_0_0 none kcd S)
/-- The read-out. -/
def readT (qe intra v S : FVec Ideal S8x128x128 .f32) : FVec Ideal S8x128x128 .f32 :=
  addf (Host.dotGeneral (φ₁ := .f32) (φ₂ := .f32) dot_S8x128x128_S8x128x128_S8x128x128_2_1_1_2_0_0 none qe S)
    (Host.dotGeneral (φ₁ := .f32) (φ₂ := .f32) dot_S8x128x128_S8x128x128_S8x128x128_2_1_1_2_0_0 none intra v)
/-- The next state. -/
def stateT (kt v S : FVec Ideal S8x128x128 .f32) (g : FVec Ideal S8 .f32) : FVec Ideal S8x128x128 .f32 :=
  addf (mulf S (broadcastInDim S8x128x128 ![0, 1, 2] bcast_S8x1x1_S8x128x128_0_1_2 (broadcastInDim S8x1x1 ![0] bcast_S8_S8x1x1_0 g)))
    (Host.dotGeneral (φ₁ := .f32) (φ₂ := .f32) dot_S8x128x128_S8x128x128_S8x128x128_1_1_2_2_0_0 none kt v)

/-- Head by head, the fresh values. -/
theorem freshT_each (kcd value S : Fin 8 → Mat) :
    freshT (each kcd) (each value) (each S) = each fun h i j => value h i j - mm (kcd h) (S h) i j := by
  funext y
  obtain ⟨h, i, j, rfl⟩ : ∃ (h : Fin 8) (i j : Fin 128), y = ix3 h i j := ⟨y 0, y 1, y 2, eq_ix3 y⟩
  unfold freshT
  pointwise
  rfl

/-- Head by head, the read-out. -/
theorem readT_each (qe intra v S : Fin 8 → Mat) :
    readT (each qe) (each intra) (each v) (each S) = each fun h i j => mm (qe h) (S h) i j + mm (intra h) (v h) i j := by
  funext y
  obtain ⟨h, i, j, rfl⟩ : ∃ (h : Fin 8) (i j : Fin 128), y = ix3 h i j := ⟨y 0, y 1, y 2, eq_ix3 y⟩
  unfold readT
  pointwise
  rfl

/-- Head by head, the next state. -/
theorem stateT_each (kt v S : Fin 8 → Mat) (g : Fin 8 → EReal) :
    stateT (each kt) (each v) (each S) (fun y => g (y 0)) = each fun h i j => S h i j * g h + tmm (kt h) (v h) i j := by
  funext y
  obtain ⟨h, i, j, rfl⟩ : ∃ (h : Fin 8) (i j : Fin 128), y = ix3 h i j := ⟨y 0, y 1, y 2, eq_ix3 y⟩
  unfold stateT
  pointwise
  rfl

section Trip0
variable (V : Valuation τ sig (Elt Ideal))

/-- The chunk of the trip. -/
abbrev at0 : IVec S_ 32 := V (Proc.devRef .tc main_v22_6)
/-- The fresh values of the trip. -/
abbrev fresh0 : FVec Ideal S8x128x128 .f32 :=
  freshT (pick (V (Proc.devRef .tc main_v22_1)) (at0 V)) (pick (V (Proc.devRef .tc main_v22_2)) (at0 V)) (V (Proc.devRef .tc main_v22_7))

/-- The state after a trip. -/
theorem trip0_state : afterL trip0 V (Proc.devRef .tc main_v22_7)
    = stateT (pick (V (Proc.devRef .tc main_v22_4)) (at0 V)) (fresh0 V) (V (Proc.devRef .tc main_v22_7)) (pickRow (V (Proc.devRef .tc main_v22_5)) (at0 V)) := by
  rw [show afterL trip0 V = after (trip0.flatten) V from rfl]
  simp only [trip0, List.flatten_cons, List.flatten_nil, List.cons_append, List.nil_append, List.append_nil]
  after_reads_simp [unaryIndexed_result_read, binaryIndexed_result_read, indexContents_tref_cons, indexContents_tref_empty]
  rfl

/-- The read-outs after a trip. -/
theorem trip0_reads : afterL trip0 V (Proc.devRef .tc main_v22_8)
    = put (V (Proc.devRef .tc main_v22_8)) (readT (pick (V (Proc.devRef .tc main_v22_0)) (at0 V)) (pick (V (Proc.devRef .tc main_v22_3)) (at0 V)) (fresh0 V) (V (Proc.devRef .tc main_v22_7))) (at0 V) := by
  rw [show afterL trip0 V = after (trip0.flatten) V from rfl]
  simp only [trip0, List.flatten_cons, List.flatten_nil, List.cons_append, List.nil_append, List.append_nil]
  after_reads_simp [unaryIndexed_result_read, binaryIndexed_result_read, indexContents_tref_cons, indexContents_tref_empty]
  rfl

/-- The states kept after a trip. -/
theorem trip0_states : afterL trip0 V (Proc.devRef .tc main_v22_9)
    = put (V (Proc.devRef .tc main_v22_9)) (V (Proc.devRef .tc main_v22_7)) (at0 V) := by
  rw [show afterL trip0 V = after (trip0.flatten) V from rfl]
  simp only [trip0, List.flatten_cons, List.flatten_nil, List.cons_append, List.nil_append, List.append_nil]
  after_reads_simp [unaryIndexed_result_read, binaryIndexed_result_read, indexContents_tref_cons, indexContents_tref_empty]
  rfl

/-- The fresh values kept after a trip. -/
theorem trip0_fresh : afterL trip0 V (Proc.devRef .tc main_v22_10)
    = put (V (Proc.devRef .tc main_v22_10)) (fresh0 V) (at0 V) := by
  rw [show afterL trip0 V = after (trip0.flatten) V from rfl]
  simp only [trip0, List.flatten_cons, List.flatten_nil, List.cons_append, List.nil_append, List.append_nil]
  after_reads_simp [unaryIndexed_result_read, binaryIndexed_result_read, indexContents_tref_cons, indexContents_tref_empty]
  rfl

/-- The decays kept after a trip. -/
theorem trip0_gates : afterL trip0 V (Proc.devRef .tc main_v22_11)
    = putGate (V (Proc.devRef .tc main_v22_11)) (broadcastInDim S8x1x1 ![0] bcast_S8_S8x1x1_0 (pickRow (V (Proc.devRef .tc main_v22_5)) (at0 V))) (at0 V) := by
  rw [show afterL trip0 V = after (trip0.flatten) V from rfl]
  simp only [trip0, List.flatten_cons, List.flatten_nil, List.cons_append, List.nil_append, List.append_nil]
  after_reads_simp [unaryIndexed_result_read, binaryIndexed_result_read, indexContents_tref_cons, indexContents_tref_empty]
  rfl

end Trip0

/-! ## A backward trip -/

/-- The gradient of the values, as the reference writes it. -/
def dFreshT (kt intra dO D : FVec Ideal S8x128x128 .f32) : FVec Ideal S8x128x128 .f32 :=
  addf (transpose S8x128x128 [0, 2, 1] (Host.dotGeneral (φ₁ := .f32) (φ₂ := .f32) dot_S8x128x128_S8x128x128_S8x128x128_1_2_2_1_0_0 none D kt) transposes_S8x128x128_S8x128x128_0_2_1)
    (transpose S8x128x128 [0, 2, 1] (Host.dotGeneral (φ₁ := .f32) (φ₂ := .f32) dot_S8x128x128_S8x128x128_S8x128x128_1_1_2_2_0_0 none dO intra) transposes_S8x128x128_S8x128x128_0_2_1)
/-- The product with the second factor transposed. -/
def outerT (A B : FVec Ideal S8x128x128 .f32) : FVec Ideal S8x128x128 .f32 :=
  Host.dotGeneral (φ₁ := .f32) (φ₂ := .f32) dot_S8x128x128_S8x128x128_S8x128x128_2_2_1_1_0_0 none A B
/-- The gradient of the keys that write the state. -/
def dKtT (D v : FVec Ideal S8x128x128 .f32) : FVec Ideal S8x128x128 .f32 :=
  (transpose S8x128x128 [0, 2, 1] (Host.dotGeneral (φ₁ := .f32) (φ₂ := .f32) dot_S8x128x128_S8x128x128_S8x128x128_2_2_1_1_0_0 none D v) transposes_S8x128x128_S8x128x128_0_2_1)
/-- The gradient of the decay. -/
def dDecayT (S D : FVec Ideal S8x128x128 .f32) : FVec Ideal S8 .f32 :=
  Host.reduceAdd (shapeCast S8x1x1 (Host.reduceAdd (mulf S D) (constant S_ .f32 0x00000000#32) reducesTo_S8x128x128_S8_d1_2 h_S_) shapeCasts_S8_S8x1x1)
    (constant S_ .f32 0x00000000#32) reducesTo_S8x1x1_S8_d1_2 h_S_
/-- The gradient of the state before the chunk; `N` is the gradient of the values with its sign changed. -/
def stepT (qe kcd dO D N : FVec Ideal S8x128x128 .f32) (g : FVec Ideal S8x1x1 .f32) : FVec Ideal S8x128x128 .f32 :=
  addf (addf (mulf D (broadcastInDim S8x128x128 ![0, 1, 2] bcast_S8x1x1_S8x128x128_0_1_2 g))
    (transpose S8x128x128 [0, 2, 1] (Host.dotGeneral (φ₁ := .f32) (φ₂ := .f32) dot_S8x128x128_S8x128x128_S8x128x128_1_1_2_2_0_0 none dO qe) transposes_S8x128x128_S8x128x128_0_2_1))
    (transpose S8x128x128 [0, 2, 1] (Host.dotGeneral (φ₁ := .f32) (φ₂ := .f32) dot_S8x128x128_S8x128x128_S8x128x128_1_1_2_2_0_0 none N kcd) transposes_S8x128x128_S8x128x128_0_2_1)

/-- Head by head, the gradient of the values. -/
theorem dFreshT_each (kt intra dO D : Fin 8 → Mat) :
    dFreshT (each kt) (each intra) (each dO) (each D) = each fun h i j => mm (kt h) (D h) i j + tmm (intra h) (dO h) i j := by
  funext y
  obtain ⟨h, i, j, rfl⟩ : ∃ (h : Fin 8) (i j : Fin 128), y = ix3 h i j := ⟨y 0, y 1, y 2, eq_ix3 y⟩
  unfold dFreshT
  pointwise
  exact congrArg₂ (· + ·) (Finset.sum_congr rfl fun _ _ => mul_comm _ _) (Finset.sum_congr rfl fun _ _ => mul_comm _ _)

/-- Head by head, the product with the second factor transposed. -/
theorem outerT_each (A B : Fin 8 → Mat) :
    outerT (each A) (each B) = each fun h => mmT (A h) (B h) := by
  funext y
  obtain ⟨h, i, j, rfl⟩ : ∃ (h : Fin 8) (i j : Fin 128), y = ix3 h i j := ⟨y 0, y 1, y 2, eq_ix3 y⟩
  unfold outerT
  pointwise
  rfl

/-- Head by head, the gradient of the keys that write the state. -/
theorem dKtT_each (D v : Fin 8 → Mat) :
    dKtT (each D) (each v) = each fun h => mmT (v h) (D h) := by
  funext y
  obtain ⟨h, i, j, rfl⟩ : ∃ (h : Fin 8) (i j : Fin 128), y = ix3 h i j := ⟨y 0, y 1, y 2, eq_ix3 y⟩
  unfold dKtT
  pointwise
  exact Finset.sum_congr rfl fun _ _ => mul_comm _ _

/-- Head by head, a change of sign. -/
theorem negT_each (A : Fin 8 → Mat) :
    (Host.negf (each A) : FVec Ideal S8x128x128 .f32) = each fun h i j => 0 - A h i j := by
  funext y
  obtain ⟨h, i, j, rfl⟩ : ∃ (h : Fin 8) (i j : Fin 128), y = ix3 h i j := ⟨y 0, y 1, y 2, eq_ix3 y⟩
  unfold each
  pointwise
  exact (zero_sub _).symm

/-- Head by head, the gradient of the decay. -/
theorem dDecayT_each (S D : Fin 8 → Mat) :
    dDecayT (each S) (each D) = fun y => ∑ j, ∑ i, S (y 0) i j * D (y 0) i j := by
  funext y
  obtain ⟨h, rfl⟩ : ∃ h : Fin 8, y = ix1 h := ⟨y 0, eq_ix1 y⟩
  unfold dDecayT
  pointwise
  refine (Fin.sum_univ_one _).trans ((Fin.sum_univ_one _).trans ?_)
  exact Finset.sum_comm

/-- Head by head, the gradient of the state. -/
theorem stepT_each (qe kcd dO D N : Fin 8 → Mat) (g : Fin 8 → EReal) :
    stepT (each qe) (each kcd) (each dO) (each D) (each N) (fun y => g (y 0)) = each fun h i j =>
      D h i j * g h + tmm (qe h) (dO h) i j + tmm (kcd h) (N h) i j := by
  funext y
  obtain ⟨h, i, j, rfl⟩ : ∃ (h : Fin 8) (i j : Fin 128), y = ix3 h i j := ⟨y 0, y 1, y 2, eq_ix3 y⟩
  unfold stepT
  pointwise
  exact congrArg₂ (· + ·) (congrArg₂ (· + ·) rfl (Finset.sum_congr rfl fun _ _ => mul_comm _ _)) (Finset.sum_congr rfl fun _ _ => mul_comm _ _)

section Trip1
variable (V : Valuation τ sig (Elt Ideal))

/-- The chunk of the trip: the walk goes back from the last. -/
abbrev at1 : IVec S_ 32 := subi (subi (constantI S_ 32 32#32) (V (Proc.devRef .tc main_v80_8))) (constantI S_ 32 1#32)
/-- The gradient of the values of the trip. -/
abbrev dFresh1 : FVec Ideal S8x128x128 .f32 :=
  dFreshT (pick (V (Proc.devRef .tc main_v80_7)) (at1 V)) (pick (V (Proc.devRef .tc main_v80_5)) (at1 V)) (pick (V (Proc.devRef .tc main_v80_0)) (at1 V)) (V (Proc.devRef .tc main_v80_9))

/-- The gradient of the state after a trip. -/
theorem trip1_state : afterL trip1 V (Proc.devRef .tc main_v80_9)
    = stepT (pick (V (Proc.devRef .tc main_v80_3)) (at1 V)) (pick (V (Proc.devRef .tc main_v80_2)) (at1 V)) (pick (V (Proc.devRef .tc main_v80_0)) (at1 V)) (V (Proc.devRef .tc main_v80_9))
      (Host.negf (dFresh1 V)) (pickGate (V (Proc.devRef .tc main_v80_6)) (at1 V)) := by
  rw [show afterL trip1 V = after (trip1.flatten) V from rfl]
  simp only [trip1, List.flatten_cons, List.flatten_nil, List.cons_append, List.nil_append, List.append_nil]
  after_reads_simp [unaryIndexed_result_read, binaryIndexed_result_read, indexContents_tref_cons, indexContents_tref_empty]
  rfl

/-- The gradients of the queries after a trip. -/
theorem trip1_dQe : afterL trip1 V (Proc.devRef .tc main_v80_10)
    = put (V (Proc.devRef .tc main_v80_10)) (outerT (pick (V (Proc.devRef .tc main_v80_0)) (at1 V)) (pick (V (Proc.devRef .tc main_v80_1)) (at1 V))) (at1 V) := by
  rw [show afterL trip1 V = after (trip1.flatten) V from rfl]
  simp only [trip1, List.flatten_cons, List.flatten_nil, List.cons_append, List.nil_append, List.append_nil]
  after_reads_simp [unaryIndexed_result_read, binaryIndexed_result_read, indexContents_tref_cons, indexContents_tref_empty]
  rfl

/-- The gradients of the keys that read the state after a trip. -/
theorem trip1_dKcd : afterL trip1 V (Proc.devRef .tc main_v80_11)
    = put (V (Proc.devRef .tc main_v80_11)) (outerT (Host.negf (dFresh1 V)) (pick (V (Proc.devRef .tc main_v80_1)) (at1 V))) (at1 V) := by
  rw [show afterL trip1 V = after (trip1.flatten) V from rfl]
  simp only [trip1, List.flatten_cons, List.flatten_nil, List.cons_append, List.nil_append, List.append_nil]
  after_reads_simp [unaryIndexed_result_read, binaryIndexed_result_read, indexContents_tref_cons, indexContents_tref_empty]
  rfl

/-- The gradients of the values after a trip. -/
theorem trip1_dValue : afterL trip1 V (Proc.devRef .tc main_v80_12)
    = put (V (Proc.devRef .tc main_v80_12)) (dFresh1 V) (at1 V) := by
  rw [show afterL trip1 V = after (trip1.flatten) V from rfl]
  simp only [trip1, List.flatten_cons, List.flatten_nil, List.cons_append, List.nil_append, List.append_nil]
  after_reads_simp [unaryIndexed_result_read, binaryIndexed_result_read, indexContents_tref_cons, indexContents_tref_empty]
  rfl

/-- The gradients of the attention within the chunk after a trip. -/
theorem trip1_dIntra : afterL trip1 V (Proc.devRef .tc main_v80_13)
    = put (V (Proc.devRef .tc main_v80_13)) (outerT (pick (V (Proc.devRef .tc main_v80_0)) (at1 V)) (pick (V (Proc.devRef .tc main_v80_4)) (at1 V))) (at1 V) := by
  rw [show afterL trip1 V = after (trip1.flatten) V from rfl]
  simp only [trip1, List.flatten_cons, List.flatten_nil, List.cons_append, List.nil_append, List.append_nil]
  after_reads_simp [unaryIndexed_result_read, binaryIndexed_result_read, indexContents_tref_cons, indexContents_tref_empty]
  rfl

/-- The gradients of the keys that write the state after a trip. -/
theorem trip1_dKt : afterL trip1 V (Proc.devRef .tc main_v80_14)
    = put (V (Proc.devRef .tc main_v80_14)) (dKtT (V (Proc.devRef .tc main_v80_9)) (pick (V (Proc.devRef .tc main_v80_4)) (at1 V))) (at1 V) := by
  rw [show afterL trip1 V = after (trip1.flatten) V from rfl]
  simp only [trip1, List.flatten_cons, List.flatten_nil, List.cons_append, List.nil_append, List.append_nil]
  after_reads_simp [unaryIndexed_result_read, binaryIndexed_result_read, indexContents_tref_cons, indexContents_tref_empty]
  rfl

/-- The gradients of the decays after a trip. -/
theorem trip1_dDecay : afterL trip1 V (Proc.devRef .tc main_v80_15)
    = putRow (V (Proc.devRef .tc main_v80_15)) (dDecayT (pick (V (Proc.devRef .tc main_v80_1)) (at1 V)) (V (Proc.devRef .tc main_v80_9))) (at1 V) := by
  rw [show afterL trip1 V = after (trip1.flatten) V from rfl]
  simp only [trip1, List.flatten_cons, List.flatten_nil, List.cons_append, List.nil_append, List.append_nil]
  after_reads_simp [unaryIndexed_result_read, binaryIndexed_result_read, indexContents_tref_cons, indexContents_tref_empty]
  rfl

/-- The walk's `k`-th chunk. -/
theorem at1_num {k : ℕ} (hk : k < 32) (h : V (Proc.devRef .tc main_v80_8) = num k) : at1 V = num (31 - k) := by
  unfold at1
  rw [h]
  funext i
  exact (by decide +kernel : ∀ k : Fin 32, (32#32 - Scf.iv 0#32 1#32 k.val) - 1#32 = Scf.iv 0#32 1#32 (31 - k.val)) ⟨k, hk⟩

end Trip1

end Cert.Proof.Ref

end
-- ==== Proof.RefForward.lean ====
/- The reference's forward loop over the extended reals: before each trip its buffers hold the state, the read-outs, the
   states kept and the fresh values of the eight heads cut from the arguments. -/
module

public import proofs.«01_k».proof.Proof.RefTrips

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo
open Cert.Proof.Scan (Mat mm mmT tmm Head)

variable (m : (ℓ : Loc nD τ sig) → Buf (Elt Ideal) ℓ) (c : Dev nD)

/-- Head `h` of core `c`, cut from the arguments. -/
def head (h : Fin 8) : Head :=
  Scan.cut (fun i j => m ((c : Thread nD τ).loc main_arg0) (ix2 i j)) (fun i j => m ((c : Thread nD τ).loc main_arg1) (ix2 i j))
    (fun i j => m ((c : Thread nD τ).loc main_arg2) (ix2 i j)) (fun i j => m ((c : Thread nD τ).loc main_arg3) (ix2 i j))
    (fun i j => m ((c : Thread nD τ).loc main_arg4) (ix2 i j)) (fun i j => m ((c : Thread nD τ).loc main_arg5) (ix2 i j))
    (fun i j => m ((c : Thread nD τ).loc main_arg6) (ix2 i j)) (fun j => m ((c : Thread nD τ).loc main_arg7) (ix1 j))
    (fun i j => m ((c : Thread nD τ).loc main_arg8) (ix2 i j)) h

/-! ## Where the loop is entered -/

/-- Cutting an array into chunks and heads. -/
def chunks (x : FVec Ideal S4096x1024 .f32) : FVec Ideal S32x8x128x128 .f32 :=
  transpose S32x8x128x128 [0, 2, 1, 3] (shapeCast S32x128x8x128 x shapeCasts_S4096x1024_S32x128x8x128)
    transposes_S32x128x8x128_S32x8x128x128_0_2_1_3

/-- Entry by entry. -/
theorem chunks_stack (x : FVec Ideal S4096x1024 .f32) :
    chunks x = stack full fun h k i j => x (ix2 ⟨(128 * k + i.val) % 4096, Nat.mod_lt _ (by decide)⟩ ⟨128 * h.val + j.val, by omega⟩) := by
  funext y
  obtain ⟨k, h, i, j, rfl⟩ : ∃ (k : Fin 32) (h : Fin 8) (i j : Fin 128), y = ix4 k h i j := ⟨y 0, y 1, y 2, y 3, eq_ix4 y⟩
  unfold chunks
  pointwise
  show _ = x (ix2 ⟨(128 * k.val + i.val) % 4096, _⟩ ⟨128 * h.val + j.val, _⟩)
  refine congrArg₂ (fun a b => x (ix2 a b)) (Fin.ext ?_) (Fin.ext ?_)
  · show k.val * 128 + i.val = (128 * k.val + i.val) % 4096
    omega
  · show h.val * 128 + j.val = 128 * h.val + j.val
    omega

/-- The zero of the programs. -/
theorem zero_init (s : Shape) (h) (y : s.Idx) : (broadcastInDim s ![] h (constant S_ FTy.f32 0#32) : FVec Ideal s .f32) y = 0 :=
  Ideal.ofBits_zero_f32

/-- A stack before it is filled. -/
theorem stack_zero (f : Fin 8 → ℕ → Mat) (h) :
    (broadcastInDim S32x8x128x128 ![] h (constant S_ FTy.f32 0#32) : FVec Ideal S32x8x128x128 .f32) = stack (before 0) f := by
  funext y
  exact zero_init _ _ y

/-- Buffers before a trip: what the arguments' blocks are, and what is filled so far. -/
structure Filled (V : Valuation τ sig (Elt Ideal)) (hd : Fin 8 → Head) (k : ℕ) : Prop where
  qe : V (Proc.devRef .tc main_v22_0) = stack full fun h => (hd h).qe
  kcd : V (Proc.devRef .tc main_v22_1) = stack full fun h => (hd h).kcd
  value : V (Proc.devRef .tc main_v22_2) = stack full fun h => (hd h).value
  intra : V (Proc.devRef .tc main_v22_3) = stack full fun h => (hd h).intra
  kt : V (Proc.devRef .tc main_v22_4) = stack full fun h => (hd h).kt
  decay : V (Proc.devRef .tc main_v22_5) = lines full fun h => (hd h).decay
  counter : V (Proc.devRef .tc main_v22_6) = num k
  state : V (Proc.devRef .tc main_v22_7) = each fun h => (hd h).state k
  reads : V (Proc.devRef .tc main_v22_8) = stack (before k) fun h => (hd h).read
  states : V (Proc.devRef .tc main_v22_9) = stack (before k) fun h => (hd h).state
  fresh : V (Proc.devRef .tc main_v22_10) = stack (before k) fun h b => (hd h).fresh b ((hd h).state b)
  gates : V (Proc.devRef .tc main_v22_11) = Ref.gates (before k) fun h => (hd h).decay

/-- The queries, chunk by chunk. -/
theorem enter0_qe : enter0 m c (Proc.devRef .tc main_v22_0) = stack full fun h => (head m c h).qe := by
  show after pre0 (launchContents m c) (Proc.devRef .tc main_v22_0) = _
  unfold pre0
  after_reads_simp
  exact chunks_stack (m ((c : Thread nD τ).loc main_arg2))

/-- The keys that read the state, chunk by chunk. -/
theorem enter0_kcd : enter0 m c (Proc.devRef .tc main_v22_1) = stack full fun h => (head m c h).kcd := by
  show after pre0 (launchContents m c) (Proc.devRef .tc main_v22_1) = _
  unfold pre0
  after_reads_simp
  exact chunks_stack (m ((c : Thread nD τ).loc main_arg1))

/-- The values, chunk by chunk. -/
theorem enter0_value : enter0 m c (Proc.devRef .tc main_v22_2) = stack full fun h => (head m c h).value := by
  show after pre0 (launchContents m c) (Proc.devRef .tc main_v22_2) = _
  unfold pre0
  after_reads_simp
  exact chunks_stack (m ((c : Thread nD τ).loc main_arg0))

/-- The attention within the chunk, chunk by chunk. -/
theorem enter0_intra : enter0 m c (Proc.devRef .tc main_v22_3) = stack full fun h => (head m c h).intra := by
  show after pre0 (launchContents m c) (Proc.devRef .tc main_v22_3) = _
  unfold pre0
  after_reads_simp
  exact chunks_stack (m ((c : Thread nD τ).loc main_arg4))

/-- The keys that write the state, chunk by chunk. -/
theorem enter0_kt : enter0 m c (Proc.devRef .tc main_v22_4) = stack full fun h => (head m c h).kt := by
  show after pre0 (launchContents m c) (Proc.devRef .tc main_v22_4) = _
  unfold pre0
  after_reads_simp
  exact chunks_stack (m ((c : Thread nD τ).loc main_arg3))

/-- The decays. -/
theorem enter0_decay : enter0 m c (Proc.devRef .tc main_v22_5) = lines full fun h => (head m c h).decay := by
  show after pre0 (launchContents m c) (Proc.devRef .tc main_v22_5) = _
  unfold pre0
  after_reads_simp
  funext y
  obtain ⟨k, h, rfl⟩ : ∃ (k : Fin 32) (h : Fin 8), y = ix2 k h := ⟨y 0, y 1, eq_ix2 y⟩
  dsimp only [id]
  pointwise
  show _ = m ((c : Thread nD τ).loc main_arg5) (ix2 h ⟨k.val % 32, _⟩)
  exact congrArg (fun t => m ((c : Thread nD τ).loc main_arg5) (ix2 h t)) (Fin.ext (Nat.mod_eq_of_lt k.isLt).symm)

/-- The state is nothing. -/
theorem enter0_state : enter0 m c (Proc.devRef .tc main_v22_7) = each fun h => (head m c h).state 0 := by
  show after pre0 (launchContents m c) (Proc.devRef .tc main_v22_7) = _
  unfold pre0
  after_reads_simp
  funext y
  exact zero_init _ _ y

/-- Nothing is filled. -/
theorem enter0_reads : enter0 m c (Proc.devRef .tc main_v22_8) = stack (before 0) fun h => (head m c h).read := by
  show after pre0 (launchContents m c) (Proc.devRef .tc main_v22_8) = _
  unfold pre0
  after_reads_simp
  exact stack_zero _ _

/-- Nothing is filled. -/
theorem enter0_states : enter0 m c (Proc.devRef .tc main_v22_9) = stack (before 0) fun h => (head m c h).state := by
  show after pre0 (launchContents m c) (Proc.devRef .tc main_v22_9) = _
  unfold pre0
  after_reads_simp
  exact stack_zero _ _

/-- Nothing is filled. -/
theorem enter0_fresh : enter0 m c (Proc.devRef .tc main_v22_10) = stack (before 0) fun h b => (head m c h).fresh b ((head m c h).state b) := by
  show after pre0 (launchContents m c) (Proc.devRef .tc main_v22_10) = _
  unfold pre0
  after_reads_simp
  exact stack_zero _ _

/-- Nothing is filled. -/
theorem enter0_gates : enter0 m c (Proc.devRef .tc main_v22_11) = gates (before 0) fun h => (head m c h).decay := by
  show after pre0 (launchContents m c) (Proc.devRef .tc main_v22_11) = _
  unfold pre0
  after_reads_simp
  funext y
  exact zero_init _ _ y

/-! ## Trip by trip -/

/-- One trip fills one chunk more. -/
theorem fill {V : Valuation τ sig (Elt Ideal)} {hd : Fin 8 → Head} {k : ℕ} (hk : k < 32) (F : Filled V hd k) :
    afterL trip0 V (Proc.devRef .tc main_v22_7) = each (fun h => (hd h).state (k + 1))
      ∧ afterL trip0 V (Proc.devRef .tc main_v22_8) = stack (before (k + 1)) (fun h => (hd h).read)
      ∧ afterL trip0 V (Proc.devRef .tc main_v22_9) = stack (before (k + 1)) (fun h => (hd h).state)
      ∧ afterL trip0 V (Proc.devRef .tc main_v22_10) = stack (before (k + 1)) (fun h b => (hd h).fresh b ((hd h).state b))
      ∧ afterL trip0 V (Proc.devRef .tc main_v22_11) = Ref.gates (before (k + 1)) (fun h => (hd h).decay) := by
  have hf : ∀ b, b < 32 → before (k + 1) b = (before k b || decide (b = k)) := fun b _ => by
    simp only [before, ← Bool.decide_or]; congr 1; exact propext (by omega)
  have hfresh : fresh0 V = each fun h => (hd h).fresh k ((hd h).state k) := by
    unfold fresh0 at0
    rw [F.kcd, F.value, F.state, F.counter, pick_stack hk _ rfl, pick_stack hk _ rfl, freshT_each]
    rfl
  refine ⟨?_, ?_, ?_, ?_, ?_⟩
  · rw [trip0_state, hfresh, F.kt, F.state, F.decay, show at0 V = num k from F.counter, pick_stack hk _ rfl, pickRow_lines hk _ rfl]
    exact stateT_each _ _ _ fun h => (hd h).decay k
  · rw [trip0_reads, hfresh, F.reads, F.qe, F.intra, F.state, show at0 V = num k from F.counter, pick_stack hk _ rfl, pick_stack hk _ rfl, readT_each]
    exact put_stack hk hf fun h => (hd h).read
  · rw [trip0_states, F.states, F.state, show at0 V = num k from F.counter]
    exact put_stack hk hf fun h => (hd h).state
  · rw [trip0_fresh, hfresh, F.fresh, show at0 V = num k from F.counter]
    exact put_stack hk hf fun h b => (hd h).fresh b ((hd h).state b)
  · rw [trip0_gates, F.gates, F.decay, show at0 V = num k from F.counter, pickRow_lines hk _ rfl]
    exact putGate_gates hk hf fun h => (hd h).decay

/-- Before trip `k` of the forward loop. -/
theorem filled : ∀ k, k ≤ 32 → Filled (fwd m k c) (head m c) k
  | 0, _ => by
    show Filled (enter0 m c) (head m c) 0
    exact ⟨enter0_qe m c, enter0_kcd m c, enter0_value m c, enter0_intra m c, enter0_kt m c, enter0_decay m c, fwd_counter m c 0,
      enter0_state m c, enter0_reads m c, enter0_states m c, enter0_fresh m c, enter0_gates m c⟩
  | k + 1, hk => by
    have F := filled k (by omega)
    have F' : Filled (after test0 (fwd m k c)) (head m c) k := by
      constructor <;> rw [test0_spares (by decide +kernel)]
      exacts [F.qe, F.kcd, F.value, F.intra, F.kt, F.decay, F.counter, F.state, F.reads, F.states, F.fresh, F.gates]
    obtain ⟨h7, h8, h9, h10, h11⟩ := fill (show k < 32 by omega) F'
    refine ⟨?_, ?_, ?_, ?_, ?_, ?_, fwd_counter m c (k + 1), h7, h8, h9, h10, h11⟩ <;>
      rw [fwd_spares m (by decide +kernel) (by decide +kernel) c (k + 1)]
    exacts [enter0_qe m c, enter0_kcd m c, enter0_value m c, enter0_intra m c, enter0_kt m c, enter0_decay m c]

end Cert.Proof.Ref

end
-- ==== Proof.RefMiddle.lean ====
/- Between the reference's two loops: the normalisation, the gate, and the gradients through both, head by head, over the
   extended reals. -/
module

public import proofs.«01_k».proof.Proof.RefForward
public import proofs.«01_k».proof.Proof.Sums

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo
open Cert.Proof.Scan (Mat mm mmT tmm Head)

/-- An array by rows, heads and columns. -/
def rows (f : Fin 8 → ℕ → Mat) : FVec Ideal S4096x8x128 .f32 := fun y =>
  f (y 1) ((y 0).val / 128) ⟨(y 0).val % 128, Nat.mod_lt _ (by decide)⟩ (y 2)
/-- One number for each row of each head. -/
def perRow (f : Fin 8 → ℕ → Fin 128 → EReal) : FVec Ideal S4096x8x1 .f32 := fun y =>
  f (y 1) ((y 0).val / 128) ⟨(y 0).val % 128, Nat.mod_lt _ (by decide)⟩
/-- The same array with the heads side by side. -/
def spread (f : Fin 8 → ℕ → Mat) : FVec Ideal S4096x1024 .f32 := fun y =>
  f ⟨(y 1).val / 128, Nat.div_lt_of_lt_mul (y 1).isLt⟩ ((y 0).val / 128) ⟨(y 0).val % 128, Nat.mod_lt _ (by decide)⟩
    ⟨(y 1).val % 128, Nat.mod_lt _ (by decide)⟩

/-- Splitting the columns into heads. -/
theorem rows_of_spread (f : Fin 8 → ℕ → Mat) (h) : shapeCast S4096x8x128 (spread f) h = rows f := by
  funext y
  obtain ⟨s, h, j, rfl⟩ : ∃ (s : Fin 4096) (h : Fin 8) (j : Fin 128), y = ix3 s h j := ⟨y 0, y 1, y 2, eq_ix3 y⟩
  pointwise
  show f ⟨(h.val * 128 + j.val) / 128, _⟩ (s.val / 128) ⟨s.val % 128, _⟩ ⟨(h.val * 128 + j.val) % 128, _⟩ = _
  exact congrArg₂ (fun a b => f a _ _ b) (Fin.ext (by show (h.val * 128 + j.val) / 128 = h.val; omega))
    (Fin.ext (by show (h.val * 128 + j.val) % 128 = j.val; omega))

/-- Joining the heads' columns. -/
theorem spread_of_rows (f : Fin 8 → ℕ → Mat) (h) : shapeCast S4096x1024 (rows f) h = spread f := by
  funext y
  obtain ⟨s, q, rfl⟩ : ∃ (s : Fin 4096) (q : Fin 1024), y = ix2 s q := ⟨y 0, y 1, eq_ix2 y⟩
  pointwise
  rfl

/-- Joining the chunks' rows. -/
theorem rows_of_stack (filled : ℕ → Bool) (hf : ∀ b, b < 32 → filled b = true) (f : Fin 8 → ℕ → Mat) (h h') :
    shapeCast S4096x8x128 (transpose S32x128x8x128 [0, 2, 1, 3] (stack filled f) h) h' = rows f := by
  funext y
  obtain ⟨s, h, j, rfl⟩ : ∃ (s : Fin 4096) (h : Fin 8) (j : Fin 128), y = ix3 s h j := ⟨y 0, y 1, y 2, eq_ix3 y⟩
  pointwise
  exact if_pos (hf _ (by show s.val / 128 < 32; omega))

/-- What the stretch begins with. -/
structure Enters (V : Valuation τ sig (Elt Ideal)) (hd : Fin 8 → Head) (n : Fin 128 → EReal) : Prop where
  reads : V (Proc.devRef .tc main_v22_8) = stack (before 32) fun h => (hd h).read
  z : V (Proc.devRef .tc main_v0) = spread fun h => (hd h).z
  dy : V (Proc.devRef .tc main_v1) = spread fun h => (hd h).dy
  weights : V (Proc.devRef .tc main_arg7) = fun y => n (y 0)
  nrm : ∀ h, (hd h).nrm = n

section Stretch
variable {V : Valuation τ sig (Elt Ideal)} {hd : Fin 8 → Head} {n : Fin 128 → EReal} (E : Enters V hd n)

/-- The read-outs as the stretch's first operations write them. -/
theorem joined (f : Fin 8 → ℕ → Mat) : (fun i => shapeCast main_v24.ty.shape (transpose S32x128x8x128 [0, 2, 1, 3] (stack (before 32) f)
    transposes_S32x8x128x128_S32x128x8x128_0_2_1_3) shapeCasts_S32x128x8x128_S4096x8x128 i) = rows f :=
  rows_of_stack (before 32) (fun b hb => decide_eq_true hb) _ _ _

include E

/-- The read-outs, row by row. -/
theorem mid0_reads : after mid0 V (Proc.devRef .tc main_v24) = rows fun h => (hd h).read := by
  unfold mid0
  after_reads_simp
  rw [E.reads]
  exact rows_of_stack (before 32) (fun b hb => decide_eq_true hb) _ _ _

/-- The gate's argument. -/
theorem mid0_z : after mid0 V (Proc.devRef .tc main_v25) = rows fun h => (hd h).z := by
  unfold mid0
  after_reads_simp
  rw [E.z]
  exact rows_of_spread _ _

/-- The factor each row is normalised by. -/
theorem mid0_scale : after mid0 V (Proc.devRef .tc main_v33) = perRow fun h b i => Scan.scale ((hd h).read b i) := by
  unfold mid0
  after_reads_simp
  rw [E.reads]
  rw [joined]
  funext y
  obtain ⟨s, h, j, rfl⟩ : ∃ (s : Fin 4096) (h : Fin 8) (j : Fin 1), y = ix3 s h j := ⟨y 0, y 1, y 2, eq_ix3 y⟩
  pointwise
  rfl

/-- The slope of that factor. -/
theorem mid0_dscale : after mid0 V (Proc.devRef .tc main_v36) = perRow fun h b i => Ideal.ofBits FTy.f32 3204448256#32 * Ideal.div (Scan.scale ((hd h).read b i)) (Scan.meanSq ((hd h).read b i)) := by
  unfold mid0
  after_reads_simp
  rw [E.reads]
  rw [joined]
  funext y
  obtain ⟨s, h, j, rfl⟩ : ∃ (s : Fin 4096) (h : Fin 8) (j : Fin 1), y = ix3 s h j := ⟨y 0, y 1, y 2, eq_ix3 y⟩
  pointwise
  rfl

/-- The normalised rows. -/
theorem mid0_norm : after mid0 V (Proc.devRef .tc main_v38) = rows fun h b i j => (hd h).read b i j * Scan.scale ((hd h).read b i) := by
  unfold mid0
  after_reads_simp
  rw [E.reads]
  rw [joined]
  funext y
  obtain ⟨s, h, j, rfl⟩ : ∃ (s : Fin 4096) (h : Fin 8) (j : Fin 128), y = ix3 s h j := ⟨y 0, y 1, y 2, eq_ix3 y⟩
  pointwise
  rfl

/-- The normalised rows, weighed. -/
theorem mid0_weighed : after mid0 V (Proc.devRef .tc main_v41) = rows fun h b i j => (hd h).read b i j * Scan.scale ((hd h).read b i) * n j := by
  unfold mid0
  after_reads_simp
  rw [E.reads, E.weights]
  rw [joined]
  funext y
  obtain ⟨s, h, j, rfl⟩ : ∃ (s : Fin 4096) (h : Fin 8) (j : Fin 128), y = ix3 s h j := ⟨y 0, y 1, y 2, eq_ix3 y⟩
  pointwise
  rfl

/-- The weights, as one row. -/
theorem mid0_row : after mid0 V (Proc.devRef .tc main_v39) = fun y => n (y 2) := by
  unfold mid0
  after_reads_simp
  rw [E.weights]
  funext y
  obtain ⟨a, b, j, rfl⟩ : ∃ (a b : Fin 1) (j : Fin 128), y = ix3 a b j := ⟨y 0, y 1, y 2, eq_ix3 y⟩
  pointwise

omit E

/-- The number one, everywhere. -/
def one : FVec Ideal S4096x8x128 .f32 := broadcastInDim S4096x8x128 ![] bcast_S_S4096x8x128 (constant S_ FTy.f32 1065353216#32)
/-- The logistic function as the reference writes it. -/
def sigT (z : FVec Ideal S4096x8x128 .f32) : FVec Ideal S4096x8x128 .f32 := Host.divf one (addf one (Host.exp (Host.negf z)))

/-- Entry by entry. -/
theorem one_rows : one = rows fun _ _ _ _ => 1 := funext fun _ => Ideal.ofBits_one_f32
/-- Entry by entry. -/
theorem sigT_rows (z : Fin 8 → ℕ → Mat) : sigT (rows z) = rows fun h b i j => Scan.sig (z h b i j) := by
  funext y
  unfold sigT Scan.sig
  rw [one_rows]
  show Ideal.div 1 (1 + Ideal.exp (-(rows z y))) = Ideal.div 1 (1 + Ideal.exp (0 - rows z y))
  rw [zero_sub]

/-- The gate. -/
theorem mid1_gate {z : Fin 8 → ℕ → Mat} (hz : V (Proc.devRef .tc main_v25) = rows z) : after mid1 V (Proc.devRef .tc main_v42_0) = rows fun h b i j => z h b i j * Scan.sig (z h b i j) := by
  unfold mid1
  after_reads_simp
  rw [hz]
  show mulf (rows z) (sigT (rows z)) = _
  rw [sigT_rows]
  rfl

/-- The slope of the logistic function. -/
theorem mid1_slope {z : Fin 8 → ℕ → Mat} (hz : V (Proc.devRef .tc main_v25) = rows z) : after mid1 V (Proc.devRef .tc main_v42_1) = rows fun h b i j => Scan.sig (z h b i j) * (1 - Scan.sig (z h b i j)) := by
  unfold mid1
  after_reads_simp
  rw [hz]
  show mulf (sigT (rows z)) (subf one (sigT (rows z))) = _
  rw [sigT_rows, one_rows]
  rfl

/-- The logistic function. -/
theorem mid1_sig {z : Fin 8 → ℕ → Mat} (hz : V (Proc.devRef .tc main_v25) = rows z) : after mid1 V (Proc.devRef .tc main_v42_2) = rows fun h b i j => Scan.sig (z h b i j) := by
  unfold mid1
  after_reads_simp
  rw [hz]
  show sigT (rows z) = _
  rw [sigT_rows]

/-- The gradient that comes in. -/
theorem mid2_dy {dy : Fin 8 → ℕ → Mat} (hdy : V (Proc.devRef .tc main_v1) = spread dy) : after mid2 V (Proc.devRef .tc main_v46) = rows dy := by
  unfold mid2
  after_reads_simp
  rw [hdy]
  exact rows_of_spread _ _

/-- The weighed rows times the gradient that comes in. -/
theorem mid2_weighed {dy o : Fin 8 → ℕ → Mat} (hdy : V (Proc.devRef .tc main_v1) = spread dy) (ho : V (Proc.devRef .tc main_v41) = rows o) : after mid2 V (Proc.devRef .tc main_v47) = rows fun h b i j => o h b i j * dy h b i j := by
  unfold mid2
  after_reads_simp
  rw [hdy, ho]
  exact congrArg (fun x => mulf (rows o) x) (rows_of_spread dy _)

/-- The gradient that passes the gate. -/
theorem mid2_gated {dy g : Fin 8 → ℕ → Mat} (hdy : V (Proc.devRef .tc main_v1) = spread dy) (hg : V (Proc.devRef .tc main_v42_0) = rows g) : after mid2 V (Proc.devRef .tc main_v48) = rows fun h b i j => dy h b i j * g h b i j := by
  unfold mid2
  after_reads_simp
  rw [hdy, hg]
  exact congrArg (fun x => mulf x (rows g)) (rows_of_spread dy _)

/-- The gradient of the gate's argument. -/
theorem mid3_dGate {o s z d : Fin 8 → ℕ → Mat} (ho : V (Proc.devRef .tc main_v47) = rows o) (hs : V (Proc.devRef .tc main_v42_2) = rows s)
    (hz : V (Proc.devRef .tc main_v25) = rows z) (hd : V (Proc.devRef .tc main_v42_1) = rows d) : after mid3 V (Proc.devRef .tc main_v49) = rows fun h b i j => o h b i j * s h b i j + z h b i j * o h b i j * d h b i j := by
  unfold mid3
  after_reads_simp
  rw [ho, hs, hz, hd]
  rfl

/-- The heads' gradients of the read-out, from the pieces the normalisation keeps. -/
def dReads (o g : Fin 8 → ℕ → Mat) (s d : Fin 8 → ℕ → Fin 128 → EReal) (n : Fin 128 → EReal) : Fin 8 → ℕ → Mat := fun h b i j =>
  g h b i j * n j * s h b i
    + o h b i j * ∑ _x : Fin 1, Ideal.div ((∑ k, o h b i k * (g h b i k * n k)) * d h b i) (Ideal.ofBits FTy.f32 1124073472#32)
    + (∑ _x : Fin 1, Ideal.div ((∑ k, o h b i k * (g h b i k * n k)) * d h b i) (Ideal.ofBits FTy.f32 1124073472#32)) * o h b i j

/-- Cutting the rows into chunks. -/
theorem stack_of_rows (f : Fin 8 → ℕ → Mat) (h h') :
    transpose S32x8x128x128 [0, 2, 1, 3] (shapeCast S32x128x8x128 (rows f) h) h' = stack full f := by
  funext y
  obtain ⟨k, h, i, j, rfl⟩ : ∃ (k : Fin 32) (h : Fin 8) (i j : Fin 128), y = ix4 k h i j := ⟨y 0, y 1, y 2, y 3, eq_ix4 y⟩
  pointwise
  show f h ((k.val * 128 + i.val) / 128) ⟨(k.val * 128 + i.val) % 128, _⟩ j = f h k.val i j
  exact congrArg₂ (fun a b => f h a b j) (by omega) (Fin.ext (by show (k.val * 128 + i.val) % 128 = i.val; omega))

/-- The gradients of the read-outs, row by row. -/
theorem mid4_dReads {o g : Fin 8 → ℕ → Mat} {s d : Fin 8 → ℕ → Fin 128 → EReal}
    (h48 : V (Proc.devRef .tc main_v48) = rows g) (h39 : V (Proc.devRef .tc main_v39) = fun y => n (y 2))
    (h24 : V (Proc.devRef .tc main_v24) = rows o) (h33 : V (Proc.devRef .tc main_v33) = perRow s) (h36 : V (Proc.devRef .tc main_v36) = perRow d) : after mid4 V (Proc.devRef .tc main_v69) = rows (dReads o g s d n) := by
  unfold mid4
  after_reads_simp
  rw [h48, h39, h24, h33, h36]
  funext y
  obtain ⟨s, h, j, rfl⟩ : ∃ (s : Fin 4096) (h : Fin 8) (j : Fin 128), y = ix3 s h j := ⟨y 0, y 1, y 2, eq_ix3 y⟩
  pointwise
  rfl

/-- The gradients of the read-outs, chunk by chunk. -/
theorem mid4_chunks {o g : Fin 8 → ℕ → Mat} {s d : Fin 8 → ℕ → Fin 128 → EReal}
    (h48 : V (Proc.devRef .tc main_v48) = rows g) (h39 : V (Proc.devRef .tc main_v39) = fun y => n (y 2))
    (h24 : V (Proc.devRef .tc main_v24) = rows o) (h33 : V (Proc.devRef .tc main_v33) = perRow s) (h36 : V (Proc.devRef .tc main_v36) = perRow d) : after mid4 V (Proc.devRef .tc main_v80_0) = stack full (dReads o g s d n) := by
  unfold mid4
  after_reads_simp
  refine Eq.trans ?_ (stack_of_rows (dReads o g s d n) shapeCasts_S4096x8x128_S32x128x8x128 transposes_S32x128x8x128_S32x8x128x128_0_2_1_3)
  refine congrArg (fun x : FVec Ideal S4096x8x128 .f32 => transpose S32x8x128x128 [0, 2, 1, 3] (shapeCast S32x128x8x128 x shapeCasts_S4096x8x128_S32x128x8x128)
    transposes_S32x128x8x128_S32x8x128x128_0_2_1_3) (Eq.trans ?_ (mid4_dReads h48 h39 h24 h33 h36))
  unfold mid4
  after_reads_simp

/-- The gradient of the gate's argument. -/
theorem mid4_dGate {q : Fin 8 → ℕ → Mat} (hq : V (Proc.devRef .tc main_v49) = rows q) : after mid4 V (Proc.devRef .tc main_v70) = spread q := by
  unfold mid4
  after_reads_simp
  rw [hq]
  exact spread_of_rows _ _

/-- The gradient of the weights: the sum over rows and heads. -/
theorem mid4_dNorm {N g : Fin 8 → ℕ → Mat} (h38 : V (Proc.devRef .tc main_v38) = rows N) (h48 : V (Proc.devRef .tc main_v48) = rows g) : after mid4 V (Proc.devRef .tc main_v55) = fun y => ∑ s : Fin 4096, ∑ h : Fin 8, rows N (ix3 s h (y 0)) * rows g (ix3 s h (y 0)) := by
  unfold mid4
  after_reads_simp
  rw [h38, h48]
  funext y
  obtain ⟨j, rfl⟩ : ∃ j : Fin 128, y = ix1 j := ⟨y 0, eq_ix1 y⟩
  refine (sum_first_two _ _ _ j).trans ?_
  show (constant S_ FTy.f32 0#32 : FVec Ideal S_ .f32) _ + _ = _
  simp only [Finset.univ_unique, Finset.sum_singleton]
  have hc (x : FVec Ideal S128 .f32) (h) : shapeCast S1x1x128 x h (ix3 0 0 j) = x (ix1 j) := by pointwise
  rw [show (constant S_ FTy.f32 0#32 : FVec Ideal S_ .f32) (Shape.Idx.first h_S_) = (0 : EReal) from Ideal.ofBits_zero_f32, zero_add]
  refine (hc _ _).trans ((sum_first_two _ _ _ j).trans ?_)
  rw [show (constant S_ FTy.f32 0#32 : FVec Ideal S_ .f32) (Shape.Idx.first h_S_) = (0 : EReal) from Ideal.ofBits_zero_f32, zero_add]
  rfl

/-- What the second loop is entered with besides: copies of what the first keeps, and nothing filled. -/
theorem mid4_copies :
    after mid4 V (Proc.devRef .tc main_v80_1) = V (Proc.devRef .tc main_v22_9)
      ∧ after mid4 V (Proc.devRef .tc main_v80_2) = V (Proc.devRef .tc main_v7)
      ∧ after mid4 V (Proc.devRef .tc main_v80_3) = V (Proc.devRef .tc main_v4)
      ∧ after mid4 V (Proc.devRef .tc main_v80_4) = V (Proc.devRef .tc main_v22_10)
      ∧ after mid4 V (Proc.devRef .tc main_v80_5) = V (Proc.devRef .tc main_v12)
      ∧ after mid4 V (Proc.devRef .tc main_v80_6) = V (Proc.devRef .tc main_v22_11)
      ∧ after mid4 V (Proc.devRef .tc main_v80_7) = V (Proc.devRef .tc main_v15) := by
  refine ⟨?_, ?_, ?_, ?_, ?_, ?_, ?_⟩ <;>
  · unfold mid4
    after_reads_simp
    rfl

/-- The gradient of the state is nothing, and so is every gradient still to be filled. -/
theorem mid4_zeros : after mid4 V (Proc.devRef .tc main_v80_9) = (fun _ => (0 : EReal))
      ∧ after mid4 V (Proc.devRef .tc main_v80_10) = (fun _ => (0 : EReal))
      ∧ after mid4 V (Proc.devRef .tc main_v80_11) = (fun _ => (0 : EReal))
      ∧ after mid4 V (Proc.devRef .tc main_v80_12) = (fun _ => (0 : EReal))
      ∧ after mid4 V (Proc.devRef .tc main_v80_13) = (fun _ => (0 : EReal))
      ∧ after mid4 V (Proc.devRef .tc main_v80_14) = (fun _ => (0 : EReal))
      ∧ after mid4 V (Proc.devRef .tc main_v80_15) = (fun _ => (0 : EReal)) := by
  refine ⟨?_, ?_, ?_, ?_, ?_, ?_, ?_⟩ <;>
  · unfold mid4
    after_reads_simp
    funext y
    exact zero_init _ _ y

/-- Everything between the loops, from what it begins with. -/
theorem between (E : Enters V hd n) :
    afterL mid V (Proc.devRef .tc main_v80_0) = stack full (fun h => (hd h).dRead)
      ∧ afterL mid V (Proc.devRef .tc main_v70) = spread (fun h => (hd h).dGate)
      ∧ afterL mid V (Proc.devRef .tc main_v55) = (fun y => ∑ h : Fin 8, (hd h).dNormSum (y 0)) := by
  let W0 := after mid0 V
  let W1 := after mid1 W0
  let W2 := after mid2 W1
  let W3 := after mid3 W2
  have z0 : W0 (Proc.devRef .tc main_v25) = rows (fun h => (hd h).z) := mid0_z E
  have gate1 : W1 (Proc.devRef .tc main_v42_0) = rows (fun h b i j => (hd h).z b i j * Scan.sig ((hd h).z b i j)) := mid1_gate z0
  have slope1 : W1 (Proc.devRef .tc main_v42_1) = rows (fun h b i j => Scan.sig ((hd h).z b i j) * (1 - Scan.sig ((hd h).z b i j))) := mid1_slope z0
  have sig1 : W1 (Proc.devRef .tc main_v42_2) = rows (fun h b i j => Scan.sig ((hd h).z b i j)) := mid1_sig z0
  have dy1 : W1 (Proc.devRef .tc main_v1) = spread (fun h => (hd h).dy) := (after_of_writes_sub _ _ mid1_writes (by decide +kernel)).trans ((after_of_writes_sub _ _ mid0_writes (by decide +kernel)).trans E.dy)
  have weighed1 : W1 (Proc.devRef .tc main_v41) = rows (fun h b i j => (hd h).read b i j * Scan.scale ((hd h).read b i) * n j) := (after_of_writes_sub _ _ mid1_writes (by decide +kernel)).trans (mid0_weighed E)
  have weighed2 : W2 (Proc.devRef .tc main_v47) = rows (fun h b i j => (hd h).read b i j * Scan.scale ((hd h).read b i) * n j * (hd h).dy b i j) := mid2_weighed dy1 weighed1
  have gated2 : W2 (Proc.devRef .tc main_v48) = rows (fun h b i j => (hd h).dy b i j * ((hd h).z b i j * Scan.sig ((hd h).z b i j))) := mid2_gated dy1 gate1
  have q3 : W3 (Proc.devRef .tc main_v49) = rows (fun h b i j => (hd h).read b i j * Scan.scale ((hd h).read b i) * n j * (hd h).dy b i j * Scan.sig ((hd h).z b i j) + (hd h).z b i j * ((hd h).read b i j * Scan.scale ((hd h).read b i) * n j * (hd h).dy b i j) * (Scan.sig ((hd h).z b i j) * (1 - Scan.sig ((hd h).z b i j)))) := mid3_dGate weighed2 ((after_of_writes_sub _ _ mid2_writes (by decide +kernel)).trans sig1)
    ((after_of_writes_sub _ _ mid2_writes (by decide +kernel)).trans ((after_of_writes_sub _ _ mid1_writes (by decide +kernel)).trans z0)) ((after_of_writes_sub _ _ mid2_writes (by decide +kernel)).trans slope1)
  have g3 : W3 (Proc.devRef .tc main_v48) = rows (fun h b i j => (hd h).dy b i j * ((hd h).z b i j * Scan.sig ((hd h).z b i j))) := (after_of_writes_sub _ _ mid3_writes (by decide +kernel)).trans gated2
  have kept {r : Ref sig .tc} (h1 : r ∉ mid1_W) (h2 : r ∉ mid2_W) (h3 : r ∉ mid3_W) : W3 (Proc.devRef .tc r) = W0 (Proc.devRef .tc r) :=
    (after_of_writes_sub _ _ mid3_writes h3).trans ((after_of_writes_sub _ _ mid2_writes h2).trans (after_of_writes_sub _ _ mid1_writes h1))
  refine ⟨?_, ?_, ?_⟩
  · refine (mid4_chunks (V := W3) g3 ((kept (by decide +kernel) (by decide +kernel) (by decide +kernel)).trans (mid0_row E)) ((kept (by decide +kernel) (by decide +kernel) (by decide +kernel)).trans (mid0_reads E))
      ((kept (by decide +kernel) (by decide +kernel) (by decide +kernel)).trans (mid0_scale E)) ((kept (by decide +kernel) (by decide +kernel) (by decide +kernel)).trans (mid0_dscale E))).trans ?_
    refine congrArg (stack full) (funext fun h => ?_)
    unfold Head.dRead
    rw [E.nrm h]
    rfl
  · refine (mid4_dGate (V := W3) q3).trans ?_
    refine congrArg spread (funext fun h => ?_)
    unfold Head.dGate
    rw [E.nrm h]
    rfl
  · refine (mid4_dNorm (V := W3) ((kept (by decide +kernel) (by decide +kernel) (by decide +kernel)).trans (mid0_norm E)) g3).trans ?_
    funext y
    exact Finset.sum_comm

/-- What the stretches do not write they keep. -/
theorem between_copies :
    afterL mid V (Proc.devRef .tc main_v80_1) = V (Proc.devRef .tc main_v22_9)
      ∧ afterL mid V (Proc.devRef .tc main_v80_2) = V (Proc.devRef .tc main_v7)
      ∧ afterL mid V (Proc.devRef .tc main_v80_3) = V (Proc.devRef .tc main_v4)
      ∧ afterL mid V (Proc.devRef .tc main_v80_4) = V (Proc.devRef .tc main_v22_10)
      ∧ afterL mid V (Proc.devRef .tc main_v80_5) = V (Proc.devRef .tc main_v12)
      ∧ afterL mid V (Proc.devRef .tc main_v80_6) = V (Proc.devRef .tc main_v22_11)
      ∧ afterL mid V (Proc.devRef .tc main_v80_7) = V (Proc.devRef .tc main_v15) := by
  obtain ⟨h1, h2, h3, h4, h5, h6, h7⟩ := mid4_copies (V := after mid3 (after mid2 (after mid1 (after mid0 V))))
  have kept {r : Ref sig .tc} (h0 : r ∉ mid0_W) (h1 : r ∉ mid1_W) (h2 : r ∉ mid2_W) (h3 : r ∉ mid3_W) :
      after mid3 (after mid2 (after mid1 (after mid0 V))) (Proc.devRef .tc r) = V (Proc.devRef .tc r) :=
    (after_of_writes_sub _ _ mid3_writes h3).trans ((after_of_writes_sub _ _ mid2_writes h2).trans
      ((after_of_writes_sub _ _ mid1_writes h1).trans (after_of_writes_sub _ _ mid0_writes h0)))
  refine ⟨h1.trans (kept ?_ ?_ ?_ ?_), h2.trans (kept ?_ ?_ ?_ ?_), h3.trans (kept ?_ ?_ ?_ ?_), h4.trans (kept ?_ ?_ ?_ ?_),
    h5.trans (kept ?_ ?_ ?_ ?_), h6.trans (kept ?_ ?_ ?_ ?_), h7.trans (kept ?_ ?_ ?_ ?_)⟩ <;> decide +kernel

end Stretch

end Cert.Proof.Ref

end
-- ==== Proof.RefBackward.lean ====
/- The reference's backward loop and its eight results over the extended reals: the gradients of the gated delta rule of the
   eight heads cut from the arguments. -/
module

public import proofs.«01_k».proof.Proof.RefMiddle

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo
open Cert.Proof.Scan (Mat mm mmT tmm Head)

variable (m : (ℓ : Loc nD τ sig) → Buf (Elt Ideal) ℓ) (c : Dev nD)

/-! ## Between the loops -/

/-- The gate's argument and the gradient that comes in, as the loops are entered. -/
theorem enter0_z : enter0 m c (Proc.devRef .tc main_v0) = spread fun h => (head m c h).z := by
  show after pre0 (launchContents m c) (Proc.devRef .tc main_v0) = _
  unfold pre0
  after_reads_simp
  funext y
  obtain ⟨s, q, rfl⟩ : ∃ (s : Fin 4096) (q : Fin 1024), y = ix2 s q := ⟨y 0, y 1, eq_ix2 y⟩
  pointwise
  show m ((c : Thread nD τ).loc main_arg6) _ = m ((c : Thread nD τ).loc main_arg6) (ix2 ⟨(128 * (s.val / 128) + s.val % 128) % 4096, _⟩
    ⟨5632 + 128 * (q.val / 128) + q.val % 128, _⟩)
  exact congrArg₂ (fun a b => m ((c : Thread nD τ).loc main_arg6) (ix2 a b)) (Fin.ext (by show s.val = (128 * (s.val / 128) + s.val % 128) % 4096; omega))
    (Fin.ext (by show 5632 + q.val = 5632 + 128 * (q.val / 128) + q.val % 128; omega))

/-- The gradient that comes in. -/
theorem enter0_dy : enter0 m c (Proc.devRef .tc main_v1) = spread fun h => (head m c h).dy := by
  show after pre0 (launchContents m c) (Proc.devRef .tc main_v1) = _
  unfold pre0
  after_reads_simp
  funext y
  obtain ⟨s, q, rfl⟩ : ∃ (s : Fin 4096) (q : Fin 1024), y = ix2 s q := ⟨y 0, y 1, eq_ix2 y⟩
  pointwise
  show m ((c : Thread nD τ).loc main_arg8) _ = m ((c : Thread nD τ).loc main_arg8) (ix2 ⟨(128 * (s.val / 128) + s.val % 128) % 4096, _⟩
    ⟨1024 + 128 * (q.val / 128) + q.val % 128, _⟩)
  exact congrArg₂ (fun a b => m ((c : Thread nD τ).loc main_arg8) (ix2 a b)) (Fin.ext (by show s.val = (128 * (s.val / 128) + s.val % 128) % 4096; omega))
    (Fin.ext (by show 1024 + q.val = 1024 + 128 * (q.val / 128) + q.val % 128; omega))

/-- What the stretch between the loops begins with. -/
theorem enters : Enters (after test0 (fwd m 32 c)) (head m c) (fun j => m ((c : Thread nD τ).loc main_arg7) (ix1 j)) where
  reads := (test0_spares (by decide +kernel) _).trans (filled m c 32 le_rfl).reads
  z := (test0_spares (by decide +kernel) _).trans ((fwd_spares m (by decide +kernel) (by decide +kernel) c 32).trans (enter0_z m c))
  dy := (test0_spares (by decide +kernel) _).trans ((fwd_spares m (by decide +kernel) (by decide +kernel) c 32).trans (enter0_dy m c))
  weights := by
    rw [test0_spares (by decide +kernel), fwd_spares m (by decide +kernel) (by decide +kernel) c 32]
    show afterL pre (launchContents m c) _ = _
    rw [spares pre_writes (by decide +kernel)]
    funext y
    exact congrArg (m ((c : Thread nD τ).loc main_arg7)) (eq_ix1 y)
  nrm _ := rfl

/-! ## Trip by trip -/

/-- Buffers before a trip back: what the blocks are, and what is filled so far. -/
structure Walked (V : Valuation τ sig (Elt Ideal)) (hd : Fin 8 → Head) (k : ℕ) : Prop where
  dRead : V (Proc.devRef .tc main_v80_0) = stack full fun h => (hd h).dRead
  states : V (Proc.devRef .tc main_v80_1) = stack (before 32) fun h => (hd h).state
  kcd : V (Proc.devRef .tc main_v80_2) = stack full fun h => (hd h).kcd
  qe : V (Proc.devRef .tc main_v80_3) = stack full fun h => (hd h).qe
  fresh : V (Proc.devRef .tc main_v80_4) = stack (before 32) fun h b => (hd h).fresh b ((hd h).state b)
  intra : V (Proc.devRef .tc main_v80_5) = stack full fun h => (hd h).intra
  gates : V (Proc.devRef .tc main_v80_6) = Ref.gates (before 32) fun h => (hd h).decay
  kt : V (Proc.devRef .tc main_v80_7) = stack full fun h => (hd h).kt
  counter : V (Proc.devRef .tc main_v80_8) = num k
  state : V (Proc.devRef .tc main_v80_9) = each fun h => (hd h).back k
  dQe : V (Proc.devRef .tc main_v80_10) = stack (last k) fun h => (hd h).dQe
  dKcd : V (Proc.devRef .tc main_v80_11) = stack (last k) fun h => (hd h).dKcd
  dValue : V (Proc.devRef .tc main_v80_12) = stack (last k) fun h => (hd h).dValue
  dIntra : V (Proc.devRef .tc main_v80_13) = stack (last k) fun h => (hd h).dIntra
  dKt : V (Proc.devRef .tc main_v80_14) = stack (last k) fun h => (hd h).dKt
  dDecay : V (Proc.devRef .tc main_v80_15) = lines (last k) fun h b => ∑ j, (hd h).dDecay b j

/-- One trip back fills one chunk more. -/
theorem walk {V : Valuation τ sig (Elt Ideal)} {hd : Fin 8 → Head} {k : ℕ} (hk : k < 32) (F : Walked V hd k) :
    afterL trip1 V (Proc.devRef .tc main_v80_9) = each (fun h => (hd h).back (k + 1))
      ∧ afterL trip1 V (Proc.devRef .tc main_v80_10) = stack (last (k + 1)) (fun h => (hd h).dQe)
      ∧ afterL trip1 V (Proc.devRef .tc main_v80_11) = stack (last (k + 1)) (fun h => (hd h).dKcd)
      ∧ afterL trip1 V (Proc.devRef .tc main_v80_12) = stack (last (k + 1)) (fun h => (hd h).dValue)
      ∧ afterL trip1 V (Proc.devRef .tc main_v80_13) = stack (last (k + 1)) (fun h => (hd h).dIntra)
      ∧ afterL trip1 V (Proc.devRef .tc main_v80_14) = stack (last (k + 1)) (fun h => (hd h).dKt)
      ∧ afterL trip1 V (Proc.devRef .tc main_v80_15) = lines (last (k + 1)) (fun h b => ∑ j, (hd h).dDecay b j) := by
  have hb : 31 - k < 32 := by omega
  have hf : ∀ b, b < 32 → last (k + 1) b = (last k b || decide (b = 31 - k)) := fun b _ => by
    simp only [last, ← Bool.decide_or]; congr 1; exact propext (by omega)
  have hin : before 32 (31 - k) = true := decide_eq_true hb
  have hat : at1 V = num (31 - k) := at1_num V hk F.counter
  have hdS (h) : (hd h).dState (31 - k) = (hd h).back k := congrArg (hd h).back (by omega)
  have hfresh : dFresh1 V = each fun h => (hd h).dFresh (31 - k) ((hd h).back k) := by
    unfold dFresh1
    rw [hat, F.kt, F.intra, F.dRead, F.state, pick_stack hb _ rfl, pick_stack hb _ rfl, pick_stack hb _ rfl, dFreshT_each]
    rfl
  refine ⟨?_, ?_, ?_, ?_, ?_, ?_, ?_⟩
  · rw [trip1_state, hfresh, hat, F.qe, F.kcd, F.dRead, F.state, F.gates, pick_stack hb _ rfl, pick_stack hb _ rfl, pick_stack hb _ rfl,
      pickGate_gates hb _ hin, negT_each]
    exact stepT_each _ _ _ _ _ fun h => (hd h).decay (31 - k)
  · rw [trip1_dQe, hat, F.dQe, F.dRead, F.states, pick_stack hb _ rfl, pick_stack hb _ hin, outerT_each]
    exact put_stack hb hf fun h => (hd h).dQe
  · rw [trip1_dKcd, hfresh, hat, F.dKcd, F.states, pick_stack hb _ hin, negT_each, outerT_each,
      show (fun h => mmT (fun i j => 0 - (hd h).dFresh (31 - k) ((hd h).back k) i j) ((hd h).state (31 - k))) = fun h => (hd h).dKcd (31 - k) from
        funext fun h => by unfold Head.dKcd; rw [hdS]; rfl]
    exact put_stack hb hf fun h => (hd h).dKcd
  · rw [trip1_dValue, hfresh, hat, F.dValue,
      show (fun h => (hd h).dFresh (31 - k) ((hd h).back k)) = fun h => (hd h).dValue (31 - k) from
        funext fun h => by unfold Head.dValue; rw [hdS]]
    exact put_stack hb hf fun h => (hd h).dValue
  · rw [trip1_dIntra, hat, F.dIntra, F.dRead, F.fresh, pick_stack hb _ rfl, pick_stack hb _ hin, outerT_each]
    exact put_stack hb hf fun h => (hd h).dIntra
  · rw [trip1_dKt, hat, F.dKt, F.fresh, F.state, pick_stack hb _ hin, dKtT_each,
      show (fun h => mmT ((hd h).fresh (31 - k) ((hd h).state (31 - k))) ((hd h).back k)) = fun h => (hd h).dKt (31 - k) from
        funext fun h => by unfold Head.dKt; rw [hdS]]
    exact put_stack hb hf fun h => (hd h).dKt
  · rw [trip1_dDecay, hat, F.dDecay, F.states, F.state, pick_stack hb _ hin, dDecayT_each]
    refine Eq.trans ?_ (putRow_lines hb hf fun h b => ∑ j, (hd h).dDecay b j)
    refine congrArg (fun u => putRow _ u _) (funext fun y => ?_)
    exact Finset.sum_congr rfl fun j _ => Finset.sum_congr rfl fun i _ => congrArg (_ * ·) (congrFun (congrFun (hdS _).symm i) j)

/-- Nothing is filled yet. -/
theorem last_zero (b : ℕ) (hb : b < 32) : last 0 b = false := decide_eq_false (by omega)
/-- An empty stack. -/
theorem stack_last_zero (f : Fin 8 → ℕ → Mat) : stack (last 0) f = fun _ => (0 : EReal) := by
  funext y
  exact if_neg (by rw [last_zero _ (y 0).isLt]; exact Bool.false_ne_true)
/-- An empty array. -/
theorem lines_last_zero (f : Fin 8 → ℕ → EReal) : lines (last 0) f = fun _ => (0 : EReal) := by
  funext y
  exact if_neg (by rw [last_zero _ (y 0).isLt]; exact Bool.false_ne_true)

/-- Where the walk back begins. -/
theorem walked_zero : Walked (enter1 m c) (head m c) 0 := by
  obtain ⟨h0, -, -⟩ := between (enters m c)
  obtain ⟨h1, h2, h3, h4, h5, h6, h7⟩ := between_copies (V := after test0 (fwd m 32 c))
  obtain ⟨z9, z10, z11, z12, z13, z14, z15⟩ := mid4_zeros (V := after mid3 (after mid2 (after mid1 (after mid0 (after test0 (fwd m 32 c))))))
  have F := filled m c 32 le_rfl
  have kept {r : Ref sig .tc} (h : ∀ W ∈ trip0_Ws, r ∉ W) (h' : r ∉ [main_while0c_c_33, main_while0c_v98]) :
      after test0 (fwd m 32 c) (Proc.devRef .tc r) = enter0 m c (Proc.devRef .tc r) :=
    (test0_spares h' _).trans (fwd_spares m h h' c 32)
  have copies : enter0 m c (Proc.devRef .tc main_v22_0) = enter0 m c (Proc.devRef .tc main_v4)
      ∧ enter0 m c (Proc.devRef .tc main_v22_1) = enter0 m c (Proc.devRef .tc main_v7)
      ∧ enter0 m c (Proc.devRef .tc main_v22_3) = enter0 m c (Proc.devRef .tc main_v12)
      ∧ enter0 m c (Proc.devRef .tc main_v22_4) = enter0 m c (Proc.devRef .tc main_v15) := by
    refine ⟨?_, ?_, ?_, ?_⟩ <;>
    · show after pre0 (launchContents m c) _ = after pre0 (launchContents m c) _
      unfold pre0
      after_reads_simp
  exact
    { dRead := h0
      states := h1.trans ((test0_spares (by decide +kernel) _).trans F.states)
      kcd := h2.trans ((kept (by decide +kernel) (by decide +kernel)).trans (copies.2.1.symm.trans (enter0_kcd m c)))
      qe := h3.trans ((kept (by decide +kernel) (by decide +kernel)).trans (copies.1.symm.trans (enter0_qe m c)))
      fresh := h4.trans ((test0_spares (by decide +kernel) _).trans F.fresh)
      intra := h5.trans ((kept (by decide +kernel) (by decide +kernel)).trans (copies.2.2.1.symm.trans (enter0_intra m c)))
      gates := h6.trans ((test0_spares (by decide +kernel) _).trans F.gates)
      kt := h7.trans ((kept (by decide +kernel) (by decide +kernel)).trans (copies.2.2.2.symm.trans (enter0_kt m c)))
      counter := bwd_counter m c 0
      state := z9
      dQe := z10.trans (stack_last_zero _).symm
      dKcd := z11.trans (stack_last_zero _).symm
      dValue := z12.trans (stack_last_zero _).symm
      dIntra := z13.trans (stack_last_zero _).symm
      dKt := z14.trans (stack_last_zero _).symm
      dDecay := z15.trans (lines_last_zero _).symm }

/-- Before trip `k` of the backward loop. -/
theorem walked : ∀ k, k ≤ 32 → Walked (bwd m k c) (head m c) k
  | 0, _ => walked_zero m c
  | k + 1, hk => by
    have F := walked k (by omega)
    have F' : Walked (after test1 (bwd m k c)) (head m c) k := by
      constructor <;> rw [test1_spares (by decide +kernel)]
      exacts [F.dRead, F.states, F.kcd, F.qe, F.fresh, F.intra, F.gates, F.kt, F.counter, F.state, F.dQe, F.dKcd, F.dValue, F.dIntra, F.dKt, F.dDecay]
    obtain ⟨h9, h10, h11, h12, h13, h14, h15⟩ := walk (show k < 32 by omega) F'
    have Z := walked_zero m c
    refine ⟨?_, ?_, ?_, ?_, ?_, ?_, ?_, ?_, bwd_counter m c (k + 1), h9, h10, h11, h12, h13, h14, h15⟩ <;>
      rw [bwd_spares m (by decide +kernel) (by decide +kernel) c (k + 1)]
    exacts [Z.dRead, Z.states, Z.kcd, Z.qe, Z.fresh, Z.intra, Z.gates, Z.kt]

/-! ## The results -/

/-- Joining chunks and heads. -/
theorem spread_of_stack (filled : ℕ → Bool) (hf : ∀ b, b < 32 → filled b = true) (f : Fin 8 → ℕ → Mat) (h h') :
    shapeCast S4096x1024 (transpose S32x128x8x128 [0, 2, 1, 3] (stack filled f) h) h' = spread f := by
  funext y
  obtain ⟨s, q, rfl⟩ : ∃ (s : Fin 4096) (q : Fin 1024), y = ix2 s q := ⟨y 0, y 1, eq_ix2 y⟩
  pointwise
  exact if_pos (hf _ (by show s.val / 128 < 32; omega))

/-- Everything is filled at the end. -/
theorem last_full (b : ℕ) (_ : b < 32) : last 32 b = true := decide_eq_true (by omega)

/-- The gradient of the keys that write the state. -/
theorem final_dKt : final m c (Proc.devRef .tc main_v84) = spread fun h => (head m c h).dKt := by
  show after post0 (after test1 (bwd m 32 c)) _ = _
  unfold post0
  after_reads_simp
  rw [(walked m c 32 le_rfl).dKt]
  funext y
  exact congrFun (spread_of_stack (last 32) last_full (fun h => (head m c h).dKt) transposes_S32x8x128x128_S32x128x8x128_0_2_1_3 shapeCasts_S32x128x8x128_S4096x1024) y

/-- The gradient of the attention within the chunk. -/
theorem final_dIntra : final m c (Proc.devRef .tc main_v87) = spread fun h => (head m c h).dIntra := by
  show after post0 (after test1 (bwd m 32 c)) _ = _
  unfold post0
  after_reads_simp
  rw [(walked m c 32 le_rfl).dIntra]
  funext y
  exact congrFun (spread_of_stack (last 32) last_full (fun h => (head m c h).dIntra) transposes_S32x8x128x128_S32x128x8x128_0_2_1_3 shapeCasts_S32x128x8x128_S4096x1024) y

/-- The gradient of the keys that read the state. -/
theorem final_dKcd : final m c (Proc.devRef .tc main_v92) = spread fun h => (head m c h).dKcd := by
  show after post0 (after test1 (bwd m 32 c)) _ = _
  unfold post0
  after_reads_simp
  rw [(walked m c 32 le_rfl).dKcd]
  funext y
  exact congrFun (spread_of_stack (last 32) last_full (fun h => (head m c h).dKcd) transposes_S32x8x128x128_S32x128x8x128_0_2_1_3 shapeCasts_S32x128x8x128_S4096x1024) y

/-- The gradient of the queries. -/
theorem final_dQe : final m c (Proc.devRef .tc main_v95) = spread fun h => (head m c h).dQe := by
  show after post0 (after test1 (bwd m 32 c)) _ = _
  unfold post0
  after_reads_simp
  rw [(walked m c 32 le_rfl).dQe]
  funext y
  exact congrFun (spread_of_stack (last 32) last_full (fun h => (head m c h).dQe) transposes_S32x8x128x128_S32x128x8x128_0_2_1_3 shapeCasts_S32x128x8x128_S4096x1024) y

/-- The gradient of the values. -/
theorem final_dValue : final m c (Proc.devRef .tc main_v96) = spread fun h => (head m c h).dValue := by
  show after post0 (after test1 (bwd m 32 c)) _ = _
  unfold post0
  after_reads_simp
  rw [(walked m c 32 le_rfl).dValue]
  funext y
  exact congrFun (spread_of_stack (last 32) last_full (fun h => (head m c h).dValue) transposes_S32x8x128x128_S32x128x8x128_0_2_1_3 shapeCasts_S32x128x8x128_S4096x1024) y

/-- The gradient of the decays. -/
theorem final_dDecay (h : Fin 8) (k : Fin 32) :
    final m c (Proc.devRef .tc main_v81) (ix2 h k) = ∑ j, (head m c h).dDecay k.val j := by
  show after post0 (after test1 (bwd m 32 c)) _ _ = _
  unfold post0
  after_reads_simp
  rw [(walked m c 32 le_rfl).dDecay]
  pointwise
  exact if_pos (last_full _ k.isLt)

/-- The gradient of the gate's argument. -/
theorem final_dGate : final m c (Proc.devRef .tc main_v97) = spread fun h => (head m c h).dGate := by
  show after post0 (after test1 (bwd m 32 c)) _ = _
  unfold post0
  after_reads_simp
  rw [bwd_spares m (by decide +kernel) (by decide +kernel) c 32]
  exact (between (enters m c)).2.1

/-- The gradient of the normalisation's weights. -/
theorem final_dNorm (j : Fin 128) : final m c (Proc.devRef .tc main_v55) (ix1 j) = ∑ h : Fin 8, (head m c h).dNormSum j := by
  have e : final m c (Proc.devRef .tc main_v55) = enter1 m c (Proc.devRef .tc main_v55) := by
    show afterL post (after test1 (bwd m 32 c)) _ = _
    rw [spares post_writes (by decide +kernel), test1_spares (by decide +kernel), bwd_spares m (by decide +kernel) (by decide +kernel)]
  rw [e]
  exact congrFun (between (enters m c)).2.2 (ix1 j)

end Cert.Proof.Ref

end
-- ==== Proof.Equal.lean ====
/- The results of the kernel and of the reference over the extended reals, side by side: both are the gradients of the
   gated delta rule of the eight heads cut from the same arguments. -/
module

public import proofs.«01_k».proof.Proof.KernelFrame
public import proofs.«01_k».proof.Proof.KernelOut
public import proofs.«01_k».proof.Proof.RefBackward

@[expose] public section

noncomputable section

open Idealize.ShloMosaic Idealize.ShloMosaic.TcCoe Idealize.SL.Sem

namespace Cert.Proof.KRun

open Cert.KernelIdeal Cert.KernelIdeal.Gen

variable (m : (ℓ : Loc nD τ sig) → Buf (Elt Ideal) ℓ) (ρ : Dev nD → PrngReg)

/-- The gradient of the decays, head by head and chunk by chunk. -/
def decays (c : Dev nD) : S8x32.Idx → EReal := fun y => ∑ j, (head m c (y 0)).dDecay (y 1).val j
/-- The gradient of the normalisation's weights. -/
def weights (c : Dev nD) : S128.Idx → EReal := fun y => ∑ h, (head m c h).dNormSum (y 0)

/-- What the kernel's run ends in. -/
theorem run_values : θ_run defs (onTc (τ := τ) (main (F := Ideal))) (s₀ m ρ) (fun r => ∀ c : Dev nD,
    r.2.mem ((c.tc : Thread nD τ).loc main_v5_0) = spread m c Scan.Head.dValue
    ∧ r.2.mem ((c.tc : Thread nD τ).loc main_v5_1) = spread m c Scan.Head.dKcd
    ∧ r.2.mem ((c.tc : Thread nD τ).loc main_v5_2) = spread m c Scan.Head.dQe
    ∧ r.2.mem ((c.tc : Thread nD τ).loc main_v5_3) = spread m c Scan.Head.dKt
    ∧ r.2.mem ((c.tc : Thread nD τ).loc main_v5_4) = spread m c Scan.Head.dIntra
    ∧ r.2.mem ((c.tc : Thread nD τ).loc main_v7) = decays m c
    ∧ r.2.mem ((c.tc : Thread nD τ).loc main_v5_6) = spread m c Scan.Head.dGate
    ∧ r.2.mem ((c.tc : Thread nD τ).loc main_v8) = weights m c
    ∧ Kept m r c) :=
  (θ_run defs _ _).mono (fun r h c =>
    ⟨((h.1 c).1 9).trans (out_9 m c), ((h.1 c).1 10).trans (out_10 m c), ((h.1 c).1 11).trans (out_11 m c), ((h.1 c).1 12).trans (out_12 m c),
      ((h.1 c).1 13).trans (out_13 m c),
      ((h.1 c).2 main_v7 (Pipeline.mem_restRefs_of main_v7 (by decide) (by decide))).trans (funext fun y =>
        (congrArg _ (eq_ix2 y)).trans (decays_sum m c (y 0) (y 1))),
      ((h.1 c).1 15).trans (out_15 m c),
      ((h.1 c).2 main_v8 (Pipeline.mem_restRefs_of main_v8 (by decide) (by decide))).trans (funext fun y =>
        (congrArg _ (eq_ix1 y)).trans (weights_sum m c (y 0))), kept m r h c⟩) (run_main m ρ)

end Cert.Proof.KRun

namespace Cert.Proof.Ref

open Cert.ReferenceIdeal Cert.ReferenceIdeal.Gen

/-- Heads cut from equal arguments are equal. -/
theorem head_eq (m : (ℓ : Loc Cert.KernelIdeal.nD Cert.KernelIdeal.τ Cert.KernelIdeal.sig) → Buf (Elt Ideal) ℓ)
    (m' : (ℓ : Loc nD τ sig) → Buf (Elt Ideal) ℓ) (c : Dev Cert.KernelIdeal.nD)
    (h0 : m' ((c.tc : Thread nD τ).loc main_arg0) = m ((c.tc : Thread Cert.KernelIdeal.nD Cert.KernelIdeal.τ).loc Cert.KernelIdeal.main_arg0))
    (h1 : m' ((c.tc : Thread nD τ).loc main_arg1) = m ((c.tc : Thread Cert.KernelIdeal.nD Cert.KernelIdeal.τ).loc Cert.KernelIdeal.main_arg1))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (h4 : m' ((c.tc : Thread nD τ).loc main_arg4) = m ((c.tc : Thread Cert.KernelIdeal.nD Cert.KernelIdeal.τ).loc Cert.KernelIdeal.main_arg4))
    (h5 : m' ((c.tc : Thread nD τ).loc main_arg5) = m ((c.tc : Thread Cert.KernelIdeal.nD Cert.KernelIdeal.τ).loc Cert.KernelIdeal.main_arg5))
    (h6 : m' ((c.tc : Thread nD τ).loc main_arg6) = m ((c.tc : Thread Cert.KernelIdeal.nD Cert.KernelIdeal.τ).loc Cert.KernelIdeal.main_arg6))
    (h7 : m' ((c.tc : Thread nD τ).loc main_arg7) = m ((c.tc : Thread Cert.KernelIdeal.nD Cert.KernelIdeal.τ).loc Cert.KernelIdeal.main_arg7))
    (h8 : m' ((c.tc : Thread nD τ).loc main_arg8) = m ((c.tc : Thread Cert.KernelIdeal.nD Cert.KernelIdeal.τ).loc Cert.KernelIdeal.main_arg8)) :
    head m' c = KRun.head m c := by
  funext h
  have at2 {a b : ℕ} {x y : (⟨2, ![a, b]⟩ : Shape).Idx → EReal} (e : x = y) : (fun i j => x (ix2 i j)) = fun i j => y (ix2 i j) := by rw [e]
  have at1 {a : ℕ} {x y : (⟨1, ![a]⟩ : Shape).Idx → EReal} (e : x = y) : (fun i => x (ix1 i)) = fun i => y (ix1 i) := by rw [e]
  unfold head KRun.head
  exact congrFun (congr (congr (congr (congr (congr (congr (congr (congr (congrArg Scan.cut (at2 h0)) (at2 h1)) (at2 h2)) (at2 h3)) (at2 h4))
    (at2 h5)) (at2 h6)) (at1 h7)) (at2 h8)) h

end Cert.Proof.Ref

end
-- ==== Proof.Mixer.lean ====
/- The channel mixer's calls over the extended reals, entry by entry: what each call leaves in its arrays, from the arrays
   it finds. -/
module

public import proofs.«01_k».proof.Proof.Gen.Kernel2Ideal.Frame
public import Idealize.ShloMosaic.Lib.Pipeline.ValueKit.Point
public import Idealize.ShloMosaic.Lib.Pipeline.ValueKit
public import Idealize.ShloMosaic.Lib.StableHlo.RunRead
public import Idealize.ShloMosaic.Lib.Pointwise

@[expose] public section

set_option maxRecDepth 16384

noncomputable section

namespace Cert.Proof.Mixer

open Cert.Kernel2Ideal Cert.Kernel2Ideal.Gen
open Idealize.ShloMosaic Idealize.ShloMosaic.TcCoe

variable (V : (c : Dev nD) → (b : Ref sig .tc) → Buf (Elt Ideal) ((c : Thread nD τ).loc b)) (c : Dev nD)

/-- Which blocks the first forward product reads and writes at each grid point. -/
theorem places0 : ∀ t : Fin cfg0.N, win0_0.index t = ![t.val / 8, 0] ∧ win0_1.index t = ![t.val % 8 / 2, 0, t.val % 8 % 2]
    ∧ win0_2.index t = ![t.val / 8, t.val % 8] ∧ win0_3.index t = ![t.val / 8, t.val % 8] := by decide +kernel
/-- Which blocks the product that gives the activations' gradient reads and writes at each grid point. -/
theorem places1 : ∀ t : Fin cfg1.N, win1_0.index t = ![t.val / 8, 0] ∧ win1_1.index t = ![t.val % 8, 0]
    ∧ win1_2.index t = ![t.val / 8, t.val % 8] ∧ win1_3.index t = ![t.val / 8, t.val % 8] := by decide +kernel
/-- Which blocks the product that gives the second weight's gradient reads and writes at each grid point. -/
theorem places2 : ∀ t : Fin cfg2.N, win2_0.index t = ![0, t.val % 16] ∧ win2_1.index t = ![0, t.val / 16]
    ∧ win2_2.index t = ![t.val % 16, t.val / 16] := by decide +kernel
/-- Which blocks the product that gives the first weight's gradient reads and writes at each grid point. -/
theorem places3 : ∀ t : Fin cfg3.N, win3_0.index t = ![0, t.val % 4] ∧ win3_1.index t = ![0, t.val / 4]
    ∧ win3_2.index t = ![t.val / 4 / 2, t.val % 4, t.val / 4 % 2] := by decide +kernel

variable (X : S4096x2048.Idx → EReal) (W : S4x2048x2048.Idx → EReal) (W' : S8192x2048.Idx → EReal) (D : S4096x2048.Idx → EReal)
  (A : S4096x8192.Idx → EReal)

/-! ## What the calls compute, entry by entry -/

/-- The shard of the first weight that holds column `j`. -/
abbrev shard (j : Fin 8192) : Fin 4 := ⟨j.val / 2048, by omega⟩
/-- The place of column `j` in its shard. -/
abbrev inShard (j : Fin 8192) : Fin 2048 := ⟨j.val % 2048, Nat.mod_lt _ (by decide)⟩
/-- The column at place `j` of shard `q`. -/
abbrev column (q : Fin 4) (j : Fin 2048) : Fin 8192 := ⟨2048 * q.val + j.val, by omega⟩

/-- The activations: the positive part of the first product. -/
def act (i : Fin 4096) (j : Fin 8192) : EReal := max (∑ k : Fin 2048, X (ix2 i k) * W (ix3 (shard j) k (inShard j))) 0
/-- The gradient before the activation, from the gradient after the second product and the activations. -/
def dpre (i : Fin 4096) (j : Fin 8192) : EReal :=
  (∑ k : Fin 2048, D (ix2 i k) * W' (ix2 j k)) * (Ideal.ofBits .f32 0x40000000#32 * A (ix2 i j))
/-- The gradient of the second weight, from the squares of the activations. -/
def dsecond (i : Fin 8192) (j : Fin 2048) : EReal := ∑ k : Fin 4096, A (ix2 k i) * D (ix2 k j)
/-- The gradient of the first weight, shard by shard, from the gradient before the activation. -/
def dfirst (q : Fin 4) (i : Fin 2048) (j : Fin 2048) : EReal := ∑ k : Fin 4096, X (ix2 k i) * A (ix2 k (column q j))

/-! ## What one grid point computes -/

/-- A block of the activations. -/
theorem act_block (x : Vec Ideal S512x2048 .bf16) (w : Vec Ideal S1x2048x1024 .bf16) (y : S512x1024.Idx) (q : S4096x8192.Idx)
    (n : ℕ) (hq : (q 1).val = n * 1024 + (y 1).val) (hx : ∀ k, x (ix2 (y 0) k) = X (ix2 (q 0) k))
    (hw : ∀ k (a : Fin 4) (b : Fin 2048), 2048 * a.val + b.val = n * 1024 + (y 1).val → w (ix3 0 k (y 1)) = W (ix3 a k b)) :
    k0_pay2 x w y = act X W (q 0) (q 1) := by
  unfold act
  have hw' := fun k => hw k (shard (q 1)) (inShard (q 1)) (by show 2048 * ((q 1).val / 2048) + (q 1).val % 2048 = _; omega)
  simp only [← hx, ← hw']
  conv_lhs => rw [eq_ix2 y]
  unfold k0_pay2 k0_pay1
  pointwise

/-- A block of the activations' squares. -/
theorem square_block (x : Vec Ideal S512x2048 .bf16) (w : Vec Ideal S1x2048x1024 .bf16) (y : S512x1024.Idx) (q : S4096x8192.Idx)
    (n : ℕ) (hq : (q 1).val = n * 1024 + (y 1).val) (hx : ∀ k, x (ix2 (y 0) k) = X (ix2 (q 0) k))
    (hw : ∀ k (a : Fin 4) (b : Fin 2048), 2048 * a.val + b.val = n * 1024 + (y 1).val → w (ix3 0 k (y 1)) = W (ix3 a k b)) :
    k0_pay3 x w y = act X W (q 0) (q 1) * act X W (q 0) (q 1) := by
  unfold act
  have hw' := fun k => hw k (shard (q 1)) (inShard (q 1)) (by show 2048 * ((q 1).val / 2048) + (q 1).val % 2048 = _; omega)
  simp only [← hx, ← hw']
  conv_lhs => rw [eq_ix2 y]
  unfold k0_pay3 k0_pay1
  pointwise

/-- A block of the gradient before the activation. -/
theorem dpre_block (x : Vec Ideal S512x2048 .f32) (w : Vec Ideal S1024x2048 .bf16) (s : Vec Ideal S512x1024 .bf16)
    (y : S512x1024.Idx) (q : S4096x8192.Idx) (hx : ∀ k, x (ix2 (y 0) k) = D (ix2 (q 0) k))
    (hw : ∀ k, w (ix2 (y 1) k) = W' (ix2 (q 1) k)) (hs : s (ix2 (y 0) (y 1)) = A (ix2 (q 0) (q 1))) :
    k1_pay1 x w s y = dpre W' D A (q 0) (q 1) := by
  unfold dpre
  simp only [← hx, ← hw, ← hs]
  conv_lhs => rw [eq_ix2 y]
  unfold k1_pay1
  pointwise

/-- A block of the second weight's gradient. -/
theorem dsecond_block (x : Vec Ideal S4096x512 .bf16) (w : Vec Ideal S4096x512 .f32) (y : S512x512.Idx) (q : S8192x2048.Idx)
    (hx : ∀ k, x (ix2 k (y 0)) = A (ix2 k (q 0))) (hw : ∀ k, w (ix2 k (y 1)) = D (ix2 k (q 1))) :
    k2_pay1 x w y = dsecond D A (q 0) (q 1) := by
  unfold dsecond
  simp only [← hx, ← hw]
  conv_lhs => rw [eq_ix2 y]
  unfold k2_pay1
  pointwise

/-- A block of the first weight's gradient. -/
theorem dfirst_block (x : Vec Ideal S4096x512 .bf16) (w : Vec Ideal S4096x1024 .bf16) (y : S1x512x1024.Idx) (q : S4x2048x2048.Idx)
    (n n' : ℕ) (hq : (q 0).val = n) (hq' : (q 2).val = n' * 1024 + (y 2).val) (hx : ∀ k, x (ix2 k (y 1)) = X (ix2 k (q 1)))
    (hw : ∀ k (j : Fin 8192), j.val = 2048 * n + (n' * 1024 + (y 2).val) → w (ix2 k (y 2)) = A (ix2 k j)) :
    k3_pay1 x w y = dfirst X A (q 0) (q 1) (q 2) := by
  unfold dfirst
  have hw' := fun k => hw k (column (q 0) (q 2)) (by show 2048 * (q 0).val + (q 2).val = _; omega)
  simp only [← hx, ← hw']
  conv_lhs => rw [eq_ix3 y]
  unfold k3_pay1
  pointwise

/-! ## What each call leaves in its arrays -/

/-- The first call leaves the activations. -/
theorem act_left (hX : V c main_v4 = X) (hW : V c main_v2 = W) :
    (dat0 V c).arrAt 2 cfg0.N = fun q : S4096x8192.Idx => act X W (q 0) (q 1) := by
  subst hX hW
  refine (dat0 V c).arrAt_eq_of_covers 2 _ (by decide +kernel) fun t hf y => ?_
  blk_simp
  rw [after0_2]
  frame_out
  idx_bounds y
  refine act_block _ _ _ _ _ _ (t.val % 8) ?_ (fun k => ?_) fun k a b hab => ?_
  · blk_simp [places0 t]
  · blk_ext [iblk0, places0 t]
  · blk_ext [iblk0, places0 t] <;> omega

/-- The first call leaves the activations' squares. -/
theorem square_left (hX : V c main_v4 = X) (hW : V c main_v2 = W) :
    (dat0 V c).arrAt 3 cfg0.N = fun q : S4096x8192.Idx => act X W (q 0) (q 1) * act X W (q 0) (q 1) := by
  subst hX hW
  refine (dat0 V c).arrAt_eq_of_covers 3 _ (by decide +kernel) fun t hf y => ?_
  blk_simp
  rw [after0_3]
  frame_out
  idx_bounds y
  refine square_block _ _ _ _ _ _ (t.val % 8) ?_ (fun k => ?_) fun k a b hab => ?_
  · blk_simp [places0 t]
  · blk_ext [iblk0, places0 t]
  · blk_ext [iblk0, places0 t] <;> omega

/-- The second call leaves the gradient before the activation. -/
theorem dpre_left (hD : V c main_arg3 = D) (hW : V c main_v3 = W') (hA : V c main_v5_0 = A) :
    (dat1 V c).arrAt 3 cfg1.N = fun q : S4096x8192.Idx => dpre W' D A (q 0) (q 1) := by
  subst hD hW hA
  refine (dat1 V c).arrAt_eq_of_covers 3 _ (by decide +kernel) fun t hf y => ?_
  blk_simp
  rw [after1_3]
  frame_out
  idx_bounds y
  refine dpre_block _ _ _ _ _ _ _ _ (fun k => ?_) (fun k => ?_) ?_ <;> blk_ext [iblk1, places1 t]

/-- The third call leaves the gradient of the second weight. -/
theorem dsecond_left (hA : V c main_v5_1 = A) (hD : V c main_arg3 = D) :
    (dat2 V c).arrAt 2 cfg2.N = fun q : S8192x2048.Idx => dsecond D A (q 0) (q 1) := by
  subst hA hD
  refine (dat2 V c).arrAt_eq_of_covers 2 _ (by decide +kernel) fun t hf y => ?_
  blk_simp
  rw [after2_2]
  frame_out
  idx_bounds y
  refine dsecond_block _ _ _ _ _ _ (fun k => ?_) fun k => ?_ <;> blk_ext [iblk2, places2 t]

/-- The fourth call leaves the gradient of the first weight. -/
theorem dfirst_left (hX : V c main_v4 = X) (hA : V c main_v6 = A) :
    (dat3 V c).arrAt 2 cfg3.N = fun q : S4x2048x2048.Idx => dfirst X A (q 0) (q 1) (q 2) := by
  subst hX hA
  refine (dat3 V c).arrAt_eq_of_covers 2 _ (by decide +kernel) fun t hf y => ?_
  blk_simp
  rw [after3_2]
  frame_out
  idx_bounds y
  refine dfirst_block _ _ _ _ _ _ (t.val / 4 / 2) (t.val / 4 % 2) ?_ ?_ (fun k => ?_) fun k j hj => ?_
  · blk_simp [places3 t]
  · blk_simp [places3 t]
  · blk_ext [iblk3, places3 t]
  · blk_ext [iblk3, places3 t] <;> omega

end Cert.Proof.Mixer

end
-- ==== Proof.MixerRun.lean ====
/- The channel mixer's program over the extended reals: its three results, entry by entry, from its arguments. -/
module

public import proofs.«01_k».proof.Proof.Mixer

@[expose] public section

set_option maxRecDepth 16384

noncomputable section

namespace Cert.Proof.Mixer

open Cert.Kernel2Ideal Cert.Kernel2Ideal.Gen
open Idealize.ShloMosaic Idealize.ShloMosaic.TcCoe Idealize.SL.Sem

variable (m : (ℓ : Loc nD τ sig) → Buf (Elt Ideal) ℓ) (ρ : Dev nD → PrngReg) (c : Dev nD)

/-! ## What the host prepares -/

/-- The host's rounding of the first argument is the first argument. -/
theorem left_ready : V1 m ρ c main_v4 = m ((c : Thread nD τ).loc main_arg0) := by
  show StableHlo.after hostOps0 (fun b => m (c, b)) (Proc.devRef .tc main_v4) = _
  unfold hostOps0
  after_reads_simp
  rfl

/-- The host's rounding of the second weight is the second weight. -/
theorem second_ready : V1 m ρ c main_v3 = m ((c : Thread nD τ).loc main_arg2) := by
  show StableHlo.after hostOps0 (fun b => m (c, b)) (Proc.devRef .tc main_v3) = _
  unfold hostOps0
  after_reads_simp
  rfl

/-- The host's cutting of the first weight puts column `2048 q + j` at place `j` of shard `q`. -/
theorem first_ready (q : Fin 4) (k j : Fin 2048) :
    V1 m ρ c main_v2 (ix3 q k j) = m ((c : Thread nD τ).loc main_arg1) (ix2 k (column q j)) := by
  show StableHlo.after hostOps0 (fun b => m (c, b)) (Proc.devRef .tc main_v2) _ = _
  unfold hostOps0
  after_reads_simp
  pointwise
  exact congrArg (fun j => m ((c : Thread nD τ).loc main_arg1) (ix2 k j)) (Fin.ext (by show q.val * 2048 + j.val = 2048 * q.val + j.val; omega))

/-! ## The results -/

/-- The activations from the uncut weight. -/
def plain (X : S4096x2048.Idx → EReal) (U : S2048x8192.Idx → EReal) (i : Fin 4096) (j : Fin 8192) : EReal :=
  max (∑ k : Fin 2048, X (ix2 i k) * U (ix2 k j)) 0

/-- The activations from the arguments. -/
def acts : S4096x8192.Idx → EReal :=
  fun q => plain (m ((c : Thread nD τ).loc main_arg0)) (m ((c : Thread nD τ).loc main_arg1)) (q 0) (q 1)
/-- The gradient before the activation, from the arguments. -/
def dpres : S4096x8192.Idx → EReal := fun q =>
  dpre (m ((c : Thread nD τ).loc main_arg2)) (m ((c : Thread nD τ).loc main_arg3)) (acts m c) (q 0) (q 1)
/-- The gradient of the second weight, from the arguments. -/
def dseconds : S8192x2048.Idx → EReal := fun q =>
  dsecond (m ((c : Thread nD τ).loc main_arg3)) (fun q => acts m c q * acts m c q) (q 0) (q 1)
/-- The gradient of the first weight, from the arguments. -/
def dfirsts : S4x2048x2048.Idx → EReal := fun q =>
  dfirst (m ((c : Thread nD τ).loc main_arg0)) (dpres m c) (q 0) (q 1) (q 2)

/-- The activations of the cut weight are those of the weight. -/
theorem acts_eq (q : S4096x8192.Idx) : act (V1 m ρ c main_v4) (V1 m ρ c main_v2) (q 0) (q 1) = acts m c q := by
  unfold act acts plain
  rw [left_ready]
  congr 1
  refine Finset.sum_congr rfl fun k _ => ?_
  rw [first_ready]
  congr 3
  exact Fin.ext (by show 2048 * ((q 1).val / 2048) + (q 1).val % 2048 = _; omega)

/-- The first call's first result: the rectified pre-activations. -/
theorem acts_kept : W2 m ρ c (Proc.devRef .tc main_v5_0) = acts m c :=
  (W2_arr m ρ c 2).trans ((act_left (V1 m ρ) c _ _ rfl rfl).trans (funext (acts_eq m ρ c)))

/-- The first call's second result: their squares. -/
theorem squares_kept : W2 m ρ c (Proc.devRef .tc main_v5_1) = fun q => acts m c q * acts m c q :=
  (W2_arr m ρ c 3).trans ((square_left (V1 m ρ) c _ _ rfl rfl).trans (funext fun q => by
    rw [acts_eq]))

/-- The second call's result, from the arguments. -/
theorem dpres_kept : W3 m ρ c (Proc.devRef .tc main_v6) = dpres m c :=
  (W3_arr m ρ c 3).trans (dpre_left (V2 m ρ) c _ _ _ (W2_args m ρ c _ (by decide))
    ((W2_of m ρ c main_v3 (by decide)).trans (second_ready m ρ c)) (acts_kept m ρ c))

/-- The third call's result, from the arguments. -/
theorem dseconds_kept : W4 m ρ c (Proc.devRef .tc main_v7) = dseconds m c :=
  (W4_arr m ρ c 2).trans (dsecond_left (V3 m ρ) c _ _ ((W3_of m ρ c main_v5_1 (by decide)).trans (squares_kept m ρ c))
    (W3_args m ρ c _ (by decide)))

/-- The fourth call's result, from the arguments. -/
theorem dfirsts_kept : W5 m ρ c (Proc.devRef .tc main_v8) = dfirsts m c :=
  (W5_arr m ρ c 2).trans (dfirst_left (V4 m ρ) c _ _
    ((W4_of m ρ c main_v4 (by decide)).trans ((W3_of m ρ c main_v4 (by decide)).trans ((W2_of m ρ c main_v4 (by decide)).trans (left_ready m ρ c))))
    ((W4_of m ρ c main_v6 (by decide)).trans (dpres_kept m ρ c)))

end Cert.Proof.Mixer

end
-- ==== Proof.MixerLaunch.lean ====
/- The launch of the channel mixer's program over the extended reals: every execution ends with the five results computed
   from the arguments and the arguments unchanged. -/
module

public import proofs.«01_k».proof.Proof.MixerRun

@[expose] public section

set_option maxRecDepth 16384

noncomputable section

namespace Cert.Proof.Mixer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every execution ends, and then every unscoped array is what the last call left it. -/
theorem run_left : θ_run defs (onTc (τ := τ) (main (F := Ideal))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      unfold Tₙ StableHlo.held
      iintro ⟨⟨Hh, -⟩, HSI⟩
      imodintro
      iapply (pointsTo_read_all (Pipeline.ucRefs τ sig) (fun b => (((c : Thread nD τ)).1, b)) (W5 m ρ c) s')
      isplitl [Hh] <;> iassumption)
    (hQ := fun _ h _ => h)

/-- The five results, and the arguments unchanged. -/
theorem run_values : θ_run defs (onTc (τ := τ) (main (F := Ideal))) ⟨m, fun _ => 0, ρ⟩ (fun r => ∀ c : Dev nD,
    r.2.mem ((c : Thread nD τ).loc main_v5_0) = acts m c
    ∧ r.2.mem ((c : Thread nD τ).loc main_v5_1) = (fun q => acts m c q * acts m c q)
    ∧ r.2.mem ((c : Thread nD τ).loc main_v6) = dpres m c
    ∧ r.2.mem ((c : Thread nD τ).loc main_v8) = dfirsts m c
    ∧ r.2.mem ((c : Thread nD τ).loc main_v7) = dseconds m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c =>
    ⟨(h c _ (mem_uc main_v5_0 (by decide))).trans ((W5_of m ρ c main_v5_0 (by decide)).trans ((W4_of m ρ c main_v5_0 (by decide)).trans
        ((W3_of m ρ c main_v5_0 (by decide)).trans (acts_kept m ρ c)))),
     (h c _ (mem_uc main_v5_1 (by decide))).trans ((W5_of m ρ c main_v5_1 (by decide)).trans ((W4_of m ρ c main_v5_1 (by decide)).trans
        ((W3_of m ρ c main_v5_1 (by decide)).trans (squares_kept m ρ c)))),
     (h c _ (mem_uc main_v6 (by decide))).trans ((W5_of m ρ c main_v6 (by decide)).trans ((W4_of m ρ c main_v6 (by decide)).trans
        (dpres_kept m ρ c))),
     (h c _ (mem_uc main_v8 (by decide))).trans (dfirsts_kept m ρ c),
     (h c _ (mem_uc main_v7 (by decide))).trans ((W5_of m ρ c main_v7 (by decide)).trans (dseconds_kept m ρ c)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_left m ρ)

end Cert.Proof.Mixer

end
-- ==== Proof.MixerRef.lean ====
/- The channel mixer's gradient as `jax.vjp` writes it, over the extended reals, entry by entry. -/
module

public import proofs.«01_k».proof.Proof.MixerRun
public import proofs.«01_k».proof.Proof.Gen.Reference2Ideal.Run

@[expose] public section

set_option maxRecDepth 16384

noncomputable section

namespace Cert.Proof.MixerRef

open Cert.Reference2Ideal Cert.Reference2Ideal.Gen
open Idealize.ShloMosaic Idealize.ShloMosaic.TcCoe Idealize.SL.Sem Cert.Proof.Mixer

variable (X : FVec Ideal S4096x2048 .f32) (U : FVec Ideal S2048x8192 .f32) (W : FVec Ideal S8192x2048 .f32) (D : FVec Ideal S4096x2048 .f32)

/-- The rectified product, as the reference's operations give it. -/
def act : FVec Ideal S4096x8192 .bf16 :=
  truncf .bf16 (maximumf (Host.dotGeneral dot_S4096x2048_S2048x8192_S4096x8192_1_0_0_1_n_n none X U)
    (broadcastInDim S4096x8192 ![] bcast_S_S4096x8192 (constant S_ .f32 0x00000000#32))) bitsLt_bf16_f32

/-- It is that of the kernel. -/
theorem act_at (i : Fin 4096) (j : Fin 8192) : act X U (ix2 i j) = plain X U i j := by
  unfold act plain
  pointwise

/-- Its square, as the reference's operations give it. -/
def square : FVec Ideal S4096x8192 .bf16 :=
  truncf .bf16 (mulf (maximumf (Host.dotGeneral dot_S4096x2048_S2048x8192_S4096x8192_1_0_0_1_n_n none X U)
      (broadcastInDim S4096x8192 ![] bcast_S_S4096x8192 (constant S_ .f32 0x00000000#32)))
    (maximumf (Host.dotGeneral dot_S4096x2048_S2048x8192_S4096x8192_1_0_0_1_n_n none X U)
      (broadcastInDim S4096x8192 ![] bcast_S_S4096x8192 (constant S_ .f32 0x00000000#32)))) bitsLt_bf16_f32

/-- It is that of the kernel. -/
theorem square_at (i : Fin 4096) (j : Fin 8192) : square X U (ix2 i j) = plain X U i j * plain X U i j := by
  unfold square plain
  pointwise

/-- The gradient before the activation, as the reference's operations give it. -/
def grad : FVec Ideal S4096x8192 .f32 :=
  select (cmpf .ogt (Host.dotGeneral dot_S4096x2048_S2048x8192_S4096x8192_1_0_0_1_n_n none X U) (broadcastInDim S4096x8192 ![] bcast_S_S4096x8192 (constant S_ .f32 0x00000000#32)))
    (mulf (Host.dotGeneral dot_S4096x2048_S8192x2048_S4096x8192_1_1_0_0_n_n none D W)
      (mulf (broadcastInDim S4096x8192 ![] bcast_S_S4096x8192 (constant S_ .f32 0x40000000#32))
        (maximumf (Host.dotGeneral dot_S4096x2048_S2048x8192_S4096x8192_1_0_0_1_n_n none X U) (broadcastInDim S4096x8192 ![] bcast_S_S4096x8192 (constant S_ .f32 0x00000000#32)))))
    (broadcastInDim S4096x8192 ![] bcast_S_S4096x8192 (constant S_ .f32 0x00000000#32))

/-- Where the product is positive its positive part is the product, elsewhere it is zero and so is the gradient. -/
theorem grad_at (i : Fin 4096) (j : Fin 8192) :
    grad X U W D (ix2 i j) = dpre W D (fun q => plain X U (q 0) (q 1)) i j := by
  unfold grad dpre plain
  pointwise
  split_ifs with h
  · rfl
  · rw [max_eq_right (not_lt.mp h), mul_zero, mul_zero]

/-- The four shards of a matrix's columns, stacked. -/
def shards (G : FVec Ideal S2048x8192 .f32) : FVec Ideal S4x2048x2048 .bf16 :=
  truncf .bf16 ((concatenate S4x2048x2048 0 [
    ⟨S1x2048x2048, ((broadcastInDim S1x2048x2048 ![1, 2] bcast_S2048x2048_S1x2048x2048_1_2 (extractStridedSlice S2048x2048 ![0, 0] G slices_S2048x8192_S2048x2048_0_0)) : (⟨S1x2048x2048, .f32⟩ : BufTy).Contents (Elt Ideal))⟩,
    ⟨S1x2048x2048, ((broadcastInDim S1x2048x2048 ![1, 2] bcast_S2048x2048_S1x2048x2048_1_2 (extractStridedSlice S2048x2048 ![0, 2048] G slices_S2048x8192_S2048x2048_0_2048)) : (⟨S1x2048x2048, .f32⟩ : BufTy).Contents (Elt Ideal))⟩,
    ⟨S1x2048x2048, ((broadcastInDim S1x2048x2048 ![1, 2] bcast_S2048x2048_S1x2048x2048_1_2 (extractStridedSlice S2048x2048 ![0, 4096] G slices_S2048x8192_S2048x2048_0_4096)) : (⟨S1x2048x2048, .f32⟩ : BufTy).Contents (Elt Ideal))⟩,
    ⟨S1x2048x2048, ((broadcastInDim S1x2048x2048 ![1, 2] bcast_S2048x2048_S1x2048x2048_1_2 (extractStridedSlice S2048x2048 ![0, 6144] G slices_S2048x8192_S2048x2048_0_6144)) : (⟨S1x2048x2048, .f32⟩ : BufTy).Contents (Elt Ideal))⟩]
    concatenates_S1x2048x2048_S1x2048x2048_S1x2048x2048_S1x2048x2048_S4x2048x2048_d0 : (⟨S4x2048x2048, .f32⟩ : BufTy).Contents (Elt Ideal))) bitsLt_bf16_f32

/-- A shard's entry is the matrix's in the shard's column. -/
theorem shards_at (G : FVec Ideal S2048x8192 .f32) (q : Fin 4) (i j : Fin 2048) :
    shards G (ix3 q i j) = G (ix2 i (column q j)) := by
  unfold shards
  pointwise
  split_ifs <;> exact congrArg (fun j => G (ix2 i j)) (Fin.ext (by dsimp only [column]; omega))

/-- The gradient of the second weight, as the reference's operations give it. -/
def second : FVec Ideal S8192x2048 .bf16 :=
  truncf .bf16 (transpose S8192x2048 [1, 0] (Host.dotGeneral dot_S4096x2048_S4096x8192_S2048x8192_0_0_1_1_n_n none D
    (mulf (maximumf (Host.dotGeneral dot_S4096x2048_S2048x8192_S4096x8192_1_0_0_1_n_n none X U) (broadcastInDim S4096x8192 ![] bcast_S_S4096x8192 (constant S_ .f32 0x00000000#32)))
      (maximumf (Host.dotGeneral dot_S4096x2048_S2048x8192_S4096x8192_1_0_0_1_n_n none X U) (broadcastInDim S4096x8192 ![] bcast_S_S4096x8192 (constant S_ .f32 0x00000000#32)))))
    transposes_S2048x8192_S8192x2048_1_0) bitsLt_bf16_f32

/-- It is that of the kernel, the factors the other way round. -/
theorem second_at (i : Fin 8192) (j : Fin 2048) :
    second X U D (ix2 i j) = dsecond D (fun q => plain X U (q 0) (q 1) * plain X U (q 0) (q 1)) i j := by
  unfold second dsecond plain
  pointwise
  exact Finset.sum_congr rfl fun k _ => mul_comm _ _

/-- The gradient of the first weight before it is cut, as the reference's operations give it. -/
def first : FVec Ideal S2048x8192 .f32 :=
  transpose S2048x8192 [1, 0] (Host.dotGeneral dot_S4096x8192_S4096x2048_S8192x2048_0_0_1_1_n_n none (grad X U W D) X)
    transposes_S8192x2048_S2048x8192_1_0

/-- It is that of the kernel, the factors the other way round. -/
theorem first_at (q : Fin 4) (i j : Fin 2048) :
    shards (first X U W D) (ix3 q i j) = dfirst X (fun q => dpre W D (fun q => plain X U (q 0) (q 1)) (q 0) (q 1)) q i j := by
  rw [shards_at]
  unfold first dfirst
  pointwise
  refine Finset.sum_congr rfl fun k _ => ?_
  rw [grad_at, mul_comm]

variable (m : (ℓ : Loc nD τ sig) → Buf (Elt Ideal) ℓ) (ρ : Dev nD → PrngReg)

/-- The reference's five results, and its arguments unchanged. -/
theorem run_values : θ_run defs (onTc (τ := τ) (main (F := Ideal))) ⟨m, fun _ => 0, ρ⟩ (fun r => ∀ c : Dev nD,
    r.2.mem ((c : Thread nD τ).loc main_v16) = act (m ((c : Thread nD τ).loc main_arg0)) (m ((c : Thread nD τ).loc main_arg1))
    ∧ r.2.mem ((c : Thread nD τ).loc main_v18) = square (m ((c : Thread nD τ).loc main_arg0)) (m ((c : Thread nD τ).loc main_arg1))
    ∧ r.2.mem ((c : Thread nD τ).loc main_v19) = (grad (m ((c : Thread nD τ).loc main_arg0)) (m ((c : Thread nD τ).loc main_arg1))
      (m ((c : Thread nD τ).loc main_arg2)) (m ((c : Thread nD τ).loc main_arg3)) : S4096x8192.Idx → EReal)
    ∧ r.2.mem ((c : Thread nD τ).loc main_v31) = shards (first (m ((c : Thread nD τ).loc main_arg0)) (m ((c : Thread nD τ).loc main_arg1))
      (m ((c : Thread nD τ).loc main_arg2)) (m ((c : Thread nD τ).loc main_arg3)))
    ∧ r.2.mem ((c : Thread nD τ).loc main_v32) = second (m ((c : Thread nD τ).loc main_arg0)) (m ((c : Thread nD τ).loc main_arg1))
      (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c => h c) (Cert.Reference2Ideal.Value.run m ρ)

end Cert.Proof.MixerRef

end
-- ==== Proof.MixerEqual.lean ====
/- The channel mixer's backward calls and `jax.vjp` of its two products give the same gradients over the extended reals. -/
module

public import proofs.«01_k».proof.Defs
public import proofs.«01_k».proof.Proof.MixerLaunch
public import proofs.«01_k».proof.Proof.MixerRef
public import proofs.«01_k».proof.Proof.Gen.Kernel2.Frame
public import Idealize.ShloMosaic.Adequacy
public import Idealize.ShloMosaic.Init

@[expose] public section

set_option maxRecDepth 16384

noncomputable section

namespace Cert.Proof

open Idealize.ShloMosaic Idealize.SL.Sem

/-- The mixer's frame over the bits. -/
theorem frame_mixer : Cert.quiescent_Kernel2 := fun m ρ _ => Cert.Kernel2.Gen.frame m ρ

/-- The mixer's frame over the extended reals. -/
theorem frame_mixer_ideal : Cert.quiescent_Kernel2Ideal := fun m ρ _ => Cert.Kernel2Ideal.Gen.frame m ρ

/-- The frame of the mixer's reference. -/
theorem frame_mixer_reference : Cert.quiescent_Reference2Ideal := fun m ρ _ =>
  (θ_run Cert.Reference2Ideal.defs _ _).mono (fun r h => ⟨fun c => (h c).2.2.2.2.2, sem_eq_zero_of_no_sems (by decide) r.2⟩)
    (MixerRef.run_values m ρ)

/-- The mixer's calls and the reference give the same arrays: the rectified product and its square, and the gradients of
    what comes before the activation, of the first weight and of the second. -/
theorem equal_mixer : Cert.algebraic_Kernel2Ideal_Reference2Ideal := fun m g m' g' _ hm => by
  refine ⟨fun c => Mixer.acts m c, fun c q => Mixer.acts m c q * Mixer.acts m c q, fun c => Mixer.dpres m c, fun c => Mixer.dfirsts m c,
    fun c => Mixer.dseconds m c, Mixer.run_values m g,
    (θ_run Cert.Reference2Ideal.defs _ _).mono (fun r h c => ?_) (MixerRef.run_values m' g')⟩
  obtain ⟨h0, h1, h2, h3, h4, hr⟩ := h c
  obtain ⟨e0, e1, e2, e3⟩ := hm c
  refine ⟨h0.trans ?_, h1.trans ?_, h2.trans ?_, h3.trans ?_, h4.trans ?_, hr⟩
  · rw [e0, e1]
    exact funext fun y => (congrArg _ (eq_ix2 y)).trans (MixerRef.act_at _ _ (y 0) (y 1))
  · rw [e0, e1]
    exact funext fun y => (congrArg _ (eq_ix2 y)).trans (MixerRef.square_at _ _ (y 0) (y 1))
  · rw [e0, e1, e2, e3]
    exact funext fun y => (congrArg _ (eq_ix2 y)).trans (MixerRef.grad_at _ _ _ _ (y 0) (y 1))
  · rw [e0, e1, e2, e3]
    exact funext fun y => (congrArg _ (eq_ix3 y)).trans (MixerRef.first_at _ _ _ _ (y 0) (y 1) (y 2))
  · rw [e0, e1, e3]
    exact funext fun y => (congrArg _ (eq_ix2 y)).trans (MixerRef.second_at _ _ _ (y 0) (y 1))

end Cert.Proof

end
-- ==== Proof.Left.lean ====
/- The call that carries the gradient back through the first product: over the extended reals, entry by entry, a sum over
   the columns that four grid points each add a quarter of. -/
module

public import proofs.«01_k».proof.Proof.Gen.Kernel3Ideal.Value
public import Idealize.ShloMosaic.Lib.Pipeline.ValueKit.Point
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.Proof.Left

open Cert.Kernel3Ideal Cert.Kernel3Ideal.Gen
open Idealize.ShloMosaic Idealize.ShloMosaic.TcCoe Idealize.SL.Sem

variable (m : (ℓ : Loc nD τ sig) → Buf (Elt Ideal) ℓ) (ρ : Dev nD → PrngReg) (c : Dev nD)

/-- Which blocks the call reads and writes at each grid point. -/
theorem places : ∀ t : Fin cfg0.N, win0_0.index t = ![t.val / 8, t.val % 4] ∧ win0_1.index t = ![t.val % 4, t.val / 4 % 2, 0]
    ∧ win0_2.index t = ![t.val / 8, t.val / 4 % 2] := by decide +kernel

/-- What one grid point adds to a block. -/
def part (x : Vec Ideal S512x2048 .bf16) (w : Vec Ideal S1x1024x2048 .bf16) (y : S512x1024.Idx) : EReal :=
  ∑ k : Fin 2048, x (ix2 (y 0) k) * w (ix3 0 (y 1) k)

/-- The first point of a run leaves its own part. -/
theorem start_block (x : Vec Ideal S512x2048 .bf16) (w : Vec Ideal S1x1024x2048 .bf16) (y : S512x1024.Idx) :
    k0_pay2 x w y = 0 + part x w y := by
  unfold part
  conv_lhs => rw [eq_ix2 y]
  unfold k0_pay2 k0_pay1
  pointwise

/-- A later point adds its part. -/
theorem step_block (x : Vec Ideal S512x2048 .bf16) (w : Vec Ideal S1x1024x2048 .bf16) (a : Vec Ideal S512x1024 .f32) (y : S512x1024.Idx) :
    k0_pay3 x w a y = a y + part x w y := by
  unfold part
  conv_lhs => rw [eq_ix2 y]
  conv_rhs => rw [eq_ix2 y]
  unfold k0_pay3 k0_pay1
  pointwise

/-- A point after the first adds its part to what the point before left. -/
theorem later (t : Fin cfg0.N) (h : ¬t.val % 4 = 0) (y : S512x1024.Idx) :
    (outsAt0 m c t.val t.isLt).2 y
      = (outsAt0 m c (t.val - 1) (Nat.lt_of_le_of_lt (Nat.sub_le _ _) t.isLt)).2 y + part (iblk m c 0 t) (iblk m c 1 t) y := by
  by_cases h' : t.val % 4 = 3
  · rw [outsAt0_C m c t h (by omega) h']
    frame_out
    rw [read_unread_whole]
    exact step_block _ _ _ _
  · rw [outsAt0_B m c t h (by omega) h']
    frame_out
    rw [read_unread_whole]
    exact step_block _ _ _ _

/-- The last point of a run holds the sum of the four parts. -/
theorem run_sum (t : Fin cfg0.N) (h : t.val % 4 = 4 - 1) (y : S512x1024.Idx) :
    (outsAt0 m c t.val t.isLt).2 y = 0 + ∑ s : Fin 4, part (iblk m c 0 ⟨4 * (t.val / 4) + s.val, Pipeline.run_point_lt_of_flush t h s⟩)
      (iblk m c 1 ⟨4 * (t.val / 4) + s.val, Pipeline.run_point_lt_of_flush t h s⟩) y :=
  Pipeline.eq_sum_fin_of_reset_step_apply_of_flush (fun n h => (outsAt0 m c n h).2) 4 (fun _ => (0 : EReal))
    (fun t => part (iblk m c 0 t) (iblk m c 1 t))
    (fun t h y => by
      show (outsAt0 m c t.val t.isLt).2 y = _
      rw [outsAt0_A m c t h (by omega) (by omega)]
      frame_out
      exact start_block _ _ _)
    (fun t h y => later m c t h y) t h y

/-- The last point of a run writes what it holds. -/
theorem written (t : Fin cfg0.N) (h : t.val % 4 = 3) : (outsAt0 m c t.val t.isLt).1 = (outsAt0 m c t.val t.isLt).2 := by
  rw [outsAt0_C m c t (by omega) (by omega) h]
  frame_out

/-- The host's cutting of the weight puts column `2048 q + j` at place `j` of shard `q`. -/
theorem ready (q : Fin 4) (k j : Fin 2048) :
    V m c main_v2 (ix3 q k j) = m ((c : Thread nD τ).loc main_arg1) (ix2 k ⟨q.val * 2048 + j.val, by omega⟩) := by
  show StableHlo.after hostOps0 (fun b => m (c, b)) (Proc.devRef .tc main_v2) _ = _
  unfold hostOps0
  after_reads_simp
  pointwise

/-- The gradient carried back, from the arguments. -/
def back (A : S4096x8192.Idx → EReal) (U : S2048x8192.Idx → EReal) (i : Fin 4096) (j : Fin 2048) : EReal :=
  ∑ l : Fin 8192, A (ix2 i l) * U (ix2 j l)

/-- The call leaves the gradient carried back. -/
theorem back_left : (dats m 0 c).arrAt 2 cfg0.N = fun q : S4096x2048.Idx =>
    back (m ((c : Thread nD τ).loc main_arg0)) (m ((c : Thread nD τ).loc main_arg1)) (q 0) (q 1) := by
  refine (dats m 0 c).arrAt_eq_of_covers 2 _ (by decide +kernel) fun t hf y => ?_
  have hm : t.val % 4 = 3 := (flush0_2 t).mp hf
  blk_simp
  rw [after0_2, written m c t hm, run_sum m c t hm, zero_add]
  unfold part back
  idx_bounds y
  refine Fin.sum_mul_add_congr fun s k hl => ?_
  have ht : t.val < 64 := t.isLt
  have hs := s.isLt
  have h0 : (4 * (t.val / 4) + s.val) / 8 = t.val / 8 := by omega
  have h1 : (4 * (t.val / 4) + s.val) % 4 = s.val := by omega
  have h2 : (4 * (t.val / 4) + s.val) / 4 % 2 = t.val / 4 % 2 := by omega
  congr 1
  · blk_ext [iblk, V, places t, places ⟨4 * (t.val / 4) + s.val, by show _ < 64; omega⟩, h0, h1, h2]
  · have hj : t.val / 4 % 2 * 1024 + (y 1).val < 2048 := by omega
    refine Eq.trans ?_ ((ready m c s ⟨_, hj⟩ k).trans ?_)
    · blk_ext [iblk, places t, places ⟨4 * (t.val / 4) + s.val, by show _ < 64; omega⟩, h0, h1, h2]
    · blk_ext [places t]

end Cert.Proof.Left

end
-- ==== Proof.LeftEqual.lean ====
/- The call that carries the gradient back through the first product and `jax.vjp` of that product give the same gradient
   over the extended reals. -/
module

public import proofs.«01_k».proof.Defs
public import proofs.«01_k».proof.Proof.Left
public import proofs.«01_k».proof.Proof.Gen.Kernel3.Frame
public import proofs.«01_k».proof.Proof.Gen.Reference3Ideal.Run
public import Idealize.ShloMosaic.Adequacy
public import Idealize.ShloMosaic.Init

@[expose] public section

set_option maxRecDepth 16384

noncomputable section

namespace Cert.Proof

open Idealize.ShloMosaic Idealize.SL.Sem

/-- The frame of the call that carries the gradient back, over the bits. -/
theorem frame_left : Cert.quiescent_Kernel3 := fun m ρ _ => Cert.Kernel3.Gen.frame m ρ

/-- The frame of the call that carries the gradient back, over the extended reals. -/
theorem frame_left_ideal : Cert.quiescent_Kernel3Ideal := fun m ρ _ => Cert.Kernel3Ideal.Gen.frame m ρ

/-- The frame of its reference. -/
theorem frame_left_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

namespace Left

open Cert.Reference3Ideal Cert.Reference3Ideal.Gen

/-- The reference's product is the same sum. -/
theorem reference_at (A : FVec Ideal S4096x8192 .bf16) (U : FVec Ideal S2048x8192 .f32) (i : Fin 4096) (j : Fin 2048) :
    Host.dotGeneral dot_S4096x8192_S2048x8192_S4096x2048_1_1_0_0_n_n none (extf .f32 A bitsLt_bf16_f32) U (ix2 i j) = back A U i j := by
  unfold back
  pointwise

end Left

/-- The call and its reference give the same gradient. -/
theorem equal_left : Cert.algebraic_Kernel3Ideal_Reference3Ideal := fun m g m' g' _ hm => by
  refine ⟨fun c => _, (θ_run Cert.Kernel3Ideal.defs _ _).mono (fun r h c => ⟨(h c).1.trans (Left.back_left m c), (h c).2⟩)
    (Cert.Kernel3Ideal.Value.run_blocks m g), (θ_run Cert.Reference3Ideal.defs _ _).mono (fun r h c => ?_)
    (Cert.Reference3Ideal.Value.run m' g')⟩
  obtain ⟨h0, hr⟩ := h c
  obtain ⟨e0, e1⟩ := hm c
  refine ⟨h0.trans ?_, hr⟩
  rw [e0, e1]
  exact funext fun y => (congrArg _ (eq_ix2 y)).trans (Left.reference_at _ _ (y 0) (y 1))

end Cert.Proof

end
-- ==== Proof.Products.lean ====
/- Products of matrices over the extended reals, entry by entry. -/
module

public import Idealize.ShloMosaic.Lib.Pointwise

@[expose] public section

noncomputable section

namespace Cert.Proof.Products

open Idealize.ShloMosaic

variable {a b n : ℕ}

/-- The product of two matrices. -/
def nn (X : (⟨2, ![a, n]⟩ : Shape).Idx → EReal) (Y : (⟨2, ![n, b]⟩ : Shape).Idx → EReal) (i : Fin a) (j : Fin b) : EReal :=
  ∑ k : Fin n, X (ix2 i k) * Y (ix2 k j)

/-- The product of a matrix and a transposed one. -/
def nt (X : (⟨2, ![a, n]⟩ : Shape).Idx → EReal) (Y : (⟨2, ![b, n]⟩ : Shape).Idx → EReal) (i : Fin a) (j : Fin b) : EReal :=
  ∑ k : Fin n, X (ix2 i k) * Y (ix2 j k)

/-- The product of a transposed matrix and another. -/
def tn (X : (⟨2, ![n, a]⟩ : Shape).Idx → EReal) (Y : (⟨2, ![n, b]⟩ : Shape).Idx → EReal) (i : Fin a) (j : Fin b) : EReal :=
  ∑ k : Fin n, X (ix2 k i) * Y (ix2 k j)

end Cert.Proof.Products

end
-- ==== Proof.Embed.lean ====
/- The per-layer embedding's calls over the extended reals, entry by entry: what each call leaves in its arrays, from the
   arrays it finds. -/
module

public import proofs.«01_k».proof.Proof.Gen.Kernel4Ideal.Frame
public import proofs.«01_k».proof.Proof.Products
public import proofs.«01_k».proof.Proof.Scan
public import Idealize.ShloMosaic.Lib.Pipeline.ValueKit.Point
public import Idealize.ShloMosaic.Lib.Pipeline.ValueKit
public import Idealize.ShloMosaic.Lib.StableHlo.RunRead
public import Idealize.ShloMosaic.Lib.Pointwise

@[expose] public section

set_option maxRecDepth 16384

noncomputable section

namespace Cert.Proof.Embed

open Cert.Kernel4Ideal Cert.Kernel4Ideal.Gen Cert.Proof.Products
open Idealize.ShloMosaic Idealize.ShloMosaic.TcCoe

variable (V : (c : Dev nD) → (b : Ref sig .tc) → Buf (Elt Ideal) ((c : Thread nD τ).loc b)) (c : Dev nD)

/-- Which blocks the embedding's projection reads and writes at each grid point. -/
theorem places0 : ∀ t : Fin cfg0.N, win0_0.index t = ![t.val / 2, 0] ∧ win0_1.index t = ![0, t.val % 2]
    ∧ win0_2.index t = ![t.val / 2, t.val % 2] := by decide +kernel
/-- Which blocks the gate's product reads and writes at each grid point. -/
theorem places1 : ∀ t : Fin cfg1.N, win1_0.index t = ![t.val / 2, 0] ∧ win1_1.index t = ![0, t.val % 2]
    ∧ win1_2.index t = ![t.val / 2, t.val % 2] ∧ win1_3.index t = ![t.val / 2, t.val % 2]
    ∧ win1_4.index t = ![t.val / 2, t.val % 2] ∧ win1_5.index t = ![t.val / 2, t.val % 2] := by decide +kernel
/-- Which blocks the gradients at the gate are read from and written to at each grid point. -/
theorem places2 : ∀ t : Fin cfg2.N, win2_0.index t = ![t.val, 0] ∧ win2_1.index t = ![t.val, 0]
    ∧ win2_2.index t = ![t.val, 0] ∧ win2_3.index t = ![t.val, 0] ∧ win2_4.index t = ![t.val, 0] := by decide +kernel
/-- Which blocks the product that gives the gate's weight's gradient reads and writes at each grid point. -/
theorem places3 : ∀ t : Fin cfg3.N, win3_0.index t = ![0, t.val % 4] ∧ win3_1.index t = ![0, t.val / 4]
    ∧ win3_2.index t = ![t.val % 4, t.val / 4] := by decide +kernel
/-- Which blocks the product that gives the projection's weight's gradient reads and writes at each grid point. -/
theorem places4 : ∀ t : Fin cfg4.N, win4_0.index t = ![0, 0] ∧ win4_1.index t = ![0, t.val]
    ∧ win4_2.index t = ![0, t.val] := by decide +kernel
/-- Which blocks the product that gives the gate's input's gradient reads and writes at each grid point. -/
theorem places5 : ∀ t : Fin cfg5.N, win5_0.index t = ![t.val / 2, 0] ∧ win5_1.index t = ![t.val % 2, 0]
    ∧ win5_2.index t = ![t.val / 2, t.val % 2] := by decide +kernel

variable (P : S4096x256.Idx → EReal) (U : S256x2048.Idx → EReal) (H X D G Q : S4096x2048.Idx → EReal) (W : S2048x2048.Idx → EReal)

/-! ## What the calls compute, entry by entry -/

/-- The gate: the logistic function of the product. -/
def gate (i : Fin 4096) (j : Fin 2048) : EReal := Scan.sig (nn X W i j)
/-- The layer's output: its input and the gated embedding. -/
def out (i : Fin 4096) (j : Fin 2048) : EReal := H (ix2 i j) + Q (ix2 i j) * gate X W i j
/-- The gradient at the gate's argument, from the output's gradient, the embedding and the gate. -/
def dgate (i : Fin 4096) (j : Fin 2048) : EReal := D (ix2 i j) * Q (ix2 i j) * G (ix2 i j) * (1 - G (ix2 i j))
/-- The gradient of the embedding, from the output's gradient and the gate. -/
def dembed (i : Fin 4096) (j : Fin 2048) : EReal := D (ix2 i j) * G (ix2 i j)

/-! ## What one grid point computes -/

/-- A block of the projected embedding. -/
theorem embed_block (x : Vec Ideal S512x256 .f32) (w : Vec Ideal S256x1024 .bf16) (y : S512x1024.Idx) (q : S4096x2048.Idx)
    (hx : ∀ k, x (ix2 (y 0) k) = P (ix2 (q 0) k)) (hw : ∀ k, w (ix2 k (y 1)) = U (ix2 k (q 1))) :
    k0_pay1 x w y = nn P U (q 0) (q 1) := by
  unfold nn
  simp only [← hx, ← hw]
  conv_lhs => rw [eq_ix2 y]
  unfold k0_pay1
  pointwise

/-- A block of the gate. -/
theorem gate_block (x : Vec Ideal S512x2048 .bf16) (w : Vec Ideal S2048x1024 .bf16) (y : S512x1024.Idx) (q : S4096x2048.Idx)
    (hx : ∀ k, x (ix2 (y 0) k) = X (ix2 (q 0) k)) (hw : ∀ k, w (ix2 k (y 1)) = W (ix2 k (q 1))) :
    k1_pay1 x w y = gate X W (q 0) (q 1) := by
  unfold gate nn Scan.sig
  simp only [← hx, ← hw]
  conv_lhs => rw [eq_ix2 y]
  unfold k1_pay1
  pointwise

/-- A block of the layer's output. -/
theorem out_block (x : Vec Ideal S512x2048 .bf16) (w : Vec Ideal S2048x1024 .bf16) (h e : Vec Ideal S512x1024 .f32)
    (y : S512x1024.Idx) (q : S4096x2048.Idx)
    (hx : ∀ k, x (ix2 (y 0) k) = X (ix2 (q 0) k)) (hw : ∀ k, w (ix2 k (y 1)) = W (ix2 k (q 1)))
    (hh : h (ix2 (y 0) (y 1)) = H (ix2 (q 0) (q 1))) (he : e (ix2 (y 0) (y 1)) = Q (ix2 (q 0) (q 1))) :
    k1_pay2 x w h e y = out H X Q W (q 0) (q 1) := by
  unfold out gate nn Scan.sig
  simp only [← hx, ← hw, ← hh, ← he]
  conv_lhs => rw [eq_ix2 y]
  unfold k1_pay2 k1_pay1
  pointwise

/-- A block of the gradient at the gate's argument. -/
theorem dgate_block (d e g : Vec Ideal S256x2048 .f32) (y : S256x2048.Idx) (q : S4096x2048.Idx)
    (hd : d (ix2 (y 0) (y 1)) = D (ix2 (q 0) (q 1))) (he : e (ix2 (y 0) (y 1)) = Q (ix2 (q 0) (q 1)))
    (hg : g (ix2 (y 0) (y 1)) = G (ix2 (q 0) (q 1))) :
    k2_pay2 d e g y = dgate D G Q (q 0) (q 1) := by
  unfold dgate
  simp only [← hd, ← he, ← hg]
  conv_lhs => rw [eq_ix2 y]
  unfold k2_pay2 k2_pay1
  pointwise

/-- A block of the embedding's gradient. -/
theorem dembed_block (d g : Vec Ideal S256x2048 .f32) (y : S256x2048.Idx) (q : S4096x2048.Idx)
    (hd : d (ix2 (y 0) (y 1)) = D (ix2 (q 0) (q 1))) (hg : g (ix2 (y 0) (y 1)) = G (ix2 (q 0) (q 1))) :
    k2_pay3 d g y = dembed D G (q 0) (q 1) := by
  unfold dembed
  simp only [← hd, ← hg]
  conv_lhs => rw [eq_ix2 y]
  unfold k2_pay3 k2_pay1
  pointwise

/-- A block of the gate's weight's gradient. -/
theorem dweight_block (x : Vec Ideal S4096x512 .bf16) (w : Vec Ideal S4096x1024 .bf16) (y : S512x1024.Idx) (q : S2048x2048.Idx)
    (hx : ∀ k, x (ix2 k (y 0)) = X (ix2 k (q 0))) (hw : ∀ k, w (ix2 k (y 1)) = D (ix2 k (q 1))) :
    k3_pay1 x w y = tn X D (q 0) (q 1) := by
  unfold tn
  simp only [← hx, ← hw]
  conv_lhs => rw [eq_ix2 y]
  unfold k3_pay1
  pointwise

/-- A block of the projection's weight's gradient. -/
theorem dproject_block (x : Vec Ideal S4096x256 .f32) (w : Vec Ideal S4096x1024 .bf16) (y : S256x1024.Idx) (q : S256x2048.Idx)
    (hx : ∀ k, x (ix2 k (y 0)) = P (ix2 k (q 0))) (hw : ∀ k, w (ix2 k (y 1)) = D (ix2 k (q 1))) :
    k4_pay1 x w y = tn P D (q 0) (q 1) := by
  unfold tn
  simp only [← hx, ← hw]
  conv_lhs => rw [eq_ix2 y]
  unfold k4_pay1
  pointwise

/-- A block of the gate's input's gradient. -/
theorem dinput_block (x : Vec Ideal S512x2048 .bf16) (w : Vec Ideal S1024x2048 .bf16) (y : S512x1024.Idx) (q : S4096x2048.Idx)
    (hx : ∀ k, x (ix2 (y 0) k) = D (ix2 (q 0) k)) (hw : ∀ k, w (ix2 (y 1) k) = W (ix2 (q 1) k)) :
    k5_pay1 x w y = nt D W (q 0) (q 1) := by
  unfold nt
  simp only [← hx, ← hw]
  conv_lhs => rw [eq_ix2 y]
  unfold k5_pay1
  pointwise

/-! ## What each call leaves in its arrays -/

/-- The first call leaves the projected embedding. -/
theorem embed_left (hP : V c main_arg2 = P) (hU : V c main_v1 = U) :
    (dat0 V c).arrAt 2 cfg0.N = fun q : S4096x2048.Idx => nn P U (q 0) (q 1) := by
  subst hP hU
  refine (dat0 V c).arrAt_eq_of_covers 2 _ (by decide +kernel) fun t hf y => ?_
  blk_simp
  rw [after0_2]
  frame_out
  idx_bounds y
  refine embed_block _ _ _ _ _ _ (fun k => ?_) (fun k => ?_) <;> blk_ext [iblk0, places0 t]

/-- The second call leaves the layer's output. -/
theorem out_left (hX : V c main_v2 = X) (hW : V c main_v0 = W) (hH : V c main_arg0 = H) (hQ : V c main_v3 = Q) :
    (dat1 V c).arrAt 4 cfg1.N = fun q : S4096x2048.Idx => out H X Q W (q 0) (q 1) := by
  subst hX hW hH hQ
  refine (dat1 V c).arrAt_eq_of_covers 4 _ (by decide +kernel) fun t hf y => ?_
  blk_simp
  rw [after1_4]
  frame_out
  idx_bounds y
  refine out_block _ _ _ _ _ _ _ _ _ _ (fun k => ?_) (fun k => ?_) ?_ ?_ <;> blk_ext [iblk1, places1 t]

/-- The second call leaves the gate. -/
theorem gate_left (hX : V c main_v2 = X) (hW : V c main_v0 = W) :
    (dat1 V c).arrAt 5 cfg1.N = fun q : S4096x2048.Idx => gate X W (q 0) (q 1) := by
  subst hX hW
  refine (dat1 V c).arrAt_eq_of_covers 5 _ (by decide +kernel) fun t hf y => ?_
  blk_simp
  rw [after1_5]
  frame_out
  idx_bounds y
  refine gate_block _ _ _ _ _ _ (fun k => ?_) (fun k => ?_) <;> blk_ext [iblk1, places1 t]

/-- The third call leaves the gradient at the gate's argument. -/
theorem dgate_left (hD : V c main_arg5 = D) (hQ : V c main_v3 = Q) (hG : V c main_v4_1 = G) :
    (dat2 V c).arrAt 3 cfg2.N = fun q : S4096x2048.Idx => dgate D G Q (q 0) (q 1) := by
  subst hD hQ hG
  refine (dat2 V c).arrAt_eq_of_covers 3 _ (by decide +kernel) fun t hf y => ?_
  blk_simp
  rw [after2_3]
  frame_out
  idx_bounds y
  refine dgate_block _ _ _ _ _ _ _ _ ?_ ?_ ?_ <;> blk_ext [iblk2, places2 t]

/-- The third call leaves the embedding's gradient. -/
theorem dembed_left (hD : V c main_arg5 = D) (hG : V c main_v4_1 = G) :
    (dat2 V c).arrAt 4 cfg2.N = fun q : S4096x2048.Idx => dembed D G (q 0) (q 1) := by
  subst hD hG
  refine (dat2 V c).arrAt_eq_of_covers 4 _ (by decide +kernel) fun t hf y => ?_
  blk_simp
  rw [after2_4]
  frame_out
  idx_bounds y
  refine dembed_block _ _ _ _ _ _ ?_ ?_ <;> blk_ext [iblk2, places2 t]

/-- The fourth call leaves the gate's weight's gradient. -/
theorem dweight_left (hX : V c main_v2 = X) (hD : V c main_v5_0 = D) :
    (dat3 V c).arrAt 2 cfg3.N = fun q : S2048x2048.Idx => tn X D (q 0) (q 1) := by
  subst hX hD
  refine (dat3 V c).arrAt_eq_of_covers 2 _ (by decide +kernel) fun t hf y => ?_
  blk_simp
  rw [after3_2]
  frame_out
  idx_bounds y
  refine dweight_block _ _ _ _ _ _ (fun k => ?_) (fun k => ?_) <;> blk_ext [iblk3, places3 t]

/-- The fifth call leaves the projection's weight's gradient. -/
theorem dproject_left (hP : V c main_arg2 = P) (hD : V c main_v5_1 = D) :
    (dat4 V c).arrAt 2 cfg4.N = fun q : S256x2048.Idx => tn P D (q 0) (q 1) := by
  subst hP hD
  refine (dat4 V c).arrAt_eq_of_covers 2 _ (by decide +kernel) fun t hf y => ?_
  blk_simp
  rw [after4_2]
  frame_out
  idx_bounds y
  refine dproject_block _ _ _ _ _ _ (fun k => ?_) (fun k => ?_) <;> blk_ext [iblk4, places4 t]

/-- The sixth call leaves the gate's input's gradient. -/
theorem dinput_left (hD : V c main_v5_0 = D) (hW : V c main_v0 = W) :
    (dat5 V c).arrAt 2 cfg5.N = fun q : S4096x2048.Idx => nt D W (q 0) (q 1) := by
  subst hD hW
  refine (dat5 V c).arrAt_eq_of_covers 2 _ (by decide +kernel) fun t hf y => ?_
  blk_simp
  rw [after5_2]
  frame_out
  idx_bounds y
  refine dinput_block _ _ _ _ _ _ (fun k => ?_) (fun k => ?_) <;> blk_ext [iblk5, places5 t]

end Cert.Proof.Embed

end
-- ==== Proof.EmbedRun.lean ====
/- The per-layer embedding's program over the extended reals: its four results, entry by entry, from its arguments. -/
module

public import proofs.«01_k».proof.Proof.Embed

@[expose] public section

set_option maxRecDepth 16384

noncomputable section

namespace Cert.Proof.Embed

open Cert.Kernel4Ideal Cert.Kernel4Ideal.Gen Cert.Proof.Products
open Idealize.ShloMosaic Idealize.ShloMosaic.TcCoe Idealize.SL.Sem

variable (m : (ℓ : Loc nD τ sig) → Buf (Elt Ideal) ℓ) (ρ : Dev nD → PrngReg) (c : Dev nD)

/-! ## What the host prepares -/

/-- The host's rounding of the gate's weight is that weight. -/
theorem gate_ready : V1 m ρ c main_v0 = m ((c : Thread nD τ).loc main_arg3) := by
  show StableHlo.after hostOps0 (fun b => m (c, b)) (Proc.devRef .tc main_v0) = _
  unfold hostOps0
  after_reads_simp
  rfl

/-- The host's rounding of the projection's weight is that weight. -/
theorem project_ready : V1 m ρ c main_v1 = m ((c : Thread nD τ).loc main_arg4) := by
  show StableHlo.after hostOps0 (fun b => m (c, b)) (Proc.devRef .tc main_v1) = _
  unfold hostOps0
  after_reads_simp
  rfl

/-- The host's rounding of the gate's input is that input. -/
theorem input_ready : V1 m ρ c main_v2 = m ((c : Thread nD τ).loc main_arg1) := by
  show StableHlo.after hostOps0 (fun b => m (c, b)) (Proc.devRef .tc main_v2) = _
  unfold hostOps0
  after_reads_simp
  rfl

/-! ## The results -/

/-- The projected embedding, from the arguments. -/
def embeds : S4096x2048.Idx → EReal :=
  fun q => nn (m ((c : Thread nD τ).loc main_arg2)) (m ((c : Thread nD τ).loc main_arg4)) (q 0) (q 1)
/-- The gate, from the arguments. -/
def gates : S4096x2048.Idx → EReal :=
  fun q => gate (m ((c : Thread nD τ).loc main_arg1)) (m ((c : Thread nD τ).loc main_arg3)) (q 0) (q 1)
/-- The layer's output, from the arguments. -/
def outs : S4096x2048.Idx → EReal := fun q =>
  out (m ((c : Thread nD τ).loc main_arg0)) (m ((c : Thread nD τ).loc main_arg1)) (embeds m c) (m ((c : Thread nD τ).loc main_arg3)) (q 0) (q 1)
/-- The gradient at the gate's argument, from the arguments. -/
def dgates : S4096x2048.Idx → EReal := fun q => dgate (m ((c : Thread nD τ).loc main_arg5)) (gates m c) (embeds m c) (q 0) (q 1)
/-- The embedding's gradient, from the arguments. -/
def dembeds : S4096x2048.Idx → EReal := fun q => dembed (m ((c : Thread nD τ).loc main_arg5)) (gates m c) (q 0) (q 1)
/-- The gradient of the gate's input, from the arguments. -/
def dinputs : S4096x2048.Idx → EReal := fun q => nt (dgates m c) (m ((c : Thread nD τ).loc main_arg3)) (q 0) (q 1)
/-- The gradient of the gate's weight, from the arguments. -/
def dweights : S2048x2048.Idx → EReal := fun q => tn (m ((c : Thread nD τ).loc main_arg1)) (dgates m c) (q 0) (q 1)
/-- The gradient of the projection's weight, from the arguments. -/
def dprojects : S256x2048.Idx → EReal := fun q => tn (m ((c : Thread nD τ).loc main_arg2)) (dembeds m c) (q 0) (q 1)

/-- The gate's weight, where the later calls read it. -/
theorem gate_kept : W6 m ρ c (Proc.devRef .tc main_v0) = m ((c : Thread nD τ).loc main_arg3)
    ∧ W2 m ρ c (Proc.devRef .tc main_v0) = m ((c : Thread nD τ).loc main_arg3) := by
  have h := (W2_of m ρ c main_v0 (by decide)).trans (gate_ready m ρ c)
  exact ⟨(W6_of m ρ c main_v0 (by decide)).trans ((W5_of m ρ c main_v0 (by decide)).trans ((W4_of m ρ c main_v0 (by decide)).trans
    ((W3_of m ρ c main_v0 (by decide)).trans h))), h⟩

/-- The gate's input, where the later calls read it. -/
theorem input_kept : W4 m ρ c (Proc.devRef .tc main_v2) = m ((c : Thread nD τ).loc main_arg1)
    ∧ W2 m ρ c (Proc.devRef .tc main_v2) = m ((c : Thread nD τ).loc main_arg1) := by
  have h := (W2_of m ρ c main_v2 (by decide)).trans (input_ready m ρ c)
  exact ⟨(W4_of m ρ c main_v2 (by decide)).trans ((W3_of m ρ c main_v2 (by decide)).trans h), h⟩

/-- The first call's result. -/
theorem embeds_kept : W2 m ρ c (Proc.devRef .tc main_v3) = embeds m c :=
  (W2_arr m ρ c 2).trans (embed_left (V1 m ρ) c _ _ (W1_args m ρ c _ (by decide)) (project_ready m ρ c))

/-- The second call's first result. -/
theorem outs_kept : W3 m ρ c (Proc.devRef .tc main_v4_0) = outs m c :=
  (W3_arr m ρ c 4).trans (out_left (V2 m ρ) c _ _ _ _ (input_kept m ρ c).2 (gate_kept m ρ c).2 (W2_args m ρ c _ (by decide)) (embeds_kept m ρ c))

/-- The second call's second result. -/
theorem gates_kept : W3 m ρ c (Proc.devRef .tc main_v4_1) = gates m c :=
  (W3_arr m ρ c 5).trans (gate_left (V2 m ρ) c _ _ (input_kept m ρ c).2 (gate_kept m ρ c).2)

/-- The third call's first result. -/
theorem dgates_kept : W4 m ρ c (Proc.devRef .tc main_v5_0) = dgates m c :=
  (W4_arr m ρ c 3).trans (dgate_left (V3 m ρ) c _ _ _ (W3_args m ρ c _ (by decide))
    ((W3_of m ρ c main_v3 (by decide)).trans (embeds_kept m ρ c)) (gates_kept m ρ c))

/-- The third call's second result. -/
theorem dembeds_kept : W4 m ρ c (Proc.devRef .tc main_v5_1) = dembeds m c :=
  (W4_arr m ρ c 4).trans (dembed_left (V3 m ρ) c _ _ (W3_args m ρ c _ (by decide)) (gates_kept m ρ c))

/-- The fourth call's result. -/
theorem dweights_kept : W5 m ρ c (Proc.devRef .tc main_v6) = dweights m c :=
  (W5_arr m ρ c 2).trans (dweight_left (V4 m ρ) c _ _ (input_kept m ρ c).1 (dgates_kept m ρ c))

/-- The fifth call's result. -/
theorem dprojects_kept : W6 m ρ c (Proc.devRef .tc main_v7) = dprojects m c :=
  (W6_arr m ρ c 2).trans (dproject_left (V5 m ρ) c _ _ (W5_args m ρ c _ (by decide))
    ((W5_of m ρ c main_v5_1 (by decide)).trans (dembeds_kept m ρ c)))

/-- The sixth call's result. -/
theorem dinputs_kept : W7 m ρ c (Proc.devRef .tc main_v8) = dinputs m c :=
  (W7_arr m ρ c 2).trans (dinput_left (V6 m ρ) c _ _ ((W6_of m ρ c main_v5_0 (by decide)).trans
    ((W5_of m ρ c main_v5_0 (by decide)).trans (dgates_kept m ρ c))) (gate_kept m ρ c).1)

end Cert.Proof.Embed

end
-- ==== Proof.EmbedLaunch.lean ====
/- The launch of the per-layer embedding's program over the extended reals: every execution ends with the four results computed
   from the arguments and the arguments unchanged. -/
module

public import proofs.«01_k».proof.Proof.EmbedRun

@[expose] public section

set_option maxRecDepth 16384

noncomputable section

namespace Cert.Proof.Embed

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every execution ends, and then every unscoped array is what the last call left it. -/
theorem run_left : θ_run defs (onTc (τ := τ) (main (F := Ideal))) ⟨m, fun _ => 0, ρ⟩ (fun r => ∀ c : Dev nD,
    ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨⟨Hh, -⟩, HSI⟩
      imodintro
      iapply (pointsTo_read_all (Pipeline.ucRefs τ sig) (fun b => (((c : Thread nD τ)).1, b)) (W7 m ρ c) s')
      isplitl [Hh] <;> iassumption)
    (hQ := fun _ h _ => h)

/-- The four results, and the arguments unchanged. -/
theorem run_values : θ_run defs (onTc (τ := τ) (main (F := Ideal))) ⟨m, fun _ => 0, ρ⟩ (fun r => ∀ c : Dev nD,
    r.2.mem ((c : Thread nD τ).loc main_v4_0) = outs m c
    ∧ r.2.mem ((c : Thread nD τ).loc main_v8) = dinputs m c
    ∧ r.2.mem ((c : Thread nD τ).loc main_v6) = dweights m c
    ∧ r.2.mem ((c : Thread nD τ).loc main_v7) = dprojects m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) :=
  (θ_run defs _ _).mono (fun _ h c =>
    ⟨(h c _ (mem_uc main_v4_0 (by decide))).trans ((W7_of m ρ c main_v4_0 (by decide)).trans ((W6_of m ρ c main_v4_0 (by decide)).trans ((W5_of m ρ c main_v4_0 (by decide)).trans ((W4_of m ρ c main_v4_0 (by decide)).trans (outs_kept m ρ c))))),
     (h c _ (mem_uc main_v8 (by decide))).trans (dinputs_kept m ρ c),
     (h c _ (mem_uc main_v6 (by decide))).trans ((W7_of m ρ c main_v6 (by decide)).trans ((W6_of m ρ c main_v6 (by decide)).trans (dweights_kept m ρ c))),
     (h c _ (mem_uc main_v7 (by decide))).trans ((W7_of m ρ c main_v7 (by decide)).trans (dprojects_kept m ρ c)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_left m ρ)

end Cert.Proof.Embed

end
-- ==== Proof.EmbedRef.lean ====
/- The per-layer embedding and its gradient as `jax.vjp` writes them, over the extended reals, entry by entry. -/
module

public import proofs.«01_k».proof.Proof.Embed
public import proofs.«01_k».proof.Proof.Gen.Reference4Ideal.Run

@[expose] public section

set_option maxRecDepth 16384

noncomputable section

namespace Cert.Proof.EmbedRef

open Cert.Reference4Ideal Cert.Reference4Ideal.Gen
open Idealize.ShloMosaic Idealize.ShloMosaic.TcCoe Idealize.SL.Sem Cert.Proof.Embed Cert.Proof.Products

variable (H X D : FVec Ideal S4096x2048 .f32) (E : FVec Ideal S4096x256 .f32) (W : FVec Ideal S2048x2048 .f32) (P : FVec Ideal S256x2048 .f32)

/-- The array of ones. -/
def ones : FVec Ideal S4096x2048 .f32 := broadcastInDim S4096x2048 ![] bcast_S_S4096x2048 (constant S_ .f32 0x3F800000#32)

/-- The gate, as the reference's operations give it. -/
def gateRef : FVec Ideal S4096x2048 .f32 :=
  Host.divf ones (addf ones (Host.exp (Host.negf (Host.dotGeneral dot_S4096x2048_S2048x2048_S4096x2048_1_0_0_1_n_n none X W))))

/-- It is the kernel's gate. -/
theorem gate_at (i : Fin 4096) (j : Fin 2048) : gateRef X W (ix2 i j) = gate X W i j := by
  unfold gateRef ones gate Scan.sig nn
  pointwise
  rw [zero_sub]

/-- The projected embedding, as the reference's operations give it. -/
def embedRef : FVec Ideal S4096x2048 .f32 := Host.dotGeneral dot_S4096x256_S256x2048_S4096x2048_1_0_0_1_n_n none E P

/-- It is the kernel's. -/
theorem embed_at (i : Fin 4096) (j : Fin 2048) : embedRef E P (ix2 i j) = nn E P i j := by
  unfold embedRef nn
  pointwise

/-- The layer's output, as the reference's operations give it. -/
def outRef : FVec Ideal S4096x2048 .f32 := addf H (mulf (embedRef E P) (gateRef X W))

/-- It is the kernel's. -/
theorem out_at (i : Fin 4096) (j : Fin 2048) : outRef H X E W P (ix2 i j) = out H X (fun q => nn E P (q 0) (q 1)) W i j := by
  unfold outRef out
  rw [← gate_at]
  show H (ix2 i j) + embedRef E P (ix2 i j) * gateRef X W (ix2 i j) = _
  rw [embed_at]
  rfl

/-- The gradient at the gate's argument, as the reference's operations give it. -/
def dgateRef : FVec Ideal S4096x2048 .f32 :=
  mulf (mulf (embedRef E P) D) (mulf (gateRef X W) (subf ones (gateRef X W)))

/-- It is the kernel's, the factors in another order. -/
theorem dgate_at (i : Fin 4096) (j : Fin 2048) :
    dgateRef X D E W P (ix2 i j) = dgate D (fun q => gate X W (q 0) (q 1)) (fun q => nn E P (q 0) (q 1)) i j := by
  have h1 : ones (ix2 i j) = (1 : EReal) := by
    unfold ones
    pointwise
  show embedRef E P (ix2 i j) * D (ix2 i j) * (gateRef X W (ix2 i j) * (ones (ix2 i j) - gateRef X W (ix2 i j))) = _
  rw [embed_at, gate_at, h1, mul_comm (nn E P i j), ← mul_assoc]
  rfl

/-- The same of the whole array. -/
theorem dgate_eq : (dgateRef X D E W P : S4096x2048.Idx → EReal)
    = fun q => dgate D (fun q => gate X W (q 0) (q 1)) (fun q => nn E P (q 0) (q 1)) (q 0) (q 1) :=
  funext fun q => (congrArg _ (eq_ix2 q)).trans (dgate_at X D E W P (q 0) (q 1))

/-- The gradient of the gate's input is the same sum. -/
theorem dinput_at (G : FVec Ideal S4096x2048 .f32) (i : Fin 4096) (j : Fin 2048) :
    Host.dotGeneral dot_S4096x2048_S2048x2048_S4096x2048_1_1_0_0_n_n none G W (ix2 i j) = nt G W i j := by
  unfold nt
  pointwise

/-- The gradient of the gate's weight is the same sum, the factors the other way round. -/
theorem dweight_at (G : FVec Ideal S4096x2048 .f32) (i j : Fin 2048) :
    (truncf .bf16 (transpose S2048x2048 [1, 0] (Host.dotGeneral dot_S4096x2048_S4096x2048_S2048x2048_0_0_1_1_n_n none G X)
      transposes_S2048x2048_S2048x2048_1_0) bitsLt_bf16_f32 : FVec Ideal S2048x2048 .bf16) (ix2 i j) = tn X G i j := by
  unfold tn
  pointwise
  exact Finset.sum_congr rfl fun k _ => mul_comm _ _

/-- The gradient of the projection's weight is the same sum, the factors the other way round. -/
theorem dproject_at (G : FVec Ideal S4096x2048 .f32) (i : Fin 256) (j : Fin 2048) :
    (truncf .bf16 (transpose S256x2048 [1, 0] (Host.dotGeneral dot_S4096x2048_S4096x256_S2048x256_0_0_1_1_n_n none G E)
      transposes_S2048x256_S256x2048_1_0) bitsLt_bf16_f32 : FVec Ideal S256x2048 .bf16) (ix2 i j) = tn E G i j := by
  unfold tn
  pointwise
  exact Finset.sum_congr rfl fun k _ => mul_comm _ _

/-- The embedding's gradient is the kernel's. -/
theorem dembed_at (i : Fin 4096) (j : Fin 2048) : mulf D (gateRef X W) (ix2 i j) = dembed D (fun q => gate X W (q 0) (q 1)) i j := by
  show D (ix2 i j) * gateRef X W (ix2 i j) = _
  rw [gate_at]
  rfl

/-- The same of the whole array. -/
theorem dembed_eq : (mulf D (gateRef X W) : S4096x2048.Idx → EReal) = fun q => dembed D (fun q => gate X W (q 0) (q 1)) (q 0) (q 1) :=
  funext fun q => (congrArg _ (eq_ix2 q)).trans (dembed_at X D W (q 0) (q 1))

end Cert.Proof.EmbedRef

end
-- ==== Proof.EmbedEqual.lean ====
/- The calls of the per-layer embedding and `jax.vjp` of its plain lines give the same arrays over the extended reals. -/
module

public import proofs.«01_k».proof.Defs
public import proofs.«01_k».proof.Proof.EmbedLaunch
public import proofs.«01_k».proof.Proof.EmbedRef
public import proofs.«01_k».proof.Proof.Gen.Kernel4.Frame
public import Idealize.ShloMosaic.Adequacy
public import Idealize.ShloMosaic.Init

@[expose] public section

set_option maxRecDepth 16384

noncomputable section

namespace Cert.Proof

open Idealize.ShloMosaic Idealize.SL.Sem

/-- The frame of the program of the per-layer embedding, over the bits. -/
theorem frame_embed : Cert.quiescent_Kernel4 := fun m ρ _ => Cert.Kernel4.Gen.frame m ρ

/-- The frame of the program of the per-layer embedding, over the extended reals. -/
theorem frame_embed_ideal : Cert.quiescent_Kernel4Ideal := fun m ρ _ => Cert.Kernel4Ideal.Gen.frame m ρ

/-- The frame of its reference. -/
theorem frame_embed_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

/-- The calls and the reference give the same arrays: the layer's output, the gradient of the gate's input, that of the
    gate's weight and that of the projection's weight. -/
theorem equal_embed : Cert.algebraic_Kernel4Ideal_Reference4Ideal := fun m g m' g' _ hm => by
  refine ⟨fun c => Embed.outs m c, fun c => Embed.dinputs m c, fun c => Embed.dweights m c, fun c => Embed.dprojects m c,
    Embed.run_values m g, (θ_run Cert.Reference4Ideal.defs _ _).mono (fun r h c => ?_) (Cert.Reference4Ideal.Value.run m' g')⟩
  obtain ⟨h0, h1, h2, h3, hr⟩ := h c
  obtain ⟨e0, e1, e2, e3, e4, e5⟩ := hm c
  refine ⟨h0.trans ?_, h1.trans ?_, h2.trans ?_, h3.trans ?_, hr⟩
  · rw [e0, e1, e2, e3, e4]
    exact funext fun y => (congrArg _ (eq_ix2 y)).trans (EmbedRef.out_at _ _ _ _ _ (y 0) (y 1))
  · rw [e1, e2, e3, e4, e5]
    exact funext fun y => (congrArg _ (eq_ix2 y)).trans ((EmbedRef.dinput_at _ _ (y 0) (y 1)).trans
      (congrArg (fun G => Products.nt G _ (y 0) (y 1)) (EmbedRef.dgate_eq _ _ _ _ _)))
  · rw [e1, e2, e3, e4, e5]
    exact funext fun y => (congrArg _ (eq_ix2 y)).trans ((EmbedRef.dweight_at _ _ (y 0) (y 1)).trans
      (congrArg (fun G => Products.tn _ G (y 0) (y 1)) (EmbedRef.dgate_eq _ _ _ _ _)))
  · rw [e1, e2, e3, e5]
    exact funext fun y => (congrArg _ (eq_ix2 y)).trans ((EmbedRef.dproject_at _ _ (y 0) (y 1)).trans
      (congrArg (fun G => Products.tn _ G (y 0) (y 1)) (EmbedRef.dembed_eq _ _ _)))

end Cert.Proof

end
-- ==== Proof.Project.lean ====
/- The calls of the projections into the mixer and out of it, over the extended reals, entry by entry: what each call leaves
   in its arrays, from the arrays it finds. -/
module

public import proofs.«01_k».proof.Proof.Gen.Kernel5Ideal.Frame
public import proofs.«01_k».proof.Proof.Products
public import Idealize.ShloMosaic.Lib.Pipeline.ValueKit.Point
public import Idealize.ShloMosaic.Lib.Pipeline.ValueKit
public import Idealize.ShloMosaic.Lib.StableHlo.RunRead
public import Idealize.ShloMosaic.Lib.Pointwise

@[expose] public section

set_option maxRecDepth 16384

noncomputable section

namespace Cert.Proof.Project

open Cert.Kernel5Ideal Cert.Kernel5Ideal.Gen Cert.Proof.Products
open Idealize.ShloMosaic Idealize.ShloMosaic.TcCoe

variable (V : (c : Dev nD) → (b : Ref sig .tc) → Buf (Elt Ideal) ((c : Thread nD τ).loc b)) (c : Dev nD)

/-- Which blocks the projection into the mixer reads and writes at each grid point. -/
theorem places0 : ∀ t : Fin cfg0.N, win0_0.index t = ![t.val / 7, 0] ∧ win0_1.index t = ![0, t.val % 7]
    ∧ win0_2.index t = ![t.val / 7, t.val % 7] := by decide +kernel
/-- Which blocks the projection out of the mixer reads and writes at each grid point. -/
theorem places1 : ∀ t : Fin cfg1.N, win1_0.index t = ![t.val / 2, 0] ∧ win1_1.index t = ![0, t.val % 2]
    ∧ win1_2.index t = ![t.val / 2, t.val % 2] ∧ win1_3.index t = ![t.val / 2, t.val % 2] := by decide +kernel
/-- Which blocks the product that gives the mixer's output's gradient reads and writes at each grid point. -/
theorem places2 : ∀ t : Fin cfg2.N, win2_0.index t = ![t.val / 2, 0] ∧ win2_1.index t = ![t.val % 2, 0]
    ∧ win2_2.index t = ![t.val / 2, t.val % 2] := by decide +kernel
/-- Which blocks the product that gives the outer weight's gradient reads and writes at each grid point. -/
theorem places3 : ∀ t : Fin cfg3.N, win3_0.index t = ![0, t.val % 4] ∧ win3_1.index t = ![0, t.val / 4]
    ∧ win3_2.index t = ![t.val % 4, t.val / 4] := by decide +kernel
/-- Which blocks the product that gives the inner weight's gradient reads and writes at each grid point. -/
theorem places4 : ∀ t : Fin cfg4.N, win4_0.index t = ![0, t.val % 4] ∧ win4_1.index t = ![0, t.val / 4]
    ∧ win4_2.index t = ![t.val % 4, t.val / 4] := by decide +kernel

variable (X Y D H : S4096x2048.Idx → EReal) (U : S2048x7168.Idx → EReal) (E : S4096x7168.Idx → EReal) (W : S2048x2048.Idx → EReal)

/-- The layer's input and the product that is added to it. -/
def added (i : Fin 4096) (j : Fin 2048) : EReal := H (ix2 i j) + nn Y W i j

/-! ## What one grid point computes -/

/-- A block of the projection into the mixer. -/
theorem into_block (x : Vec Ideal S512x2048 .bf16) (w : Vec Ideal S2048x1024 .bf16) (y : S512x1024.Idx) (q : S4096x7168.Idx)
    (hx : ∀ k, x (ix2 (y 0) k) = X (ix2 (q 0) k)) (hw : ∀ k, w (ix2 k (y 1)) = U (ix2 k (q 1))) :
    k0_pay1 x w y = nn X U (q 0) (q 1) := by
  unfold nn
  simp only [← hx, ← hw]
  conv_lhs => rw [eq_ix2 y]
  unfold k0_pay1
  pointwise

/-- A block of the projection out of the mixer, added to the layer's input. -/
theorem added_block (x : Vec Ideal S512x2048 .bf16) (w : Vec Ideal S2048x1024 .bf16) (h : Vec Ideal S512x1024 .f32)
    (y : S512x1024.Idx) (q : S4096x2048.Idx) (hx : ∀ k, x (ix2 (y 0) k) = Y (ix2 (q 0) k))
    (hw : ∀ k, w (ix2 k (y 1)) = W (ix2 k (q 1))) (hh : h (ix2 (y 0) (y 1)) = H (ix2 (q 0) (q 1))) :
    k1_pay1 x w h y = added Y H W (q 0) (q 1) := by
  unfold added nn
  simp only [← hx, ← hw, ← hh]
  conv_lhs => rw [eq_ix2 y]
  unfold k1_pay1
  pointwise

/-- A block of the mixer's output's gradient. -/
theorem dout_block (x : Vec Ideal S512x2048 .f32) (w : Vec Ideal S1024x2048 .bf16) (y : S512x1024.Idx) (q : S4096x2048.Idx)
    (hx : ∀ k, x (ix2 (y 0) k) = D (ix2 (q 0) k)) (hw : ∀ k, w (ix2 (y 1) k) = W (ix2 (q 1) k)) :
    k2_pay1 x w y = nt D W (q 0) (q 1) := by
  unfold nt
  simp only [← hx, ← hw]
  conv_lhs => rw [eq_ix2 y]
  unfold k2_pay1
  pointwise

/-- A block of the outer weight's gradient. -/
theorem douter_block (x : Vec Ideal S4096x512 .bf16) (w : Vec Ideal S4096x512 .f32) (y : S512x512.Idx) (q : S2048x2048.Idx)
    (hx : ∀ k, x (ix2 k (y 0)) = Y (ix2 k (q 0))) (hw : ∀ k, w (ix2 k (y 1)) = D (ix2 k (q 1))) :
    k3_pay1 x w y = tn Y D (q 0) (q 1) := by
  unfold tn
  simp only [← hx, ← hw]
  conv_lhs => rw [eq_ix2 y]
  unfold k3_pay1
  pointwise

/-- A block of the inner weight's gradient. -/
theorem dinner_block (x : Vec Ideal S4096x512 .bf16) (w : Vec Ideal S4096x1024 .bf16) (y : S512x1024.Idx) (q : S2048x7168.Idx)
    (hx : ∀ k, x (ix2 k (y 0)) = X (ix2 k (q 0))) (hw : ∀ k, w (ix2 k (y 1)) = E (ix2 k (q 1))) :
    k4_pay1 x w y = tn X E (q 0) (q 1) := by
  unfold tn
  simp only [← hx, ← hw]
  conv_lhs => rw [eq_ix2 y]
  unfold k4_pay1
  pointwise

/-! ## What each call leaves in its arrays -/

/-- The first call leaves the projection into the mixer. -/
theorem into_left (hX : V c main_v3 = X) (hU : V c main_v1 = U) :
    (dat0 V c).arrAt 2 cfg0.N = fun q : S4096x7168.Idx => nn X U (q 0) (q 1) := by
  subst hX hU
  refine (dat0 V c).arrAt_eq_of_covers 2 _ (by decide +kernel) fun t hf y => ?_
  blk_simp
  rw [after0_2]
  frame_out
  idx_bounds y
  refine into_block _ _ _ _ _ _ (fun k => ?_) (fun k => ?_) <;> blk_ext [iblk0, places0 t]

/-- The second call leaves the projection out of the mixer, added to the layer's input. -/
theorem added_left (hY : V c main_v4 = Y) (hW : V c main_v2 = W) (hH : V c main_arg3 = H) :
    (dat1 V c).arrAt 3 cfg1.N = fun q : S4096x2048.Idx => added Y H W (q 0) (q 1) := by
  subst hY hW hH
  refine (dat1 V c).arrAt_eq_of_covers 3 _ (by decide +kernel) fun t hf y => ?_
  blk_simp
  rw [after1_3]
  frame_out
  idx_bounds y
  refine added_block _ _ _ _ _ _ _ _ (fun k => ?_) (fun k => ?_) ?_ <;> blk_ext [iblk1, places1 t]

/-- The third call leaves the mixer's output's gradient. -/
theorem dout_left (hD : V c main_arg6 = D) (hW : V c main_v2 = W) :
    (dat2 V c).arrAt 2 cfg2.N = fun q : S4096x2048.Idx => nt D W (q 0) (q 1) := by
  subst hD hW
  refine (dat2 V c).arrAt_eq_of_covers 2 _ (by decide +kernel) fun t hf y => ?_
  blk_simp
  rw [after2_2]
  frame_out
  idx_bounds y
  refine dout_block _ _ _ _ _ _ (fun k => ?_) (fun k => ?_) <;> blk_ext [iblk2, places2 t]

/-- The fourth call leaves the outer weight's gradient. -/
theorem douter_left (hY : V c main_v4 = Y) (hD : V c main_arg6 = D) :
    (dat3 V c).arrAt 2 cfg3.N = fun q : S2048x2048.Idx => tn Y D (q 0) (q 1) := by
  subst hY hD
  refine (dat3 V c).arrAt_eq_of_covers 2 _ (by decide +kernel) fun t hf y => ?_
  blk_simp
  rw [after3_2]
  frame_out
  idx_bounds y
  refine douter_block _ _ _ _ _ _ (fun k => ?_) (fun k => ?_) <;> blk_ext [iblk3, places3 t]

/-- The fifth call leaves the inner weight's gradient. -/
theorem dinner_left (hX : V c main_v3 = X) (hE : V c main_v6 = E) :
    (dat4 V c).arrAt 2 cfg4.N = fun q : S2048x7168.Idx => tn X E (q 0) (q 1) := by
  subst hX hE
  refine (dat4 V c).arrAt_eq_of_covers 2 _ (by decide +kernel) fun t hf y => ?_
  blk_simp
  rw [after4_2]
  frame_out
  idx_bounds y
  refine dinner_block _ _ _ _ _ _ (fun k => ?_) (fun k => ?_) <;> blk_ext [iblk4, places4 t]

end Cert.Proof.Project

end
-- ==== Proof.Wide.lean ====
/- Matrices of 6672 columns filled up with zeros to 7168, over the extended reals. -/
module

public import proofs.«01_k».proof.Proof.Products

@[expose] public section

noncomputable section

namespace Cert.Proof.Products

open Idealize.ShloMosaic

variable {a b : ℕ}

/-- A matrix of 6672 columns filled up with zeros to 7168. -/
def wide (X : (⟨2, ![a, 6672]⟩ : Shape).Idx → EReal) (i : Fin a) (j : Fin 7168) : EReal :=
  if h : j.val < 6672 then X (ix2 i ⟨j.val, h⟩) else 0

/-- The zero that fills it up, converted from an integer. -/
theorem zero_int : (FloatOps.sitofp (F := Ideal) .bf16 0#32 : EReal) = 0 := by
  show ((((0#32 : BitVec 32).toInt : ℤ) : ℝ) : EReal) = 0
  simp

/-- A column that was there before is unchanged. -/
theorem wide_of_lt (X : (⟨2, ![a, 6672]⟩ : Shape).Idx → EReal) (i : Fin a) (j : Fin 6672) (h : j.val < 7168) :
    wide X i ⟨j.val, h⟩ = X (ix2 i j) := dif_pos j.isLt

/-- The columns that were filled up add nothing to a product over the columns. -/
theorem nt_wide (X : (⟨2, ![a, 6672]⟩ : Shape).Idx → EReal) (Y : (⟨2, ![b, 6672]⟩ : Shape).Idx → EReal) (i : Fin a) (j : Fin b) :
    ∑ k : Fin 7168, wide X i k * wide Y j k = nt X Y i j := by
  unfold nt
  refine (Fin.sum_univ_add (a := 6672) (b := 496) fun k => wide X i k * wide Y j k).trans ?_
  rw [Finset.sum_eq_zero (s := (Finset.univ : Finset (Fin 496))) fun k _ => ?_, add_zero]
  · exact Finset.sum_congr rfl fun k _ => congrArg₂ (· * ·) (wide_of_lt X i k _) (wide_of_lt Y j k _)
  · have h : ¬(Fin.natAdd 6672 k).val < 6672 := by simp
    rw [wide, dif_neg h, zero_mul]

end Cert.Proof.Products

end
-- ==== Proof.ProjectRun.lean ====
/- The program of the projections into and out of the mixer over the extended reals: its five results, entry by entry, from
   its arguments. -/
module

public import proofs.«01_k».proof.Proof.Project
public import proofs.«01_k».proof.Proof.Wide

@[expose] public section

set_option maxRecDepth 16384

noncomputable section

namespace Cert.Proof.Project

open Cert.Kernel5Ideal Cert.Kernel5Ideal.Gen Cert.Proof.Products
open Idealize.ShloMosaic Idealize.ShloMosaic.TcCoe Idealize.SL.Sem

variable (m : (ℓ : Loc nD τ sig) → Buf (Elt Ideal) ℓ) (ρ : Dev nD → PrngReg) (c : Dev nD)

/-! ## What the host prepares -/

/-- The host fills the weight of the projection in up with columns of zeros. -/
theorem inner_ready : V4 m ρ c main_v1 = fun q : S2048x7168.Idx => wide (m ((c : Thread nD τ).loc main_arg1)) (q 0) (q 1) := by
  refine (W4_of m ρ c main_v1 (by decide)).trans ((W3_of m ρ c main_v1 (by decide)).trans ?_)
  show StableHlo.after hostOps0_1 (W1 m ρ c) (Proc.devRef .tc main_v1) = _
  unfold hostOps0_1
  after_reads_simp
  funext q
  rw [eq_ix2 q]
  show pad S2048x7168 ![0, 0] ![0, 496] ![0, 0] (truncf .bf16 (m ((c : Thread nD τ).loc main_arg1)) bitsLt_bf16_f32 : FVec Ideal S2048x6672 .bf16)
    (sitofp .bf16 (constantI S_ 32 0#32)) pads_S2048x6672_S2048x7168_000_04960 h_S_ (ix2 (q 0) (q 1)) = wide _ (q 0) (q 1)
  unfold wide
  pointwise
  rw [zero_int]

/-- The host's rounding of the weight of the projection out is that weight. -/
theorem outer_ready : W3 m ρ c (Proc.devRef .tc main_v2) = m ((c : Thread nD τ).loc main_arg5) := by
  show StableHlo.after hostOps0_2 (W2 m ρ c) (Proc.devRef .tc main_v2) = _
  unfold hostOps0_2
  after_reads_simp
  rfl

/-- The host's rounding of the input of the projection in is that input. -/
theorem input_ready : W3 m ρ c (Proc.devRef .tc main_v3) = m ((c : Thread nD τ).loc main_arg0) := by
  show StableHlo.after hostOps0_2 (W2 m ρ c) (Proc.devRef .tc main_v3) = _
  unfold hostOps0_2
  after_reads_simp
  rfl

/-- The host's rounding of the mixer's output is that output. -/
theorem mixed_ready : W3 m ρ c (Proc.devRef .tc main_v4) = m ((c : Thread nD τ).loc main_arg4) := by
  show StableHlo.after hostOps0_2 (W2 m ρ c) (Proc.devRef .tc main_v4) = _
  unfold hostOps0_2
  after_reads_simp
  rfl

/-- The host fills the gradient of the projection in up with columns of zeros. -/
theorem gradient_ready : V4 m ρ c main_v6 = fun q : S4096x7168.Idx => wide (m ((c : Thread nD τ).loc main_arg2)) (q 0) (q 1) := by
  show StableHlo.after hostOps0_3 (W3 m ρ c) (Proc.devRef .tc main_v6) = _
  unfold hostOps0_3
  after_reads_simp
  funext q
  rw [eq_ix2 q]
  show pad S4096x7168 ![0, 0] ![0, 496] ![0, 0] (truncf .bf16 (m ((c : Thread nD τ).loc main_arg2)) bitsLt_bf16_f32 : FVec Ideal S4096x6672 .bf16)
    (sitofp .bf16 (constantI S_ 32 0#32)) pads_S4096x6672_S4096x7168_000_04960 h_S_ (ix2 (q 0) (q 1)) = wide _ (q 0) (q 1)
  unfold wide
  pointwise
  rw [zero_int]

/-! ## The results -/

/-- The projection into the mixer, from the arguments. -/
def projs : S4096x6672.Idx → EReal :=
  fun q => nn (m ((c : Thread nD τ).loc main_arg0)) (m ((c : Thread nD τ).loc main_arg1)) (q 0) (q 1)
/-- The gradient of its weight, from the arguments. -/
def dinners : S2048x6672.Idx → EReal :=
  fun q => tn (m ((c : Thread nD τ).loc main_arg0)) (m ((c : Thread nD τ).loc main_arg2)) (q 0) (q 1)
/-- The layer's input and the projection out of the mixer, from the arguments. -/
def sums : S4096x2048.Idx → EReal := fun q =>
  added (m ((c : Thread nD τ).loc main_arg4)) (m ((c : Thread nD τ).loc main_arg3)) (m ((c : Thread nD τ).loc main_arg5)) (q 0) (q 1)
/-- The gradient of the mixer's output, from the arguments. -/
def dmixed : S4096x2048.Idx → EReal :=
  fun q => nt (m ((c : Thread nD τ).loc main_arg6)) (m ((c : Thread nD τ).loc main_arg5)) (q 0) (q 1)
/-- The gradient of the weight of the projection out, from the arguments. -/
def douters : S2048x2048.Idx → EReal :=
  fun q => tn (m ((c : Thread nD τ).loc main_arg4)) (m ((c : Thread nD τ).loc main_arg6)) (q 0) (q 1)

/-- The weight of the projection out, where the calls read it. -/
theorem outer_kept : W5 m ρ c (Proc.devRef .tc main_v2) = m ((c : Thread nD τ).loc main_arg5)
    ∧ W6 m ρ c (Proc.devRef .tc main_v2) = m ((c : Thread nD τ).loc main_arg5) := by
  have h := (W5_of m ρ c main_v2 (by decide)).trans ((W4_of m ρ c main_v2 (by decide)).trans (outer_ready m ρ c))
  exact ⟨h, (W6_of m ρ c main_v2 (by decide)).trans h⟩

/-- The input of the projection in, where the last call reads it. -/
theorem input_kept : W8 m ρ c (Proc.devRef .tc main_v3) = m ((c : Thread nD τ).loc main_arg0) :=
  (W8_of m ρ c main_v3 (by decide)).trans ((W7_of m ρ c main_v3 (by decide)).trans ((W6_of m ρ c main_v3 (by decide)).trans
    ((W5_of m ρ c main_v3 (by decide)).trans ((W4_of m ρ c main_v3 (by decide)).trans (input_ready m ρ c)))))

/-- The mixer's output, where the calls read it. -/
theorem mixed_kept : W5 m ρ c (Proc.devRef .tc main_v4) = m ((c : Thread nD τ).loc main_arg4)
    ∧ W7 m ρ c (Proc.devRef .tc main_v4) = m ((c : Thread nD τ).loc main_arg4) := by
  have h := (W5_of m ρ c main_v4 (by decide)).trans ((W4_of m ρ c main_v4 (by decide)).trans (mixed_ready m ρ c))
  exact ⟨h, (W7_of m ρ c main_v4 (by decide)).trans ((W6_of m ρ c main_v4 (by decide)).trans h)⟩

/-- The gradient of the projection in, where the last call reads it. -/
theorem gradient_kept : W8 m ρ c (Proc.devRef .tc main_v6)
    = fun q : S4096x7168.Idx => wide (m ((c : Thread nD τ).loc main_arg2)) (q 0) (q 1) :=
  (W8_of m ρ c main_v6 (by decide)).trans ((W7_of m ρ c main_v6 (by decide)).trans ((W6_of m ρ c main_v6 (by decide)).trans
    ((W5_of m ρ c main_v6 (by decide)).trans (gradient_ready m ρ c))))

/-- The columns that were there before, of the first call's result. -/
theorem projs_kept : W10 m ρ c (Proc.devRef .tc main_v12) = projs m c := by
  have h := (W9_of m ρ c main_v7 (by decide)).trans ((W8_of m ρ c main_v7 (by decide)).trans ((W7_of m ρ c main_v7 (by decide)).trans
    ((W6_of m ρ c main_v7 (by decide)).trans ((W5_arr m ρ c 2).trans (into_left (V4 m ρ) c _ _
      ((W4_of m ρ c main_v3 (by decide)).trans (input_ready m ρ c)) (inner_ready m ρ c))))))
  show StableHlo.after hostOps5 (W9 m ρ c) (Proc.devRef .tc main_v12) = _
  unfold hostOps5
  after_reads_simp
  rw [h]
  funext q
  conv_lhs => rw [eq_ix2 q]
  conv_rhs => rw [eq_ix2 q]
  unfold projs nn
  pointwise
  exact Finset.sum_congr rfl fun k _ => congrArg _ (wide_of_lt _ _ _ _)

/-- The second call's result. -/
theorem sums_kept : W6 m ρ c (Proc.devRef .tc main_v8) = sums m c :=
  (W6_arr m ρ c 3).trans (added_left (V5 m ρ) c _ _ _ (mixed_kept m ρ c).1 (outer_kept m ρ c).1 (W5_args m ρ c _ (by decide)))

/-- The third call's result. -/
theorem dmixed_kept : W7 m ρ c (Proc.devRef .tc main_v9) = dmixed m c :=
  (W7_arr m ρ c 2).trans (dout_left (V6 m ρ) c _ _ (W6_args m ρ c _ (by decide)) (outer_kept m ρ c).2)

/-- The fourth call's result. -/
theorem douters_kept : W8 m ρ c (Proc.devRef .tc main_v10) = douters m c :=
  (W8_arr m ρ c 2).trans (douter_left (V7 m ρ) c _ _ (mixed_kept m ρ c).2 (W7_args m ρ c _ (by decide)))

/-- The columns that were there before, of the fifth call's result. -/
theorem dinners_kept : W10 m ρ c (Proc.devRef .tc main_v13) = dinners m c := by
  have h := (W9_arr m ρ c 2).trans (dinner_left (V8 m ρ) c _ _ (input_kept m ρ c) (gradient_kept m ρ c))
  show StableHlo.after hostOps5 (W9 m ρ c) (Proc.devRef .tc main_v13) = _
  unfold hostOps5
  after_reads_simp
  rw [show W9 m ρ c (Proc.devRef .tc main_v11) = _ from h]
  funext q
  conv_lhs => rw [eq_ix2 q]
  conv_rhs => rw [eq_ix2 q]
  unfold dinners tn
  pointwise
  exact Finset.sum_congr rfl fun k _ => congrArg _ (wide_of_lt _ _ _ _)

end Cert.Proof.Project

end
-- ==== Proof.ProjectLaunch.lean ====
/- The launch of the program of the projections over the extended reals: every execution ends with the five results computed
   from the arguments and the arguments unchanged. -/
module

public import proofs.«01_k».proof.Proof.ProjectRun

@[expose] public section

set_option maxRecDepth 16384

noncomputable section

namespace Cert.Proof.Project

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every execution ends, and then every unscoped array is what the program's last operations left it. -/
theorem run_left : θ_run defs (onTc (τ := τ) (main (F := Ideal))) ⟨m, fun _ => 0, ρ⟩ (fun r => ∀ c : Dev nD,
    ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      unfold Tₙ StableHlo.held
      iintro ⟨⟨Hh, -⟩, HSI⟩
      imodintro
      iapply (pointsTo_read_all (Pipeline.ucRefs τ sig) (fun b => (((c : Thread nD τ)).1, b)) (W10 m ρ c) s')
      isplitl [Hh] <;> iassumption)
    (hQ := fun _ h _ => h)

/-- The five results, and the arguments unchanged. -/
theorem run_values : θ_run defs (onTc (τ := τ) (main (F := Ideal))) ⟨m, fun _ => 0, ρ⟩ (fun r => ∀ c : Dev nD,
    r.2.mem ((c : Thread nD τ).loc main_v12) = projs m c
    ∧ r.2.mem ((c : Thread nD τ).loc main_v13) = dinners m c
    ∧ r.2.mem ((c : Thread nD τ).loc main_v8) = sums m c
    ∧ r.2.mem ((c : Thread nD τ).loc main_v9) = dmixed m c
    ∧ r.2.mem ((c : Thread nD τ).loc main_v10) = douters m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  (θ_run defs _ _).mono (fun _ h c =>
    ⟨(h c _ (mem_uc main_v12 (by decide))).trans (projs_kept m ρ c),
     (h c _ (mem_uc main_v13 (by decide))).trans (dinners_kept m ρ c),
     (h c _ (mem_uc main_v8 (by decide))).trans ((W10_of m ρ c main_v8 (by decide)).trans ((W9_of m ρ c main_v8 (by decide)).trans ((W8_of m ρ c main_v8 (by decide)).trans ((W7_of m ρ c main_v8 (by decide)).trans (sums_kept m ρ c))))),
     (h c _ (mem_uc main_v9 (by decide))).trans ((W10_of m ρ c main_v9 (by decide)).trans ((W9_of m ρ c main_v9 (by decide)).trans ((W8_of m ρ c main_v9 (by decide)).trans (dmixed_kept m ρ c)))),
     (h c _ (mem_uc main_v10 (by decide))).trans ((W10_of m ρ c main_v10 (by decide)).trans ((W9_of m ρ c main_v10 (by decide)).trans (douters_kept m ρ c))),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c)⟩) (run_left m ρ)

end Cert.Proof.Project

end
-- ==== Proof.ProjectEqual.lean ====
/- The calls of the projections into and out of the mixer and `jax.vjp` of the plain products give the same arrays over the
   extended reals. -/
module

public import proofs.«01_k».proof.Defs
public import proofs.«01_k».proof.Proof.ProjectLaunch
public import proofs.«01_k».proof.Proof.Gen.Kernel5.Frame
public import proofs.«01_k».proof.Proof.Gen.Reference5Ideal.Run
public import Idealize.ShloMosaic.Adequacy
public import Idealize.ShloMosaic.Init

@[expose] public section

set_option maxRecDepth 16384

noncomputable section

namespace Cert.Proof

open Idealize.ShloMosaic Idealize.SL.Sem

/-- The frame of the program of the projections, over the bits. -/
theorem frame_project : Cert.quiescent_Kernel5 := fun m ρ _ => Cert.Kernel5.Gen.frame m ρ

/-- The frame of the program of the projections, over the extended reals. -/
theorem frame_project_ideal : Cert.quiescent_Kernel5Ideal := fun m ρ _ => Cert.Kernel5Ideal.Gen.frame m ρ

/-- The frame of its reference. -/
theorem frame_project_reference : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run m ρ)

namespace Project

open Cert.Reference5Ideal Cert.Reference5Ideal.Gen

/-- The reference's projection into the mixer is the same sum. -/
theorem into_at (X : FVec Ideal S4096x2048 .f32) (U : FVec Ideal S2048x6672 .f32) (i : Fin 4096) (j : Fin 6672) :
    Host.dotGeneral dot_S4096x2048_S2048x6672_S4096x6672_1_0_0_1_n_n none X U (ix2 i j) = Products.nn X U i j := by
  unfold Products.nn
  pointwise

/-- The gradient of its weight is the same sum, the factors the other way round. -/
theorem dinner_at (X : FVec Ideal S4096x2048 .f32) (E : FVec Ideal S4096x6672 .f32) (i : Fin 2048) (j : Fin 6672) :
    (truncf .bf16 (transpose S2048x6672 [1, 0] (Host.dotGeneral dot_S4096x6672_S4096x2048_S6672x2048_0_0_1_1_n_n none E X)
      transposes_S6672x2048_S2048x6672_1_0) bitsLt_bf16_f32 : FVec Ideal S2048x6672 .bf16) (ix2 i j) = Products.tn X E i j := by
  unfold Products.tn
  pointwise
  exact Finset.sum_congr rfl fun k _ => mul_comm _ _

/-- The layer's input and the reference's projection out of the mixer are the same sum. -/
theorem added_at (Y H : FVec Ideal S4096x2048 .f32) (W : FVec Ideal S2048x2048 .f32) (i : Fin 4096) (j : Fin 2048) :
    addf H (Host.dotGeneral dot_S4096x2048_S2048x2048_S4096x2048_1_0_0_1_n_n none Y W) (ix2 i j) = added Y H W i j := by
  unfold added Products.nn
  pointwise

/-- The gradient of the mixer's output is the same sum. -/
theorem dmixed_at (D : FVec Ideal S4096x2048 .f32) (W : FVec Ideal S2048x2048 .f32) (i : Fin 4096) (j : Fin 2048) :
    Host.dotGeneral dot_S4096x2048_S2048x2048_S4096x2048_1_1_0_0_n_n none D W (ix2 i j) = Products.nt D W i j := by
  unfold Products.nt
  pointwise

/-- The gradient of the weight of the projection out is the same sum, the factors the other way round. -/
theorem douter_at (Y D : FVec Ideal S4096x2048 .f32) (i j : Fin 2048) :
    (truncf .bf16 (transpose S2048x2048 [1, 0] (Host.dotGeneral dot_S4096x2048_S4096x2048_S2048x2048_0_0_1_1_n_n none D Y)
      transposes_S2048x2048_S2048x2048_1_0) bitsLt_bf16_f32 : FVec Ideal S2048x2048 .bf16) (ix2 i j) = Products.tn Y D i j := by
  unfold Products.tn
  pointwise
  exact Finset.sum_congr rfl fun k _ => mul_comm _ _

end Project

/-- The calls and the reference give the same arrays: the projection in, the gradient of its weight, the layer with the
    projection out, the gradient of the mixer's output and that of the outer weight. -/
theorem equal_project : Cert.algebraic_Kernel5Ideal_Reference5Ideal := fun m g m' g' _ hm => by
  refine ⟨fun c => Project.projs m c, fun c => Project.dinners m c, fun c => Project.sums m c, fun c => Project.dmixed m c,
    fun c => Project.douters m c, Project.run_values m g,
    (θ_run Cert.Reference5Ideal.defs _ _).mono (fun r h c => ?_) (Cert.Reference5Ideal.Value.run m' g')⟩
  obtain ⟨h0, h1, h2, h3, h4, hr⟩ := h c
  obtain ⟨e0, e1, e2, e3, e4, e5, e6⟩ := hm c
  refine ⟨h0.trans ?_, h1.trans ?_, h2.trans ?_, h3.trans ?_, h4.trans ?_, hr⟩
  · rw [e0, e1]
    exact funext fun y => (congrArg _ (eq_ix2 y)).trans (Project.into_at _ _ (y 0) (y 1))
  · rw [e0, e2]
    exact funext fun y => (congrArg _ (eq_ix2 y)).trans (Project.dinner_at _ _ (y 0) (y 1))
  · rw [e3, e4, e5]
    exact funext fun y => (congrArg _ (eq_ix2 y)).trans (Project.added_at _ _ _ (y 0) (y 1))
  · rw [e5, e6]
    exact funext fun y => (congrArg _ (eq_ix2 y)).trans (Project.dmixed_at _ _ (y 0) (y 1))
  · rw [e4, e6]
    exact funext fun y => (congrArg _ (eq_ix2 y)).trans (Project.douter_at _ _ (y 0) (y 1))

end Cert.Proof

end
-- ==== Proof.Reverse.lean ====
/- The call that carries the gradient back through the projection into the mixer: over the extended reals, entry by entry, a
   sum over the columns that two grid points each add a half of. -/
module

public import proofs.«01_k».proof.Proof.Gen.Kernel6Ideal.Value
public import proofs.«01_k».proof.Proof.Wide
public import Idealize.ShloMosaic.Lib.Pipeline.ValueKit.Point
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.Proof.Reverse

open Cert.Kernel6Ideal Cert.Kernel6Ideal.Gen Cert.Proof.Products
open Idealize.ShloMosaic Idealize.ShloMosaic.TcCoe Idealize.SL.Sem

variable (m : (ℓ : Loc nD τ sig) → Buf (Elt Ideal) ℓ) (ρ : Dev nD → PrngReg) (c : Dev nD)

/-- Which blocks the call reads and writes at each grid point. -/
theorem places : ∀ t : Fin cfg0.N, win0_0.index t = ![t.val / 4, t.val % 2] ∧ win0_1.index t = ![t.val / 2 % 2, t.val % 2]
    ∧ win0_2.index t = ![t.val / 4, t.val / 2 % 2] := by decide +kernel

/-- What one grid point adds to a block. -/
def part (x : Vec Ideal S512x3584 .bf16) (w : Vec Ideal S1024x3584 .bf16) (y : S512x1024.Idx) : EReal :=
  ∑ k : Fin 3584, x (ix2 (y 0) k) * w (ix2 (y 1) k)

/-- The first point of a run leaves its own part. -/
theorem start_block (x : Vec Ideal S512x3584 .bf16) (w : Vec Ideal S1024x3584 .bf16) (y : S512x1024.Idx) :
    k0_pay2 x w y = 0 + part x w y := by
  unfold part
  conv_lhs => rw [eq_ix2 y]
  unfold k0_pay2 k0_pay1
  pointwise

/-- The second point adds its part. -/
theorem step_block (x : Vec Ideal S512x3584 .bf16) (w : Vec Ideal S1024x3584 .bf16) (a : Vec Ideal S512x1024 .f32) (y : S512x1024.Idx) :
    k0_pay3 x w a y = a y + part x w y := by
  unfold part
  conv_lhs => rw [eq_ix2 y]
  conv_rhs => rw [eq_ix2 y]
  unfold k0_pay3 k0_pay1
  pointwise

/-- The second point of a run holds the sum of the two parts. -/
theorem run_sum (t : Fin cfg0.N) (h : t.val % 2 = 2 - 1) (y : S512x1024.Idx) :
    (outsAt0 m c t.val t.isLt).2 y = 0 + ∑ s : Fin 2, part (iblk m c 0 ⟨2 * (t.val / 2) + s.val, Pipeline.run_point_lt_of_flush t h s⟩)
      (iblk m c 1 ⟨2 * (t.val / 2) + s.val, Pipeline.run_point_lt_of_flush t h s⟩) y :=
  Pipeline.eq_sum_fin_of_reset_step_apply_of_flush (fun n h => (outsAt0 m c n h).2) 2 (fun _ => (0 : EReal))
    (fun t => part (iblk m c 0 t) (iblk m c 1 t))
    (fun t h y => by
      show (outsAt0 m c t.val t.isLt).2 y = _
      rw [outsAt0_A m c t h (by omega) (by omega)]
      frame_out
      exact start_block _ _ _)
    (fun t h y => by
      show (outsAt0 m c t.val t.isLt).2 y = _
      rw [outsAt0_B m c t h (by omega) (by omega)]
      frame_out
      rw [read_unread_whole]
      exact step_block _ _ _ _) t h y

/-- The second point of a run writes what it holds. -/
theorem written (t : Fin cfg0.N) (h : t.val % 2 = 1) : (outsAt0 m c t.val t.isLt).1 = (outsAt0 m c t.val t.isLt).2 := by
  rw [outsAt0_B m c t (by omega) h h]
  frame_out

/-- The host fills the incoming gradient up with columns of zeros. -/
theorem gradient_ready (i : Fin 4096) (j : Fin 7168) :
    V m c main_v1 (ix2 i j) = wide (m ((c : Thread nD τ).loc main_arg0)) i j := by
  show StableHlo.after (List.flatten [hostOps0, hostOps0_1, hostOps0_2, hostOps0_3]) (fun b => m (c, b)) (Proc.devRef .tc main_v1) _ = _
  unfold hostOps0 hostOps0_1 hostOps0_2 hostOps0_3
  simp only [List.flatten_cons, List.flatten_nil, List.append_nil, List.cons_append, List.nil_append]
  after_reads_simp
  show pad S4096x7168 ![0, 0] ![0, 496] ![0, 0] (truncf .bf16 (m ((c : Thread nD τ).loc main_arg0)) bitsLt_bf16_f32 : FVec Ideal S4096x6672 .bf16)
    (sitofp .bf16 (constantI S_ 32 0#32)) pads_S4096x6672_S4096x7168_000_04960 h_S_ (ix2 i j) = _
  unfold wide
  pointwise
  rw [zero_int]

/-- The host fills the weight up with columns of zeros. -/
theorem weight_ready (i : Fin 2048) (j : Fin 7168) :
    V m c main_v3 (ix2 i j) = wide (m ((c : Thread nD τ).loc main_arg1)) i j := by
  show StableHlo.after (List.flatten [hostOps0, hostOps0_1, hostOps0_2, hostOps0_3]) (fun b => m (c, b)) (Proc.devRef .tc main_v3) _ = _
  unfold hostOps0 hostOps0_1 hostOps0_2 hostOps0_3
  simp only [List.flatten_cons, List.flatten_nil, List.append_nil, List.cons_append, List.nil_append]
  after_reads_simp
  show pad S2048x7168 ![0, 0] ![0, 496] ![0, 0] (truncf .bf16 (m ((c : Thread nD τ).loc main_arg1)) bitsLt_bf16_f32 : FVec Ideal S2048x6672 .bf16)
    (sitofp .bf16 (constantI S_ 32 0#32)) pads_S2048x6672_S2048x7168_000_04960 h_S_ (ix2 i j) = _
  unfold wide
  pointwise
  rw [zero_int]

/-- The call leaves the gradient carried back. -/
theorem back_left : (dats m 0 c).arrAt 2 cfg0.N = fun q : S4096x2048.Idx =>
    nt (m ((c : Thread nD τ).loc main_arg0)) (m ((c : Thread nD τ).loc main_arg1)) (q 0) (q 1) := by
  refine (dats m 0 c).arrAt_eq_of_covers 2 _ (by decide +kernel) fun t hf y => ?_
  have hm : t.val % 2 = 1 := (flush0_2 t).mp hf
  blk_simp
  rw [after0_2, written m c t hm, run_sum m c t hm, zero_add]
  refine Eq.trans ?_ (nt_wide _ _ _ _)
  unfold part
  idx_bounds y
  refine Fin.sum_mul_add_congr fun s k hl => ?_
  have ht : t.val < 32 := t.isLt
  have hs := s.isLt
  have h0 : (2 * (t.val / 2) + s.val) / 4 = t.val / 4 := by omega
  have h1 : (2 * (t.val / 2) + s.val) % 2 = s.val := by omega
  have h2 : (2 * (t.val / 2) + s.val) / 2 % 2 = t.val / 2 % 2 := by omega
  congr 1
  · refine Eq.trans ?_ (gradient_ready m c _ _)
    blk_ext [iblk, places t, places ⟨2 * (t.val / 2) + s.val, by show _ < 32; omega⟩, h0, h1, h2]
  · refine Eq.trans ?_ (weight_ready m c _ _)
    blk_ext [iblk, places t, places ⟨2 * (t.val / 2) + s.val, by show _ < 32; omega⟩, h0, h1, h2]

end Cert.Proof.Reverse

end
-- ==== Proof.ReverseEqual.lean ====
/- The call that carries the gradient back through the projection into the mixer and `jax.vjp` of that projection give the
   same gradient over the extended reals. -/
module

public import proofs.«01_k».proof.Defs
public import proofs.«01_k».proof.Proof.Reverse
public import proofs.«01_k».proof.Proof.Gen.Kernel6.Frame
public import proofs.«01_k».proof.Proof.Gen.Reference6Ideal.Run
public import Idealize.ShloMosaic.Adequacy
public import Idealize.ShloMosaic.Init

@[expose] public section

set_option maxRecDepth 16384

noncomputable section

namespace Cert.Proof

open Idealize.ShloMosaic Idealize.SL.Sem

/-- The frame of the call that carries the gradient back through the projection, over the bits. -/
theorem frame_reverse : Cert.quiescent_Kernel6 := fun m ρ _ => Cert.Kernel6.Gen.frame m ρ

/-- The frame of the call that carries the gradient back through the projection, over the extended reals. -/
theorem frame_reverse_ideal : Cert.quiescent_Kernel6Ideal := fun m ρ _ => Cert.Kernel6Ideal.Gen.frame m ρ

/-- The frame of its reference. -/
theorem frame_reverse_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

namespace Reverse

open Cert.Reference6Ideal Cert.Reference6Ideal.Gen

/-- The reference's product is the same sum. -/
theorem reference_at (A : FVec Ideal S4096x6672 .f32) (U : FVec Ideal S2048x6672 .f32) (i : Fin 4096) (j : Fin 2048) :
    Host.dotGeneral dot_S4096x6672_S2048x6672_S4096x2048_1_1_0_0_n_n none A U (ix2 i j) = Products.nt A U i j := by
  unfold Products.nt
  pointwise

end Reverse

/-- The call and its reference give the same gradient. -/
theorem equal_reverse : Cert.algebraic_Kernel6Ideal_Reference6Ideal := fun m g m' g' _ hm => by
  refine ⟨fun c => _, (θ_run Cert.Kernel6Ideal.defs _ _).mono (fun r h c => ⟨(h c).1.trans (Reverse.back_left m c), (h c).2⟩)
    (Cert.Kernel6Ideal.Value.run_blocks m g), (θ_run Cert.Reference6Ideal.defs _ _).mono (fun r h c => ?_)
    (Cert.Reference6Ideal.Value.run m' g')⟩
  obtain ⟨h0, hr⟩ := h c
  obtain ⟨e0, e1⟩ := hm c
  refine ⟨h0.trans ?_, hr⟩
  rw [e0, e1]
  exact funext fun y => (congrArg _ (eq_ix2 y)).trans (Reverse.reference_at _ _ (y 0) (y 1))

end Cert.Proof

end
-- ==== Proof.Second.lean ====
/- The channel mixer's second product, added to the layer's input: over the extended reals, entry by entry, a sum over the
   8192 columns that two grid points each add a half of. -/
module

public import proofs.«01_k».proof.Proof.Gen.Kernel7Ideal.Value
public import proofs.«01_k».proof.Proof.Products
public import Idealize.ShloMosaic.Lib.Pipeline.ValueKit.Point
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.Proof.Second

open Cert.Kernel7Ideal Cert.Kernel7Ideal.Gen Cert.Proof.Products
open Idealize.ShloMosaic Idealize.ShloMosaic.TcCoe Idealize.SL.Sem

variable (m : (ℓ : Loc nD τ sig) → Buf (Elt Ideal) ℓ) (ρ : Dev nD → PrngReg) (c : Dev nD)

/-- Which blocks the call reads and writes at each grid point. -/
theorem places : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] := by decide +kernel

/-- What one grid point adds to a block. -/
def part (x : Vec Ideal S512x4096 .bf16) (w : Vec Ideal S4096x1024 .bf16) (y : S512x1024.Idx) : EReal :=
  ∑ k : Fin 4096, x (ix2 (y 0) k) * w (ix2 k (y 1))

/-- The first point of a run leaves its own part. -/
theorem start_block (x : Vec Ideal S512x4096 .bf16) (w : Vec Ideal S4096x1024 .bf16) (y : S512x1024.Idx) :
    k0_pay2 x w y = 0 + part x w y := by
  unfold part
  conv_lhs => rw [eq_ix2 y]
  unfold k0_pay2 k0_pay1
  pointwise

/-- The second point adds its part. -/
theorem step_block (x : Vec Ideal S512x4096 .bf16) (w : Vec Ideal S4096x1024 .bf16) (a : Vec Ideal S512x1024 .f32) (y : S512x1024.Idx) :
    k0_pay3 x w a y = a y + part x w y := by
  unfold part
  conv_lhs => rw [eq_ix2 y]
  conv_rhs => rw [eq_ix2 y]
  unfold k0_pay3 k0_pay1
  pointwise

/-- Two blocks added. -/
def plus (a h : Vec Ideal S512x1024 .f32) (y : S512x1024.Idx) : EReal := h y + a y

/-- What is written is the layer's input and the sum. -/
theorem end_block (a h : Vec Ideal S512x1024 .f32) (y : S512x1024.Idx) : k0_pay4 a h y = plus a h y := by
  unfold plus
  conv_lhs => rw [eq_ix2 y]
  conv_rhs => rw [eq_ix2 y]
  unfold k0_pay4
  pointwise

/-- The second point of a run holds the sum of the two parts. -/
theorem run_sum (t : Fin cfg0.N) (h : t.val % 2 = 2 - 1) (y : S512x1024.Idx) :
    (outsAt0 m c t.val t.isLt).2 y = 0 + ∑ s : Fin 2, part (iblk m c 0 ⟨2 * (t.val / 2) + s.val, Pipeline.run_point_lt_of_flush t h s⟩)
      (iblk m c 1 ⟨2 * (t.val / 2) + s.val, Pipeline.run_point_lt_of_flush t h s⟩) y :=
  Pipeline.eq_sum_fin_of_reset_step_apply_of_flush (fun n h => (outsAt0 m c n h).2) 2 (fun _ => (0 : EReal))
    (fun t => part (iblk m c 0 t) (iblk m c 1 t))
    (fun t h y => by
      show (outsAt0 m c t.val t.isLt).2 y = _
      rw [outsAt0_A m c t h (by omega) (by omega)]
      frame_out
      exact start_block _ _ _)
    (fun t h y => by
      show (outsAt0 m c t.val t.isLt).2 y = _
      rw [outsAt0_B m c t h (by omega) (by omega)]
      frame_out
      rw [read_unread_whole]
      exact step_block _ _ _ _) t h y

/-- The second point of a run writes the layer's input and what it holds. -/
theorem written (t : Fin cfg0.N) (h : t.val % 2 = 1) (y : S512x1024.Idx) :
    (outsAt0 m c t.val t.isLt).1 y = plus (outsAt0 m c t.val t.isLt).2 (iblk m c 2 t) y := by
  rw [outsAt0_B m c t (by omega) h h]
  frame_out
  exact end_block _ _ _

/-- The host's rounding of the weight is that weight. -/
theorem ready : V m c main_v0 = m ((c : Thread nD τ).loc main_arg2) := by
  show StableHlo.after hostOps0 (fun b => m (c, b)) (Proc.devRef .tc main_v0) = _
  unfold hostOps0
  after_reads_simp
  rfl

/-- The layer's input and the product that is added to it. -/
def added (H : S4096x2048.Idx → EReal) (R : S4096x8192.Idx → EReal) (W : S8192x2048.Idx → EReal) (i : Fin 4096) (j : Fin 2048) : EReal :=
  H (ix2 i j) + nn R W i j

/-- The call leaves the layer's input and the product. -/
theorem sum_left : (dats m 0 c).arrAt 3 cfg0.N = fun q : S4096x2048.Idx =>
    added (m ((c : Thread nD τ).loc main_arg0)) (m ((c : Thread nD τ).loc main_arg1)) (m ((c : Thread nD τ).loc main_arg2)) (q 0) (q 1) := by
  refine (dats m 0 c).arrAt_eq_of_covers 3 _ (by decide +kernel) fun t hf y => ?_
  have hm : t.val % 2 = 1 := (flush0_3 t).mp hf
  blk_simp
  rw [after0_3, written m c t hm]
  unfold plus
  rw [run_sum m c t hm, zero_add]
  unfold part added nn
  idx_bounds y
  have ht : t.val < 32 := t.isLt
  congr 1
  · blk_ext [iblk, V, places t]
  refine Fin.sum_mul_add_congr fun s k hl => ?_
  have hs := s.isLt
  have h0 : (2 * (t.val / 2) + s.val) / 4 = t.val / 4 := by omega
  have h1 : (2 * (t.val / 2) + s.val) % 2 = s.val := by omega
  have h2 : (2 * (t.val / 2) + s.val) / 2 % 2 = t.val / 2 % 2 := by omega
  congr 1
  · blk_ext [iblk, V, places t, places ⟨2 * (t.val / 2) + s.val, by show _ < 32; omega⟩, h0, h1, h2]
  · refine Eq.trans ?_ (congrFun (ready m c) _)
    blk_ext [iblk, places t, places ⟨2 * (t.val / 2) + s.val, by show _ < 32; omega⟩, h0, h1, h2]

end Cert.Proof.Second

end
-- ==== Proof.SecondEqual.lean ====
/- The channel mixer's second product and the plain product of the reference give the same layer over the extended reals. -/
module

public import proofs.«01_k».proof.Defs
public import proofs.«01_k».proof.Proof.Second
public import proofs.«01_k».proof.Proof.Gen.Kernel7.Frame
public import proofs.«01_k».proof.Proof.Gen.Reference7Ideal.Run
public import Idealize.ShloMosaic.Adequacy
public import Idealize.ShloMosaic.Init

@[expose] public section

set_option maxRecDepth 16384

noncomputable section

namespace Cert.Proof

open Idealize.ShloMosaic Idealize.SL.Sem

/-- The frame of the mixer's second product, over the bits. -/
theorem frame_second : Cert.quiescent_Kernel7 := fun m ρ _ => Cert.Kernel7.Gen.frame m ρ

/-- The frame of the mixer's second product, over the extended reals. -/
theorem frame_second_ideal : Cert.quiescent_Kernel7Ideal := fun m ρ _ => Cert.Kernel7Ideal.Gen.frame m ρ

/-- The frame of its reference. -/
theorem frame_second_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

namespace Second

open Cert.Reference7Ideal Cert.Reference7Ideal.Gen

/-- The reference's layer is the same sum. -/
theorem reference_at (H : FVec Ideal S4096x2048 .f32) (R : FVec Ideal S4096x8192 .bf16) (W : FVec Ideal S8192x2048 .f32) (i : Fin 4096)
    (j : Fin 2048) :
    addf H (Host.dotGeneral dot_S4096x8192_S8192x2048_S4096x2048_1_0_0_1_n_n none (extf .f32 R bitsLt_bf16_f32) W) (ix2 i j) = added H R W i j := by
  unfold added Products.nn
  pointwise

end Second

/-- The call and its reference give the same layer. -/
theorem equal_second : Cert.algebraic_Kernel7Ideal_Reference7Ideal := fun m g m' g' _ hm => by
  refine ⟨fun c => _, (θ_run Cert.Kernel7Ideal.defs _ _).mono (fun r h c => ⟨(h c).1.trans (Second.sum_left m c), (h c).2⟩)
    (Cert.Kernel7Ideal.Value.run_blocks m g), (θ_run Cert.Reference7Ideal.defs _ _).mono (fun r h c => ?_)
    (Cert.Reference7Ideal.Value.run m' g')⟩
  obtain ⟨h0, hr⟩ := h c
  obtain ⟨e0, e1, e2⟩ := hm c
  refine ⟨h0.trans ?_, hr⟩
  rw [e0, e1, e2]
  exact funext fun y => (congrArg _ (eq_ix2 y)).trans (Second.reference_at _ _ _ (y 0) (y 1))

end Cert.Proof

end
-- ==== Proof.Rms.lean ====
/- The backward pass of the layer's norm over the extended reals, entry by entry: the gradient of the layer's input, row by row,
   and the gradient of the weights, a sum over the 4096 rows that each grid point adds 256 rows of. -/
module

public import proofs.«01_k».proof.Proof.Gen.Kernel8Ideal.Frame
public import Idealize.ShloMosaic.Lib.Pipeline.ValueKit.Point
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.Proof.Rms

open Idealize.ShloMosaic Idealize.ShloMosaic.TcCoe Idealize.SL.Sem

/-! ## One row -/

/-- A row of the layer. -/
abbrev Row := Fin 2048 → EReal

/-- The mean square of a row, and the small number added to it. -/
def meanSq (x : Row) : EReal :=
  Ideal.div (∑ k, x k * x k) (Ideal.ofBits FTy.f32 1157627904#32) + Ideal.ofBits FTy.f32 897988541#32
/-- The factor a row is normalised by. -/
def scale (x : Row) : EReal := Ideal.rsqrt (meanSq x)
/-- The gradient of a row through its normaliser, half of it: the square has two factors. -/
def dScale (x d w : Row) : EReal :=
  ∑ _x : Fin 1, Ideal.div ((∑ k, x k * (d k * w k)) * (Ideal.ofBits FTy.f32 3204448256#32 * Ideal.div (scale x) (meanSq x)))
    (Ideal.ofBits FTy.f32 1157627904#32)
/-- The gradient of a row. -/
def dRow (x d w : Row) (j : Fin 2048) : EReal := d j * w j * scale x + x j * dScale x d w + dScale x d w * x j
/-- One row's part of the gradient of the weights. -/
def dWeight (x d : Row) (j : Fin 2048) : EReal := x j * scale x * d j

/-- Row `i` of an array. -/
def row {a : ℕ} (X : (⟨2, ![a, 2048]⟩ : Shape).Idx → EReal) (i : Fin a) : Row := fun k => X (ix2 i k)

open Cert.Kernel8Ideal Cert.Kernel8Ideal.Gen

variable (m : (ℓ : Loc nD τ sig) → Buf (Elt Ideal) ℓ) (ρ : Dev nD → PrngReg) (c : Dev nD)

/-! ## What one grid point computes -/

/-- Which blocks the call reads and writes at each grid point. -/
theorem places : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by decide +kernel

/-- A row of the gradient, with the gradient that passes the layer beside the norm added. -/
theorem row_block (x : Vec Ideal S256x2048 .f32) (w : Vec Ideal S1x2048 .f32) (d n : Vec Ideal S256x2048 .f32) (i : Fin 256) (j : Fin 2048) :
    k0_pay6 x w d n (ix2 i j) = dRow (row x i) (row d i) (row w 0) j + n (ix2 i j) := by
  unfold k0_pay6 k0_pay4 k0_pay3
  pointwise
  rfl

/-- What one grid point adds to the gradient of the weights: its 256 rows. -/
def part (x d : Vec Ideal S256x2048 .f32) (y : S1x2048.Idx) : EReal := ∑ r : Fin 256, dWeight (row x r) (row d r) (y 1)

/-- The rows of a block, summed. -/
theorem part_block (x d : Vec Ideal S256x2048 .f32) (y : S1x2048.Idx) : k0_pay5 x d y = part x d y := by
  unfold part
  conv_lhs => rw [eq_ix2 y]
  unfold k0_pay5 k0_pay4 k0_pay3
  pointwise
  rfl

/-- The first point starts from nothing. -/
theorem start_block (x d : Vec Ideal S256x2048 .f32) (y : S1x2048.Idx) : k0_pay2 (k0_pay5 x d) (k0_pay1 (F := Ideal)) y = 0 + part x d y := by
  rw [← part_block]
  conv_lhs => rw [eq_ix2 y]
  conv_rhs => rw [eq_ix2 y]
  unfold k0_pay2 k0_pay1
  pointwise

/-- Every later point adds its part. -/
theorem step_block (x d : Vec Ideal S256x2048 .f32) (a : Vec Ideal S1x2048 .f32) (y : S1x2048.Idx) :
    k0_pay2 (k0_pay5 x d) a y = a y + part x d y := by
  rw [← part_block]
  conv_lhs => rw [eq_ix2 y]
  conv_rhs => rw [eq_ix2 y]
  unfold k0_pay2
  pointwise

/-- The last point holds the sum of the sixteen parts. -/
theorem run_sum (t : Fin cfg0.N) (h : t.val % 16 = 16 - 1) (y : S1x2048.Idx) :
    (outsAt0 m c t.val t.isLt).2 y = 0 + ∑ s : Fin 16, part (iblk m c 0 ⟨16 * (t.val / 16) + s.val, Pipeline.run_point_lt_of_flush t h s⟩)
      (iblk m c 2 ⟨16 * (t.val / 16) + s.val, Pipeline.run_point_lt_of_flush t h s⟩) y :=
  Pipeline.eq_sum_fin_of_reset_step_apply_of_flush (fun n h => (outsAt0 m c n h).2) 16 (fun _ => (0 : EReal))
    (fun t => part (iblk m c 0 t) (iblk m c 2 t))
    (fun t h y => by
      show (outsAt0 m c t.val t.isLt).2 y = _
      rw [outsAt0_A m c t h]
      frame_out
      exact start_block _ _ _)
    (fun t h y => by
      show (outsAt0 m c t.val t.isLt).2 y = _
      rw [outsAt0_B m c t h]
      frame_out
      exact step_block _ _ _ _) t h y

/-- Every point writes its rows of the gradient. -/
theorem written (t : Fin cfg0.N) (i : Fin 256) (j : Fin 2048) : (outsAt0 m c t.val t.isLt).1 (ix2 i j)
    = dRow (row (iblk m c 0 t) i) (row (iblk m c 2 t) i) (row (iblk m c 1 t) 0) j + iblk m c 3 t (ix2 i j) := by
  by_cases h : t.val % 16 = 0
  · rw [outsAt0_A m c t h]
    frame_out
    exact row_block _ _ _ _ _ _
  · rw [outsAt0_B m c t h]
    frame_out
    exact row_block _ _ _ _ _ _

/-! ## What the call leaves in its arrays -/

/-- The weights as the host hands them over. -/
def weights (W : S2048.Idx → EReal) : Row := fun k => W (ix1 k)

/-- The host's reshape of the weights to one row. -/
theorem ready : V m c main_v0 = fun q : S1x2048.Idx => weights (m ((c : Thread nD τ).loc main_arg1)) (q 1) := by
  show StableHlo.after hostOps0 (fun b => m (c, b)) (Proc.devRef .tc main_v0) = _
  unfold hostOps0
  after_reads_simp
  funext q
  conv_lhs => rw [eq_ix2 q]
  unfold weights
  pointwise

/-- The gradient of the layer's input, from the arguments. -/
def dInput (X D N : S4096x2048.Idx → EReal) (W : S2048.Idx → EReal) (i : Fin 4096) (j : Fin 2048) : EReal :=
  dRow (row X i) (row D i) (weights W) j + N (ix2 i j)

/-- The gradient of the weights, from the arguments. -/
def dWeights (X D : S4096x2048.Idx → EReal) (j : Fin 2048) : EReal := ∑ i : Fin 4096, dWeight (row X i) (row D i) j

/-- A row of a block of the layer's input is a row of the input. -/
theorem row_input (t : Fin cfg0.N) (i : Fin 256) (p : Fin 4096) (h : p.val = t.val * 256 + i.val) :
    row (iblk m c 0 t) i = row (m ((c : Thread nD τ).loc main_arg0)) p := by
  funext k
  unfold row
  blk_ext [iblk, V, places t, h]

/-- A row of a block of the incoming gradient is a row of that gradient. -/
theorem row_gradient (t : Fin cfg0.N) (i : Fin 256) (p : Fin 4096) (h : p.val = t.val * 256 + i.val) :
    row (iblk m c 2 t) i = row (m ((c : Thread nD τ).loc main_arg2)) p := by
  funext k
  unfold row
  blk_ext [iblk, V, places t, h]

/-- The row of the weights is the weights. -/
theorem row_weights (t : Fin cfg0.N) : row (iblk m c 1 t) 0 = weights (m ((c : Thread nD τ).loc main_arg1)) := by
  funext k
  refine Eq.trans (b := V m c main_v0 (ix2 0 k)) ?_ (congrFun (ready m c) _)
  unfold row
  blk_ext [iblk, places t]

/-- The call leaves the gradient of the layer's input. -/
theorem input_left : (dats m 0 c).arrAt 4 cfg0.N = fun q : S4096x2048.Idx => dInput (m ((c : Thread nD τ).loc main_arg0))
    (m ((c : Thread nD τ).loc main_arg2)) (m ((c : Thread nD τ).loc main_arg3)) (m ((c : Thread nD τ).loc main_arg1)) (q 0) (q 1) := by
  refine (dats m 0 c).arrAt_eq_of_covers 4 _ (by decide +kernel) fun t hf y => ?_
  obtain ⟨i, j, rfl⟩ : ∃ (i : Fin 256) (j : Fin 2048), y = ix2 i j := ⟨y 0, y 1, eq_ix2 y⟩
  have e0 : ((win0_4.blk t).view.emb (ix2 i j) 0 : Fin 4096).val = t.val * 256 + i.val := by blk_simp [places t]
  have e1 : ((win0_4.blk t).view.emb (ix2 i j) 1 : Fin 2048) = j := Fin.ext (by blk_simp [places t])
  refine Eq.trans (b := (outsAt0 m c t.val t.isLt).1 (ix2 i j)) (by blk_simp; rw [after0_4]) ?_
  rw [written m c t i j, row_input m c t i _ e0, row_gradient m c t i _ e0, row_weights]
  show _ = dRow _ _ _ ((win0_4.blk t).view.emb (ix2 i j) 1 : Fin 2048) + _
  rw [e1]
  refine congrArg₂ (fun a b : EReal => a + b) rfl ?_
  blk_ext [iblk, V, places t]

/-- The call leaves the gradient of the weights. -/
theorem weight_left : (dats m 0 c).arrAt 5 cfg0.N = fun q : S1x2048.Idx => dWeights (m ((c : Thread nD τ).loc main_arg0))
    (m ((c : Thread nD τ).loc main_arg2)) (q 1) := by
  refine (dats m 0 c).arrAt_eq_of_covers 5 _ (by decide +kernel) fun t hf y => ?_
  have hm : t.val % 16 = 15 := (flush0_5 t).mp hf
  have ht : t.val < 16 := t.isLt
  have e1 : ((win0_5.blk t).view.emb y 1 : Fin 2048) = y 1 := Fin.ext (by blk_simp [places t])
  refine Eq.trans (b := (outsAt0 m c t.val t.isLt).2 y) (by blk_simp; rw [after0_5]) ?_
  rw [run_sum m c t hm, zero_add]
  show _ = dWeights _ _ ((win0_5.blk t).view.emb y 1 : Fin 2048)
  rw [e1]
  unfold part dWeights
  refine Fin.sum_mul_add_congr fun s k hl => ?_
  have h : s.val * 256 + k.val = (16 * (t.val / 16) + s.val) * 256 + k.val := by omega
  rw [row_input m c ⟨16 * (t.val / 16) + s.val, Pipeline.run_point_lt_of_flush t hm s⟩ k ⟨s.val * 256 + k.val, hl⟩ h,
    row_gradient m c ⟨16 * (t.val / 16) + s.val, Pipeline.run_point_lt_of_flush t hm s⟩ k ⟨s.val * 256 + k.val, hl⟩ h]

/-! ## The results -/

/-- The call's arrays as the later host operation finds them. -/
theorem array_left (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c _ _ w

/-- The gradient of the weights after the host's reshape. -/
theorem weights_kept (j : Fin 2048) : Pipeline.afterTail₀ cfgs (dats m) 0 (V0 m) [hostOps1] c main_v2 (ix1 j)
    = dWeights (m ((c : Thread nD τ).loc main_arg0)) (m ((c : Thread nD τ).loc main_arg2)) j := by
  unfold Pipeline.afterTail₀
  show StableHlo.after hostOps1 _ (Proc.devRef .tc main_v2) _ = _
  unfold hostOps1
  after_reads_simp
  pointwise
  exact congrFun ((array_left m c 5).trans (weight_left m c)) _

/-- The gradient of the layer's input, from the arguments, as an array. -/
def dInputs : S4096x2048.Idx → EReal := fun q => dInput (m ((c : Thread nD τ).loc main_arg0)) (m ((c : Thread nD τ).loc main_arg2))
  (m ((c : Thread nD τ).loc main_arg3)) (m ((c : Thread nD τ).loc main_arg1)) (q 0) (q 1)
/-- The gradient of the weights, from the arguments, as an array. -/
def dNorms : S2048.Idx → EReal := fun q => dWeights (m ((c : Thread nD τ).loc main_arg0)) (m ((c : Thread nD τ).loc main_arg2)) (q 0)

/-- Every execution ends with both gradients, and the arguments unchanged. -/
theorem run_values : θ_run defs (onTc (τ := τ) (main (F := Ideal))) ⟨m, fun _ => 0, ρ⟩ (fun r => ∀ c : Dev nD,
    r.2.mem ((c : Thread nD τ).loc main_v1_0) = dInputs m c
    ∧ r.2.mem ((c : Thread nD τ).loc main_v2) = dNorms m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c =>
    ⟨((h.1 c).1 4).trans (input_left m c),
     ((h.1 c).2 main_v2 (Pipeline.mem_restRefs_of main_v2 (by decide) (by decide))).trans (funext fun y =>
        (congrArg _ (eq_ix1 y)).trans (weights_kept m c (y 0))), h.2 c⟩)
    (θ_run_and (run_main m ρ) (unchanged m ρ))

end Cert.Proof.Rms

end
-- ==== Proof.RmsEqual.lean ====
/- The backward pass of the layer's norm and `jax.vjp` of the norm give the same gradients over the extended reals. -/
module

public import proofs.«01_k».proof.Defs
public import proofs.«01_k».proof.Proof.Rms
public import proofs.«01_k».proof.Proof.Gen.Kernel8.Frame
public import proofs.«01_k».proof.Proof.Gen.Reference8Ideal.Run
public import Idealize.ShloMosaic.Adequacy
public import Idealize.ShloMosaic.Init

@[expose] public section

set_option maxRecDepth 16384

noncomputable section

namespace Cert.Proof

open Idealize.ShloMosaic Idealize.SL.Sem

/-- The frame of the norm's backward pass, over the bits. -/
theorem frame_rms : Cert.quiescent_Kernel8 := fun m ρ _ => Cert.Kernel8.Gen.frame m ρ

/-- The frame of the norm's backward pass, over the extended reals. -/
theorem frame_rms_ideal : Cert.quiescent_Kernel8Ideal := fun m ρ _ => Cert.Kernel8Ideal.Gen.frame m ρ

/-- The frame of its reference. -/
theorem frame_rms_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

namespace Rms

open Cert.Reference8Ideal Cert.Reference8Ideal.Gen

/-- The mean squares of the rows, as the reference writes them. -/
def meanSqs (X : FVec Ideal S4096x2048 .f32) : FVec Ideal S4096x1 .f32 :=
  addf (Host.divf (broadcastInDim S4096x1 ![0] bcast_S4096_S4096x1_0 (Host.reduceAdd (mulf X X) (constant S_ .f32 0x00000000#32)
    reducesTo_S4096x2048_S4096_d1 h_S_)) (broadcastInDim S4096x1 ![] bcast_S_S4096x1 (constant S_ .f32 0x45000000#32)))
    (broadcastInDim S4096x1 ![] bcast_S_S4096x1 (constant S_ .f32 0x358637BD#32))

/-- They are the rows' mean squares. -/
theorem meanSqs_at (X : FVec Ideal S4096x2048 .f32) (i : Fin 4096) (j : Fin 1) : meanSqs X (ix2 i j) = meanSq (row X i) := by
  unfold meanSqs
  pointwise
  rfl

/-- The factors the rows are normalised by, in every column. -/
theorem scales_at (X : FVec Ideal S4096x2048 .f32) (i : Fin 4096) (j : Fin 2048) :
    broadcastInDim S4096x2048 ![0, 1] bcast_S4096x1_S4096x2048_0_1 (Host.rsqrt (meanSqs X)) (ix2 i j) = scale (row X i) := by
  unfold scale
  rw [← meanSqs_at X i 0]
  pointwise

/-- The incoming gradient times the weights, as the reference writes it. -/
def weighed (D : FVec Ideal S4096x2048 .f32) (W : FVec Ideal S2048 .f32) : FVec Ideal S4096x2048 .f32 :=
  mulf D (broadcastInDim S4096x2048 ![0, 1] bcast_S1x2048_S4096x2048_0_1 (broadcastInDim S1x2048 ![1] bcast_S2048_S1x2048_1 W))

/-- It is that product. -/
theorem weighed_at (D : FVec Ideal S4096x2048 .f32) (W : FVec Ideal S2048 .f32) (i : Fin 4096) (j : Fin 2048) :
    weighed D W (ix2 i j) = row D i j * weights W j := by
  unfold weighed
  pointwise
  rfl

/-- The gradients of the rows through their normalisers, as the reference writes them. -/
def dScales (X D : FVec Ideal S4096x2048 .f32) (W : FVec Ideal S2048 .f32) : FVec Ideal S4096 .f32 :=
  Host.reduceAdd (Host.divf (mulf (shapeCast _ (Host.reduceAdd (mulf X (weighed D W)) (constant S_ .f32 0x00000000#32)
    reducesTo_S4096x2048_S4096_d1 h_S_) shapeCasts_S4096_S4096x1)
    (mulf (broadcastInDim S4096x1 ![] bcast_S_S4096x1 (constant S_ .f32 0xBF000000#32)) (Host.divf (Host.rsqrt (meanSqs X)) (meanSqs X))))
    (broadcastInDim S4096x1 ![] bcast_S_S4096x1 (constant S_ .f32 0x45000000#32))) (constant S_ .f32 0x00000000#32)
    reducesTo_S4096x1_S4096_d1 h_S_

/-- They are the rows' gradients through their normalisers. -/
theorem dScales_at (X D : FVec Ideal S4096x2048 .f32) (W : FVec Ideal S2048 .f32) (i : Fin 4096) :
    dScales X D W (ix1 i) = dScale (row X i) (row D i) (weights W) := by
  unfold dScale scale
  simp only [← meanSqs_at X i 0, ← weighed_at]
  unfold dScales
  pointwise
  refine Finset.sum_congr rfl fun x _ => ?_
  obtain rfl : x = 0 := Subsingleton.elim _ _
  unfold row
  rfl

/-- The reference's gradient of the layer's input is the same. -/
theorem input_at (X D N : FVec Ideal S4096x2048 .f32) (W : FVec Ideal S2048 .f32) (i : Fin 4096) (j : Fin 2048) :
    addf (addf (addf (mulf (weighed D W) (broadcastInDim S4096x2048 ![0, 1] bcast_S4096x1_S4096x2048_0_1 (Host.rsqrt (meanSqs X))))
      (mulf X (broadcastInDim S4096x2048 ![0] bcast_S4096_S4096x2048_0 (dScales X D W))))
      (mulf (broadcastInDim S4096x2048 ![0] bcast_S4096_S4096x2048_0 (dScales X D W)) X)) N (ix2 i j) = dInput X D N W i j := by
  unfold dInput dRow
  rw [← scales_at X i j, ← dScales_at, ← weighed_at]
  pointwise
  rfl

/-- The reference's gradient of the weights is the same. -/
theorem weights_at (X D : FVec Ideal S4096x2048 .f32) (j : Fin 2048) :
    Host.reduceAdd (shapeCast S1x2048 (Host.reduceAdd (mulf (mulf X (broadcastInDim S4096x2048 ![0, 1] bcast_S4096x1_S4096x2048_0_1
      (Host.rsqrt (meanSqs X)))) D) (constant S_ .f32 0x00000000#32) reducesTo_S4096x2048_S2048_d0 h_S_) shapeCasts_S2048_S1x2048)
      (constant S_ .f32 0x00000000#32) reducesTo_S1x2048_S2048_d0 h_S_ (ix1 j) = dWeights X D j := by
  unfold dWeights dWeight
  simp only [← scales_at X _ j]
  pointwise
  exact Fin.sum_univ_one _

end Rms

/-- The call and its reference give the same gradients, of the layer's input and of the norm's weights. -/
theorem equal_rms : Cert.algebraic_Kernel8Ideal_Reference8Ideal := fun m g m' g' _ hm => by
  refine ⟨fun c => Rms.dInputs m c, fun c => Rms.dNorms m c, Rms.run_values m g,
    (θ_run Cert.Reference8Ideal.defs _ _).mono (fun r h c => ?_) (Cert.Reference8Ideal.Value.run m' g')⟩
  obtain ⟨h0, h1, hr⟩ := h c
  obtain ⟨e0, e1, e2, e3⟩ := hm c
  refine ⟨h0.trans ?_, h1.trans ?_, hr⟩
  · rw [e0, e1, e2, e3]
    exact funext fun y => (congrArg _ (eq_ix2 y)).trans (Rms.input_at _ _ _ _ (y 0) (y 1))
  · rw [e0, e2]
    exact funext fun y => (congrArg _ (eq_ix1 y)).trans (Rms.weights_at _ _ (y 0))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.KernelSame
public import proofs.«01_k».proof.Proof.RefRun
public import proofs.«01_k».proof.Proof.Equal
public import proofs.«01_k».proof.Proof.MixerEqual
public import proofs.«01_k».proof.Proof.LeftEqual
public import proofs.«01_k».proof.Proof.EmbedEqual
public import proofs.«01_k».proof.Proof.ProjectEqual
public import proofs.«01_k».proof.Proof.ReverseEqual
public import proofs.«01_k».proof.Proof.SecondEqual
public import proofs.«01_k».proof.Proof.RmsEqual
public import Idealize.ShloMosaic.Adequacy
public import Idealize.ShloMosaic.Init

@[expose] public section

noncomputable section

namespace Cert.Proof

open Idealize.ShloMosaic Idealize.SL.Sem

/-- The kernel's frame, over the bits: its run is the run over any values, at the bits. -/
theorem frame_kernel : Cert.quiescent_Kernel := fun m ρ _ => by
  show θ_run Cert.Kernel.defs _ _ _
  rw [Same.defs_same]
  exact (θ_run Cert.KernelIdeal.defs _ _).mono (fun _ h => h) (KRun.run_kept (F := Bits) m ρ)

/-- The kernel's frame over the extended reals. -/
theorem frame_kernel_ideal : Cert.quiescent_KernelIdeal := fun m ρ _ => KRun.run_kept (F := Ideal) m ρ

/-- The reference's frame. -/
theorem frame_reference : Cert.quiescent_ReferenceIdeal := fun m ρ _ =>
  (θ_run Cert.ReferenceIdeal.defs _ _).mono (fun r h =>
    ⟨fun c => by
      refine ⟨?_, ?_, ?_, ?_, ?_, ?_, ?_, ?_, ?_⟩ <;>
        exact (h c _ rfl).trans (Ref.final_spares m (by decide +kernel) (by decide +kernel) c),
     sem_eq_zero_of_no_sems (by decide) r.2⟩) (Ref.run_final (F := Ideal) m ρ)

/-- Kernel and reference give the same eight gradients. -/
theorem equal : Cert.algebraic_KernelIdeal_ReferenceIdeal := fun m g m' g' _ hm => by
  have hd (c : Dev Cert.KernelIdeal.nD) : Ref.head m' c = KRun.head m c :=
    Ref.head_eq m m' c (hm c).1 (hm c).2.1 (hm c).2.2.1 (hm c).2.2.2.1 (hm c).2.2.2.2.1 (hm c).2.2.2.2.2.1 (hm c).2.2.2.2.2.2.1
      (hm c).2.2.2.2.2.2.2.1 (hm c).2.2.2.2.2.2.2.2
  have spread_eq (c : Dev Cert.KernelIdeal.nD) (f : Scan.Head → ℕ → Scan.Mat) :
      (Ref.spread fun h => f (Ref.head m' c h)) = KRun.spread m c f := by rw [hd]; rfl
  refine ⟨fun c => KRun.spread m c Scan.Head.dValue, fun c => KRun.spread m c Scan.Head.dKcd, fun c => KRun.spread m c Scan.Head.dQe,
    fun c => KRun.spread m c Scan.Head.dKt, fun c => KRun.spread m c Scan.Head.dIntra, fun c => KRun.decays m c,
    fun c => KRun.spread m c Scan.Head.dGate, fun c => KRun.weights m c, KRun.run_values m g,
    (θ_run Cert.ReferenceIdeal.defs _ _).mono (fun r h c => ?_) (Ref.run_final (F := Ideal) m' g')⟩
  refine ⟨((h c _ rfl).trans (Ref.final_dValue m' c)).trans (spread_eq c Scan.Head.dValue),
    ((h c _ rfl).trans (Ref.final_dKcd m' c)).trans (spread_eq c Scan.Head.dKcd),
    ((h c _ rfl).trans (Ref.final_dQe m' c)).trans (spread_eq c Scan.Head.dQe),
    ((h c _ rfl).trans (Ref.final_dKt m' c)).trans (spread_eq c Scan.Head.dKt),
    ((h c _ rfl).trans (Ref.final_dIntra m' c)).trans (spread_eq c Scan.Head.dIntra),
    (h c _ rfl).trans (funext fun y => ?_),
    ((h c _ rfl).trans (Ref.final_dGate m' c)).trans (spread_eq c Scan.Head.dGate),
    (h c _ rfl).trans (funext fun y => ?_), ?_, ?_, ?_, ?_, ?_, ?_, ?_, ?_, ?_⟩
  · exact (congrArg _ (eq_ix2 y)).trans ((Ref.final_dDecay m' c (y 0) (y 1)).trans (by rw [hd]; rfl))
  · exact (congrArg _ (eq_ix1 y)).trans ((Ref.final_dNorm m' c (y 0)).trans (by rw [hd]; rfl))
  all_goals exact (h c _ rfl).trans (Ref.final_spares m' (by decide +kernel) (by decide +kernel) c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  frame_kernel, frame_kernel_ideal, frame_reference, frame_mixer, frame_mixer_ideal, frame_mixer_reference,
  frame_left, frame_left_ideal, frame_left_reference,
  frame_embed, frame_embed_ideal, frame_embed_reference,
  frame_project, frame_project_ideal, frame_project_reference,
  frame_reverse, frame_reverse_ideal, frame_reverse_reference,
  frame_second, frame_second_ideal, frame_second_reference,
  frame_rms, frame_rms_ideal, frame_rms_reference,
  trivial, equal, trivial, equal_mixer, trivial, equal_left, trivial, equal_embed, trivial, equal_project, trivial, equal_reverse, trivial, equal_second,
  trivial, equal_rms⟩

end Cert.Proof

end
